-- ==== Defs.lean ====
def Pre_KernelY (m : (ℓ : Loc Cert.KernelY.nD Cert.KernelY.τ Cert.KernelY.sig) → Buf (Elt Bits) ℓ) : Prop :=
  True

def Pre_KernelYIdeal (m : (ℓ : Loc Cert.KernelYIdeal.nD Cert.KernelYIdeal.τ Cert.KernelYIdeal.sig) → Buf (Elt Ideal) ℓ) : Prop :=
  True

def Pre_KernelYIdeal_finite_y [hPre_finite_y : Cert.Pre_finite_y.Facts] (m : (ℓ : Loc Cert.KernelYIdeal.nD Cert.KernelYIdeal.τ Cert.KernelYIdeal.sig) → Buf (Elt Ideal) ℓ) : Prop :=
  ∀ c : Dev Cert.KernelYIdeal.nD,
    (Cert.Pre_finite_y.fn (F := Ideal) (m ((c.tc : Thread Cert.KernelYIdeal.nD Cert.KernelYIdeal.τ).loc Cert.KernelYIdeal.main_arg0)) (m ((c.tc : Thread Cert.KernelYIdeal.nD Cert.KernelYIdeal.τ).loc Cert.KernelYIdeal.main_arg1))) = (fun _ => 1#1)

def Pre_RefYIdeal (m : (ℓ : Loc Cert.RefYIdeal.nD Cert.RefYIdeal.τ Cert.RefYIdeal.sig) → Buf (Elt Ideal) ℓ) : Prop :=
  True

def Pre_RefYIdeal_finite_y [hPre_finite_y : Cert.Pre_finite_y.Facts] (m : (ℓ : Loc Cert.RefYIdeal.nD Cert.RefYIdeal.τ Cert.RefYIdeal.sig) → Buf (Elt Ideal) ℓ) : Prop :=
  ∀ c : Dev Cert.RefYIdeal.nD,
    (Cert.Pre_finite_y.fn (F := Ideal) (m ((c.tc : Thread Cert.RefYIdeal.nD Cert.RefYIdeal.τ).loc Cert.RefYIdeal.main_arg0)) (m ((c.tc : Thread Cert.RefYIdeal.nD Cert.RefYIdeal.τ).loc Cert.RefYIdeal.main_arg1))) = (fun _ => 1#1)

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_KernelDxIdeal_finite_dx [hPre_finite_dx : Cert.Pre_finite_dx.Facts] (m : (ℓ : Loc Cert.KernelDxIdeal.nD Cert.KernelDxIdeal.τ Cert.KernelDxIdeal.sig) → Buf (Elt Ideal) ℓ) : Prop :=
  ∀ c : Dev Cert.KernelDxIdeal.nD,
    (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1))) = (fun _ => 1#1)

def Pre_RefDxIdeal (m : (ℓ : Loc Cert.RefDxIdeal.nD Cert.RefDxIdeal.τ Cert.RefDxIdeal.sig) → Buf (Elt Ideal) ℓ) : Prop :=
  True

def Pre_RefDxIdeal_finite_dx [hPre_finite_dx : Cert.Pre_finite_dx.Facts] (m : (ℓ : Loc Cert.RefDxIdeal.nD Cert.RefDxIdeal.τ Cert.RefDxIdeal.sig) → Buf (Elt Ideal) ℓ) : Prop :=
  ∀ c : Dev Cert.RefDxIdeal.nD,
    (Cert.Pre_finite_dx.fn (F := Ideal) (m ((c.tc : Thread Cert.RefDxIdeal.nD Cert.RefDxIdeal.τ).loc Cert.RefDxIdeal.main_arg0)) (m ((c.tc : Thread Cert.RefDxIdeal.nD Cert.RefDxIdeal.τ).loc Cert.RefDxIdeal.main_arg1))) = (fun _ => 1#1)

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_RefDwIdeal (m : (ℓ : Loc Cert.RefDwIdeal.nD Cert.RefDwIdeal.τ Cert.RefDwIdeal.sig) → Buf (Elt Ideal) ℓ) : Prop :=
  True

def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_KernelXIdeal_finite_x [hPre_finite_x : Cert.Pre_finite_x.Facts] (m : (ℓ : Loc Cert.KernelXIdeal.nD Cert.KernelXIdeal.τ Cert.KernelXIdeal.sig) → Buf (Elt Ideal) ℓ) : Prop :=
  ∀ c : Dev Cert.KernelXIdeal.nD,
    (Cert.Pre_finite_x.fn (F := Ideal) (m ((c.tc : Thread Cert.KernelXIdeal.nD Cert.KernelXIdeal.τ).loc Cert.KernelXIdeal.main_arg0))) = (fun _ => 1#1)

def Pre_RefXIdeal (m : (ℓ : Loc Cert.RefXIdeal.nD Cert.RefXIdeal.τ Cert.RefXIdeal.sig) → Buf (Elt Ideal) ℓ) : Prop :=
  True

def Pre_RefXIdeal_finite_x [hPre_finite_x : Cert.Pre_finite_x.Facts] (m : (ℓ : Loc Cert.RefXIdeal.nD Cert.RefXIdeal.τ Cert.RefXIdeal.sig) → Buf (Elt Ideal) ℓ) : Prop :=
  ∀ c : Dev Cert.RefXIdeal.nD,
    (Cert.Pre_finite_x.fn (F := Ideal) (m ((c.tc : Thread Cert.RefXIdeal.nD Cert.RefXIdeal.τ).loc Cert.RefXIdeal.main_arg0))) = (fun _ => 1#1)

def Pre_KernelDy (m : (ℓ : Loc Cert.KernelDy.nD Cert.KernelDy.τ Cert.KernelDy.sig) → Buf (Elt Bits) ℓ) : Prop :=
  True

def Pre_KernelDyIdeal (m : (ℓ : Loc Cert.KernelDyIdeal.nD Cert.KernelDyIdeal.τ Cert.KernelDyIdeal.sig) → Buf (Elt Ideal) ℓ) : Prop :=
  True

def Pre_KernelDyIdeal_finite_dy [hPre_finite_dy : Cert.Pre_finite_dy.Facts] (m : (ℓ : Loc Cert.KernelDyIdeal.nD Cert.KernelDyIdeal.τ Cert.KernelDyIdeal.sig) → Buf (Elt Ideal) ℓ) : Prop :=
  ∀ c : Dev Cert.KernelDyIdeal.nD,
    (Cert.Pre_finite_dy.fn (F := Ideal) (m ((c.tc : Thread Cert.KernelDyIdeal.nD Cert.KernelDyIdeal.τ).loc Cert.KernelDyIdeal.main_arg0))) = (fun _ => 1#1)

def Pre_RefDyIdeal (m : (ℓ : Loc Cert.RefDyIdeal.nD Cert.RefDyIdeal.τ Cert.RefDyIdeal.sig) → Buf (Elt Ideal) ℓ) : Prop :=
  True

def Pre_RefDyIdeal_finite_dy [hPre_finite_dy : Cert.Pre_finite_dy.Facts] (m : (ℓ : Loc Cert.RefDyIdeal.nD Cert.RefDyIdeal.τ Cert.RefDyIdeal.sig) → Buf (Elt Ideal) ℓ) : Prop :=
  ∀ c : Dev Cert.RefDyIdeal.nD,
    (Cert.Pre_finite_dy.fn (F := Ideal) (m ((c.tc : Thread Cert.RefDyIdeal.nD Cert.RefDyIdeal.τ).loc Cert.RefDyIdeal.main_arg0))) = (fun _ => 1#1)

def quiescent_KernelY [hKernelY : Cert.KernelY.Facts] : Prop :=
  ∀ (m : (ℓ : Loc Cert.KernelY.nD Cert.KernelY.τ Cert.KernelY.sig) → Buf (Elt Bits) ℓ) (g : Dev Cert.KernelY.nD → PrngReg), Pre_KernelY m →
    θ_run (Cert.KernelY.defs (F := Bits)) (onTc (τ := Cert.KernelY.τ) (Cert.KernelY.main (F := Bits))) ⟨m, fun _ => 0, g⟩ (fun r => (∀ c : Dev Cert.KernelY.nD,
      r.2.mem ((c.tc : Thread Cert.KernelY.nD Cert.KernelY.τ).loc Cert.KernelY.main_arg0) = m ((c.tc : Thread Cert.KernelY.nD Cert.KernelY.τ).loc Cert.KernelY.main_arg0)
      ∧ r.2.mem ((c.tc : Thread Cert.KernelY.nD Cert.KernelY.τ).loc Cert.KernelY.main_arg1) = m ((c.tc : Thread Cert.KernelY.nD Cert.KernelY.τ).loc Cert.KernelY.main_arg1))
      ∧ r.2.sem = fun _ => 0)

def quiescent_KernelYIdeal [hKernelYIdeal : Cert.KernelYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg), Pre_KernelYIdeal m →
    θ_run (Cert.KernelYIdeal.defs (F := Ideal)) (onTc (τ := Cert.KernelYIdeal.τ) (Cert.KernelYIdeal.main (F := Ideal))) ⟨m, fun _ => 0, g⟩ (fun r => (∀ c : Dev Cert.KernelYIdeal.nD,
      r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
      ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1))
      ∧ r.2.sem = fun _ => 0)

def quiescent_KernelYIdeal_pre_finite_y [hKernelYIdeal : Cert.KernelYIdeal.Facts] [hPre_finite_y : Cert.Pre_finite_y.Facts] : Prop :=
  ∀ (m : (ℓ : Loc Cert.KernelYIdeal.nD Cert.KernelYIdeal.τ Cert.KernelYIdeal.sig) → Buf (Elt Ideal) ℓ) (g : Dev Cert.KernelYIdeal.nD → PrngReg), Pre_KernelYIdeal_finite_y m →
    θ_run (Cert.KernelYIdeal.defs (F := Ideal)) (onTc (τ := Cert.KernelYIdeal.τ) (Cert.KernelYIdeal.main (F := Ideal))) ⟨m, fun _ => 0, g⟩ (fun r => (∀ c : Dev Cert.KernelYIdeal.nD,
      r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
      ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1))
      ∧ r.2.sem = fun _ => 0)

def quiescent_RefYIdeal [hRefYIdeal : Cert.RefYIdeal.Facts] : Prop :=
  ∀ (m : (ℓ : Loc Cert.RefYIdeal.nD Cert.RefYIdeal.τ Cert.RefYIdeal.sig) → Buf (Elt Ideal) ℓ) (g : Dev Cert.RefYIdeal.nD → PrngReg), Pre_RefYIdeal m →
    θ_run (Cert.RefYIdeal.defs (F := Ideal)) (onTc (τ := Cert.RefYIdeal.τ) (Cert.RefYIdeal.main (F := Ideal))) ⟨m, fun _ => 0, g⟩ (fun r => (∀ c : Dev Cert.RefYIdeal.nD,
      r.2.mem ((c.tc : Thread Cert.RefYIdeal.nD Cert.RefYIdeal.τ).loc Cert.RefYIdeal.main_arg0) = m ((c.tc : Thread Cert.RefYIdeal.nD Cert.RefYIdeal.τ).loc Cert.RefYIdeal.main_arg0)
      ∧ r.2.mem ((c.tc : Thread Cert.RefYIdeal.nD Cert.RefYIdeal.τ).loc Cert.RefYIdeal.main_arg1) = m ((c.tc : Thread Cert.RefYIdeal.nD Cert.RefYIdeal.τ).loc Cert.RefYIdeal.main_arg1))
      ∧ r.2.sem = fun _ => 0)

def quiescent_RefYIdeal_pre_finite_y [hRefYIdeal : Cert.RefYIdeal.Facts] [hPre_finite_y : Cert.Pre_finite_y.Facts] : Prop :=
  ∀ (m : (ℓ : Loc Cert.RefYIdeal.nD Cert.RefYIdeal.τ Cert.RefYIdeal.sig) → Buf (Elt Ideal) ℓ) (g : Dev Cert.RefYIdeal.nD → PrngReg), Pre_RefYIdeal_finite_y m →
    θ_run (Cert.RefYIdeal.defs (F := Ideal)) (onTc (τ := Cert.RefYIdeal.τ) (Cert.RefYIdeal.main (F := Ideal))) ⟨m, fun _ => 0, g⟩ (fun r => (∀ c : Dev Cert.RefYIdeal.nD,
      r.2.mem ((c.tc : Thread Cert.RefYIdeal.nD Cert.RefYIdeal.τ).loc Cert.RefYIdeal.main_arg0) = m ((c.tc : Thread Cert.RefYIdeal.nD Cert.RefYIdeal.τ).loc Cert.RefYIdeal.main_arg0)
      ∧ r.2.mem ((c.tc : Thread Cert.RefYIdeal.nD Cert.RefYIdeal.τ).loc Cert.RefYIdeal.main_arg1) = m ((c.tc : Thread Cert.RefYIdeal.nD Cert.RefYIdeal.τ).loc Cert.RefYIdeal.main_arg1))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1))
      ∧ r.2.sem = fun _ => 0)

def quiescent_KernelDxIdeal_pre_finite_dx [hKernelDxIdeal : Cert.KernelDxIdeal.Facts] [hPre_finite_dx : Cert.Pre_finite_dx.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal_finite_dx m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1))
      ∧ r.2.sem = fun _ => 0)

def quiescent_RefDxIdeal [hRefDxIdeal : Cert.RefDxIdeal.Facts] : Prop :=
  ∀ (m : (ℓ : Loc Cert.RefDxIdeal.nD Cert.RefDxIdeal.τ Cert.RefDxIdeal.sig) → Buf (Elt Ideal) ℓ) (g : Dev Cert.RefDxIdeal.nD → PrngReg), Pre_RefDxIdeal m →
    θ_run (Cert.RefDxIdeal.defs (F := Ideal)) (onTc (τ := Cert.RefDxIdeal.τ) (Cert.RefDxIdeal.main (F := Ideal))) ⟨m, fun _ => 0, g⟩ (fun r => (∀ c : Dev Cert.RefDxIdeal.nD,
      r.2.mem ((c.tc : Thread Cert.RefDxIdeal.nD Cert.RefDxIdeal.τ).loc Cert.RefDxIdeal.main_arg0) = m ((c.tc : Thread Cert.RefDxIdeal.nD Cert.RefDxIdeal.τ).loc Cert.RefDxIdeal.main_arg0)
      ∧ r.2.mem ((c.tc : Thread Cert.RefDxIdeal.nD Cert.RefDxIdeal.τ).loc Cert.RefDxIdeal.main_arg1) = m ((c.tc : Thread Cert.RefDxIdeal.nD Cert.RefDxIdeal.τ).loc Cert.RefDxIdeal.main_arg1))
      ∧ r.2.sem = fun _ => 0)

def quiescent_RefDxIdeal_pre_finite_dx [hRefDxIdeal : Cert.RefDxIdeal.Facts] [hPre_finite_dx : Cert.Pre_finite_dx.Facts] : Prop :=
  ∀ (m : (ℓ : Loc Cert.RefDxIdeal.nD Cert.RefDxIdeal.τ Cert.RefDxIdeal.sig) → Buf (Elt Ideal) ℓ) (g : Dev Cert.RefDxIdeal.nD → PrngReg), Pre_RefDxIdeal_finite_dx m →
    θ_run (Cert.RefDxIdeal.defs (F := Ideal)) (onTc (τ := Cert.RefDxIdeal.τ) (Cert.RefDxIdeal.main (F := Ideal))) ⟨m, fun _ => 0, g⟩ (fun r => (∀ c : Dev Cert.RefDxIdeal.nD,
      r.2.mem ((c.tc : Thread Cert.RefDxIdeal.nD Cert.RefDxIdeal.τ).loc Cert.RefDxIdeal.main_arg0) = m ((c.tc : Thread Cert.RefDxIdeal.nD Cert.RefDxIdeal.τ).loc Cert.RefDxIdeal.main_arg0)
      ∧ r.2.mem ((c.tc : Thread Cert.RefDxIdeal.nD Cert.RefDxIdeal.τ).loc Cert.RefDxIdeal.main_arg1) = m ((c.tc : Thread Cert.RefDxIdeal.nD Cert.RefDxIdeal.τ).loc Cert.RefDxIdeal.main_arg1))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ r.2.sem = fun _ => 0)

def quiescent_RefDwIdeal [hRefDwIdeal : Cert.RefDwIdeal.Facts] : Prop :=
  ∀ (m : (ℓ : Loc Cert.RefDwIdeal.nD Cert.RefDwIdeal.τ Cert.RefDwIdeal.sig) → Buf (Elt Ideal) ℓ) (g : Dev Cert.RefDwIdeal.nD → PrngReg), Pre_RefDwIdeal m →
    θ_run (Cert.RefDwIdeal.defs (F := Ideal)) (onTc (τ := Cert.RefDwIdeal.τ) (Cert.RefDwIdeal.main (F := Ideal))) ⟨m, fun _ => 0, g⟩ (fun r => (∀ c : Dev Cert.RefDwIdeal.nD,
      r.2.mem ((c.tc : Thread Cert.RefDwIdeal.nD Cert.RefDwIdeal.τ).loc Cert.RefDwIdeal.main_arg0) = m ((c.tc : Thread Cert.RefDwIdeal.nD Cert.RefDwIdeal.τ).loc Cert.RefDwIdeal.main_arg0)
      ∧ r.2.mem ((c.tc : Thread Cert.RefDwIdeal.nD Cert.RefDwIdeal.τ).loc Cert.RefDwIdeal.main_arg1) = m ((c.tc : Thread Cert.RefDwIdeal.nD Cert.RefDwIdeal.τ).loc Cert.RefDwIdeal.main_arg1))
      ∧ r.2.sem = fun _ => 0)

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0))
      ∧ r.2.sem = fun _ => 0)

def quiescent_KernelXIdeal_pre_finite_x [hKernelXIdeal : Cert.KernelXIdeal.Facts] [hPre_finite_x : Cert.Pre_finite_x.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal_finite_x m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0))
      ∧ r.2.sem = fun _ => 0)

def quiescent_RefXIdeal [hRefXIdeal : Cert.RefXIdeal.Facts] : Prop :=
  ∀ (m : (ℓ : Loc Cert.RefXIdeal.nD Cert.RefXIdeal.τ Cert.RefXIdeal.sig) → Buf (Elt Ideal) ℓ) (g : Dev Cert.RefXIdeal.nD → PrngReg), Pre_RefXIdeal m →
    θ_run (Cert.RefXIdeal.defs (F := Ideal)) (onTc (τ := Cert.RefXIdeal.τ) (Cert.RefXIdeal.main (F := Ideal))) ⟨m, fun _ => 0, g⟩ (fun r => (∀ c : Dev Cert.RefXIdeal.nD,
      r.2.mem ((c.tc : Thread Cert.RefXIdeal.nD Cert.RefXIdeal.τ).loc Cert.RefXIdeal.main_arg0) = m ((c.tc : Thread Cert.RefXIdeal.nD Cert.RefXIdeal.τ).loc Cert.RefXIdeal.main_arg0))
      ∧ r.2.sem = fun _ => 0)

def quiescent_RefXIdeal_pre_finite_x [hRefXIdeal : Cert.RefXIdeal.Facts] [hPre_finite_x : Cert.Pre_finite_x.Facts] : Prop :=
  ∀ (m : (ℓ : Loc Cert.RefXIdeal.nD Cert.RefXIdeal.τ Cert.RefXIdeal.sig) → Buf (Elt Ideal) ℓ) (g : Dev Cert.RefXIdeal.nD → PrngReg), Pre_RefXIdeal_finite_x m →
    θ_run (Cert.RefXIdeal.defs (F := Ideal)) (onTc (τ := Cert.RefXIdeal.τ) (Cert.RefXIdeal.main (F := Ideal))) ⟨m, fun _ => 0, g⟩ (fun r => (∀ c : Dev Cert.RefXIdeal.nD,
      r.2.mem ((c.tc : Thread Cert.RefXIdeal.nD Cert.RefXIdeal.τ).loc Cert.RefXIdeal.main_arg0) = m ((c.tc : Thread Cert.RefXIdeal.nD Cert.RefXIdeal.τ).loc Cert.RefXIdeal.main_arg0))
      ∧ r.2.sem = fun _ => 0)

def quiescent_KernelDy [hKernelDy : Cert.KernelDy.Facts] : Prop :=
  ∀ (m : (ℓ : Loc Cert.KernelDy.nD Cert.KernelDy.τ Cert.KernelDy.sig) → Buf (Elt Bits) ℓ) (g : Dev Cert.KernelDy.nD → PrngReg), Pre_KernelDy m →
    θ_run (Cert.KernelDy.defs (F := Bits)) (onTc (τ := Cert.KernelDy.τ) (Cert.KernelDy.main (F := Bits))) ⟨m, fun _ => 0, g⟩ (fun r => (∀ c : Dev Cert.KernelDy.nD,
      r.2.mem ((c.tc : Thread Cert.KernelDy.nD Cert.KernelDy.τ).loc Cert.KernelDy.main_arg0) = m ((c.tc : Thread Cert.KernelDy.nD Cert.KernelDy.τ).loc Cert.KernelDy.main_arg0))
      ∧ r.2.sem = fun _ => 0)

def quiescent_KernelDyIdeal [hKernelDyIdeal : Cert.KernelDyIdeal.Facts] : Prop :=
  ∀ (m : (ℓ : Loc Cert.KernelDyIdeal.nD Cert.KernelDyIdeal.τ Cert.KernelDyIdeal.sig) → Buf (Elt Ideal) ℓ) (g : Dev Cert.KernelDyIdeal.nD → PrngReg), Pre_KernelDyIdeal m →
    θ_run (Cert.KernelDyIdeal.defs (F := Ideal)) (onTc (τ := Cert.KernelDyIdeal.τ) (Cert.KernelDyIdeal.main (F := Ideal))) ⟨m, fun _ => 0, g⟩ (fun r => (∀ c : Dev Cert.KernelDyIdeal.nD,
      r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0))
      ∧ r.2.sem = fun _ => 0)

def quiescent_KernelDyIdeal_pre_finite_dy [hKernelDyIdeal : Cert.KernelDyIdeal.Facts] [hPre_finite_dy : Cert.Pre_finite_dy.Facts] : Prop :=
  ∀ (m : (ℓ : Loc Cert.KernelDyIdeal.nD Cert.KernelDyIdeal.τ Cert.KernelDyIdeal.sig) → Buf (Elt Ideal) ℓ) (g : Dev Cert.KernelDyIdeal.nD → PrngReg), Pre_KernelDyIdeal_finite_dy m →
    θ_run (Cert.KernelDyIdeal.defs (F := Ideal)) (onTc (τ := Cert.KernelDyIdeal.τ) (Cert.KernelDyIdeal.main (F := Ideal))) ⟨m, fun _ => 0, g⟩ (fun r => (∀ c : Dev Cert.KernelDyIdeal.nD,
      r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0))
      ∧ r.2.sem = fun _ => 0)

def quiescent_RefDyIdeal [hRefDyIdeal : Cert.RefDyIdeal.Facts] : Prop :=
  ∀ (m : (ℓ : Loc Cert.RefDyIdeal.nD Cert.RefDyIdeal.τ Cert.RefDyIdeal.sig) → Buf (Elt Ideal) ℓ) (g : Dev Cert.RefDyIdeal.nD → PrngReg), Pre_RefDyIdeal m →
    θ_run (Cert.RefDyIdeal.defs (F := Ideal)) (onTc (τ := Cert.RefDyIdeal.τ) (Cert.RefDyIdeal.main (F := Ideal))) ⟨m, fun _ => 0, g⟩ (fun r => (∀ c : Dev Cert.RefDyIdeal.nD,
      r.2.mem ((c.tc : Thread Cert.RefDyIdeal.nD Cert.RefDyIdeal.τ).loc Cert.RefDyIdeal.main_arg0) = m ((c.tc : Thread Cert.RefDyIdeal.nD Cert.RefDyIdeal.τ).loc Cert.RefDyIdeal.main_arg0))
      ∧ r.2.sem = fun _ => 0)

def quiescent_RefDyIdeal_pre_finite_dy [hRefDyIdeal : Cert.RefDyIdeal.Facts] [hPre_finite_dy : Cert.Pre_finite_dy.Facts] : Prop :=
  ∀ (m : (ℓ : Loc Cert.RefDyIdeal.nD Cert.RefDyIdeal.τ Cert.RefDyIdeal.sig) → Buf (Elt Ideal) ℓ) (g : Dev Cert.RefDyIdeal.nD → PrngReg), Pre_RefDyIdeal_finite_dy m →
    θ_run (Cert.RefDyIdeal.defs (F := Ideal)) (onTc (τ := Cert.RefDyIdeal.τ) (Cert.RefDyIdeal.main (F := Ideal))) ⟨m, fun _ => 0, g⟩ (fun r => (∀ c : Dev Cert.RefDyIdeal.nD,
      r.2.mem ((c.tc : Thread Cert.RefDyIdeal.nD Cert.RefDyIdeal.τ).loc Cert.RefDyIdeal.main_arg0) = m ((c.tc : Thread Cert.RefDyIdeal.nD Cert.RefDyIdeal.τ).loc Cert.RefDyIdeal.main_arg0))
      ∧ r.2.sem = fun _ => 0)

def preserves_KernelY_KernelYIdeal : Prop :=
  True

def algebraic_KernelYIdeal_RefYIdeal_pre_finite_y [hKernelYIdeal : Cert.KernelYIdeal.Facts] [hRefYIdeal : Cert.RefYIdeal.Facts] [hPre_finite_y : Cert.Pre_finite_y.Facts] : Prop :=
  ∀ (m : (ℓ : Loc Cert.KernelYIdeal.nD Cert.KernelYIdeal.τ Cert.KernelYIdeal.sig) → Buf (Elt Ideal) ℓ) (g : Dev Cert.KernelYIdeal.nD → PrngReg)
    (m' : (ℓ : Loc Cert.RefYIdeal.nD Cert.RefYIdeal.τ Cert.RefYIdeal.sig) → Buf (Elt Ideal) ℓ) (g' : Dev Cert.RefYIdeal.nD → PrngReg), Pre_KernelYIdeal_finite_y m →
    (∀ c : Dev Cert.KernelYIdeal.nD,
      m' ((c.tc : Thread Cert.RefYIdeal.nD Cert.RefYIdeal.τ).loc Cert.RefYIdeal.main_arg0) = m ((c.tc : Thread Cert.KernelYIdeal.nD Cert.KernelYIdeal.τ).loc Cert.KernelYIdeal.main_arg0)
      ∧ m' ((c.tc : Thread Cert.RefYIdeal.nD Cert.RefYIdeal.τ).loc Cert.RefYIdeal.main_arg1) = m ((c.tc : Thread Cert.KernelYIdeal.nD Cert.KernelYIdeal.τ).loc Cert.KernelYIdeal.main_arg1)) →
    ∃ (v0 : (c : Dev Cert.KernelYIdeal.nD) → Buf (Elt Ideal) ((c.tc : Thread Cert.KernelYIdeal.nD Cert.KernelYIdeal.τ).loc Cert.KernelYIdeal.main_v0_0)) (v1 : (c : Dev Cert.KernelYIdeal.nD) → Buf (Elt Ideal) ((c.tc : Thread Cert.KernelYIdeal.nD Cert.KernelYIdeal.τ).loc Cert.KernelYIdeal.main_v0_1)) (v2 : (c : Dev Cert.KernelYIdeal.nD) → Buf (Elt Ideal) ((c.tc : Thread Cert.KernelYIdeal.nD Cert.KernelYIdeal.τ).loc Cert.KernelYIdeal.main_v0_2)),
      θ_run (Cert.KernelYIdeal.defs (F := Ideal)) (onTc (τ := Cert.KernelYIdeal.τ) (Cert.KernelYIdeal.main (F := Ideal))) ⟨m, fun _ => 0, g⟩ (fun r => ∀ c : Dev Cert.KernelYIdeal.nD,
          r.2.mem ((c.tc : Thread Cert.KernelYIdeal.nD Cert.KernelYIdeal.τ).loc Cert.KernelYIdeal.main_v0_0) = v0 c
          ∧ r.2.mem ((c.tc : Thread Cert.KernelYIdeal.nD Cert.KernelYIdeal.τ).loc Cert.KernelYIdeal.main_v0_1) = v1 c
          ∧ r.2.mem ((c.tc : Thread Cert.KernelYIdeal.nD Cert.KernelYIdeal.τ).loc Cert.KernelYIdeal.main_v0_2) = v2 c
          ∧ r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
          ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1))
      ∧ θ_run (Cert.RefYIdeal.defs (F := Ideal)) (onTc (τ := Cert.RefYIdeal.τ) (Cert.RefYIdeal.main (F := Ideal))) ⟨m', fun _ => 0, g'⟩ (fun r => ∀ c : Dev Cert.RefYIdeal.nD,
          r.2.mem ((c.tc : Thread Cert.RefYIdeal.nD Cert.RefYIdeal.τ).loc Cert.RefYIdeal.main_v0_0) = v0 c
          ∧ r.2.mem ((c.tc : Thread Cert.RefYIdeal.nD Cert.RefYIdeal.τ).loc Cert.RefYIdeal.main_v0_1) = v1 c
          ∧ r.2.mem ((c.tc : Thread Cert.RefYIdeal.nD Cert.RefYIdeal.τ).loc Cert.RefYIdeal.main_v0_2) = v2 c
          ∧ r.2.mem ((c.tc : Thread Cert.RefYIdeal.nD Cert.RefYIdeal.τ).loc Cert.RefYIdeal.main_arg0) = m' ((c.tc : Thread Cert.RefYIdeal.nD Cert.RefYIdeal.τ).loc Cert.RefYIdeal.main_arg0)
          ∧ r.2.mem ((c.tc : Thread Cert.RefYIdeal.nD Cert.RefYIdeal.τ).loc Cert.RefYIdeal.main_arg1) = m' ((c.tc : Thread Cert.RefYIdeal.nD Cert.RefYIdeal.τ).loc Cert.RefYIdeal.main_arg1))

def preserves_KernelDx_KernelDxIdeal : Prop :=
  True

def algebraic_KernelDxIdeal_RefDxIdeal_pre_finite_dx [hKernelDxIdeal : Cert.KernelDxIdeal.Facts] [hRefDxIdeal : Cert.RefDxIdeal.Facts] [hPre_finite_dx : Cert.Pre_finite_dx.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.RefDxIdeal.nD Cert.RefDxIdeal.τ Cert.RefDxIdeal.sig) → Buf (Elt Ideal) ℓ) (g' : Dev Cert.RefDxIdeal.nD → PrngReg), Pre_KernelDxIdeal_finite_dx m →
    (∀ c : Dev Cert.KernelDxIdeal.nD,
      m' ((c.tc : Thread Cert.RefDxIdeal.nD Cert.RefDxIdeal.τ).loc Cert.RefDxIdeal.main_arg0) = m ((c.tc : Thread Cert.KernelDxIdeal.nD Cert.KernelDxIdeal.τ).loc Cert.KernelDxIdeal.main_arg0)
      ∧ m' ((c.tc : Thread Cert.RefDxIdeal.nD Cert.RefDxIdeal.τ).loc Cert.RefDxIdeal.main_arg1) = m ((c.tc : Thread Cert.KernelDxIdeal.nD Cert.KernelDxIdeal.τ).loc Cert.KernelDxIdeal.main_arg1)) →
    ∃ (v0 : (c : Dev Cert.KernelDxIdeal.nD) → Buf (Elt Ideal) ((c.tc : Thread Cert.KernelDxIdeal.nD Cert.KernelDxIdeal.τ).loc Cert.KernelDxIdeal.main_v0_0)) (v1 : (c : Dev Cert.KernelDxIdeal.nD) → Buf (Elt Ideal) ((c.tc : Thread Cert.KernelDxIdeal.nD Cert.KernelDxIdeal.τ).loc Cert.KernelDxIdeal.main_v0_1)) (v2 : (c : Dev Cert.KernelDxIdeal.nD) → Buf (Elt Ideal) ((c.tc : Thread Cert.KernelDxIdeal.nD Cert.KernelDxIdeal.τ).loc Cert.KernelDxIdeal.main_v0_2)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v0_0) = v0 c
          ∧ r.2.mem ((c.tc : Thread Cert.KernelDxIdeal.nD Cert.KernelDxIdeal.τ).loc Cert.KernelDxIdeal.main_v0_1) = v1 c
          ∧ r.2.mem ((c.tc : Thread Cert.KernelDxIdeal.nD Cert.KernelDxIdeal.τ).loc Cert.KernelDxIdeal.main_v0_2) = v2 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1))
      ∧ θ_run (Cert.RefDxIdeal.defs (F := Ideal)) (onTc (τ := Cert.RefDxIdeal.τ) (Cert.RefDxIdeal.main (F := Ideal))) ⟨m', fun _ => 0, g'⟩ (fun r => ∀ c : Dev Cert.RefDxIdeal.nD,
          r.2.mem ((c.tc : Thread Cert.RefDxIdeal.nD Cert.RefDxIdeal.τ).loc Cert.RefDxIdeal.main_v0_0) = v0 c
          ∧ r.2.mem ((c.tc : Thread Cert.RefDxIdeal.nD Cert.RefDxIdeal.τ).loc Cert.RefDxIdeal.main_v0_1) = v1 c
          ∧ r.2.mem ((c.tc : Thread Cert.RefDxIdeal.nD Cert.RefDxIdeal.τ).loc Cert.RefDxIdeal.main_v0_2) = v2 c
          ∧ r.2.mem ((c.tc : Thread Cert.RefDxIdeal.nD Cert.RefDxIdeal.τ).loc Cert.RefDxIdeal.main_arg0) = m' ((c.tc : Thread Cert.RefDxIdeal.nD Cert.RefDxIdeal.τ).loc Cert.RefDxIdeal.main_arg0)
          ∧ r.2.mem ((c.tc : Thread Cert.RefDxIdeal.nD Cert.RefDxIdeal.τ).loc Cert.RefDxIdeal.main_arg1) = m' ((c.tc : Thread Cert.RefDxIdeal.nD Cert.RefDxIdeal.τ).loc Cert.RefDxIdeal.main_arg1))

def preserves_KernelDw_KernelDwIdeal : Prop :=
  True

def algebraic_KernelDwIdeal_RefDwIdeal [hKernelDwIdeal : Cert.KernelDwIdeal.Facts] [hRefDwIdeal : Cert.RefDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.RefDwIdeal.nD Cert.RefDwIdeal.τ Cert.RefDwIdeal.sig) → Buf (Elt Ideal) ℓ) (g' : Dev Cert.RefDwIdeal.nD → PrngReg), Pre_KernelDwIdeal m →
    (∀ c : Dev Cert.KernelDwIdeal.nD,
      m' ((c.tc : Thread Cert.RefDwIdeal.nD Cert.RefDwIdeal.τ).loc Cert.RefDwIdeal.main_arg0) = m ((c.tc : Thread Cert.KernelDwIdeal.nD Cert.KernelDwIdeal.τ).loc Cert.KernelDwIdeal.main_arg0)
      ∧ m' ((c.tc : Thread Cert.RefDwIdeal.nD Cert.RefDwIdeal.τ).loc Cert.RefDwIdeal.main_arg1) = m ((c.tc : Thread Cert.KernelDwIdeal.nD Cert.KernelDwIdeal.τ).loc Cert.KernelDwIdeal.main_arg1)) →
    ∃ (v0 : (c : Dev Cert.KernelDwIdeal.nD) → Buf (Elt Ideal) ((c.tc : Thread Cert.KernelDwIdeal.nD Cert.KernelDwIdeal.τ).loc Cert.KernelDwIdeal.main_v0)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v0) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ θ_run (Cert.RefDwIdeal.defs (F := Ideal)) (onTc (τ := Cert.RefDwIdeal.τ) (Cert.RefDwIdeal.main (F := Ideal))) ⟨m', fun _ => 0, g'⟩ (fun r => ∀ c : Dev Cert.RefDwIdeal.nD,
          r.2.mem ((c.tc : Thread Cert.RefDwIdeal.nD Cert.RefDwIdeal.τ).loc Cert.RefDwIdeal.main_v0) = v0 c
          ∧ r.2.mem ((c.tc : Thread Cert.RefDwIdeal.nD Cert.RefDwIdeal.τ).loc Cert.RefDwIdeal.main_arg0) = m' ((c.tc : Thread Cert.RefDwIdeal.nD Cert.RefDwIdeal.τ).loc Cert.RefDwIdeal.main_arg0)
          ∧ r.2.mem ((c.tc : Thread Cert.RefDwIdeal.nD Cert.RefDwIdeal.τ).loc Cert.RefDwIdeal.main_arg1) = m' ((c.tc : Thread Cert.RefDwIdeal.nD Cert.RefDwIdeal.τ).loc Cert.RefDwIdeal.main_arg1))

def preserves_KernelX_KernelXIdeal : Prop :=
  True

def algebraic_KernelXIdeal_RefXIdeal_pre_finite_x [hKernelXIdeal : Cert.KernelXIdeal.Facts] [hRefXIdeal : Cert.RefXIdeal.Facts] [hPre_finite_x : Cert.Pre_finite_x.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.RefXIdeal.nD Cert.RefXIdeal.τ Cert.RefXIdeal.sig) → Buf (Elt Ideal) ℓ) (g' : Dev Cert.RefXIdeal.nD → PrngReg), Pre_KernelXIdeal_finite_x m →
    (∀ c : Dev Cert.KernelXIdeal.nD,
      m' ((c.tc : Thread Cert.RefXIdeal.nD Cert.RefXIdeal.τ).loc Cert.RefXIdeal.main_arg0) = m ((c.tc : Thread Cert.KernelXIdeal.nD Cert.KernelXIdeal.τ).loc Cert.KernelXIdeal.main_arg0)) →
    ∃ (v0 : (c : Dev Cert.KernelXIdeal.nD) → Buf (Elt Ideal) ((c.tc : Thread Cert.KernelXIdeal.nD Cert.KernelXIdeal.τ).loc Cert.KernelXIdeal.main_v0_0)) (v1 : (c : Dev Cert.KernelXIdeal.nD) → Buf (Elt Ideal) ((c.tc : Thread Cert.KernelXIdeal.nD Cert.KernelXIdeal.τ).loc Cert.KernelXIdeal.main_v0_1)) (v2 : (c : Dev Cert.KernelXIdeal.nD) → Buf (Elt Ideal) ((c.tc : Thread Cert.KernelXIdeal.nD Cert.KernelXIdeal.τ).loc Cert.KernelXIdeal.main_v0_2)) (v3 : (c : Dev Cert.KernelXIdeal.nD) → Buf (Elt Ideal) ((c.tc : Thread Cert.KernelXIdeal.nD Cert.KernelXIdeal.τ).loc Cert.KernelXIdeal.main_v0_3)) (v4 : (c : Dev Cert.KernelXIdeal.nD) → Buf (Elt Ideal) ((c.tc : Thread Cert.KernelXIdeal.nD Cert.KernelXIdeal.τ).loc Cert.KernelXIdeal.main_v0_4)) (v5 : (c : Dev Cert.KernelXIdeal.nD) → Buf (Elt Ideal) ((c.tc : Thread Cert.KernelXIdeal.nD Cert.KernelXIdeal.τ).loc Cert.KernelXIdeal.main_v0_5)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v0_0) = v0 c
          ∧ r.2.mem ((c.tc : Thread Cert.KernelXIdeal.nD Cert.KernelXIdeal.τ).loc Cert.KernelXIdeal.main_v0_1) = v1 c
          ∧ r.2.mem ((c.tc : Thread Cert.KernelXIdeal.nD Cert.KernelXIdeal.τ).loc Cert.KernelXIdeal.main_v0_2) = v2 c
          ∧ r.2.mem ((c.tc : Thread Cert.KernelXIdeal.nD Cert.KernelXIdeal.τ).loc Cert.KernelXIdeal.main_v0_3) = v3 c
          ∧ r.2.mem ((c.tc : Thread Cert.KernelXIdeal.nD Cert.KernelXIdeal.τ).loc Cert.KernelXIdeal.main_v0_4) = v4 c
          ∧ r.2.mem ((c.tc : Thread Cert.KernelXIdeal.nD Cert.KernelXIdeal.τ).loc Cert.KernelXIdeal.main_v0_5) = v5 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0))
      ∧ θ_run (Cert.RefXIdeal.defs (F := Ideal)) (onTc (τ := Cert.RefXIdeal.τ) (Cert.RefXIdeal.main (F := Ideal))) ⟨m', fun _ => 0, g'⟩ (fun r => ∀ c : Dev Cert.RefXIdeal.nD,
          r.2.mem ((c.tc : Thread Cert.RefXIdeal.nD Cert.RefXIdeal.τ).loc Cert.RefXIdeal.main_v0_0) = v0 c
          ∧ r.2.mem ((c.tc : Thread Cert.RefXIdeal.nD Cert.RefXIdeal.τ).loc Cert.RefXIdeal.main_v0_1) = v1 c
          ∧ r.2.mem ((c.tc : Thread Cert.RefXIdeal.nD Cert.RefXIdeal.τ).loc Cert.RefXIdeal.main_v0_2) = v2 c
          ∧ r.2.mem ((c.tc : Thread Cert.RefXIdeal.nD Cert.RefXIdeal.τ).loc Cert.RefXIdeal.main_v0_3) = v3 c
          ∧ r.2.mem ((c.tc : Thread Cert.RefXIdeal.nD Cert.RefXIdeal.τ).loc Cert.RefXIdeal.main_v0_4) = v4 c
          ∧ r.2.mem ((c.tc : Thread Cert.RefXIdeal.nD Cert.RefXIdeal.τ).loc Cert.RefXIdeal.main_v0_5) = v5 c
          ∧ r.2.mem ((c.tc : Thread Cert.RefXIdeal.nD Cert.RefXIdeal.τ).loc Cert.RefXIdeal.main_arg0) = m' ((c.tc : Thread Cert.RefXIdeal.nD Cert.RefXIdeal.τ).loc Cert.RefXIdeal.main_arg0))

def preserves_KernelDy_KernelDyIdeal : Prop :=
  True

def algebraic_KernelDyIdeal_RefDyIdeal_pre_finite_dy [hKernelDyIdeal : Cert.KernelDyIdeal.Facts] [hRefDyIdeal : Cert.RefDyIdeal.Facts] [hPre_finite_dy : Cert.Pre_finite_dy.Facts] : Prop :=
  ∀ (m : (ℓ : Loc Cert.KernelDyIdeal.nD Cert.KernelDyIdeal.τ Cert.KernelDyIdeal.sig) → Buf (Elt Ideal) ℓ) (g : Dev Cert.KernelDyIdeal.nD → PrngReg)
    (m' : (ℓ : Loc Cert.RefDyIdeal.nD Cert.RefDyIdeal.τ Cert.RefDyIdeal.sig) → Buf (Elt Ideal) ℓ) (g' : Dev Cert.RefDyIdeal.nD → PrngReg), Pre_KernelDyIdeal_finite_dy m →
    (∀ c : Dev Cert.KernelDyIdeal.nD,
      m' ((c.tc : Thread Cert.RefDyIdeal.nD Cert.RefDyIdeal.τ).loc Cert.RefDyIdeal.main_arg0) = m ((c.tc : Thread Cert.KernelDyIdeal.nD Cert.KernelDyIdeal.τ).loc Cert.KernelDyIdeal.main_arg0)) →
    ∃ (v0 : (c : Dev Cert.KernelDyIdeal.nD) → Buf (Elt Ideal) ((c.tc : Thread Cert.KernelDyIdeal.nD Cert.KernelDyIdeal.τ).loc Cert.KernelDyIdeal.main_v0_0)) (v1 : (c : Dev Cert.KernelDyIdeal.nD) → Buf (Elt Ideal) ((c.tc : Thread Cert.KernelDyIdeal.nD Cert.KernelDyIdeal.τ).loc Cert.KernelDyIdeal.main_v0_1)) (v2 : (c : Dev Cert.KernelDyIdeal.nD) → Buf (Elt Ideal) ((c.tc : Thread Cert.KernelDyIdeal.nD Cert.KernelDyIdeal.τ).loc Cert.KernelDyIdeal.main_v0_2)) (v3 : (c : Dev Cert.KernelDyIdeal.nD) → Buf (Elt Ideal) ((c.tc : Thread Cert.KernelDyIdeal.nD Cert.KernelDyIdeal.τ).loc Cert.KernelDyIdeal.main_v0_3)) (v4 : (c : Dev Cert.KernelDyIdeal.nD) → Buf (Elt Ideal) ((c.tc : Thread Cert.KernelDyIdeal.nD Cert.KernelDyIdeal.τ).loc Cert.KernelDyIdeal.main_v0_4)) (v5 : (c : Dev Cert.KernelDyIdeal.nD) → Buf (Elt Ideal) ((c.tc : Thread Cert.KernelDyIdeal.nD Cert.KernelDyIdeal.τ).loc Cert.KernelDyIdeal.main_v0_5)),
      θ_run (Cert.KernelDyIdeal.defs (F := Ideal)) (onTc (τ := Cert.KernelDyIdeal.τ) (Cert.KernelDyIdeal.main (F := Ideal))) ⟨m, fun _ => 0, g⟩ (fun r => ∀ c : Dev Cert.KernelDyIdeal.nD,
          r.2.mem ((c.tc : Thread Cert.KernelDyIdeal.nD Cert.KernelDyIdeal.τ).loc Cert.KernelDyIdeal.main_v0_0) = v0 c
          ∧ r.2.mem ((c.tc : Thread Cert.KernelDyIdeal.nD Cert.KernelDyIdeal.τ).loc Cert.KernelDyIdeal.main_v0_1) = v1 c
          ∧ r.2.mem ((c.tc : Thread Cert.KernelDyIdeal.nD Cert.KernelDyIdeal.τ).loc Cert.KernelDyIdeal.main_v0_2) = v2 c
          ∧ r.2.mem ((c.tc : Thread Cert.KernelDyIdeal.nD Cert.KernelDyIdeal.τ).loc Cert.KernelDyIdeal.main_v0_3) = v3 c
          ∧ r.2.mem ((c.tc : Thread Cert.KernelDyIdeal.nD Cert.KernelDyIdeal.τ).loc Cert.KernelDyIdeal.main_v0_4) = v4 c
          ∧ r.2.mem ((c.tc : Thread Cert.KernelDyIdeal.nD Cert.KernelDyIdeal.τ).loc Cert.KernelDyIdeal.main_v0_5) = v5 c
          ∧ r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0))
      ∧ θ_run (Cert.RefDyIdeal.defs (F := Ideal)) (onTc (τ := Cert.RefDyIdeal.τ) (Cert.RefDyIdeal.main (F := Ideal))) ⟨m', fun _ => 0, g'⟩ (fun r => ∀ c : Dev Cert.RefDyIdeal.nD,
          r.2.mem ((c.tc : Thread Cert.RefDyIdeal.nD Cert.RefDyIdeal.τ).loc Cert.RefDyIdeal.main_v0_0) = v0 c
          ∧ r.2.mem ((c.tc : Thread Cert.RefDyIdeal.nD Cert.RefDyIdeal.τ).loc Cert.RefDyIdeal.main_v0_1) = v1 c
          ∧ r.2.mem ((c.tc : Thread Cert.RefDyIdeal.nD Cert.RefDyIdeal.τ).loc Cert.RefDyIdeal.main_v0_2) = v2 c
          ∧ r.2.mem ((c.tc : Thread Cert.RefDyIdeal.nD Cert.RefDyIdeal.τ).loc Cert.RefDyIdeal.main_v0_3) = v3 c
          ∧ r.2.mem ((c.tc : Thread Cert.RefDyIdeal.nD Cert.RefDyIdeal.τ).loc Cert.RefDyIdeal.main_v0_4) = v4 c
          ∧ r.2.mem ((c.tc : Thread Cert.RefDyIdeal.nD Cert.RefDyIdeal.τ).loc Cert.RefDyIdeal.main_v0_5) = v5 c
          ∧ r.2.mem ((c.tc : Thread Cert.RefDyIdeal.nD Cert.RefDyIdeal.τ).loc Cert.RefDyIdeal.main_arg0) = m' ((c.tc : Thread Cert.RefDyIdeal.nD Cert.RefDyIdeal.τ).loc Cert.RefDyIdeal.main_arg0))

def Claim : Prop :=
  ∃ (hKernelY : Cert.KernelY.Facts) (hKernelYIdeal : Cert.KernelYIdeal.Facts) (hRefYIdeal : Cert.RefYIdeal.Facts) (hKernelDx : Cert.KernelDx.Facts) (hKernelDxIdeal : Cert.KernelDxIdeal.Facts) (hRefDxIdeal : Cert.RefDxIdeal.Facts) (hKernelDw : Cert.KernelDw.Facts) (hKernelDwIdeal : Cert.KernelDwIdeal.Facts) (hRefDwIdeal : Cert.RefDwIdeal.Facts) (hKernelX : Cert.KernelX.Facts) (hKernelXIdeal : Cert.KernelXIdeal.Facts) (hRefXIdeal : Cert.RefXIdeal.Facts) (hKernelDy : Cert.KernelDy.Facts) (hKernelDyIdeal : Cert.KernelDyIdeal.Facts) (hRefDyIdeal : Cert.RefDyIdeal.Facts) (hPre_finite_y : Cert.Pre_finite_y.Facts) (hPre_finite_dx : Cert.Pre_finite_dx.Facts) (hPre_finite_x : Cert.Pre_finite_x.Facts) (hPre_finite_dy : Cert.Pre_finite_dy.Facts),
    quiescent_KernelY (hKernelY := hKernelY)
    ∧ quiescent_KernelYIdeal (hKernelYIdeal := hKernelYIdeal)
    ∧ quiescent_KernelYIdeal_pre_finite_y (hKernelYIdeal := hKernelYIdeal) (hPre_finite_y := hPre_finite_y)
    ∧ quiescent_RefYIdeal (hRefYIdeal := hRefYIdeal)
    ∧ quiescent_RefYIdeal_pre_finite_y (hRefYIdeal := hRefYIdeal) (hPre_finite_y := hPre_finite_y)
    ∧ quiescent_KernelDx (hKernelDx := hKernelDx)
    ∧ quiescent_KernelDxIdeal (hKernelDxIdeal := hKernelDxIdeal)
    ∧ quiescent_KernelDxIdeal_pre_finite_dx (hKernelDxIdeal := hKernelDxIdeal) (hPre_finite_dx := hPre_finite_dx)
    ∧ quiescent_RefDxIdeal (hRefDxIdeal := hRefDxIdeal)
    ∧ quiescent_RefDxIdeal_pre_finite_dx (hRefDxIdeal := hRefDxIdeal) (hPre_finite_dx := hPre_finite_dx)
    ∧ quiescent_KernelDw (hKernelDw := hKernelDw)
    ∧ quiescent_KernelDwIdeal (hKernelDwIdeal := hKernelDwIdeal)
    ∧ quiescent_RefDwIdeal (hRefDwIdeal := hRefDwIdeal)
    ∧ quiescent_KernelX (hKernelX := hKernelX)
    ∧ quiescent_KernelXIdeal (hKernelXIdeal := hKernelXIdeal)
    ∧ quiescent_KernelXIdeal_pre_finite_x (hKernelXIdeal := hKernelXIdeal) (hPre_finite_x := hPre_finite_x)
    ∧ quiescent_RefXIdeal (hRefXIdeal := hRefXIdeal)
    ∧ quiescent_RefXIdeal_pre_finite_x (hRefXIdeal := hRefXIdeal) (hPre_finite_x := hPre_finite_x)
    ∧ quiescent_KernelDy (hKernelDy := hKernelDy)
    ∧ quiescent_KernelDyIdeal (hKernelDyIdeal := hKernelDyIdeal)
    ∧ quiescent_KernelDyIdeal_pre_finite_dy (hKernelDyIdeal := hKernelDyIdeal) (hPre_finite_dy := hPre_finite_dy)
    ∧ quiescent_RefDyIdeal (hRefDyIdeal := hRefDyIdeal)
    ∧ quiescent_RefDyIdeal_pre_finite_dy (hRefDyIdeal := hRefDyIdeal) (hPre_finite_dy := hPre_finite_dy)
    ∧ preserves_KernelY_KernelYIdeal
    ∧ algebraic_KernelYIdeal_RefYIdeal_pre_finite_y (hKernelYIdeal := hKernelYIdeal) (hRefYIdeal := hRefYIdeal) (hPre_finite_y := hPre_finite_y)
    ∧ preserves_KernelDx_KernelDxIdeal
    ∧ algebraic_KernelDxIdeal_RefDxIdeal_pre_finite_dx (hKernelDxIdeal := hKernelDxIdeal) (hRefDxIdeal := hRefDxIdeal) (hPre_finite_dx := hPre_finite_dx)
    ∧ preserves_KernelDw_KernelDwIdeal
    ∧ algebraic_KernelDwIdeal_RefDwIdeal (hKernelDwIdeal := hKernelDwIdeal) (hRefDwIdeal := hRefDwIdeal)
    ∧ preserves_KernelX_KernelXIdeal
    ∧ algebraic_KernelXIdeal_RefXIdeal_pre_finite_x (hKernelXIdeal := hKernelXIdeal) (hRefXIdeal := hRefXIdeal) (hPre_finite_x := hPre_finite_x)
    ∧ preserves_KernelDy_KernelDyIdeal
    ∧ algebraic_KernelDyIdeal_RefDyIdeal_pre_finite_dy (hKernelDyIdeal := hKernelDyIdeal) (hRefDyIdeal := hRefDyIdeal) (hPre_finite_dy := hPre_finite_dy)
-- ==== Pre_finite_dx.lean ====
abbrev S1536x10240 : Shape := ⟨2, ![1536, 10240]⟩
abbrev S10240x8192 : Shape := ⟨2, ![10240, 8192]⟩
abbrev S_ : Shape := ⟨0, ![]⟩

class Facts : Prop where
  bcast_S_S10240x8192 : S_.BroadcastsInDim S10240x8192 (![] : Fin 0 → Fin S10240x8192.rank)

variable [Facts]

def fn {F : FTy → Type} [FloatOps F] (main_arg0 : FVec F S1536x10240 .bf16) (main_arg1 : FVec F S10240x8192 .bf16) : IVec S10240x8192 1 :=
  let main_v0 : FVec F S10240x8192 .bf16 := Host.absf main_arg1
  let main_cst : FVec F S_ .bf16 := constant S_ .bf16 0x7F7F#16
  let main_v1 : FVec F S10240x8192 .bf16 := broadcastInDim S10240x8192 ![] bcast_S_S10240x8192 main_cst
  let main_v2 : IVec S10240x8192 1 := cmpf .ole main_v0 main_v1
  main_v2
-- ==== Pre_finite_dy.lean ====
abbrev S1536x10240 : Shape := ⟨2, ![1536, 10240]⟩
abbrev S_ : Shape := ⟨0, ![]⟩

class Facts : Prop where
  bcast_S_S1536x10240 : S_.BroadcastsInDim S1536x10240 (![] : Fin 0 → Fin S1536x10240.rank)

variable [Facts]

def fn {F : FTy → Type} [FloatOps F] (main_arg0 : FVec F S1536x10240 .bf16) : IVec S1536x10240 1 :=
  let main_v0 : FVec F S1536x10240 .bf16 := Host.absf main_arg0
  let main_cst : FVec F S_ .bf16 := constant S_ .bf16 0x7F7F#16
  let main_v1 : FVec F S1536x10240 .bf16 := broadcastInDim S1536x10240 ![] bcast_S_S1536x10240 main_cst
  let main_v2 : IVec S1536x10240 1 := cmpf .ole main_v0 main_v1
  main_v2
-- ==== Pre_finite_x.lean ====
abbrev S1536x8192 : Shape := ⟨2, ![1536, 8192]⟩
abbrev S_ : Shape := ⟨0, ![]⟩

class Facts : Prop where
  bcast_S_S1536x8192 : S_.BroadcastsInDim S1536x8192 (![] : Fin 0 → Fin S1536x8192.rank)

variable [Facts]

def fn {F : FTy → Type} [FloatOps F] (main_arg0 : FVec F S1536x8192 .bf16) : IVec S1536x8192 1 :=
  let main_v0 : FVec F S1536x8192 .bf16 := Host.absf main_arg0
  let main_cst : FVec F S_ .bf16 := constant S_ .bf16 0x7F7F#16
  let main_v1 : FVec F S1536x8192 .bf16 := broadcastInDim S1536x8192 ![] bcast_S_S1536x8192 main_cst
  let main_v2 : IVec S1536x8192 1 := cmpf .ole main_v0 main_v1
  main_v2
-- ==== Pre_finite_y.lean ====
abbrev S1536x8192 : Shape := ⟨2, ![1536, 8192]⟩
abbrev S10240x8192 : Shape := ⟨2, ![10240, 8192]⟩
abbrev S_ : Shape := ⟨0, ![]⟩

class Facts : Prop where
  bcast_S_S10240x8192 : S_.BroadcastsInDim S10240x8192 (![] : Fin 0 → Fin S10240x8192.rank)

variable [Facts]

def fn {F : FTy → Type} [FloatOps F] (main_arg0 : FVec F S1536x8192 .bf16) (main_arg1 : FVec F S10240x8192 .bf16) : IVec S10240x8192 1 :=
  let main_v0 : FVec F S10240x8192 .bf16 := Host.absf main_arg1
  let main_cst : FVec F S_ .bf16 := constant S_ .bf16 0x7F7F#16
  let main_v1 : FVec F S10240x8192 .bf16 := broadcastInDim S10240x8192 ![] bcast_S_S10240x8192 main_cst
  let main_v2 : IVec S10240x8192 1 := cmpf .ole main_v0 main_v1
  main_v2
-- ==== KernelY.lean ====
abbrev S1536x8192 : Shape := ⟨2, ![1536, 8192]⟩
abbrev S10240x8192 : Shape := ⟨2, ![10240, 8192]⟩
abbrev S1536x10240 : Shape := ⟨2, ![1536, 10240]⟩
abbrev S10240x256 : Shape := ⟨2, ![10240, 256]⟩
abbrev S1536x1024 : Shape := ⟨2, ![1536, 1024]⟩
abbrev S1024x1024 : Shape := ⟨2, ![1024, 1024]⟩
abbrev S1024x256 : Shape := ⟨2, ![1024, 256]⟩
abbrev S256x1024 : Shape := ⟨2, ![256, 1024]⟩
abbrev S1536x256 : Shape := ⟨2, ![1536, 256]⟩
abbrev S32x32x256 : Shape := ⟨3, ![32, 32, 256]⟩
abbrev S32x256 : Shape := ⟨2, ![32, 256]⟩
abbrev S32x1x256 : Shape := ⟨3, ![32, 1, 256]⟩

abbrev nBuf : Space → Nat
  | .hbm => 5
  | .vmem => 14
  | .smem => 0
  | _ => 0

abbrev bufTy : (tb : Table) → Fin (tcTables nBuf tb) → BufTy
  | .hbm, ⟨0, _⟩ => ⟨S1536x8192, .bf16⟩
  | .hbm, ⟨1, _⟩ => ⟨S10240x8192, .bf16⟩
  | .hbm, ⟨2, _⟩ => ⟨S1536x10240, .bf16⟩
  | .hbm, ⟨3, _⟩ => ⟨S10240x8192, .fp8e4m3⟩
  | .hbm, ⟨4, _⟩ => ⟨S10240x256, .i8⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1024x1024, .fp8e4m3⟩
  | .local _ .vmem, ⟨7, _⟩ => ⟨S1024x1024, .fp8e4m3⟩
  | .local _ .vmem, ⟨8, _⟩ => ⟨S1024x256, .i8⟩
  | .local _ .vmem, ⟨9, _⟩ => ⟨S1024x256, .i8⟩
  | .local _ .vmem, ⟨10, _⟩ => ⟨S1536x1024, .f32⟩
  | .local _ .vmem, ⟨11, _⟩ => ⟨S1024x1024, .bf16⟩
  | .local _ .vmem, ⟨12, _⟩ => ⟨S1024x1024, .bf16⟩
  | .local _ .vmem, ⟨13, _⟩ => ⟨S256x1024, .i32⟩
  | _, _ => ⟨S1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![81], ![false]⟩

def k0_cond3 (i : grid0.Coords) : BitVec 1 :=
  let arg0 : BitVec 32 := BitVec.ofNat 32 (i 0).val
  let c2_i32 : BitVec 32 := 2#32
  let c0_i32_15 : BitVec 32 := 0#32
  let v29 : BitVec 1 := Scalar.cmpi .eq c2_i32 c0_i32_15
  let c1_i32_16 : BitVec 32 := 1#32
  let v30 : BitVec 32 := Scalar.select v29 c1_i32_16 c2_i32
  let v31 : BitVec 32 := Scalar.remsi arg0 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c0_i32_20 : BitVec 32 := 0#32
  let v39 : BitVec 1 := Scalar.cmpi .eq v38 c0_i32_20
  let v40 : BitVec 32 := Scalar.extui v39
  let c0_i32_21 : BitVec 32 := 0#32
  let v41 : BitVec 1 := Scalar.cmpi .ne v40 c0_i32_21
  v41

def k0_mult1 (i : grid0.Coords) : BitVec 32 :=
  let arg0 : BitVec 32 := BitVec.ofNat 32 (i 0).val
  let c79_i32 : BitVec 32 := 79#32
  let v0 : BitVec 32 := Scalar.minsi arg0 c79_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_73 : BitVec 32 := 32#32
  let v189 : BitVec 32 := Scalar.muli v10 c32_i32_73
  v189
def k0_off1 (i : grid0.Coords) : Fin 2 → Nat :=
  let arg0 : BitVec 32 := BitVec.ofNat 32 (i 0).val
  let c79_i32 : BitVec 32 := 79#32
  let v0 : BitVec 32 := Scalar.minsi arg0 c79_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_73 : BitVec 32 := 32#32
  let v189 : BitVec 32 := Scalar.muli v10 c32_i32_73
  let v190 : BitVec 32 := v189
  let v191 : Index := Scalar.indexCast v190
  let c0_74 : Index := 0#32
  ![v191.toNat, 0]
def k0_mult2 (i : grid0.Coords) : BitVec 32 :=
  let arg0 : BitVec 32 := BitVec.ofNat 32 (i 0).val
  let c79_i32 : BitVec 32 := 79#32
  let v0 : BitVec 32 := Scalar.minsi arg0 c79_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_124 : BitVec 32 := 32#32
  let v323 : BitVec 32 := Scalar.muli v10 c32_i32_124
  v323
def k0_off2 (i : grid0.Coords) : Fin 2 → Nat :=
  let arg0 : BitVec 32 := BitVec.ofNat 32 (i 0).val
  let c79_i32 : BitVec 32 := 79#32
  let v0 : BitVec 32 := Scalar.minsi arg0 c79_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_124 : BitVec 32 := 32#32
  let v323 : BitVec 32 := Scalar.muli v10 c32_i32_124
  let v324 : BitVec 32 := v323
  let v325 : Index := Scalar.indexCast v324
  let c256_125 : Index := 256#32
  ![v325.toNat, 256]
def k0_mult3 (i : grid0.Coords) : BitVec 32 :=
  let arg0 : BitVec 32 := BitVec.ofNat 32 (i 0).val
  let c79_i32 : BitVec 32 := 79#32
  let v0 : BitVec 32 := Scalar.minsi arg0 c79_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_175 : BitVec 32 := 32#32
  let v457 : BitVec 32 := Scalar.muli v10 c32_i32_175
  v457
def k0_off3 (i : grid0.Coords) : Fin 2 → Nat :=
  let arg0 : BitVec 32 := BitVec.ofNat 32 (i 0).val
  let c79_i32 : BitVec 32 := 79#32
  let v0 : BitVec 32 := Scalar.minsi arg0 c79_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_175 : BitVec 32 := 32#32
  let v457 : BitVec 32 := Scalar.muli v10 c32_i32_175
  let v458 : BitVec 32 := v457
  let v459 : Index := Scalar.indexCast v458
  let c512_176 : Index := 512#32
  ![v459.toNat, 512]
def k0_mult4 (i : grid0.Coords) : BitVec 32 :=
  let arg0 : BitVec 32 := BitVec.ofNat 32 (i 0).val
  let c79_i32 : BitVec 32 := 79#32
  let v0 : BitVec 32 := Scalar.minsi arg0 c79_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_226 : BitVec 32 := 32#32
  let v591 : BitVec 32 := Scalar.muli v10 c32_i32_226
  v591
def k0_off4 (i : grid0.Coords) : Fin 2 → Nat :=
  let arg0 : BitVec 32 := BitVec.ofNat 32 (i 0).val
  let c79_i32 : BitVec 32 := 79#32
  let v0 : BitVec 32 := Scalar.minsi arg0 c79_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_226 : BitVec 32 := 32#32
  let v591 : BitVec 32 := Scalar.muli v10 c32_i32_226
  let v592 : BitVec 32 := v591
  let v593 : Index := Scalar.indexCast v592
  let c768_227 : Index := 768#32
  ![v593.toNat, 768]
def k0_cond4 (i : grid0.Coords) : BitVec 1 :=
  let arg0 : BitVec 32 := BitVec.ofNat 32 (i 0).val
  let c2_i32_22 : BitVec 32 := 2#32
  let c0_i32_23 : BitVec 32 := 0#32
  let v42 : BitVec 1 := Scalar.cmpi .eq c2_i32_22 c0_i32_23
  let c1_i32_24 : BitVec 32 := 1#32
  let v43 : BitVec 32 := Scalar.select v42 c1_i32_24 c2_i32_22
  let v44 : BitVec 32 := Scalar.remsi arg0 v43
  let c0_i32_26 : BitVec 32 := 0#32
  let v46 : BitVec 1 := Scalar.cmpi .slt v44 c0_i32_26
  let c0_i32_27 : BitVec 32 := 0#32
  let v47 : BitVec 1 := Scalar.cmpi .slt v43 c0_i32_27
  let v48 : BitVec 1 := Scalar.xori v46 v47
  let c0_i32_25 : BitVec 32 := 0#32
  let v45 : BitVec 1 := Scalar.cmpi .ne v44 c0_i32_25
  let v49 : BitVec 1 := Scalar.andi v48 v45
  let v50 : BitVec 32 := Scalar.addi v44 v43
  let v51 : BitVec 32 := Scalar.select v49 v50 v44
  let c1_i32_28 : BitVec 32 := 1#32
  let v52 : BitVec 1 := Scalar.cmpi .eq v51 c1_i32_28
  let v53 : BitVec 32 := Scalar.extui v52
  let c0_i32_29 : BitVec 32 := 0#32
  let v54 : BitVec 1 := Scalar.cmpi .ne v53 c0_i32_29
  v54

def k0_mult5 (i : grid0.Coords) : BitVec 32 :=
  let arg0 : BitVec 32 := BitVec.ofNat 32 (i 0).val
  let c79_i32 : BitVec 32 := 79#32
  let v0 : BitVec 32 := Scalar.minsi arg0 c79_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_73 : BitVec 32 := 32#32
  let v189 : BitVec 32 := Scalar.muli v10 c32_i32_73
  v189
def k0_off5 (i : grid0.Coords) : Fin 2 → Nat :=
  let arg0 : BitVec 32 := BitVec.ofNat 32 (i 0).val
  let c79_i32 : BitVec 32 := 79#32
  let v0 : BitVec 32 := Scalar.minsi arg0 c79_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_73 : BitVec 32 := 32#32
  let v189 : BitVec 32 := Scalar.muli v10 c32_i32_73
  let v190 : BitVec 32 := v189
  let v191 : Index := Scalar.indexCast v190
  let c0_74 : Index := 0#32
  ![v191.toNat, 0]
def k0_mult6 (i : grid0.Coords) : BitVec 32 :=
  let arg0 : BitVec 32 := BitVec.ofNat 32 (i 0).val
  let c79_i32 : BitVec 32 := 79#32
  let v0 : BitVec 32 := Scalar.minsi arg0 c79_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_124 : BitVec 32 := 32#32
  let v323 : BitVec 32 := Scalar.muli v10 c32_i32_124
  v323
def k0_off6 (i : grid0.Coords) : Fin 2 → Nat :=
  let arg0 : BitVec 32 := BitVec.ofNat 32 (i 0).val
  let c79_i32 : BitVec 32 := 79#32
  let v0 : BitVec 32 := Scalar.minsi arg0 c79_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_124 : BitVec 32 := 32#32
  let v323 : BitVec 32 := Scalar.muli v10 c32_i32_124
  let v324 : BitVec 32 := v323
  let v325 : Index := Scalar.indexCast v324
  let c256_125 : Index := 256#32
  ![v325.toNat, 256]
def k0_mult7 (i : grid0.Coords) : BitVec 32 :=
  let arg0 : BitVec 32 := BitVec.ofNat 32 (i 0).val
  let c79_i32 : BitVec 32 := 79#32
  let v0 : BitVec 32 := Scalar.minsi arg0 c79_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_175 : BitVec 32 := 32#32
  let v457 : BitVec 32 := Scalar.muli v10 c32_i32_175
  v457
def k0_off7 (i : grid0.Coords) : Fin 2 → Nat :=
  let arg0 : BitVec 32 := BitVec.ofNat 32 (i 0).val
  let c79_i32 : BitVec 32 := 79#32
  let v0 : BitVec 32 := Scalar.minsi arg0 c79_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_175 : BitVec 32 := 32#32
  let v457 : BitVec 32 := Scalar.muli v10 c32_i32_175
  let v458 : BitVec 32 := v457
  let v459 : Index := Scalar.indexCast v458
  let c512_176 : Index := 512#32
  ![v459.toNat, 512]
def k0_mult8 (i : grid0.Coords) : BitVec 32 :=
  let arg0 : BitVec 32 := BitVec.ofNat 32 (i 0).val
  let c79_i32 : BitVec 32 := 79#32
  let v0 : BitVec 32 := Scalar.minsi arg0 c79_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_226 : BitVec 32 := 32#32
  let v591 : BitVec 32 := Scalar.muli v10 c32_i32_226
  v591
def k0_off8 (i : grid0.Coords) : Fin 2 → Nat :=
  let arg0 : BitVec 32 := BitVec.ofNat 32 (i 0).val
  let c79_i32 : BitVec 32 := 79#32
  let v0 : BitVec 32 := Scalar.minsi arg0 c79_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_226 : BitVec 32 := 32#32
  let v591 : BitVec 32 := Scalar.muli v10 c32_i32_226
  let v592 : BitVec 32 := v591
  let v593 : Index := Scalar.indexCast v592
  let c768_227 : Index := 768#32
  ![v593.toNat, 768]
def k0_cond6 (i : grid0.Coords) : BitVec 1 :=
  let arg0 : BitVec 32 := BitVec.ofNat 32 (i 0).val
  let c1_i32_3 : BitVec 32 := 1#32
  let v11 : BitVec 32 := Scalar.subi arg0 c1_i32_3
  let c0_i32_4 : BitVec 32 := 0#32
  let v12 : BitVec 32 := Scalar.maxsi v11 c0_i32_4
  let c8_i32_5 : BitVec 32 := 8#32
  let c0_i32_6 : BitVec 32 := 0#32
  let v13 : BitVec 1 := Scalar.cmpi .eq c8_i32_5 c0_i32_6
  let c1_i32_7 : BitVec 32 := 1#32
  let v14 : BitVec 32 := Scalar.select v13 c1_i32_7 c8_i32_5
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c7_i32_31 : BitVec 32 := 7#32
  let v58 : BitVec 1 := Scalar.cmpi .eq v22 c7_i32_31
  let v59 : BitVec 32 := Scalar.extui v58
  let c0_i32_32 : BitVec 32 := 0#32
  let v60 : BitVec 1 := Scalar.cmpi .ne v59 c0_i32_32
  v60

def k0_cond5 (i : grid0.Coords) : BitVec 1 :=
  let arg0 : BitVec 32 := BitVec.ofNat 32 (i 0).val
  let c79_i32 : BitVec 32 := 79#32
  let v0 : BitVec 32 := Scalar.minsi arg0 c79_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c7_i32 : BitVec 32 := 7#32
  let v55 : BitVec 1 := Scalar.cmpi .eq v10 c7_i32
  let v56 : BitVec 32 := Scalar.extui v55
  let c0_i32_30 : BitVec 32 := 0#32
  let v57 : BitVec 1 := Scalar.cmpi .ne v56 c0_i32_30
  v57

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![c0_i32_12.toNat, v28.toNat]

def cc0_transform_1 (i : grid0.Coords) : Fin 2 → Nat :=
  let arg0 : BitVec 32 := BitVec.ofNat 32 (i 0).val
  let c79_i32 : BitVec 32 := 79#32
  let v0 : BitVec 32 := Scalar.minsi arg0 c79_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, v27.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![c0_i32_12.toNat, v18.toNat]

def cc0_transform_3 (i : grid0.Coords) : Fin 2 → Nat :=
  let arg0 : BitVec 32 := BitVec.ofNat 32 (i 0).val
  let c79_i32 : BitVec 32 := 79#32
  let v0 : BitVec 32 := Scalar.minsi arg0 c79_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, v27.toNat]

def cc0_transform_4 (i : grid0.Coords) : Fin 2 → Nat :=
  let arg0 : BitVec 32 := BitVec.ofNat 32 (i 0).val
  let c79_i32 : BitVec 32 := 79#32
  let v0 : BitVec 32 := Scalar.minsi arg0 c79_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefYIdeal.lean ====
abbrev S1536x8192 : Shape := ⟨2, ![1536, 8192]⟩
abbrev S10240x8192 : Shape := ⟨2, ![10240, 8192]⟩
abbrev S1536x10240 : Shape := ⟨2, ![1536, 10240]⟩
abbrev S10240x256 : Shape := ⟨2, ![10240, 256]⟩
abbrev S10240x256x32 : Shape := ⟨3, ![10240, 256, 32]⟩
abbrev S10240x256x1 : Shape := ⟨3, ![10240, 256, 1]⟩

abbrev nBuf : Space → Nat
  | .hbm => 5
  | .vmem => 5
  | .smem => 0
  | _ => 0

abbrev bufTy : (tb : Table) → Fin (tcTables nBuf tb) → BufTy
  | .hbm, ⟨0, _⟩ => ⟨S1536x8192, .bf16⟩
  | .hbm, ⟨1, _⟩ => ⟨S10240x8192, .bf16⟩
  | .hbm, ⟨2, _⟩ => ⟨S1536x10240, .bf16⟩
  | .hbm, ⟨3, _⟩ => ⟨S10240x8192, .fp8e4m3⟩
  | .hbm, ⟨4, _⟩ => ⟨S10240x256, .i8⟩
  | .local _ .vmem, ⟨0, _⟩ => ⟨S1536x8192, .bf16⟩
  | .local _ .vmem, ⟨1, _⟩ => ⟨S10240x8192, .bf16⟩
  | .local _ .vmem, ⟨2, _⟩ => ⟨S1536x10240, .bf16⟩
  | .local _ .vmem, ⟨3, _⟩ => ⟨S10240x8192, .fp8e4m3⟩
  | .local _ .vmem, ⟨4, _⟩ => ⟨S10240x256, .i8⟩
  | _, _ => ⟨S1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1536x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10240x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x10240 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10240x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10240x256 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelDx.lean ====
abbrev S1536x10240 : Shape := ⟨2, ![1536, 10240]⟩
abbrev S10240x8192 : Shape := ⟨2, ![10240, 8192]⟩
abbrev S1536x8192 : Shape := ⟨2, ![1536, 8192]⟩
abbrev S8192x10240 : Shape := ⟨2, ![8192, 10240]⟩
abbrev S320x8192 : Shape := ⟨2, ![320, 8192]⟩
abbrev S1536x1024 : Shape := ⟨2, ![1536, 1024]⟩
abbrev S1024x1024 : Shape := ⟨2, ![1024, 1024]⟩
abbrev S320x1024 : Shape := ⟨2, ![320, 1024]⟩
abbrev S1536x256 : Shape := ⟨2, ![1536, 256]⟩
abbrev S1024x256 : Shape := ⟨2, ![1024, 256]⟩
abbrev S32x32x256 : Shape := ⟨3, ![32, 32, 256]⟩
abbrev S32x256 : Shape := ⟨2, ![32, 256]⟩
abbrev S32x1x256 : Shape := ⟨3, ![32, 1, 256]⟩
abbrev S256x1024 : Shape := ⟨2, ![256, 1024]⟩

abbrev nBuf : Space → Nat
  | .hbm => 5
  | .vmem => 14
  | .smem => 0
  | _ => 0

abbrev bufTy : (tb : Table) → Fin (tcTables nBuf tb) → BufTy
  | .hbm, ⟨0, _⟩ => ⟨S1536x10240, .bf16⟩
  | .hbm, ⟨1, _⟩ => ⟨S10240x8192, .bf16⟩
  | .hbm, ⟨2, _⟩ => ⟨S1536x8192, .bf16⟩
  | .hbm, ⟨3, _⟩ => ⟨S8192x10240, .fp8e4m3⟩
  | .hbm, ⟨4, _⟩ => ⟨S320x8192, .i8⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1024x1024, .fp8e4m3⟩
  | .local _ .vmem, ⟨7, _⟩ => ⟨S1024x1024, .fp8e4m3⟩
  | .local _ .vmem, ⟨8, _⟩ => ⟨S320x1024, .i8⟩
  | .local _ .vmem, ⟨9, _⟩ => ⟨S320x1024, .i8⟩
  | .local _ .vmem, ⟨10, _⟩ => ⟨S1536x1024, .f32⟩
  | .local _ .vmem, ⟨11, _⟩ => ⟨S1024x1024, .bf16⟩
  | .local _ .vmem, ⟨12, _⟩ => ⟨S1024x1024, .bf16⟩
  | .local _ .vmem, ⟨13, _⟩ => ⟨S320x1024, .i32⟩
  | _, _ => ⟨S1536x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![81], ![false]⟩

def k0_cond3 (i : grid0.Coords) : BitVec 1 :=
  let arg0 : BitVec 32 := BitVec.ofNat 32 (i 0).val
  let c2_i32 : BitVec 32 := 2#32
  let c0_i32_15 : BitVec 32 := 0#32
  let v29 : BitVec 1 := Scalar.cmpi .eq c2_i32 c0_i32_15
  let c1_i32_16 : BitVec 32 := 1#32
  let v30 : BitVec 32 := Scalar.select v29 c1_i32_16 c2_i32
  let v31 : BitVec 32 := Scalar.remsi arg0 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c0_i32_20 : BitVec 32 := 0#32
  let v39 : BitVec 1 := Scalar.cmpi .eq v38 c0_i32_20
  let v40 : BitVec 32 := Scalar.extui v39
  let c0_i32_21 : BitVec 32 := 0#32
  let v41 : BitVec 1 := Scalar.cmpi .ne v40 c0_i32_21
  v41

def k0_mult1 (i : grid0.Coords) : BitVec 32 :=
  let arg0 : BitVec 32 := BitVec.ofNat 32 (i 0).val
  let c79_i32 : BitVec 32 := 79#32
  let v0 : BitVec 32 := Scalar.minsi arg0 c79_i32
  let c10_i32 : BitVec 32 := 10#32
  let c0_i32 : BitVec 32 := 0#32
  let v1 : BitVec 1 := Scalar.cmpi .eq c10_i32 c0_i32
  let c1_i32 : BitVec 32 := 1#32
  let v2 : BitVec 32 := Scalar.select v1 c1_i32 c10_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_72 : BitVec 32 := 32#32
  let v188 : BitVec 32 := Scalar.muli v10 c32_i32_72
  v188
def k0_off1 (i : grid0.Coords) : Fin 2 → Nat :=
  let arg0 : BitVec 32 := BitVec.ofNat 32 (i 0).val
  let c79_i32 : BitVec 32 := 79#32
  let v0 : BitVec 32 := Scalar.minsi arg0 c79_i32
  let c10_i32 : BitVec 32 := 10#32
  let c0_i32 : BitVec 32 := 0#32
  let v1 : BitVec 1 := Scalar.cmpi .eq c10_i32 c0_i32
  let c1_i32 : BitVec 32 := 1#32
  let v2 : BitVec 32 := Scalar.select v1 c1_i32 c10_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_72 : BitVec 32 := 32#32
  let v188 : BitVec 32 := Scalar.muli v10 c32_i32_72
  let v189 : BitVec 32 := v188
  let v190 : Index := Scalar.indexCast v189
  let c0_73 : Index := 0#32
  ![v190.toNat, 0]
def k0_mult2 (i : grid0.Coords) : BitVec 32 :=
  let arg0 : BitVec 32 := BitVec.ofNat 32 (i 0).val
  let c79_i32 : BitVec 32 := 79#32
  let v0 : BitVec 32 := Scalar.minsi arg0 c79_i32
  let c10_i32 : BitVec 32 := 10#32
  let c0_i32 : BitVec 32 := 0#32
  let v1 : BitVec 1 := Scalar.cmpi .eq c10_i32 c0_i32
  let c1_i32 : BitVec 32 := 1#32
  let v2 : BitVec 32 := Scalar.select v1 c1_i32 c10_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_123 : BitVec 32 := 32#32
  let v321 : BitVec 32 := Scalar.muli v10 c32_i32_123
  v321
def k0_off2 (i : grid0.Coords) : Fin 2 → Nat :=
  let arg0 : BitVec 32 := BitVec.ofNat 32 (i 0).val
  let c79_i32 : BitVec 32 := 79#32
  let v0 : BitVec 32 := Scalar.minsi arg0 c79_i32
  let c10_i32 : BitVec 32 := 10#32
  let c0_i32 : BitVec 32 := 0#32
  let v1 : BitVec 1 := Scalar.cmpi .eq c10_i32 c0_i32
  let c1_i32 : BitVec 32 := 1#32
  let v2 : BitVec 32 := Scalar.select v1 c1_i32 c10_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_123 : BitVec 32 := 32#32
  let v321 : BitVec 32 := Scalar.muli v10 c32_i32_123
  let v322 : BitVec 32 := v321
  let v323 : Index := Scalar.indexCast v322
  let c256_124 : Index := 256#32
  ![v323.toNat, 256]
def k0_mult3 (i : grid0.Coords) : BitVec 32 :=
  let arg0 : BitVec 32 := BitVec.ofNat 32 (i 0).val
  let c79_i32 : BitVec 32 := 79#32
  let v0 : BitVec 32 := Scalar.minsi arg0 c79_i32
  let c10_i32 : BitVec 32 := 10#32
  let c0_i32 : BitVec 32 := 0#32
  let v1 : BitVec 1 := Scalar.cmpi .eq c10_i32 c0_i32
  let c1_i32 : BitVec 32 := 1#32
  let v2 : BitVec 32 := Scalar.select v1 c1_i32 c10_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_174 : BitVec 32 := 32#32
  let v454 : BitVec 32 := Scalar.muli v10 c32_i32_174
  v454
def k0_off3 (i : grid0.Coords) : Fin 2 → Nat :=
  let arg0 : BitVec 32 := BitVec.ofNat 32 (i 0).val
  let c79_i32 : BitVec 32 := 79#32
  let v0 : BitVec 32 := Scalar.minsi arg0 c79_i32
  let c10_i32 : BitVec 32 := 10#32
  let c0_i32 : BitVec 32 := 0#32
  let v1 : BitVec 1 := Scalar.cmpi .eq c10_i32 c0_i32
  let c1_i32 : BitVec 32 := 1#32
  let v2 : BitVec 32 := Scalar.select v1 c1_i32 c10_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_174 : BitVec 32 := 32#32
  let v454 : BitVec 32 := Scalar.muli v10 c32_i32_174
  let v455 : BitVec 32 := v454
  let v456 : Index := Scalar.indexCast v455
  let c512_175 : Index := 512#32
  ![v456.toNat, 512]
def k0_mult4 (i : grid0.Coords) : BitVec 32 :=
  let arg0 : BitVec 32 := BitVec.ofNat 32 (i 0).val
  let c79_i32 : BitVec 32 := 79#32
  let v0 : BitVec 32 := Scalar.minsi arg0 c79_i32
  let c10_i32 : BitVec 32 := 10#32
  let c0_i32 : BitVec 32 := 0#32
  let v1 : BitVec 1 := Scalar.cmpi .eq c10_i32 c0_i32
  let c1_i32 : BitVec 32 := 1#32
  let v2 : BitVec 32 := Scalar.select v1 c1_i32 c10_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_225 : BitVec 32 := 32#32
  let v587 : BitVec 32 := Scalar.muli v10 c32_i32_225
  v587
def k0_off4 (i : grid0.Coords) : Fin 2 → Nat :=
  let arg0 : BitVec 32 := BitVec.ofNat 32 (i 0).val
  let c79_i32 : BitVec 32 := 79#32
  let v0 : BitVec 32 := Scalar.minsi arg0 c79_i32
  let c10_i32 : BitVec 32 := 10#32
  let c0_i32 : BitVec 32 := 0#32
  let v1 : BitVec 1 := Scalar.cmpi .eq c10_i32 c0_i32
  let c1_i32 : BitVec 32 := 1#32
  let v2 : BitVec 32 := Scalar.select v1 c1_i32 c10_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_225 : BitVec 32 := 32#32
  let v587 : BitVec 32 := Scalar.muli v10 c32_i32_225
  let v588 : BitVec 32 := v587
  let v589 : Index := Scalar.indexCast v588
  let c768_226 : Index := 768#32
  ![v589.toNat, 768]
def k0_cond4 (i : grid0.Coords) : BitVec 1 :=
  let arg0 : BitVec 32 := BitVec.ofNat 32 (i 0).val
  let c2_i32_22 : BitVec 32 := 2#32
  let c0_i32_23 : BitVec 32 := 0#32
  let v42 : BitVec 1 := Scalar.cmpi .eq c2_i32_22 c0_i32_23
  let c1_i32_24 : BitVec 32 := 1#32
  let v43 : BitVec 32 := Scalar.select v42 c1_i32_24 c2_i32_22
  let v44 : BitVec 32 := Scalar.remsi arg0 v43
  let c0_i32_26 : BitVec 32 := 0#32
  let v46 : BitVec 1 := Scalar.cmpi .slt v44 c0_i32_26
  let c0_i32_27 : BitVec 32 := 0#32
  let v47 : BitVec 1 := Scalar.cmpi .slt v43 c0_i32_27
  let v48 : BitVec 1 := Scalar.xori v46 v47
  let c0_i32_25 : BitVec 32 := 0#32
  let v45 : BitVec 1 := Scalar.cmpi .ne v44 c0_i32_25
  let v49 : BitVec 1 := Scalar.andi v48 v45
  let v50 : BitVec 32 := Scalar.addi v44 v43
  let v51 : BitVec 32 := Scalar.select v49 v50 v44
  let c1_i32_28 : BitVec 32 := 1#32
  let v52 : BitVec 1 := Scalar.cmpi .eq v51 c1_i32_28
  let v53 : BitVec 32 := Scalar.extui v52
  let c0_i32_29 : BitVec 32 := 0#32
  let v54 : BitVec 1 := Scalar.cmpi .ne v53 c0_i32_29
  v54

def k0_mult5 (i : grid0.Coords) : BitVec 32 :=
  let arg0 : BitVec 32 := BitVec.ofNat 32 (i 0).val
  let c79_i32 : BitVec 32 := 79#32
  let v0 : BitVec 32 := Scalar.minsi arg0 c79_i32
  let c10_i32 : BitVec 32 := 10#32
  let c0_i32 : BitVec 32 := 0#32
  let v1 : BitVec 1 := Scalar.cmpi .eq c10_i32 c0_i32
  let c1_i32 : BitVec 32 := 1#32
  let v2 : BitVec 32 := Scalar.select v1 c1_i32 c10_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_72 : BitVec 32 := 32#32
  let v188 : BitVec 32 := Scalar.muli v10 c32_i32_72
  v188
def k0_off5 (i : grid0.Coords) : Fin 2 → Nat :=
  let arg0 : BitVec 32 := BitVec.ofNat 32 (i 0).val
  let c79_i32 : BitVec 32 := 79#32
  let v0 : BitVec 32 := Scalar.minsi arg0 c79_i32
  let c10_i32 : BitVec 32 := 10#32
  let c0_i32 : BitVec 32 := 0#32
  let v1 : BitVec 1 := Scalar.cmpi .eq c10_i32 c0_i32
  let c1_i32 : BitVec 32 := 1#32
  let v2 : BitVec 32 := Scalar.select v1 c1_i32 c10_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_72 : BitVec 32 := 32#32
  let v188 : BitVec 32 := Scalar.muli v10 c32_i32_72
  let v189 : BitVec 32 := v188
  let v190 : Index := Scalar.indexCast v189
  let c0_73 : Index := 0#32
  ![v190.toNat, 0]
def k0_mult6 (i : grid0.Coords) : BitVec 32 :=
  let arg0 : BitVec 32 := BitVec.ofNat 32 (i 0).val
  let c79_i32 : BitVec 32 := 79#32
  let v0 : BitVec 32 := Scalar.minsi arg0 c79_i32
  let c10_i32 : BitVec 32 := 10#32
  let c0_i32 : BitVec 32 := 0#32
  let v1 : BitVec 1 := Scalar.cmpi .eq c10_i32 c0_i32
  let c1_i32 : BitVec 32 := 1#32
  let v2 : BitVec 32 := Scalar.select v1 c1_i32 c10_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_123 : BitVec 32 := 32#32
  let v321 : BitVec 32 := Scalar.muli v10 c32_i32_123
  v321
def k0_off6 (i : grid0.Coords) : Fin 2 → Nat :=
  let arg0 : BitVec 32 := BitVec.ofNat 32 (i 0).val
  let c79_i32 : BitVec 32 := 79#32
  let v0 : BitVec 32 := Scalar.minsi arg0 c79_i32
  let c10_i32 : BitVec 32 := 10#32
  let c0_i32 : BitVec 32 := 0#32
  let v1 : BitVec 1 := Scalar.cmpi .eq c10_i32 c0_i32
  let c1_i32 : BitVec 32 := 1#32
  let v2 : BitVec 32 := Scalar.select v1 c1_i32 c10_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_123 : BitVec 32 := 32#32
  let v321 : BitVec 32 := Scalar.muli v10 c32_i32_123
  let v322 : BitVec 32 := v321
  let v323 : Index := Scalar.indexCast v322
  let c256_124 : Index := 256#32
  ![v323.toNat, 256]
def k0_mult7 (i : grid0.Coords) : BitVec 32 :=
  let arg0 : BitVec 32 := BitVec.ofNat 32 (i 0).val
  let c79_i32 : BitVec 32 := 79#32
  let v0 : BitVec 32 := Scalar.minsi arg0 c79_i32
  let c10_i32 : BitVec 32 := 10#32
  let c0_i32 : BitVec 32 := 0#32
  let v1 : BitVec 1 := Scalar.cmpi .eq c10_i32 c0_i32
  let c1_i32 : BitVec 32 := 1#32
  let v2 : BitVec 32 := Scalar.select v1 c1_i32 c10_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_174 : BitVec 32 := 32#32
  let v454 : BitVec 32 := Scalar.muli v10 c32_i32_174
  v454
def k0_off7 (i : grid0.Coords) : Fin 2 → Nat :=
  let arg0 : BitVec 32 := BitVec.ofNat 32 (i 0).val
  let c79_i32 : BitVec 32 := 79#32
  let v0 : BitVec 32 := Scalar.minsi arg0 c79_i32
  let c10_i32 : BitVec 32 := 10#32
  let c0_i32 : BitVec 32 := 0#32
  let v1 : BitVec 1 := Scalar.cmpi .eq c10_i32 c0_i32
  let c1_i32 : BitVec 32 := 1#32
  let v2 : BitVec 32 := Scalar.select v1 c1_i32 c10_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_174 : BitVec 32 := 32#32
  let v454 : BitVec 32 := Scalar.muli v10 c32_i32_174
  let v455 : BitVec 32 := v454
  let v456 : Index := Scalar.indexCast v455
  let c512_175 : Index := 512#32
  ![v456.toNat, 512]
def k0_mult8 (i : grid0.Coords) : BitVec 32 :=
  let arg0 : BitVec 32 := BitVec.ofNat 32 (i 0).val
  let c79_i32 : BitVec 32 := 79#32
  let v0 : BitVec 32 := Scalar.minsi arg0 c79_i32
  let c10_i32 : BitVec 32 := 10#32
  let c0_i32 : BitVec 32 := 0#32
  let v1 : BitVec 1 := Scalar.cmpi .eq c10_i32 c0_i32
  let c1_i32 : BitVec 32 := 1#32
  let v2 : BitVec 32 := Scalar.select v1 c1_i32 c10_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_225 : BitVec 32 := 32#32
  let v587 : BitVec 32 := Scalar.muli v10 c32_i32_225
  v587
def k0_off8 (i : grid0.Coords) : Fin 2 → Nat :=
  let arg0 : BitVec 32 := BitVec.ofNat 32 (i 0).val
  let c79_i32 : BitVec 32 := 79#32
  let v0 : BitVec 32 := Scalar.minsi arg0 c79_i32
  let c10_i32 : BitVec 32 := 10#32
  let c0_i32 : BitVec 32 := 0#32
  let v1 : BitVec 1 := Scalar.cmpi .eq c10_i32 c0_i32
  let c1_i32 : BitVec 32 := 1#32
  let v2 : BitVec 32 := Scalar.select v1 c1_i32 c10_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c32_i32_225 : BitVec 32 := 32#32
  let v587 : BitVec 32 := Scalar.muli v10 c32_i32_225
  let v588 : BitVec 32 := v587
  let v589 : Index := Scalar.indexCast v588
  let c768_226 : Index := 768#32
  ![v589.toNat, 768]
def k0_cond6 (i : grid0.Coords) : BitVec 1 :=
  let arg0 : BitVec 32 := BitVec.ofNat 32 (i 0).val
  let c1_i32_3 : BitVec 32 := 1#32
  let v11 : BitVec 32 := Scalar.subi arg0 c1_i32_3
  let c0_i32_4 : BitVec 32 := 0#32
  let v12 : BitVec 32 := Scalar.maxsi v11 c0_i32_4
  let c10_i32_5 : BitVec 32 := 10#32
  let c0_i32_6 : BitVec 32 := 0#32
  let v13 : BitVec 1 := Scalar.cmpi .eq c10_i32_5 c0_i32_6
  let c1_i32_7 : BitVec 32 := 1#32
  let v14 : BitVec 32 := Scalar.select v13 c1_i32_7 c10_i32_5
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c9_i32_31 : BitVec 32 := 9#32
  let v58 : BitVec 1 := Scalar.cmpi .eq v22 c9_i32_31
  let v59 : BitVec 32 := Scalar.extui v58
  let c0_i32_32 : BitVec 32 := 0#32
  let v60 : BitVec 1 := Scalar.cmpi .ne v59 c0_i32_32
  v60

def k0_cond5 (i : grid0.Coords) : BitVec 1 :=
  let arg0 : BitVec 32 := BitVec.ofNat 32 (i 0).val
  let c79_i32 : BitVec 32 := 79#32
  let v0 : BitVec 32 := Scalar.minsi arg0 c79_i32
  let c10_i32 : BitVec 32 := 10#32
  let c0_i32 : BitVec 32 := 0#32
  let v1 : BitVec 1 := Scalar.cmpi .eq c10_i32 c0_i32
  let c1_i32 : BitVec 32 := 1#32
  let v2 : BitVec 32 := Scalar.select v1 c1_i32 c10_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c9_i32 : BitVec 32 := 9#32
  let v55 : BitVec 1 := Scalar.cmpi .eq v10 c9_i32
  let v56 : BitVec 32 := Scalar.extui v55
  let c0_i32_30 : BitVec 32 := 0#32
  let v57 : BitVec 1 := Scalar.cmpi .ne v56 c0_i32_30
  v57

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c10_i32 : BitVec 32 := 10#32
  let v2 : BitVec 32 := Scalar.divsi v1 c10_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c10_i32 c0_i32_2
  let v9 : BitVec 32 := Scalar.extui v8
  let c0_i32_3 : BitVec 32 := 0#32
  let v10 : BitVec 1 := Scalar.cmpi .slt c10_i32 c0_i32_3
  let v11 : BitVec 32 := Scalar.extui v10
  let v12 : BitVec 32 := Scalar.subi v9 v11
  let v13 : BitVec 1 := Scalar.cmpi .ne v7 v12
  let v14 : BitVec 32 := Scalar.remsi v1 c10_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c10_i32_6 : BitVec 32 := 10#32
  let c0_i32_7 : BitVec 32 := 0#32
  let v19 : BitVec 1 := Scalar.cmpi .eq c10_i32_6 c0_i32_7
  let c1_i32_8 : BitVec 32 := 1#32
  let v20 : BitVec 32 := Scalar.select v19 c1_i32_8 c10_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![c0_i32_12.toNat, v28.toNat]

def cc0_transform_1 (i : grid0.Coords) : Fin 2 → Nat :=
  let arg0 : BitVec 32 := BitVec.ofNat 32 (i 0).val
  let c79_i32 : BitVec 32 := 79#32
  let v0 : BitVec 32 := Scalar.minsi arg0 c79_i32
  let c10_i32 : BitVec 32 := 10#32
  let v1 : BitVec 32 := Scalar.divsi v0 c10_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c10_i32 c0_i32_1
  let v8 : BitVec 32 := Scalar.extui v7
  let c0_i32_2 : BitVec 32 := 0#32
  let v9 : BitVec 1 := Scalar.cmpi .slt c10_i32 c0_i32_2
  let v10 : BitVec 32 := Scalar.extui v9
  let v11 : BitVec 32 := Scalar.subi v8 v10
  let v12 : BitVec 1 := Scalar.cmpi .ne v6 v11
  let v13 : BitVec 32 := Scalar.remsi v0 c10_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c10_i32_4 : BitVec 32 := 10#32
  let c0_i32_5 : BitVec 32 := 0#32
  let v18 : BitVec 1 := Scalar.cmpi .eq c10_i32_4 c0_i32_5
  let c1_i32_6 : BitVec 32 := 1#32
  let v19 : BitVec 32 := Scalar.select v18 c1_i32_6 c10_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v27.toNat, v17.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c10_i32 : BitVec 32 := 10#32
  let v2 : BitVec 32 := Scalar.divsi v1 c10_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c10_i32 c0_i32_2
  let v9 : BitVec 32 := Scalar.extui v8
  let c0_i32_3 : BitVec 32 := 0#32
  let v10 : BitVec 1 := Scalar.cmpi .slt c10_i32 c0_i32_3
  let v11 : BitVec 32 := Scalar.extui v10
  let v12 : BitVec 32 := Scalar.subi v9 v11
  let v13 : BitVec 1 := Scalar.cmpi .ne v7 v12
  let v14 : BitVec 32 := Scalar.remsi v1 c10_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c10_i32_6 : BitVec 32 := 10#32
  let c0_i32_7 : BitVec 32 := 0#32
  let v19 : BitVec 1 := Scalar.cmpi .eq c10_i32_6 c0_i32_7
  let c1_i32_8 : BitVec 32 := 1#32
  let v20 : BitVec 32 := Scalar.select v19 c1_i32_8 c10_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![c0_i32_12.toNat, v18.toNat]

def cc0_transform_3 (i : grid0.Coords) : Fin 2 → Nat :=
  let arg0 : BitVec 32 := BitVec.ofNat 32 (i 0).val
  let c79_i32 : BitVec 32 := 79#32
  let v0 : BitVec 32 := Scalar.minsi arg0 c79_i32
  let c10_i32 : BitVec 32 := 10#32
  let v1 : BitVec 32 := Scalar.divsi v0 c10_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c10_i32 c0_i32_1
  let v8 : BitVec 32 := Scalar.extui v7
  let c0_i32_2 : BitVec 32 := 0#32
  let v9 : BitVec 1 := Scalar.cmpi .slt c10_i32 c0_i32_2
  let v10 : BitVec 32 := Scalar.extui v9
  let v11 : BitVec 32 := Scalar.subi v8 v10
  let v12 : BitVec 1 := Scalar.cmpi .ne v6 v11
  let v13 : BitVec 32 := Scalar.remsi v0 c10_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c10_i32_4 : BitVec 32 := 10#32
  let c0_i32_5 : BitVec 32 := 0#32
  let v18 : BitVec 1 := Scalar.cmpi .eq c10_i32_4 c0_i32_5
  let c1_i32_6 : BitVec 32 := 1#32
  let v19 : BitVec 32 := Scalar.select v18 c1_i32_6 c10_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, v27.toNat]

def cc0_transform_4 (i : grid0.Coords) : Fin 2 → Nat :=
  let arg0 : BitVec 32 := BitVec.ofNat 32 (i 0).val
  let c79_i32 : BitVec 32 := 79#32
  let v0 : BitVec 32 := Scalar.minsi arg0 c79_i32
  let c10_i32 : BitVec 32 := 10#32
  let v1 : BitVec 32 := Scalar.divsi v0 c10_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c10_i32 c0_i32_1
  let v8 : BitVec 32 := Scalar.extui v7
  let c0_i32_2 : BitVec 32 := 0#32
  let v9 : BitVec 1 := Scalar.cmpi .slt c10_i32 c0_i32_2
  let v10 : BitVec 32 := Scalar.extui v9
  let v11 : BitVec 32 := Scalar.subi v8 v10
  let v12 : BitVec 1 := Scalar.cmpi .ne v6 v11
  let v13 : BitVec 32 := Scalar.remsi v0 c10_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c10_i32_4 : BitVec 32 := 10#32
  let c0_i32_5 : BitVec 32 := 0#32
  let v18 : BitVec 1 := Scalar.cmpi .eq c10_i32_4 c0_i32_5
  let c1_i32_6 : BitVec 32 := 1#32
  let v19 : BitVec 32 := Scalar.select v18 c1_i32_6 c10_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![c0_i32_10.toNat, v17.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefDxIdeal.lean ====
abbrev S1536x10240 : Shape := ⟨2, ![1536, 10240]⟩
abbrev S10240x8192 : Shape := ⟨2, ![10240, 8192]⟩
abbrev S1536x8192 : Shape := ⟨2, ![1536, 8192]⟩
abbrev S8192x10240 : Shape := ⟨2, ![8192, 10240]⟩
abbrev S320x8192 : Shape := ⟨2, ![320, 8192]⟩
abbrev S8192x320x32 : Shape := ⟨3, ![8192, 320, 32]⟩
abbrev S8192x320 : Shape := ⟨2, ![8192, 320]⟩
abbrev S8192x320x1 : Shape := ⟨3, ![8192, 320, 1]⟩

abbrev nBuf : Space → Nat
  | .hbm => 5
  | .vmem => 5
  | .smem => 0
  | _ => 0

abbrev bufTy : (tb : Table) → Fin (tcTables nBuf tb) → BufTy
  | .hbm, ⟨0, _⟩ => ⟨S1536x10240, .bf16⟩
  | .hbm, ⟨1, _⟩ => ⟨S10240x8192, .bf16⟩
  | .hbm, ⟨2, _⟩ => ⟨S1536x8192, .bf16⟩
  | .hbm, ⟨3, _⟩ => ⟨S8192x10240, .fp8e4m3⟩
  | .hbm, ⟨4, _⟩ => ⟨S320x8192, .i8⟩
  | .local _ .vmem, ⟨0, _⟩ => ⟨S1536x10240, .bf16⟩
  | .local _ .vmem, ⟨1, _⟩ => ⟨S10240x8192, .bf16⟩
  | .local _ .vmem, ⟨2, _⟩ => ⟨S1536x8192, .bf16⟩
  | .local _ .vmem, ⟨3, _⟩ => ⟨S8192x10240, .fp8e4m3⟩
  | .local _ .vmem, ⟨4, _⟩ => ⟨S320x8192, .i8⟩
  | _, _ => ⟨S1536x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1536x10240 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10240x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x10240 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S320x8192 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelDw.lean ====
abbrev S10240x1536 : Shape := ⟨2, ![10240, 1536]⟩
abbrev S1536x8192 : Shape := ⟨2, ![1536, 8192]⟩
abbrev S10240x8192 : Shape := ⟨2, ![10240, 8192]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S10240x1536, .bf16⟩
  | .hbm, ⟨1, _⟩ => ⟨S1536x8192, .bf16⟩
  | .hbm, ⟨2, _⟩ => ⟨S10240x8192, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | _, _ => ⟨S10240x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefDwIdeal.lean ====
abbrev S10240x1536 : Shape := ⟨2, ![10240, 1536]⟩
abbrev S1536x8192 : Shape := ⟨2, ![1536, 8192]⟩
abbrev S10240x8192 : Shape := ⟨2, ![10240, 8192]⟩

abbrev nBuf : Space → Nat
  | .hbm => 3
  | .vmem => 0
  | .smem => 0
  | _ => 0

abbrev bufTy : (tb : Table) → Fin (tcTables nBuf tb) → BufTy
  | .hbm, ⟨0, _⟩ => ⟨S10240x1536, .bf16⟩
  | .hbm, ⟨1, _⟩ => ⟨S1536x8192, .bf16⟩
  | .hbm, ⟨2, _⟩ => ⟨S10240x8192, .f32⟩
  | _, _ => ⟨S10240x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelX.lean ====
abbrev S1536x8192 : Shape := ⟨2, ![1536, 8192]⟩
abbrev S1536x256 : Shape := ⟨2, ![1536, 256]⟩
abbrev S2x8192x768 : Shape := ⟨3, ![2, 8192, 768]⟩
abbrev S2x24x8192 : Shape := ⟨3, ![2, 24, 8192]⟩
abbrev S2x256x768 : Shape := ⟨3, ![2, 256, 768]⟩
abbrev S2x24x256 : Shape := ⟨3, ![2, 24, 256]⟩
abbrev S256x1536 : Shape := ⟨2, ![256, 1536]⟩
abbrev S48x32x256 : Shape := ⟨3, ![48, 32, 256]⟩
abbrev S48x256 : Shape := ⟨2, ![48, 256]⟩
abbrev S48x1x256 : Shape := ⟨3, ![48, 1, 256]⟩
abbrev S256x768 : Shape := ⟨2, ![256, 768]⟩
abbrev S1x256x768 : Shape := ⟨3, ![1, 256, 768]⟩
abbrev S8x32x1536 : Shape := ⟨3, ![8, 32, 1536]⟩
abbrev S8x1536 : Shape := ⟨2, ![8, 1536]⟩
abbrev S8x1x1536 : Shape := ⟨3, ![8, 1, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1536x8192, .bf16⟩
  | .hbm, ⟨1, _⟩ => ⟨S1536x8192, .fp8e4m3⟩
  | .hbm, ⟨2, _⟩ => ⟨S1536x256, .i8⟩
  | .hbm, ⟨3, _⟩ => ⟨S2x8192x768, .fp8e4m3⟩
  | .hbm, ⟨4, _⟩ => ⟨S2x24x8192, .i8⟩
  | .hbm, ⟨5, _⟩ => ⟨S1536x8192, .bf16⟩
  | .hbm, ⟨6, _⟩ => ⟨S1536x8192, .bf16⟩
  | .local _ .vmem, ⟨0, _⟩ => ⟨S1536x256, .bf16⟩
  | .local _ .vmem, ⟨1, _⟩ => ⟨S1536x256, .bf16⟩
  | .local _ .vmem, ⟨2, _⟩ => ⟨S1536x256, .fp8e4m3⟩
  | .local _ .vmem, ⟨3, _⟩ => ⟨S1536x256, .fp8e4m3⟩
  | .local _ .vmem, ⟨4, _⟩ => ⟨S1536x256, .i8⟩
  | .local _ .vmem, ⟨5, _⟩ => ⟨S2x256x768, .fp8e4m3⟩
  | .local _ .vmem, ⟨6, _⟩ => ⟨S2x256x768, .fp8e4m3⟩
  | .local _ .vmem, ⟨7, _⟩ => ⟨S2x24x256, .i8⟩
  | .local _ .vmem, ⟨8, _⟩ => ⟨S2x24x256, .i8⟩
  | .local _ .vmem, ⟨9, _⟩ => ⟨S1536x256, .bf16⟩
  | .local _ .vmem, ⟨10, _⟩ => ⟨S1536x256, .bf16⟩
  | .local _ .vmem, ⟨11, _⟩ => ⟨S1536x256, .bf16⟩
  | .local _ .vmem, ⟨12, _⟩ => ⟨S1536x256, .bf16⟩
  | .local _ .vmem, ⟨13, _⟩ => ⟨S256x1536, .i32⟩
  | _, _ => ⟨S1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c8_i32_72 : BitVec 32 := 8#32
  let v245 : BitVec 32 := Scalar.muli arg0 c8_i32_72
  v245
def k0_off1 (i : grid0.Coords) : Fin 2 → Nat :=
  let arg0 : BitVec 32 := BitVec.ofNat 32 (i 0).val
  let c8_i32_72 : BitVec 32 := 8#32
  let v245 : BitVec 32 := Scalar.muli arg0 c8_i32_72
  let v246 : BitVec 32 := v245
  let v247 : Index := Scalar.indexCast v246
  let c0_73 : Index := 0#32
  ![v247.toNat, 0]
def k0_cond1 (i : grid0.Coords) : BitVec 1 :=
  let arg0 : BitVec 32 := BitVec.ofNat 32 (i 0).val
  let c31_i32 : BitVec 32 := 31#32
  let v251 : BitVec 1 := Scalar.cmpi .eq arg0 c31_i32
  let v252 : BitVec 32 := Scalar.extui v251
  let c0_i32_74 : BitVec 32 := 0#32
  let v253 : BitVec 1 := Scalar.cmpi .ne v252 c0_i32_74
  v253

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x768 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x24x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefXIdeal.lean ====
abbrev S1536x8192 : Shape := ⟨2, ![1536, 8192]⟩
abbrev S1536x256 : Shape := ⟨2, ![1536, 256]⟩
abbrev S2x8192x768 : Shape := ⟨3, ![2, 8192, 768]⟩
abbrev S2x24x8192 : Shape := ⟨3, ![2, 24, 8192]⟩
abbrev S1536x256x32 : Shape := ⟨3, ![1536, 256, 32]⟩
abbrev S1536x256x1 : Shape := ⟨3, ![1536, 256, 1]⟩
abbrev S8192x1536 : Shape := ⟨2, ![8192, 1536]⟩
abbrev S8192x48x32 : Shape := ⟨3, ![8192, 48, 32]⟩
abbrev S8192x48 : Shape := ⟨2, ![8192, 48]⟩
abbrev S8192x48x1 : Shape := ⟨3, ![8192, 48, 1]⟩
abbrev S8192x768 : Shape := ⟨2, ![8192, 768]⟩
abbrev S1x8192x768 : Shape := ⟨3, ![1, 8192, 768]⟩
abbrev S48x8192 : Shape := ⟨2, ![48, 8192]⟩
abbrev S24x8192 : Shape := ⟨2, ![24, 8192]⟩
abbrev S1x24x8192 : Shape := ⟨3, ![1, 24, 8192]⟩

abbrev nBuf : Space → Nat
  | .hbm => 7
  | .vmem => 7
  | .smem => 0
  | _ => 0

abbrev bufTy : (tb : Table) → Fin (tcTables nBuf tb) → BufTy
  | .hbm, ⟨0, _⟩ => ⟨S1536x8192, .bf16⟩
  | .hbm, ⟨1, _⟩ => ⟨S1536x8192, .fp8e4m3⟩
  | .hbm, ⟨2, _⟩ => ⟨S1536x256, .i8⟩
  | .hbm, ⟨3, _⟩ => ⟨S2x8192x768, .fp8e4m3⟩
  | .hbm, ⟨4, _⟩ => ⟨S2x24x8192, .i8⟩
  | .hbm, ⟨5, _⟩ => ⟨S1536x8192, .bf16⟩
  | .hbm, ⟨6, _⟩ => ⟨S1536x8192, .bf16⟩
  | .local _ .vmem, ⟨0, _⟩ => ⟨S1536x8192, .bf16⟩
  | .local _ .vmem, ⟨1, _⟩ => ⟨S1536x8192, .fp8e4m3⟩
  | .local _ .vmem, ⟨2, _⟩ => ⟨S1536x256, .i8⟩
  | .local _ .vmem, ⟨3, _⟩ => ⟨S2x8192x768, .fp8e4m3⟩
  | .local _ .vmem, ⟨4, _⟩ => ⟨S2x24x8192, .i8⟩
  | .local _ .vmem, ⟨5, _⟩ => ⟨S1536x8192, .bf16⟩
  | .local _ .vmem, ⟨6, _⟩ => ⟨S1536x8192, .bf16⟩
  | _, _ => ⟨S1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8192x768 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x24x8192 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelDy.lean ====
abbrev S1536x10240 : Shape := ⟨2, ![1536, 10240]⟩
abbrev S2x320x768 : Shape := ⟨3, ![2, 320, 768]⟩
abbrev S2x10240x768 : Shape := ⟨3, ![2, 10240, 768]⟩
abbrev S2x24x10240 : Shape := ⟨3, ![2, 24, 10240]⟩
abbrev S10240x1536 : Shape := ⟨2, ![10240, 1536]⟩
abbrev S1536x256 : Shape := ⟨2, ![1536, 256]⟩
abbrev S2x256x768 : Shape := ⟨3, ![2, 256, 768]⟩
abbrev S2x24x256 : Shape := ⟨3, ![2, 24, 256]⟩
abbrev S256x1536 : Shape := ⟨2, ![256, 1536]⟩
abbrev S320x1536 : Shape := ⟨2, ![320, 1536]⟩
abbrev S48x32x256 : Shape := ⟨3, ![48, 32, 256]⟩
abbrev S48x256 : Shape := ⟨2, ![48, 256]⟩
abbrev S48x1x256 : Shape := ⟨3, ![48, 1, 256]⟩
abbrev S256x768 : Shape := ⟨2, ![256, 768]⟩
abbrev S1x256x768 : Shape := ⟨3, ![1, 256, 768]⟩
abbrev S8x32x1536 : Shape := ⟨3, ![8, 32, 1536]⟩
abbrev S8x1536 : Shape := ⟨2, ![8, 1536]⟩
abbrev S8x1x1536 : Shape := ⟨3, ![8, 1, 1536]⟩
abbrev S320x768 : Shape := ⟨2, ![320, 768]⟩
abbrev S1x320x768 : Shape := ⟨3, ![1, 320, 768]⟩

abbrev nBuf : Space → Nat
  | .hbm => 7
  | .vmem => 14
  | .smem => 0
  | _ => 0

abbrev bufTy : (tb : Table) → Fin (tcTables nBuf tb) → BufTy
  | .hbm, ⟨0, _⟩ => ⟨S1536x10240, .bf16⟩
  | .hbm, ⟨1, _⟩ => ⟨S1536x10240, .fp8e4m3⟩
  | .hbm, ⟨2, _⟩ => ⟨S2x320x768, .i8⟩
  | .hbm, ⟨3, _⟩ => ⟨S2x10240x768, .fp8e4m3⟩
  | .hbm, ⟨4, _⟩ => ⟨S2x24x10240, .i8⟩
  | .hbm, ⟨5, _⟩ => ⟨S1536x10240, .bf16⟩
  | .hbm, ⟨6, _⟩ => ⟨S10240x1536, .bf16⟩
  | .local _ .vmem, ⟨0, _⟩ => ⟨S1536x256, .bf16⟩
  | .local _ .vmem, ⟨1, _⟩ => ⟨S1536x256, .bf16⟩
  | .local _ .vmem, ⟨2, _⟩ => ⟨S1536x256, .fp8e4m3⟩
  | .local _ .vmem, ⟨3, _⟩ => ⟨S1536x256, .fp8e4m3⟩
  | .local _ .vmem, ⟨4, _⟩ => ⟨S2x320x768, .i8⟩
  | .local _ .vmem, ⟨5, _⟩ => ⟨S2x256x768, .fp8e4m3⟩
  | .local _ .vmem, ⟨6, _⟩ => ⟨S2x256x768, .fp8e4m3⟩
  | .local _ .vmem, ⟨7, _⟩ => ⟨S2x24x256, .i8⟩
  | .local _ .vmem, ⟨8, _⟩ => ⟨S2x24x256, .i8⟩
  | .local _ .vmem, ⟨9, _⟩ => ⟨S1536x256, .bf16⟩
  | .local _ .vmem, ⟨10, _⟩ => ⟨S1536x256, .bf16⟩
  | .local _ .vmem, ⟨11, _⟩ => ⟨S256x1536, .bf16⟩
  | .local _ .vmem, ⟨12, _⟩ => ⟨S256x1536, .bf16⟩
  | .local _ .vmem, ⟨13, _⟩ => ⟨S320x1536, .i32⟩
  | _, _ => ⟨S1536x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![40], ![false]⟩

def k0_mult1 (i : grid0.Coords) : BitVec 32 :=
  let arg0 : BitVec 32 := BitVec.ofNat 32 (i 0).val
  let c8_i32_72 : BitVec 32 := 8#32
  let v246 : BitVec 32 := Scalar.muli arg0 c8_i32_72
  v246
def k0_off1 (i : grid0.Coords) : Fin 2 → Nat :=
  let arg0 : BitVec 32 := BitVec.ofNat 32 (i 0).val
  let c8_i32_72 : BitVec 32 := 8#32
  let v246 : BitVec 32 := Scalar.muli arg0 c8_i32_72
  let v247 : BitVec 32 := v246
  let v248 : Index := Scalar.indexCast v247
  let c0_73 : Index := 0#32
  ![v248.toNat, 0]
def k0_cond1 (i : grid0.Coords) : BitVec 1 :=
  let arg0 : BitVec 32 := BitVec.ofNat 32 (i 0).val
  let c39_i32 : BitVec 32 := 39#32
  let v252 : BitVec 1 := Scalar.cmpi .eq arg0 c39_i32
  let v253 : BitVec 32 := Scalar.extui v252
  let c0_i32_74 : BitVec 32 := 0#32
  let v254 : BitVec 1 := Scalar.cmpi .ne v253 c0_i32_74
  v254

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x320x768 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x768 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x24x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefDyIdeal.lean ====
abbrev S1536x10240 : Shape := ⟨2, ![1536, 10240]⟩
abbrev S2x320x768 : Shape := ⟨3, ![2, 320, 768]⟩
abbrev S2x10240x768 : Shape := ⟨3, ![2, 10240, 768]⟩
abbrev S2x24x10240 : Shape := ⟨3, ![2, 24, 10240]⟩
abbrev S10240x1536 : Shape := ⟨2, ![10240, 1536]⟩
abbrev S2x768x10240 : Shape := ⟨3, ![2, 768, 10240]⟩
abbrev S2x768x320x32 : Shape := ⟨4, ![2, 768, 320, 32]⟩
abbrev S2x768x320 : Shape := ⟨3, ![2, 768, 320]⟩
abbrev S2x768x320x1 : Shape := ⟨4, ![2, 768, 320, 1]⟩
abbrev S10240x48x32 : Shape := ⟨3, ![10240, 48, 32]⟩
abbrev S10240x48 : Shape := ⟨2, ![10240, 48]⟩
abbrev S10240x48x1 : Shape := ⟨3, ![10240, 48, 1]⟩
abbrev S10240x768 : Shape := ⟨2, ![10240, 768]⟩
abbrev S1x10240x768 : Shape := ⟨3, ![1, 10240, 768]⟩
abbrev S48x10240 : Shape := ⟨2, ![48, 10240]⟩
abbrev S24x10240 : Shape := ⟨2, ![24, 10240]⟩
abbrev S1x24x10240 : Shape := ⟨3, ![1, 24, 10240]⟩

abbrev nBuf : Space → Nat
  | .hbm => 7
  | .vmem => 7
  | .smem => 0
  | _ => 0

abbrev bufTy : (tb : Table) → Fin (tcTables nBuf tb) → BufTy
  | .hbm, ⟨0, _⟩ => ⟨S1536x10240, .bf16⟩
  | .hbm, ⟨1, _⟩ => ⟨S1536x10240, .fp8e4m3⟩
  | .hbm, ⟨2, _⟩ => ⟨S2x320x768, .i8⟩
  | .hbm, ⟨3, _⟩ => ⟨S2x10240x768, .fp8e4m3⟩
  | .hbm, ⟨4, _⟩ => ⟨S2x24x10240, .i8⟩
  | .hbm, ⟨5, _⟩ => ⟨S1536x10240, .bf16⟩
  | .hbm, ⟨6, _⟩ => ⟨S10240x1536, .bf16⟩
  | .local _ .vmem, ⟨0, _⟩ => ⟨S1536x10240, .bf16⟩
  | .local _ .vmem, ⟨1, _⟩ => ⟨S1536x10240, .fp8e4m3⟩
  | .local _ .vmem, ⟨2, _⟩ => ⟨S2x320x768, .i8⟩
  | .local _ .vmem, ⟨3, _⟩ => ⟨S2x10240x768, .fp8e4m3⟩
  | .local _ .vmem, ⟨4, _⟩ => ⟨S2x24x10240, .i8⟩
  | .local _ .vmem, ⟨5, _⟩ => ⟨S1536x10240, .bf16⟩
  | .local _ .vmem, ⟨6, _⟩ => ⟨S10240x1536, .bf16⟩
  | _, _ => ⟨S1536x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x10240 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x10240 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x320x768 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x10240x768 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x24x10240 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x10240 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10240x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.YSetup.lean ====
/- What the runs of the kernel body share: the branch conditions of the body in closed form over the grid
   points, the staging buffers and scratch buffers by name, and the scratch as separate buffers. -/
module

public import proofs.«01_k».proof.Proof.Gen.KernelYIdeal.Launch
public import proofs.«01_k».proof.Proof.Gen.KernelYIdeal.Skeleton
public import proofs.«01_k».proof.Proof.Gen.KernelYIdeal.Points
public import proofs.«01_k».proof.Proof.Gen.KernelYIdeal.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelYIdeal.Hand

open Cert.KernelYIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 81 = 0 :=
  (fun t => by
    have ht : t.val < 81 := Nat.lt_of_lt_of_eq t.isLt N_0
    have e0 : (grid0.coords t 0).val = t.val / 1 % 81 := Pipeline.Grid.coords_val t 0 (by decide) rfl
    simp only [cond0_0, e0]
    word_cmp
   : ∀ t : Fin grid0.N, cond0_0 (grid0.coords t) ↔ t.val % 81 = 0)

/-- The condition of the body's `scf.if` 1 (`k0_h2`), from the grid coordinates (the skeleton's scalar
    chain substituted). -/
abbrev cond0_1 (i : grid0.Coords) : Prop := (Scalar.cmpi .ne (Scalar.extui (Scalar.cmpi .eq (Scalar.select (Scalar.andi (Scalar.xori (Scalar.cmpi .slt (Scalar.remsi (Scalar.maxsi (Scalar.subi (BitVec.ofNat 32 (i 0).val) 1#32) 0#32) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (Scalar.maxsi (Scalar.subi (BitVec.ofNat 32 (i 0).val) 1#32) 0#32) (Scalar.select (Scalar.cmpi .eq 8#32 0#32) 1#32 8#32)) 0#32)) (Scalar.addi (Scalar.remsi (Scalar.maxsi (Scalar.subi (BitVec.ofNat 32 (i 0).val) 1#32) 0#32) (Scalar.select (Scalar.cmpi .eq 8#32 0#32) 1#32 8#32)) (Scalar.select (Scalar.cmpi .eq 8#32 0#32) 1#32 8#32)) (Scalar.remsi (Scalar.maxsi (Scalar.subi (BitVec.ofNat 32 (i 0).val) 1#32) 0#32) (Scalar.select (Scalar.cmpi .eq 8#32 0#32) 1#32 8#32))) 0#32)) 0#32) = 1#1
/-- It holds at points 0, 1, 9, 17, 25, 33, 41, 49, 57, 65 and 73 only — decided over the grid. -/
theorem hcond0_1 : ∀ t : Fin cfg0.N, cond0_1 (grid0.coords t) ↔ (t.val % 81 = 0 ∨ t.val % 81 = 1 ∨ t.val % 81 = 9 ∨ t.val % 81 = 17 ∨ t.val % 81 = 25 ∨ t.val % 81 = 33 ∨ t.val % 81 = 41 ∨ t.val % 81 = 49 ∨ t.val % 81 = 57 ∨ t.val % 81 = 65 ∨ t.val % 81 = 73) :=
  (by decide +kernel : ∀ t : Fin grid0.N, cond0_1 (grid0.coords t) ↔ (t.val % 81 = 0 ∨ t.val % 81 = 1 ∨ t.val % 81 = 9 ∨ t.val % 81 = 17 ∨ t.val % 81 = 25 ∨ t.val % 81 = 33 ∨ t.val % 81 = 41 ∨ t.val % 81 = 49 ∨ t.val % 81 = 57 ∨ t.val % 81 = 65 ∨ t.val % 81 = 73))

/-- The condition of the body's `scf.if` 2 (`k0_h3`), from the grid coordinates (the skeleton's scalar
    chain substituted). -/
abbrev cond0_2 (i : grid0.Coords) : Prop := k0_cond3 i = 1#1
/-- It holds at the points ≡ 0 (mod 2) — decided over the grid. -/
theorem hcond0_2 : ∀ t : Fin cfg0.N, cond0_2 (grid0.coords t) ↔ t.val % 2 = 0 :=
  (by decide +kernel : ∀ t : Fin grid0.N, cond0_2 (grid0.coords t) ↔ t.val % 2 = 0)

/-- The condition of the body's `scf.if` 3 (`k0_h4`), from the grid coordinates (the skeleton's scalar
    chain substituted). -/
abbrev cond0_3 (i : grid0.Coords) : Prop := k0_cond4 i = 1#1
/-- It holds at the points ≡ 1 (mod 2) — decided over the grid. -/
theorem hcond0_3 : ∀ t : Fin cfg0.N, cond0_3 (grid0.coords t) ↔ t.val % 2 = 1 :=
  (by decide +kernel : ∀ t : Fin grid0.N, cond0_3 (grid0.coords t) ↔ t.val % 2 = 1)

/-- The condition of the body's `scf.if` 4 (`k0_h5`), from the grid coordinates (the skeleton's scalar
    chain substituted). -/
abbrev cond0_4 (i : grid0.Coords) : Prop := k0_cond5 i = 1#1
/-- It holds at points 7, 15, 23, 31, 39, 47, 55, 63, 71, 79 and 80 only — decided over the grid. -/
theorem hcond0_4 : ∀ t : Fin cfg0.N, cond0_4 (grid0.coords t) ↔ (t.val % 81 = 7 ∨ t.val % 81 = 15 ∨ t.val % 81 = 23 ∨ t.val % 81 = 31 ∨ t.val % 81 = 39 ∨ t.val % 81 = 47 ∨ t.val % 81 = 55 ∨ t.val % 81 = 63 ∨ t.val % 81 = 71 ∨ t.val % 81 = 79 ∨ t.val % 81 = 80) :=
  (by decide +kernel : ∀ t : Fin grid0.N, cond0_4 (grid0.coords t) ↔ (t.val % 81 = 7 ∨ t.val % 81 = 15 ∨ t.val % 81 = 23 ∨ t.val % 81 = 31 ∨ t.val % 81 = 39 ∨ t.val % 81 = 47 ∨ t.val % 81 = 55 ∨ t.val % 81 = 63 ∨ t.val % 81 = 71 ∨ t.val % 81 = 79 ∨ t.val % 81 = 80))

/-- The condition of the body's `scf.if` 5 (`k0_h6`), from the grid coordinates (the skeleton's scalar
    chain substituted). -/
abbrev cond0_5 (i : grid0.Coords) : Prop := k0_cond6 i = 1#1
/-- It holds at points 8, 16, 24, 32, 40, 48, 56, 64, 72 and 80 only — decided over the grid. -/
theorem hcond0_5 : ∀ t : Fin cfg0.N, cond0_5 (grid0.coords t) ↔ (t.val % 81 = 8 ∨ t.val % 81 = 16 ∨ t.val % 81 = 24 ∨ t.val % 81 = 32 ∨ t.val % 81 = 40 ∨ t.val % 81 = 48 ∨ t.val % 81 = 56 ∨ t.val % 81 = 64 ∨ t.val % 81 = 72 ∨ t.val % 81 = 80) :=
  (by decide +kernel : ∀ t : Fin grid0.N, cond0_5 (grid0.coords t) ↔ (t.val % 81 = 8 ∨ t.val % 81 = 16 ∨ t.val % 81 = 24 ∨ t.val % 81 = 32 ∨ t.val % 81 = 40 ∨ t.val % 81 = 48 ∨ t.val % 81 = 56 ∨ t.val % 81 = 64 ∨ t.val % 81 = 72 ∨ t.val % 81 = 80))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## Where the exponents of a block are kept -/

/-- The rows of the exponent buffer that the point's block of exponents is stored at. -/
theorem k0_off1_eq : ∀ i : grid0.Coords, k0_off1 i = ![32 * ((min (i 0).val 79) % 8), 0] := by decide +kernel
instance closedOff_k0_off1 (i : grid0.Coords) : ClosedOff (k0_off1 i) := ⟨![32 * ((min (i 0).val 79) % 8), 0], k0_off1_eq i⟩
/-- The rows of the exponent buffer that the point's block of exponents is stored at. -/
theorem k0_off2_eq : ∀ i : grid0.Coords, k0_off2 i = ![32 * ((min (i 0).val 79) % 8), 256] := by decide +kernel
instance closedOff_k0_off2 (i : grid0.Coords) : ClosedOff (k0_off2 i) := ⟨![32 * ((min (i 0).val 79) % 8), 256], k0_off2_eq i⟩
/-- The rows of the exponent buffer that the point's block of exponents is stored at. -/
theorem k0_off3_eq : ∀ i : grid0.Coords, k0_off3 i = ![32 * ((min (i 0).val 79) % 8), 512] := by decide +kernel
instance closedOff_k0_off3 (i : grid0.Coords) : ClosedOff (k0_off3 i) := ⟨![32 * ((min (i 0).val 79) % 8), 512], k0_off3_eq i⟩
/-- The rows of the exponent buffer that the point's block of exponents is stored at. -/
theorem k0_off4_eq : ∀ i : grid0.Coords, k0_off4 i = ![32 * ((min (i 0).val 79) % 8), 768] := by decide +kernel
instance closedOff_k0_off4 (i : grid0.Coords) : ClosedOff (k0_off4 i) := ⟨![32 * ((min (i 0).val 79) % 8), 768], k0_off4_eq i⟩
/-- The rows of the exponent buffer that the point's block of exponents is stored at. -/
theorem k0_off5_eq : ∀ i : grid0.Coords, k0_off5 i = ![32 * ((min (i 0).val 79) % 8), 0] := by decide +kernel
instance closedOff_k0_off5 (i : grid0.Coords) : ClosedOff (k0_off5 i) := ⟨![32 * ((min (i 0).val 79) % 8), 0], k0_off5_eq i⟩
/-- The rows of the exponent buffer that the point's block of exponents is stored at. -/
theorem k0_off6_eq : ∀ i : grid0.Coords, k0_off6 i = ![32 * ((min (i 0).val 79) % 8), 256] := by decide +kernel
instance closedOff_k0_off6 (i : grid0.Coords) : ClosedOff (k0_off6 i) := ⟨![32 * ((min (i 0).val 79) % 8), 256], k0_off6_eq i⟩
/-- The rows of the exponent buffer that the point's block of exponents is stored at. -/
theorem k0_off7_eq : ∀ i : grid0.Coords, k0_off7 i = ![32 * ((min (i 0).val 79) % 8), 512] := by decide +kernel
instance closedOff_k0_off7 (i : grid0.Coords) : ClosedOff (k0_off7 i) := ⟨![32 * ((min (i 0).val 79) % 8), 512], k0_off7_eq i⟩
/-- The rows of the exponent buffer that the point's block of exponents is stored at. -/
theorem k0_off8_eq : ∀ i : grid0.Coords, k0_off8 i = ![32 * ((min (i 0).val 79) % 8), 768] := by decide +kernel
instance closedOff_k0_off8 (i : grid0.Coords) : ClosedOff (k0_off8 i) := ⟨![32 * ((min (i 0).val 79) % 8), 768], k0_off8_eq i⟩

/-! ## The kernel body on any staging memrefs: a subtype the run finds -/

/-- Each window's current staging memref at point `t`, spelled as the pipeline passes it (`bodyAt0`), and its wholeness. -/
abbrev ms0_0 (t : Fin cfg0.N) : Memref sig .tc .vmem S1536x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .i8 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S1536x1024 .f32 := Memref.whole cc0_scratch0
abbrev scM0_1 : Memref sig .tc .vmem S1024x1024 .bf16 := Memref.whole cc0_scratch1
abbrev scM0_2 : Memref sig .tc .vmem S1024x1024 .bf16 := Memref.whole cc0_scratch2
abbrev scM0_3 : Memref sig .tc .vmem S256x1024 .i32 := Memref.whole cc0_scratch3
/-- The scratch `arg6` the kernel carries between points, as a view: what it holds is stated through it. -/
abbrev VS0_0 : View sig .tc .vmem S1536x1024 .f32 := scM0_0.view
/-- The scratch `arg7` the kernel carries between points, as a view: what it holds is stated through it. -/
abbrev VS0_1 : View sig .tc .vmem S1024x1024 .bf16 := scM0_1.view
/-- The scratch `arg8` the kernel carries between points, as a view: what it holds is stated through it. -/
abbrev VS0_2 : View sig .tc .vmem S1024x1024 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelYIdeal.Hand

end
-- ==== Proof.YRunA.lean ====
/- The run of the kernel body in case A: the first point: the wide buffer and the sum are cleared. -/
module

public import proofs.«01_k».proof.Proof.YSetup

@[expose] public section

set_option maxRecDepth 16384

noncomputable section

namespace Cert.KernelYIdeal.Hand

open Cert.KernelYIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the buffers at the first point: the wide buffer and the sum are cleared: the written pieces of every buffer (last first), with
    the proof that the body runs from the buffers at the named contents to those pieces written. -/
noncomputable def run_A (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S1024x256 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S256x1024 .i32) (harg9 : arg9.IsWhole) (hc0 : cond0_0 i) (hc1 : cond0_1 i) (hc2 : cond0_2 i) (hc3 : ¬cond0_3 i) (hc4 : ¬cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S256x1024 .i32) :
    Σ' (LA : List (View.Piece (Elt F) S1536x1024 .f32)), Σ' (LD : List (View.Piece (Elt F) S1024x1024 .bf16)), Σ' (LZ : List (View.Piece (Elt F) S1024x1024 .bf16)), Σ' (LC : List (View.Piece (Elt F) S1024x1024 .fp8e4m3)), { LE : List (View.Piece (Elt F) S256x1024 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg1 fullShare x0 ∗ owns (c : Thread nD τ) arg2 fullShare x1 ∗ (∃ d, owns (c : Thread nD τ) arg3 fullShare d) ∗ (∃ f, arg4.view.loc (c : Thread nD τ) ↦[arg4.view.set]{fullShare} arg4.view.writes (Elt F) f LC) ∗ (∃ d, owns (c : Thread nD τ) arg5 fullShare d) ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LD) ∗ (∃ f, arg8.view.loc (c : Thread nD τ) ↦[arg8.view.set]{fullShare} arg8.view.writes (Elt F) f LZ) ∗ arg9.view.loc (c : Thread nD τ) ↦[arg9.view.set]{fullShare} arg9.view.writes (Elt F) (harg9.unread xs3) LE) -∗ K ⟨⟩))
          ⊢ wp frame (wpE (defs₀ (F := F)) Variants.none c none) E (cc0_qmm_row i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_qmm_row_eq_skeleton]; unfold cc0_qmm_row_skel
    simp only [k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg6.eq_unread hfs0; obtain rfl := harg7.eq_unread hfs1; obtain rfl := harg8.eq_unread hfs2; obtain rfl := harg9.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]; · iexists _; iexact H3
    isplitl [H4]
    · iexists _, _; isplitr; swap; · iexact H4
      ipureintro; rfl
    isplitl [HS0]; · iexists _; iexact HS0
    isplitl [HS1]; · iexists _; iexact HS1
    isplitl [HS2]; · iexists _; iexact HS2
    iexact HS3

end Cert.KernelYIdeal.Hand

end
-- ==== Proof.YRunB.lean ====
/- The run of the kernel body in case B: an odd point that begins a sum. -/
module

public import proofs.«01_k».proof.Proof.YRunA

@[expose] public section

set_option maxRecDepth 16384

noncomputable section

namespace Cert.KernelYIdeal.Hand

open Cert.KernelYIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the buffers at an odd point that begins a sum: the written pieces of every buffer (last first), with
    the proof that the body runs from the buffers at the named contents to those pieces written. -/
noncomputable def run_B (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S1024x256 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S256x1024 .i32) (harg9 : arg9.IsWhole) (hc0 : ¬cond0_0 i) (hc1 : cond0_1 i) (hc2 : ¬cond0_2 i) (hc3 : cond0_3 i) (hc4 : ¬cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S256x1024 .i32) :
    Σ' (LA : List (View.Piece (Elt F) S1536x1024 .f32)), Σ' (LD : List (View.Piece (Elt F) S1024x1024 .bf16)), Σ' (LC : List (View.Piece (Elt F) S1024x1024 .fp8e4m3)), { LE : List (View.Piece (Elt F) S256x1024 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg1 fullShare x0 ∗ owns (c : Thread nD τ) arg2 fullShare x1 ∗ (∃ d, owns (c : Thread nD τ) arg3 fullShare d) ∗ (∃ f, arg4.view.loc (c : Thread nD τ) ↦[arg4.view.set]{fullShare} arg4.view.writes (Elt F) f LC) ∗ (∃ d, owns (c : Thread nD τ) arg5 fullShare d) ∗ (∃ f, arg6.view.loc (c : Thread nD τ) ↦[arg6.view.set]{fullShare} arg6.view.writes (Elt F) f LA) ∗ owns (c : Thread nD τ) arg7 fullShare xs1 ∗ (∃ f, arg8.view.loc (c : Thread nD τ) ↦[arg8.view.set]{fullShare} arg8.view.writes (Elt F) f LD) ∗ arg9.view.loc (c : Thread nD τ) ↦[arg9.view.set]{fullShare} arg9.view.writes (Elt F) (harg9.unread xs3) LE) -∗ K ⟨⟩))
          ⊢ wp frame (wpE (defs₀ (F := F)) Variants.none c none) E (cc0_qmm_row i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_qmm_row_eq_skeleton]; unfold cc0_qmm_row_skel
    simp only [k0_part25_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg6.eq_unread hfs0; obtain rfl := harg7.eq_unread hfs1; obtain rfl := harg8.eq_unread hfs2; obtain rfl := harg9.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]; · iexists _; iexact H3
    isplitl [H4]
    · iexists _, _; isplitr; swap; · iexact H4
      ipureintro; rfl
    isplitl [HS0]; · iexists _; iexact HS0
    isplitl [HS1]
    · iexists _; isplitr; · ipureintro; exact harg7.read_unread _
      iexact HS1
    isplitl [HS2]; · iexists _; iexact HS2
    iexact HS3

end Cert.KernelYIdeal.Hand

end
-- ==== Proof.YRunC.lean ====
/- The run of the kernel body in case C: an even point in the middle of a sum. -/
module

public import proofs.«01_k».proof.Proof.YRunB

@[expose] public section

set_option maxRecDepth 16384

noncomputable section

namespace Cert.KernelYIdeal.Hand

open Cert.KernelYIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the buffers at an even point in the middle of a sum: the written pieces of every buffer (last first), with
    the proof that the body runs from the buffers at the named contents to those pieces written. -/
noncomputable def run_C (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S1024x256 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S256x1024 .i32) (harg9 : arg9.IsWhole) (hc0 : ¬cond0_0 i) (hc1 : ¬cond0_1 i) (hc2 : cond0_2 i) (hc3 : ¬cond0_3 i) (hc4 : ¬cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S256x1024 .i32) :
    Σ' (LA : List (View.Piece (Elt F) S1536x1024 .f32)), Σ' (LD : List (View.Piece (Elt F) S1024x1024 .bf16)), Σ' (LC : List (View.Piece (Elt F) S1024x1024 .fp8e4m3)), { LE : List (View.Piece (Elt F) S256x1024 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg1 fullShare x0 ∗ owns (c : Thread nD τ) arg2 fullShare x1 ∗ (∃ d, owns (c : Thread nD τ) arg3 fullShare d) ∗ (∃ f, arg4.view.loc (c : Thread nD τ) ↦[arg4.view.set]{fullShare} arg4.view.writes (Elt F) f LC) ∗ (∃ d, owns (c : Thread nD τ) arg5 fullShare d) ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LD) ∗ owns (c : Thread nD τ) arg8 fullShare xs2 ∗ arg9.view.loc (c : Thread nD τ) ↦[arg9.view.set]{fullShare} arg9.view.writes (Elt F) (harg9.unread xs3) LE) -∗ K ⟨⟩))
          ⊢ wp frame (wpE (defs₀ (F := F)) Variants.none c none) E (cc0_qmm_row i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_qmm_row_eq_skeleton]; unfold cc0_qmm_row_skel
    simp only [k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg6.eq_unread hfs0; obtain rfl := harg7.eq_unread hfs1; obtain rfl := harg8.eq_unread hfs2; obtain rfl := harg9.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]; · iexists _; iexact H3
    isplitl [H4]
    · iexists _, _; isplitr; swap; · iexact H4
      ipureintro; rfl
    isplitl [HS0]; · iexists _; iexact HS0
    isplitl [HS1]; · iexists _; iexact HS1
    isplitl [HS2]
    · iexists _; isplitr; · ipureintro; exact harg8.read_unread _
      iexact HS2
    iexact HS3

end Cert.KernelYIdeal.Hand

end
-- ==== Proof.YRunD.lean ====
/- The run of the kernel body in case D: an odd point in the middle of a sum. -/
module

public import proofs.«01_k».proof.Proof.YRunC

@[expose] public section

set_option maxRecDepth 16384

noncomputable section

namespace Cert.KernelYIdeal.Hand

open Cert.KernelYIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the buffers at an odd point in the middle of a sum: the written pieces of every buffer (last first), with
    the proof that the body runs from the buffers at the named contents to those pieces written. -/
noncomputable def run_D (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S1024x256 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S256x1024 .i32) (harg9 : arg9.IsWhole) (hc0 : ¬cond0_0 i) (hc1 : ¬cond0_1 i) (hc2 : ¬cond0_2 i) (hc3 : cond0_3 i) (hc4 : ¬cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S256x1024 .i32) :
    Σ' (LA : List (View.Piece (Elt F) S1536x1024 .f32)), Σ' (LD : List (View.Piece (Elt F) S1024x1024 .bf16)), Σ' (LC : List (View.Piece (Elt F) S1024x1024 .fp8e4m3)), { LE : List (View.Piece (Elt F) S256x1024 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg1 fullShare x0 ∗ owns (c : Thread nD τ) arg2 fullShare x1 ∗ (∃ d, owns (c : Thread nD τ) arg3 fullShare d) ∗ (∃ f, arg4.view.loc (c : Thread nD τ) ↦[arg4.view.set]{fullShare} arg4.view.writes (Elt F) f LC) ∗ (∃ d, owns (c : Thread nD τ) arg5 fullShare d) ∗ (∃ f, arg6.view.loc (c : Thread nD τ) ↦[arg6.view.set]{fullShare} arg6.view.writes (Elt F) f LA) ∗ owns (c : Thread nD τ) arg7 fullShare xs1 ∗ (∃ f, arg8.view.loc (c : Thread nD τ) ↦[arg8.view.set]{fullShare} arg8.view.writes (Elt F) f LD) ∗ arg9.view.loc (c : Thread nD τ) ↦[arg9.view.set]{fullShare} arg9.view.writes (Elt F) (harg9.unread xs3) LE) -∗ K ⟨⟩))
          ⊢ wp frame (wpE (defs₀ (F := F)) Variants.none c none) E (cc0_qmm_row i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_qmm_row_eq_skeleton]; unfold cc0_qmm_row_skel
    simp only [k0_part25_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg6.eq_unread hfs0; obtain rfl := harg7.eq_unread hfs1; obtain rfl := harg8.eq_unread hfs2; obtain rfl := harg9.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]; · iexists _; iexact H3
    isplitl [H4]
    · iexists _, _; isplitr; swap; · iexact H4
      ipureintro; rfl
    isplitl [HS0]; · iexists _; iexact HS0
    isplitl [HS1]
    · iexists _; isplitr; · ipureintro; exact harg7.read_unread _
      iexact HS1
    isplitl [HS2]; · iexists _; iexact HS2
    iexact HS3

end Cert.KernelYIdeal.Hand

end
-- ==== Proof.YRunE.lean ====
/- The run of the kernel body in case E: an odd point that ends a row of blocks and stores its scales. -/
module

public import proofs.«01_k».proof.Proof.YRunD

@[expose] public section

set_option maxRecDepth 16384

noncomputable section

namespace Cert.KernelYIdeal.Hand

open Cert.KernelYIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the buffers at an odd point that ends a row of blocks and stores its scales: the written pieces of every buffer (last first), with
    the proof that the body runs from the buffers at the named contents to those pieces written. -/
noncomputable def run_E (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S1024x256 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S256x1024 .i32) (harg9 : arg9.IsWhole) (hc0 : ¬cond0_0 i) (hc1 : ¬cond0_1 i) (hc2 : ¬cond0_2 i) (hc3 : cond0_3 i) (hc4 : cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S256x1024 .i32) :
    Σ' (LA : List (View.Piece (Elt F) S1536x1024 .f32)), Σ' (LD : List (View.Piece (Elt F) S1024x1024 .bf16)), Σ' (LC : List (View.Piece (Elt F) S1024x1024 .fp8e4m3)), Σ' (LS : List (View.Piece (Elt F) S1024x256 .i8)), { LE : List (View.Piece (Elt F) S256x1024 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg1 fullShare x0 ∗ owns (c : Thread nD τ) arg2 fullShare x1 ∗ (∃ d, owns (c : Thread nD τ) arg3 fullShare d) ∗ (∃ f, arg4.view.loc (c : Thread nD τ) ↦[arg4.view.set]{fullShare} arg4.view.writes (Elt F) f LC) ∗ (∃ f, arg5.view.loc (c : Thread nD τ) ↦[arg5.view.set]{fullShare} arg5.view.writes (Elt F) f LS) ∗ (∃ f, arg6.view.loc (c : Thread nD τ) ↦[arg6.view.set]{fullShare} arg6.view.writes (Elt F) f LA) ∗ owns (c : Thread nD τ) arg7 fullShare xs1 ∗ (∃ f, arg8.view.loc (c : Thread nD τ) ↦[arg8.view.set]{fullShare} arg8.view.writes (Elt F) f LD) ∗ arg9.view.loc (c : Thread nD τ) ↦[arg9.view.set]{fullShare} arg9.view.writes (Elt F) (harg9.unread xs3) LE) -∗ K ⟨⟩))
          ⊢ wp frame (wpE (defs₀ (F := F)) Variants.none c none) E (cc0_qmm_row i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_qmm_row_eq_skeleton]; unfold cc0_qmm_row_skel
    simp only [k0_part25_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg6.eq_unread hfs0; obtain rfl := harg7.eq_unread hfs1; obtain rfl := harg8.eq_unread hfs2; obtain rfl := harg9.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]; · iexists _; iexact H3
    isplitl [H4]; · iexists _; iexact H4
    isplitl [HS0]; · iexists _; iexact HS0
    isplitl [HS1]
    · iexists _; isplitr; · ipureintro; exact harg7.read_unread _
      iexact HS1
    isplitl [HS2]; · iexists _; iexact HS2
    iexact HS3

end Cert.KernelYIdeal.Hand

end
-- ==== Proof.YRunF.lean ====
/- The run of the kernel body in case F: an even point that ends a sum and stores it. -/
module

public import proofs.«01_k».proof.Proof.YRunE

@[expose] public section

set_option maxRecDepth 16384

noncomputable section

namespace Cert.KernelYIdeal.Hand

open Cert.KernelYIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the buffers at an even point that ends a sum and stores it: the written pieces of every buffer (last first), with
    the proof that the body runs from the buffers at the named contents to those pieces written. -/
noncomputable def run_F (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S1024x256 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S256x1024 .i32) (harg9 : arg9.IsWhole) (hc0 : ¬cond0_0 i) (hc1 : ¬cond0_1 i) (hc2 : cond0_2 i) (hc3 : ¬cond0_3 i) (hc4 : ¬cond0_4 i) (hc5 : cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S256x1024 .i32) :
    Σ' (LA : List (View.Piece (Elt F) S1536x1024 .f32)), Σ' (LD : List (View.Piece (Elt F) S1024x1024 .bf16)), Σ' (LC : List (View.Piece (Elt F) S1024x1024 .fp8e4m3)), Σ' (LO : List (View.Piece (Elt F) S1536x1024 .bf16)), { LE : List (View.Piece (Elt F) S256x1024 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LC) ∗ (∃ d, owns (c : Thread nD τ) arg5 fullShare d) ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LD) ∗ owns (c : Thread nD τ) arg8 fullShare xs2 ∗ arg9.view.loc (c : Thread nD τ) ↦[arg9.view.set]{fullShare} arg9.view.writes (Elt F) (harg9.unread xs3) LE) -∗ K ⟨⟩))
          ⊢ wp frame (wpE (defs₀ (F := F)) Variants.none c none) E (cc0_qmm_row i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_qmm_row_eq_skeleton]; unfold cc0_qmm_row_skel
    simp only [k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg6.eq_unread hfs0; obtain rfl := harg7.eq_unread hfs1; obtain rfl := harg8.eq_unread hfs2; obtain rfl := harg9.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _, _; isplitr; swap; · iexact H4
      ipureintro; rfl
    isplitl [HS0]; · iexists _; iexact HS0
    isplitl [HS1]; · iexists _; iexact HS1
    isplitl [HS2]
    · iexists _; isplitr; · ipureintro; exact harg8.read_unread _
      iexact HS2
    iexact HS3

end Cert.KernelYIdeal.Hand

end
-- ==== Proof.YRunG.lean ====
/- The run of the kernel body in case G: the last point: scales and sum are stored. -/
module

public import proofs.«01_k».proof.Proof.YRunF

@[expose] public section

set_option maxRecDepth 16384

noncomputable section

namespace Cert.KernelYIdeal.Hand

open Cert.KernelYIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the buffers at the last point: scales and sum are stored: the written pieces of every buffer (last first), with
    the proof that the body runs from the buffers at the named contents to those pieces written. -/
noncomputable def run_G (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S1024x256 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S256x1024 .i32) (harg9 : arg9.IsWhole) (hc0 : ¬cond0_0 i) (hc1 : ¬cond0_1 i) (hc2 : cond0_2 i) (hc3 : ¬cond0_3 i) (hc4 : cond0_4 i) (hc5 : cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S256x1024 .i32) :
    Σ' (LA : List (View.Piece (Elt F) S1536x1024 .f32)), Σ' (LD : List (View.Piece (Elt F) S1024x1024 .bf16)), Σ' (LC : List (View.Piece (Elt F) S1024x1024 .fp8e4m3)), Σ' (LS : List (View.Piece (Elt F) S1024x256 .i8)), Σ' (LO : List (View.Piece (Elt F) S1536x1024 .bf16)), { LE : List (View.Piece (Elt F) S256x1024 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LC) ∗ (∃ f, arg5.view.loc (c : Thread nD τ) ↦[arg5.view.set]{fullShare} arg5.view.writes (Elt F) f LS) ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LD) ∗ owns (c : Thread nD τ) arg8 fullShare xs2 ∗ arg9.view.loc (c : Thread nD τ) ↦[arg9.view.set]{fullShare} arg9.view.writes (Elt F) (harg9.unread xs3) LE) -∗ K ⟨⟩))
          ⊢ wp frame (wpE (defs₀ (F := F)) Variants.none c none) E (cc0_qmm_row i arg1 harg1 arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0_qmm_row_eq_skeleton]; unfold cc0_qmm_row_skel
    simp only [k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg6.eq_unread hfs0; obtain rfl := harg7.eq_unread hfs1; obtain rfl := harg8.eq_unread hfs2; obtain rfl := harg9.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    isplitl [HS2]
    · iexists _; isplitr; · ipureintro; exact harg8.read_unread _
      iexact HS2
    iexact HS3

end Cert.KernelYIdeal.Hand

end
-- ==== Proof.YTiles.lean ====
/- What one chunk of the kernel body computes, and what the buffers hold after the four chunks of a grid point,
   as functions of what they held before. -/
module

public import proofs.«01_k».proof.Proof.YRunG
public import Idealize.ShloMosaic.Lib.Pipeline.ValueKit
public import Idealize.ShloMosaic.Lib.WholeRead
public import Idealize.ShloMosaic.Lib.WritesUnit

@[expose] public section

set_option maxRecDepth 16384

noncomputable section

namespace Cert.KernelYIdeal.Hand

open Cert.KernelYIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One chunk -/

/-- The largest magnitudes of a chunk's blocks, over 448. -/
def cq (v : Vec F S256x1024 .bf16) : FVec F S32x256 .f32 := k0_pay13 v
/-- The exponent search after seven of its eight steps. -/
def c140 (v : Vec F S256x1024 .bf16) : IVec S32x256 32 := k0_pay16 (cq v) (k0_pay14 v) (k0_pay15 v) 23#32
/-- The candidate of the eighth step. -/
def c142 (v : Vec F S256x1024 .bf16) : IVec S32x256 32 := k0_pay17 (cq v) (k0_pay14 v) (k0_pay15 v) 23#32
/-- The biased exponents of a chunk's scales. -/
def chunkE (v : Vec F S256x1024 .bf16) : IVec S32x256 32 := k0_pay18 (cq v) (c140 v) (c142 v) 23#32
/-- The widened chunk. -/
def chunkW (v : Vec F S256x1024 .bf16) : FVec F S1024x256 .bf16 := k0_pay20 (k0_pay12 v) (cq v) (c140 v) (c142 v) 23#32
/-- The chunk's codes. -/
def chunkC (v : Vec F S256x1024 .bf16) : FVec F S256x1024 .fp8e4m3 := k0_pay21 (k0_pay12 v) (cq v) (c140 v) (c142 v) 23#32
/-- The exponents as they are stored. -/
def chunkS (v : Vec F S256x1024 .bf16) : IVec S32x256 32 := k0_pay22 (chunkE v)
/-- A chunk of the running sum with the product of the left block and a widened chunk added. -/
def chunkA (a : Vec F S1536x256 .f32) (l : Vec F S1536x1024 .bf16) (s : Vec F S1024x256 .bf16) : FVec F S1536x256 .f32 :=
  k0_pay11 a l s

/-! ## A whole block -/

/-- Rows `256 j` to `256 j + 256` of a block. -/
def rowsOf (X : Vec F S1024x1024 .bf16) (j : Fin 4) : Vec F S256x1024 .bf16 :=
  fun q => X (ix2 (⟨256 * j.val + (q 0).val, by have h : (q 0).val < 256 := (q 0).isLt; omega⟩ : Fin 1024) (⟨(q 1).val, (q 1).isLt⟩ : Fin 1024))
/-- Columns `256 j` to `256 j + 256` of a widened block. -/
def colsOf (X : Vec F S1024x1024 .bf16) (j : Fin 4) : Vec F S1024x256 .bf16 :=
  fun q => X (ix2 (⟨(q 0).val, (q 0).isLt⟩ : Fin 1024) (⟨256 * j.val + (q 1).val, by have h : (q 1).val < 256 := (q 1).isLt; omega⟩ : Fin 1024))
/-- Columns `256 j` to `256 j + 256` of the running sum. -/
def sumColsOf (X : Vec F S1536x1024 .f32) (j : Fin 4) : Vec F S1536x256 .f32 :=
  fun q => X (ix2 (⟨(q 0).val, (q 0).isLt⟩ : Fin 1536) (⟨256 * j.val + (q 1).val, by have h : (q 1).val < 256 := (q 1).isLt; omega⟩ : Fin 1024))

/-- The running sum after a grid point. -/
def accNew (x0 : Vec F S1536x1024 .bf16) (src : Vec F S1024x1024 .bf16) (acc : Vec F S1536x1024 .f32) : Vec F S1536x1024 .f32 :=
  fun p => chunkA (sumColsOf acc ⟨(p 1).val / 256, by have h : (p 1).val < 1024 := (p 1).isLt; omega⟩) x0
    (colsOf src ⟨(p 1).val / 256, by have h : (p 1).val < 1024 := (p 1).isLt; omega⟩)
    (ix2 (⟨(p 0).val, (p 0).isLt⟩ : Fin 1536) (⟨(p 1).val % 256, Nat.mod_lt _ (by decide)⟩ : Fin 256))
/-- The widened block a grid point leaves. -/
def wideNew (x1 : Vec F S1024x1024 .bf16) : Vec F S1024x1024 .bf16 :=
  fun p => chunkW (rowsOf x1 ⟨(p 1).val / 256, by have h : (p 1).val < 1024 := (p 1).isLt; omega⟩)
    (ix2 (⟨(p 0).val, (p 0).isLt⟩ : Fin 1024) (⟨(p 1).val % 256, Nat.mod_lt _ (by decide)⟩ : Fin 256))
/-- The codes a grid point leaves. -/
def codesNew (x1 : Vec F S1024x1024 .bf16) : Vec F S1024x1024 .fp8e4m3 :=
  fun p => chunkC (rowsOf x1 ⟨(p 0).val / 256, by have h : (p 0).val < 1024 := (p 0).isLt; omega⟩)
    (ix2 (⟨(p 0).val % 256, Nat.mod_lt _ (by decide)⟩ : Fin 256) (⟨(p 1).val, (p 1).isLt⟩ : Fin 1024))
/-- The exponents of a block. -/
def expNew (x1 : Vec F S1024x1024 .bf16) (a : Fin 32) (b : Fin 1024) : BitVec 32 :=
  chunkS (rowsOf x1 ⟨b.val / 256, by omega⟩) (ix2 a (⟨b.val % 256, Nat.mod_lt _ (by decide)⟩ : Fin 256))
/-- The exponent buffer after a grid point: 32 of its rows are the block's exponents. -/
def eNew (r : ℕ) (x1 : Vec F S1024x1024 .bf16) (e : Vec F S256x1024 .i32) : Vec F S256x1024 .i32 :=
  fun p => if h : 32 * r ≤ (p 0).val ∧ (p 0).val < 32 * r + 32 then
      expNew x1 ⟨(p 0).val - 32 * r, by omega⟩ ⟨(p 1).val, (p 1).isLt⟩
    else e p

theorem accNew_at {x0 : Vec F S1536x1024 .bf16} {src : Vec F S1024x1024 .bf16} {acc : Vec F S1536x1024 .f32} (j : Fin 4)
    (x : S1536x256.Idx) (y : S1536x1024.Idx) (h0 : (y 0).val = (x 0).val) (h1 : (y 1).val = 256 * j.val + (x 1).val) :
    chunkA (sumColsOf acc j) x0 (colsOf src j) x = accNew x0 src acc y := by
  have hx : (x 1).val < 256 := (x 1).isLt
  have hj : (⟨(y 1).val / 256, by have h : (y 1).val < 1024 := (y 1).isLt; omega⟩ : Fin 4) = j := Fin.ext (by show (y 1).val / 256 = j.val; omega)
  unfold accNew
  rw [hj]
  congr 1
  funext a
  match a with
  | ⟨0, _⟩ => exact Fin.ext h0.symm
  | ⟨1, _⟩ => exact Fin.ext (show (x 1).val = (y 1).val % 256 by omega)

theorem wideNew_at {x1 : Vec F S1024x1024 .bf16} (j : Fin 4)
    (x : S1024x256.Idx) (y : S1024x1024.Idx) (h0 : (y 0).val = (x 0).val) (h1 : (y 1).val = 256 * j.val + (x 1).val) :
    chunkW (rowsOf x1 j) x = wideNew x1 y := by
  have hx : (x 1).val < 256 := (x 1).isLt
  have hj : (⟨(y 1).val / 256, by have h : (y 1).val < 1024 := (y 1).isLt; omega⟩ : Fin 4) = j := Fin.ext (by show (y 1).val / 256 = j.val; omega)
  unfold wideNew
  rw [hj]
  congr 1
  funext a
  match a with
  | ⟨0, _⟩ => exact Fin.ext h0.symm
  | ⟨1, _⟩ => exact Fin.ext (show (x 1).val = (y 1).val % 256 by omega)

theorem codesNew_at {x1 : Vec F S1024x1024 .bf16} (j : Fin 4)
    (x : S256x1024.Idx) (y : S1024x1024.Idx) (h0 : (y 0).val = 256 * j.val + (x 0).val) (h1 : (y 1).val = (x 1).val) :
    chunkC (rowsOf x1 j) x = codesNew x1 y := by
  have hx : (x 0).val < 256 := (x 0).isLt
  have hj : (⟨(y 0).val / 256, by have h : (y 0).val < 1024 := (y 0).isLt; omega⟩ : Fin 4) = j := Fin.ext (by show (y 0).val / 256 = j.val; omega)
  unfold codesNew
  rw [hj]
  congr 1
  funext a
  match a with
  | ⟨0, _⟩ => exact Fin.ext (show (x 0).val = (y 0).val % 256 by omega)
  | ⟨1, _⟩ => exact Fin.ext h1.symm

theorem eNew_at {r : ℕ} {x1 : Vec F S1024x1024 .bf16} {e : Vec F S256x1024 .i32} (j : Fin 4)
    (x : S32x256.Idx) (y : S256x1024.Idx) (h0 : (y 0).val = 32 * r + (x 0).val) (h1 : (y 1).val = 256 * j.val + (x 1).val) :
    chunkS (rowsOf x1 j) x = eNew r x1 e y := by
  have hx : (x 1).val < 256 := (x 1).isLt
  have hx0 : (x 0).val < 32 := (x 0).isLt
  have hj : (⟨(y 1).val / 256, by have h : (y 1).val < 1024 := (y 1).isLt; omega⟩ : Fin 4) = j := Fin.ext (by show (y 1).val / 256 = j.val; omega)
  unfold eNew
  rw [dif_pos (by omega)]
  unfold expNew
  rw [show (⟨(⟨(y 1).val, (y 1).isLt⟩ : Fin 1024).val / 256, by have h : (y 1).val < 1024 := (y 1).isLt; show (y 1).val / 256 < 4; omega⟩ : Fin 4) = j from hj]
  congr 1
  funext a
  match a with
  | ⟨0, _⟩ => exact Fin.ext (show (x 0).val = (y 0).val - 32 * r by omega)
  | ⟨1, _⟩ => exact Fin.ext (show (x 1).val = (y 1).val % 256 by omega)

/-! ## Loads through the body's rectangles -/

theorem rows_readAt {m : Memref sig .tc .vmem S1024x1024 .bf16} (hm : m.IsWhole) (X : Vec F S1024x1024 .bf16) (j : Fin 4)
    {off : Fin 2 → ℕ} (inb) (ho0 : off 0 = 256 * j.val) (ho1 : off 1 = 0) :
    m.view.readAt (Elt F) (Rect.unit (s := S1024x1024) off ![256, 1024] inb) (hm.unread X) = rowsOf X j := by
  funext q
  refine (hm.readAt_unread X _ q).trans (congrArg X (funext fun a => Fin.ext ?_))
  match a with
  | ⟨0, _⟩ => exact (Rect.idx_unit_val off _ inb q 0).trans (congrArg (· + (q 0).val) ho0)
  | ⟨1, _⟩ => exact (Rect.idx_unit_val off _ inb q 1).trans ((congrArg (· + (q 1).val) ho1).trans (Nat.zero_add _))

theorem cols_readAt {m : Memref sig .tc .vmem S1024x1024 .bf16} (hm : m.IsWhole) (X : Vec F S1024x1024 .bf16) (j : Fin 4)
    {off : Fin 2 → ℕ} (inb) (ho0 : off 0 = 0) (ho1 : off 1 = 256 * j.val) :
    m.view.readAt (Elt F) (Rect.unit (s := S1024x1024) off ![1024, 256] inb) (hm.unread X) = colsOf X j := by
  funext q
  refine (hm.readAt_unread X _ q).trans (congrArg X (funext fun a => Fin.ext ?_))
  match a with
  | ⟨0, _⟩ => exact (Rect.idx_unit_val off _ inb q 0).trans ((congrArg (· + (q 0).val) ho0).trans (Nat.zero_add _))
  | ⟨1, _⟩ => exact (Rect.idx_unit_val off _ inb q 1).trans (congrArg (· + (q 1).val) ho1)

theorem sumCols_readAt {m : Memref sig .tc .vmem S1536x1024 .f32} (hm : m.IsWhole) (X : Vec F S1536x1024 .f32) (j : Fin 4)
    {off : Fin 2 → ℕ} (inb) (ho0 : off 0 = 0) (ho1 : off 1 = 256 * j.val) :
    m.view.readAt (Elt F) (Rect.unit (s := S1536x1024) off ![1536, 256] inb) (hm.unread X) = sumColsOf X j := by
  funext q
  refine (hm.readAt_unread X _ q).trans (congrArg X (funext fun a => Fin.ext ?_))
  match a with
  | ⟨0, _⟩ => exact (Rect.idx_unit_val off _ inb q 0).trans ((congrArg (· + (q 0).val) ho0).trans (Nat.zero_add _))
  | ⟨1, _⟩ => exact (Rect.idx_unit_val off _ inb q 1).trans (congrArg (· + (q 1).val) ho1)

theorem whole_readAt {S : Shape} {e : EltTy} {m : Memref sig .tc .vmem S e} (hm : m.IsWhole) (X : Vec F S e)
    {off : Fin S.rank → ℕ} (inb) (ho : ∀ a, off a = 0) :
    m.view.readAt (Elt F) (Rect.unit (s := S) off S.size inb) (hm.unread X) = X := by
  funext q
  exact (hm.readAt_unread X _ q).trans (congrArg X (funext fun a => Fin.ext ((Rect.idx_unit_val off _ inb q a).trans (by rw [ho]; exact Nat.zero_add _))))

/-! ## The body's stores as lists of pieces -/

/-- The four row chunks of a block, as the body loads them. -/
def rdRows (m : Memref sig .tc .vmem S1024x1024 .bf16) (hm : m.IsWhole) (X : Vec F S1024x1024 .bf16) (j : Fin 4) : Vec F S256x1024 .bf16 :=
  m.view.readAt (Elt F) (Rect.unit (s := S1024x1024) ![256 * j.val, 0] ![256, 1024]
    (fun a => by fin_cases j <;> fin_cases a <;> decide)).toLoadRect (hm.unread X)
/-- The four column chunks of a widened block, as the body loads them. -/
def rdCols (m : Memref sig .tc .vmem S1024x1024 .bf16) (hm : m.IsWhole) (X : Vec F S1024x1024 .bf16) (j : Fin 4) : Vec F S1024x256 .bf16 :=
  m.view.readAt (Elt F) (Rect.unit (s := S1024x1024) ![0, 256 * j.val] ![1024, 256]
    (fun a => by fin_cases j <;> fin_cases a <;> decide)).toLoadRect (hm.unread X)
/-- The four column chunks of the running sum, as the body loads them. -/
def rdSum (m : Memref sig .tc .vmem S1536x1024 .f32) (hm : m.IsWhole) (X : Vec F S1536x1024 .f32) (j : Fin 4) : Vec F S1536x256 .f32 :=
  m.view.readAt (Elt F) (Rect.unit (s := S1536x1024) ![0, 256 * j.val] ![1536, 256]
    (fun a => by fin_cases j <;> fin_cases a <;> decide)).toLoadRect (hm.unread X)
/-- The left block, as the body loads it. -/
def rdLeft (m : Memref sig .tc .vmem S1536x1024 .bf16) (hm : m.IsWhole) (X : Vec F S1536x1024 .bf16) : Vec F S1536x1024 .bf16 :=
  m.view.readAt (Elt F) (Rect.unit (s := S1536x1024) ![0, 0] ![1536, 1024] inb_S1536x1024_S1536x1024_0_0).toLoadRect (hm.unread X)

theorem rdRows_eq (m : Memref sig .tc .vmem S1024x1024 .bf16) (hm : m.IsWhole) (X : Vec F S1024x1024 .bf16) : rdRows m hm X = rowsOf X :=
  funext fun j => rows_readAt hm X j _ rfl rfl
theorem rdCols_eq (m : Memref sig .tc .vmem S1024x1024 .bf16) (hm : m.IsWhole) (X : Vec F S1024x1024 .bf16) : rdCols m hm X = colsOf X :=
  funext fun j => cols_readAt hm X j _ rfl rfl
theorem rdSum_eq (m : Memref sig .tc .vmem S1536x1024 .f32) (hm : m.IsWhole) (X : Vec F S1536x1024 .f32) : rdSum m hm X = sumColsOf X :=
  funext fun j => sumCols_readAt hm X j _ rfl rfl
theorem rdLeft_eq (m : Memref sig .tc .vmem S1536x1024 .bf16) (hm : m.IsWhole) (X : Vec F S1536x1024 .bf16) : rdLeft m hm X = X :=
  whole_readAt hm X _ (fun a => by fin_cases a <;> rfl)

/-- The widened chunks, as stored. -/
def wPieces (v : Fin 4 → Vec F S256x1024 .bf16) : List (View.Piece (Elt F) S1024x1024 .bf16) :=
  [⟨Rect.unit (s := S1024x1024) ![0, 768] ![1024, 256] inb_S1024x1024_S1024x256_0_768, chunkW (v 3)⟩,
   ⟨Rect.unit (s := S1024x1024) ![0, 512] ![1024, 256] inb_S1024x1024_S1024x256_0_512, chunkW (v 2)⟩,
   ⟨Rect.unit (s := S1024x1024) ![0, 256] ![1024, 256] inb_S1024x1024_S1024x256_0_256, chunkW (v 1)⟩,
   ⟨Rect.unit (s := S1024x1024) ![0, 0] ![1024, 256] inb_S1024x1024_S1024x256_0_0, chunkW (v 0)⟩]
/-- The codes of the chunks, as stored. -/
def cPieces (v : Fin 4 → Vec F S256x1024 .bf16) : List (View.Piece (Elt F) S1024x1024 .fp8e4m3) :=
  [⟨Rect.unit (s := S1024x1024) ![768, 0] ![256, 1024] inb_S1024x1024_S256x1024_768_0, chunkC (v 3)⟩,
   ⟨Rect.unit (s := S1024x1024) ![512, 0] ![256, 1024] inb_S1024x1024_S256x1024_512_0, chunkC (v 2)⟩,
   ⟨Rect.unit (s := S1024x1024) ![256, 0] ![256, 1024] inb_S1024x1024_S256x1024_256_0, chunkC (v 1)⟩,
   ⟨Rect.unit (s := S1024x1024) ![0, 0] ![256, 1024] inb_S1024x1024_S256x1024_0_0, chunkC (v 0)⟩]
/-- The exponents of the chunks, as stored. -/
def ePieces (o0 o1 o2 o3 : Fin 2 → ℕ) (h0 : ∀ a, o0 a + S32x256.size a ≤ S256x1024.size a) (h1 : ∀ a, o1 a + S32x256.size a ≤ S256x1024.size a)
    (h2 : ∀ a, o2 a + S32x256.size a ≤ S256x1024.size a) (h3 : ∀ a, o3 a + S32x256.size a ≤ S256x1024.size a)
    (v : Fin 4 → Vec F S256x1024 .bf16) : List (View.Piece (Elt F) S256x1024 .i32) :=
  [⟨Rect.unit (s := S256x1024) o3 S32x256.size h3, chunkS (v 3)⟩, ⟨Rect.unit (s := S256x1024) o2 S32x256.size h2, chunkS (v 2)⟩,
   ⟨Rect.unit (s := S256x1024) o1 S32x256.size h1, chunkS (v 1)⟩, ⟨Rect.unit (s := S256x1024) o0 S32x256.size h0, chunkS (v 0)⟩]
/-- The chunks of the running sum, as stored. -/
def aPieces (a : Fin 4 → Vec F S1536x256 .f32) (l : Vec F S1536x1024 .bf16) (s : Fin 4 → Vec F S1024x256 .bf16) :
    List (View.Piece (Elt F) S1536x1024 .f32) :=
  [⟨Rect.unit (s := S1536x1024) ![0, 768] ![1536, 256] inb_S1536x1024_S1536x256_0_768, chunkA (a 3) l (s 3)⟩,
   ⟨Rect.unit (s := S1536x1024) ![0, 512] ![1536, 256] inb_S1536x1024_S1536x256_0_512, chunkA (a 2) l (s 2)⟩,
   ⟨Rect.unit (s := S1536x1024) ![0, 256] ![1536, 256] inb_S1536x1024_S1536x256_0_256, chunkA (a 1) l (s 1)⟩,
   ⟨Rect.unit (s := S1536x1024) ![0, 0] ![1536, 256] inb_S1536x1024_S1536x256_0_0, chunkA (a 0) l (s 0)⟩]

/-! Where the running sum starts from zero: the zeros first, then chunk by chunk, each read back over the stores
before it. -/

/-- The zeros. -/
def zP : List (View.Piece (Elt F) S1536x1024 .f32) :=
  [⟨Rect.unit (s := S1536x1024) ![0, 0] ![1536, 1024] inb_S1536x1024_S1536x1024_0_0, k0_pay108⟩]
/-- Chunk 0 as read. -/
def zA0 (m : Memref sig .tc .vmem S1536x1024 .f32) : Vec F S1536x256 .f32 :=
  m.view.readCov zP (Rect.unit (s := S1536x1024) ![0, 0] ![1536, 256] inb_S1536x1024_S1536x256_0_0).toLoadRect
/-- The stores up to chunk 0. -/
def zP0 (m : Memref sig .tc .vmem S1536x1024 .f32) (l : Vec F S1536x1024 .bf16) (s : Fin 4 → Vec F S1024x256 .bf16) : List (View.Piece (Elt F) S1536x1024 .f32) :=
  ⟨Rect.unit (s := S1536x1024) ![0, 0] ![1536, 256] inb_S1536x1024_S1536x256_0_0, chunkA (zA0 m) l (s 0)⟩ :: zP
/-- Chunk 1 as read. -/
def zA1 (m : Memref sig .tc .vmem S1536x1024 .f32) (l : Vec F S1536x1024 .bf16) (s : Fin 4 → Vec F S1024x256 .bf16) : Vec F S1536x256 .f32 :=
  m.view.readCov (zP0 m l s) (Rect.unit (s := S1536x1024) ![0, 256] ![1536, 256] inb_S1536x1024_S1536x256_0_256).toLoadRect
/-- The stores up to chunk 1. -/
def zP1 (m : Memref sig .tc .vmem S1536x1024 .f32) (l : Vec F S1536x1024 .bf16) (s : Fin 4 → Vec F S1024x256 .bf16) : List (View.Piece (Elt F) S1536x1024 .f32) :=
  ⟨Rect.unit (s := S1536x1024) ![0, 256] ![1536, 256] inb_S1536x1024_S1536x256_0_256, chunkA (zA1 m l s) l (s 1)⟩ :: zP0 m l s
/-- Chunk 2 as read. -/
def zA2 (m : Memref sig .tc .vmem S1536x1024 .f32) (l : Vec F S1536x1024 .bf16) (s : Fin 4 → Vec F S1024x256 .bf16) : Vec F S1536x256 .f32 :=
  m.view.readCov (zP1 m l s) (Rect.unit (s := S1536x1024) ![0, 512] ![1536, 256] inb_S1536x1024_S1536x256_0_512).toLoadRect
/-- The stores up to chunk 2. -/
def zP2 (m : Memref sig .tc .vmem S1536x1024 .f32) (l : Vec F S1536x1024 .bf16) (s : Fin 4 → Vec F S1024x256 .bf16) : List (View.Piece (Elt F) S1536x1024 .f32) :=
  ⟨Rect.unit (s := S1536x1024) ![0, 512] ![1536, 256] inb_S1536x1024_S1536x256_0_512, chunkA (zA2 m l s) l (s 2)⟩ :: zP1 m l s
/-- Chunk 3 as read. -/
def zA3 (m : Memref sig .tc .vmem S1536x1024 .f32) (l : Vec F S1536x1024 .bf16) (s : Fin 4 → Vec F S1024x256 .bf16) : Vec F S1536x256 .f32 :=
  m.view.readCov (zP2 m l s) (Rect.unit (s := S1536x1024) ![0, 768] ![1536, 256] inb_S1536x1024_S1536x256_0_768).toLoadRect
/-- All stores. -/
def zP3 (m : Memref sig .tc .vmem S1536x1024 .f32) (l : Vec F S1536x1024 .bf16) (s : Fin 4 → Vec F S1024x256 .bf16) : List (View.Piece (Elt F) S1536x1024 .f32) :=
  ⟨Rect.unit (s := S1536x1024) ![0, 768] ![1536, 256] inb_S1536x1024_S1536x256_0_768, chunkA (zA3 m l s) l (s 3)⟩ :: zP2 m l s

/-! ## What the pieces leave -/

theorem read_wPieces (m : Memref sig .tc .vmem S1024x1024 .bf16) (f) (x1 : Vec F S1024x1024 .bf16) :
    m.view.read (Elt F) (m.view.writes (Elt F) f (wPieces (rowsOf x1))) = wideNew x1 := by
  funext y
  refine View.read_writes_apply_of_pieces (v := m.view) (f := f) (wideNew x1) (wPieces (rowsOf x1)) ?_ y (View.cover_of_tiledL (s := S1024x1024) (wPieces (rowsOf x1)) S1024x256.size (by sl_kernel_rfl) y)
  intro p hp x
  simp only [wPieces, List.mem_cons, List.not_mem_nil, _root_.or_false] at hp
  rcases hp with rfl | rfl | rfl | rfl
  · exact wideNew_at 3 x _ (by show 0 + 1 * (x 0).val = (x 0).val; omega) (by show 768 + 1 * (x 1).val = 256 * 3 + (x 1).val; omega)
  · exact wideNew_at 2 x _ (by show 0 + 1 * (x 0).val = (x 0).val; omega) (by show 512 + 1 * (x 1).val = 256 * 2 + (x 1).val; omega)
  · exact wideNew_at 1 x _ (by show 0 + 1 * (x 0).val = (x 0).val; omega) (by show 256 + 1 * (x 1).val = 256 * 1 + (x 1).val; omega)
  · exact wideNew_at 0 x _ (by show 0 + 1 * (x 0).val = (x 0).val; omega) (by show 0 + 1 * (x 1).val = 256 * 0 + (x 1).val; omega)

theorem read_cPieces (m : Memref sig .tc .vmem S1024x1024 .fp8e4m3) (f) (x1 : Vec F S1024x1024 .bf16) :
    m.view.read (Elt F) (m.view.writes (Elt F) f (cPieces (rowsOf x1))) = codesNew x1 := by
  funext y
  refine View.read_writes_apply_of_pieces (v := m.view) (f := f) (codesNew x1) (cPieces (rowsOf x1)) ?_ y (View.cover_of_tiledL (s := S1024x1024) (cPieces (rowsOf x1)) S256x1024.size (by sl_kernel_rfl) y)
  intro p hp x
  simp only [cPieces, List.mem_cons, List.not_mem_nil, _root_.or_false] at hp
  rcases hp with rfl | rfl | rfl | rfl
  · exact codesNew_at 3 x _ (by show 768 + 1 * (x 0).val = 256 * 3 + (x 0).val; omega) (by show 0 + 1 * (x 1).val = (x 1).val; omega)
  · exact codesNew_at 2 x _ (by show 512 + 1 * (x 0).val = 256 * 2 + (x 0).val; omega) (by show 0 + 1 * (x 1).val = (x 1).val; omega)
  · exact codesNew_at 1 x _ (by show 256 + 1 * (x 0).val = 256 * 1 + (x 0).val; omega) (by show 0 + 1 * (x 1).val = (x 1).val; omega)
  · exact codesNew_at 0 x _ (by show 0 + 1 * (x 0).val = 256 * 0 + (x 0).val; omega) (by show 0 + 1 * (x 1).val = (x 1).val; omega)

theorem aPieces_at (x0 : Vec F S1536x1024 .bf16) (src : Vec F S1024x1024 .bf16) (acc : Vec F S1536x1024 .f32)
    (p : View.Piece (Elt F) S1536x1024 .f32) (hp : p ∈ aPieces (sumColsOf acc) x0 (colsOf src)) (x : p.1.shape.Idx) :
    p.2 x = accNew x0 src acc (p.1.emb x) := by
  simp only [aPieces, List.mem_cons, List.not_mem_nil, _root_.or_false] at hp
  rcases hp with rfl | rfl | rfl | rfl
  · exact accNew_at 3 x _ (by show 0 + 1 * (x 0).val = (x 0).val; omega) (by show 768 + 1 * (x 1).val = 256 * 3 + (x 1).val; omega)
  · exact accNew_at 2 x _ (by show 0 + 1 * (x 0).val = (x 0).val; omega) (by show 512 + 1 * (x 1).val = 256 * 2 + (x 1).val; omega)
  · exact accNew_at 1 x _ (by show 0 + 1 * (x 0).val = (x 0).val; omega) (by show 256 + 1 * (x 1).val = 256 * 1 + (x 1).val; omega)
  · exact accNew_at 0 x _ (by show 0 + 1 * (x 0).val = (x 0).val; omega) (by show 0 + 1 * (x 1).val = 256 * 0 + (x 1).val; omega)

theorem read_aPieces (m : Memref sig .tc .vmem S1536x1024 .f32) (f) (x0 : Vec F S1536x1024 .bf16) (src : Vec F S1024x1024 .bf16)
    (acc : Vec F S1536x1024 .f32) :
    m.view.read (Elt F) (m.view.writes (Elt F) f (aPieces (sumColsOf acc) x0 (colsOf src))) = accNew x0 src acc := by
  funext y
  exact View.read_writes_apply_of_pieces (v := m.view) (f := f) (accNew x0 src acc) _ (aPieces_at x0 src acc) y (View.cover_of_tiledL (s := S1536x1024) (aPieces (sumColsOf acc) x0 (colsOf src)) S1536x256.size (by sl_kernel_rfl) y)

theorem read_ePieces (m : Memref sig .tc .vmem S256x1024 .i32) (hm : m.IsWhole) (e : Vec F S256x1024 .i32) (x1 : Vec F S1024x1024 .bf16)
    (r : ℕ) {o0 o1 o2 o3 : Fin 2 → ℕ} (h0 h1 h2 h3) (e0 : o0 = ![32 * r, 0]) (e1 : o1 = ![32 * r, 256]) (e2 : o2 = ![32 * r, 512])
    (e3 : o3 = ![32 * r, 768]) :
    m.view.read (Elt F) (m.view.writes (Elt F) (hm.unread e) (ePieces o0 o1 o2 o3 h0 h1 h2 h3 (rowsOf x1))) = eNew r x1 e := by
  funext y
  have hy1 : (y 1).val < 1024 := (y 1).isLt
  by_cases hr : 32 * r ≤ (y 0).val ∧ (y 0).val < 32 * r + 32
  · have hit : ∀ (j : Fin 4) {o : Fin 2 → ℕ} (h : ∀ a, o a + S32x256.size a ≤ S256x1024.size a) (ho : o = ![32 * r, 256 * j.val]) (L : List (View.Piece (Elt F) S256x1024 .i32)),
        (y 1).val / 256 = j.val → m.view.read (Elt F) (m.view.writes (Elt F) (hm.unread e)
          (⟨Rect.unit (s := S256x1024) o S32x256.size h, chunkS (rowsOf x1 j)⟩ :: L)) y = eNew r x1 e y := by
      intro j o h ho L hj
      refine (View.read_writes_cons_unit_of_mem m.view _ h _ L y
        (ix2 (⟨(y 0).val - 32 * r, by omega⟩ : Fin 32) (⟨(y 1).val % 256, Nat.mod_lt _ (by decide)⟩ : Fin 256)) ho ?_).trans
        (eNew_at j _ y ?_ ?_)
      · refine Fin.forall_fin_two.mpr ⟨?_, ?_⟩
        · show (y 0).val = 32 * r + ((y 0).val - 32 * r); omega
        · show (y 1).val = 256 * j.val + (y 1).val % 256; omega
      · show (y 0).val = 32 * r + ((y 0).val - 32 * r); omega
      · show (y 1).val = 256 * j.val + (y 1).val % 256; omega
    have miss : ∀ (j : Fin 4) {o : Fin 2 → ℕ} (h : ∀ a, o a + S32x256.size a ≤ S256x1024.size a) (ho : o = ![32 * r, 256 * j.val]) (w) (L : List (View.Piece (Elt F) S256x1024 .i32)),
        (y 1).val / 256 ≠ j.val → m.view.read (Elt F) (m.view.writes (Elt F) (hm.unread e)
          (⟨Rect.unit (s := S256x1024) o S32x256.size h, w⟩ :: L)) y = m.view.read (Elt F) (m.view.writes (Elt F) (hm.unread e) L) y := by
      intro j o h ho w L hj
      refine View.read_writes_cons_unit_of_not_mem m.view _ h w L y ho 1 ?_
      show (y 1).val < 256 * j.val ∨ 256 * j.val + 256 ≤ (y 1).val
      omega
    unfold ePieces
    by_cases c3 : (y 1).val / 256 = 3
    · exact hit 3 h3 e3 _ c3
    rw [miss 3 h3 e3 _ _ c3]
    by_cases c2 : (y 1).val / 256 = 2
    · exact hit 2 h2 e2 _ c2
    rw [miss 2 h2 e2 _ _ c2]
    by_cases c1 : (y 1).val / 256 = 1
    · exact hit 1 h1 e1 _ c1
    rw [miss 1 h1 e1 _ _ c1]
    exact hit 0 h0 e0 _ (by show (y 1).val / 256 = 0; omega)
  · have miss : ∀ (j : ℕ) {o : Fin 2 → ℕ} (h : ∀ a, o a + S32x256.size a ≤ S256x1024.size a) (ho : o = ![32 * r, j]) (w) (L : List (View.Piece (Elt F) S256x1024 .i32)),
        m.view.read (Elt F) (m.view.writes (Elt F) (hm.unread e)
          (⟨Rect.unit (s := S256x1024) o S32x256.size h, w⟩ :: L)) y = m.view.read (Elt F) (m.view.writes (Elt F) (hm.unread e) L) y := by
      intro j o h ho w L
      refine View.read_writes_cons_unit_of_not_mem m.view _ h w L y ho 0 ?_
      show (y 0).val < 32 * r ∨ 32 * r + 32 ≤ (y 0).val
      omega
    unfold ePieces
    rw [miss 768 h3 e3, miss 512 h2 e2, miss 256 h1 e1, miss 0 h0 e0]
    unfold eNew
    rw [dif_neg hr]
    exact congrFun (hm.read_unread e) y

/-- A column chunk read back over stores of column chunks to its left and the zeros is zeros. -/
theorem zP_read (m : Memref sig .tc .vmem S1536x1024 .f32) (f) (y : S1536x1024.Idx) :
    m.view.read (Elt F) (m.view.writes (Elt F) f zP) y = k0_pay108 y :=
  View.read_writes_cons_unit_of_mem m.view f _ k0_pay108 [] y y rfl (Fin.forall_fin_two.mpr ⟨(Nat.zero_add _).symm, (Nat.zero_add _).symm⟩)

theorem zP_miss (m : Memref sig .tc .vmem S1536x1024 .f32) (f) (c : ℕ) (inb : ∀ a, (![0, c] : Fin 2 → ℕ) a + S1536x256.size a ≤ S1536x1024.size a)
    (w) (L : List (View.Piece (Elt F) S1536x1024 .f32)) (y : S1536x1024.Idx) (h : c + 256 ≤ (y 1).val) :
    m.view.read (Elt F) (m.view.writes (Elt F) f (⟨Rect.unit (s := S1536x1024) ![0, c] S1536x256.size inb, w⟩ :: L)) y
      = m.view.read (Elt F) (m.view.writes (Elt F) f L) y :=
  View.read_writes_cons_unit_of_not_mem m.view f inb w L y rfl 1 (Or.inr h)

theorem zA0_eq (m : Memref sig .tc .vmem S1536x1024 .f32) : zA0 (F := F) m = sumColsOf k0_pay108 0 := by
  funext q
  exact zP_read m _ _
theorem zA1_eq (m : Memref sig .tc .vmem S1536x1024 .f32) (l s) : zA1 (F := F) m l s = sumColsOf k0_pay108 1 := by
  funext q
  refine (zP_miss m _ 0 _ _ zP _ ?_).trans (zP_read m _ _)
  show 0 + 256 ≤ 256 + 1 * (q 1).val; omega
theorem zA2_eq (m : Memref sig .tc .vmem S1536x1024 .f32) (l s) : zA2 (F := F) m l s = sumColsOf k0_pay108 2 := by
  funext q
  refine (zP_miss m _ 256 _ _ (zP0 m l s) _ ?_).trans ((zP_miss m _ 0 _ _ zP _ ?_).trans (zP_read m _ _))
  · show 256 + 256 ≤ 512 + 1 * (q 1).val; omega
  · show 0 + 256 ≤ 512 + 1 * (q 1).val; omega
theorem zA3_eq (m : Memref sig .tc .vmem S1536x1024 .f32) (l s) : zA3 (F := F) m l s = sumColsOf k0_pay108 3 := by
  funext q
  refine (zP_miss m _ 512 _ _ (zP1 m l s) _ ?_).trans ((zP_miss m _ 256 _ _ (zP0 m l s) _ ?_).trans ((zP_miss m _ 0 _ _ zP _ ?_).trans (zP_read m _ _)))
  · show 512 + 256 ≤ 768 + 1 * (q 1).val; omega
  · show 256 + 256 ≤ 768 + 1 * (q 1).val; omega
  · show 0 + 256 ≤ 768 + 1 * (q 1).val; omega

theorem zP3_eq (m : Memref sig .tc .vmem S1536x1024 .f32) (l : Vec F S1536x1024 .bf16) (s : Fin 4 → Vec F S1024x256 .bf16) :
    zP3 m l s = aPieces (sumColsOf k0_pay108) l s ++ zP := by
  unfold zP3 zP2 zP1 zP0
  rw [zA3_eq, zA2_eq, zA1_eq, zA0_eq]
  rfl

theorem read_zP3 (m : Memref sig .tc .vmem S1536x1024 .f32) (f) (x0 : Vec F S1536x1024 .bf16) (src : Vec F S1024x1024 .bf16) :
    m.view.read (Elt F) (m.view.writes (Elt F) f (zP3 m x0 (colsOf src))) = accNew x0 src k0_pay108 := by
  rw [zP3_eq, View.writes_append]
  exact read_aPieces m _ x0 src _

/-- The whole running sum read back over its chunks, as it is stored. -/
theorem readCov_aPieces (m : Memref sig .tc .vmem S1536x1024 .f32) (x0 : Vec F S1536x1024 .bf16) (src : Vec F S1024x1024 .bf16)
    (acc : Vec F S1536x1024 .f32) (q : S1536x1024.Idx) :
    (m.view.readCov (aPieces (sumColsOf acc) x0 (colsOf src)) (Rect.unit (s := S1536x1024) ![0, 0] ![1536, 1024] inb_S1536x1024_S1536x1024_0_0).toLoadRect : Vec F S1536x1024 .f32) q
      = accNew x0 src acc q := by
  refine (congrFun (read_aPieces m _ x0 src acc) _).trans (congrArg (accNew x0 src acc) (funext fun a => Fin.ext ?_))
  match a with
  | ⟨0, _⟩ => show 0 + 1 * (q 0).val = (q 0).val; omega
  | ⟨1, _⟩ => show 0 + 1 * (q 1).val = (q 1).val; omega

/-- The whole exponent buffer read back over its chunks, as it is stored. -/
theorem readAt_ePieces (m : Memref sig .tc .vmem S256x1024 .i32) (hm : m.IsWhole) (e : Vec F S256x1024 .i32) (x1 : Vec F S1024x1024 .bf16)
    (r : ℕ) {o0 o1 o2 o3 : Fin 2 → ℕ} (h0 h1 h2 h3) (e0 : o0 = ![32 * r, 0]) (e1 : o1 = ![32 * r, 256]) (e2 : o2 = ![32 * r, 512])
    (e3 : o3 = ![32 * r, 768]) (q : S256x1024.Idx) :
    (m.view.readAt (Elt F) (Rect.unit (s := S256x1024) ![0, 0] ![256, 1024] inb_S256x1024_S256x1024_0_0).toLoadRect
      (m.view.writes (Elt F) (hm.unread e) (ePieces o0 o1 o2 o3 h0 h1 h2 h3 (rowsOf x1))) : Vec F S256x1024 .i32) q = eNew r x1 e q := by
  refine (congrFun (read_ePieces m hm e x1 r h0 h1 h2 h3 e0 e1 e2 e3) _).trans (congrArg (eNew r x1 e) (funext fun a => Fin.ext ?_))
  match a with
  | ⟨0, _⟩ => show 0 + 1 * (q 0).val = (q 0).val; omega
  | ⟨1, _⟩ => show 0 + 1 * (q 1).val = (q 1).val; omega

/-- A whole buffer stored in one piece reads back the piece. -/
theorem whole_store {S : Shape} {e : EltTy} (m : Memref sig .tc .vmem S e) (f) (off : Fin S.rank → ℕ) (inb) {w : S.Idx → Elt F e} {X : Vec F S e}
    (h : ∀ q, w q = X q) (ho : ∀ a, off a = 0 := by decide) :
    m.view.read (Elt F) (m.view.writes (Elt F) f [⟨Rect.unit (s := S) off S.size inb, w⟩]) = X := by
  funext y
  refine (View.read_writes_cons_unit_of_mem m.view f inb w [] y y rfl (fun a => ?_)).trans (h y)
  rw [ho a, Nat.zero_add]

end Cert.KernelYIdeal.Hand

end
-- ==== Proof.YExecA.lean ====
/- The body at the first point: the run with the contents the stores leave read back as values. -/
module

public import proofs.«01_k».proof.Proof.YTiles

@[expose] public section

set_option maxRecDepth 16384

noncomputable section

namespace Cert.KernelYIdeal.Hand

open Cert.KernelYIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point, by what the buffers hold after it. -/
theorem exec_A (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S1024x256 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S256x1024 .i32) (harg9 : arg9.IsWhole) (hc0 : cond0_0 i) (hc1 : cond0_1 i) (hc2 : cond0_2 i) (hc3 : ¬cond0_3 i) (hc4 : ¬cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S256x1024 .i32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
      ∗ (iprop(owns (c : Thread nD τ) arg1 fullShare x0 ∗ owns (c : Thread nD τ) arg2 fullShare x1 ∗ (∃ d, owns (c : Thread nD τ) arg3 fullShare d) ∗ owns (c : Thread nD τ) arg4 fullShare (codesNew x1) ∗ (∃ d, owns (c : Thread nD τ) arg5 fullShare d) ∗ (∃ d, owns (c : Thread nD τ) arg6 fullShare d) ∗ owns (c : Thread nD τ) arg7 fullShare (wideNew x1) ∗ (∃ d, owns (c : Thread nD τ) arg8 fullShare d) ∗ owns (c : Thread nD τ) arg9 fullShare (eNew ((min (i 0).val 79) % 8) x1 xs3)) -∗ K ⟨⟩))
    ⊢ wp frame (wpE (defs₀ (F := F)) Variants.none c none) E (cc0_qmm_row i arg1 harg1 arg2 harg2 arg3 harg3 arg4 harg4 arg5 harg5 arg6 harg6 arg7 harg7 arg8 harg8 arg9 harg9) K := by
  have hD : (run_A c i arg1 harg1 arg2 harg2 arg3 harg3 arg4 harg4 arg5 harg5 arg6 harg6 arg7 harg7 arg8 harg8 arg9 harg9 hc0 hc1 hc2 hc3 hc4 hc5 x0 x1 xs0 xs1 xs2 xs3).2.1 = wPieces (rowsOf x1) := by
    rw [← rdRows_eq arg2 harg2]; rfl
  have hC : (run_A c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.1 = cPieces (rowsOf x1) := by
    rw [← rdRows_eq arg2 harg2]; rfl
  have hE : (run_A c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.1 = ePieces (k0_off1 i) (k0_off2 i) (k0_off3 i) (k0_off4 i) (k0_off1_inb i hc2) (k0_off2_inb i hc2) (k0_off3_inb i hc2) (k0_off4_inb i hc2) (rowsOf x1) := by
    rw [← rdRows_eq arg2 harg2]; rfl
  iintro ⟨H0, H1, H2, H3, H4, HS0, HS1, HS2, HS3, Hk⟩
  iapply ((run_A c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, ⟨%f3, H3⟩, H4, ⟨%fs0, HS0⟩, ⟨%fs1, HS1⟩, ⟨%fs2, HS2⟩, HS3⟩
  iapply Hk
  isplitl [H0]; · iexact H0
  isplitl [H1]; · iexact H1
  isplitl [H2]; · iexact H2
  isplitl [H3]
  · unfold owns
    iexists _; isplitr; swap; · iexact H3
    ipureintro; rw [hC]; exact read_cPieces _ _ _
  isplitl [H4]; · iexact H4
  isplitl [HS0]
  · unfold owns
    iexists _, _; isplitr; swap; · iexact HS0
    ipureintro; rfl
  isplitl [HS1]
  · unfold owns
    iexists _; isplitr; swap; · iexact HS1
    ipureintro; rw [hD]; exact read_wPieces _ _ _
  isplitl [HS2]
  · unfold owns
    iexists _, _; isplitr; swap; · iexact HS2
    ipureintro; rfl
  unfold owns
  iexists _; isplitr; swap; · iexact HS3
  ipureintro; rw [hE]; exact read_ePieces arg9 harg9 xs3 x1 ((min (i 0).val 79) % 8) _ _ _ _ (k0_off1_eq i) (k0_off2_eq i) (k0_off3_eq i) (k0_off4_eq i)

end Cert.KernelYIdeal.Hand

end
-- ==== Proof.YExecB.lean ====
/- The body at the first point of a sum: the run with the contents the stores leave read back as values. -/
module

public import proofs.«01_k».proof.Proof.YTiles

@[expose] public section

set_option maxRecDepth 16384

noncomputable section

namespace Cert.KernelYIdeal.Hand

open Cert.KernelYIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point of a sum, by what the buffers hold after it. -/
theorem exec_B (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S1024x256 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S256x1024 .i32) (harg9 : arg9.IsWhole) (hc0 : ¬cond0_0 i) (hc1 : cond0_1 i) (hc2 : ¬cond0_2 i) (hc3 : cond0_3 i) (hc4 : ¬cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S256x1024 .i32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
      ∗ (iprop(owns (c : Thread nD τ) arg1 fullShare x0 ∗ owns (c : Thread nD τ) arg2 fullShare x1 ∗ (∃ d, owns (c : Thread nD τ) arg3 fullShare d) ∗ owns (c : Thread nD τ) arg4 fullShare (codesNew x1) ∗ (∃ d, owns (c : Thread nD τ) arg5 fullShare d) ∗ owns (c : Thread nD τ) arg6 fullShare (accNew x0 xs1 k0_pay108) ∗ owns (c : Thread nD τ) arg7 fullShare xs1 ∗ owns (c : Thread nD τ) arg8 fullShare (wideNew x1) ∗ owns (c : Thread nD τ) arg9 fullShare (eNew ((min (i 0).val 79) % 8) x1 xs3)) -∗ K ⟨⟩))
    ⊢ wp frame (wpE (defs₀ (F := F)) Variants.none c none) E (cc0_qmm_row i arg1 harg1 arg2 harg2 arg3 harg3 arg4 harg4 arg5 harg5 arg6 harg6 arg7 harg7 arg8 harg8 arg9 harg9) K := by
  have hD : (run_B c i arg1 harg1 arg2 harg2 arg3 harg3 arg4 harg4 arg5 harg5 arg6 harg6 arg7 harg7 arg8 harg8 arg9 harg9 hc0 hc1 hc2 hc3 hc4 hc5 x0 x1 xs0 xs1 xs2 xs3).2.1 = wPieces (rowsOf x1) := by
    rw [← rdRows_eq arg2 harg2]; rfl
  have hC : (run_B c i arg1 harg1 arg2 harg2 arg3 harg3 arg4 harg4 arg5 harg5 arg6 harg6 arg7 harg7 arg8 harg8 arg9 harg9 hc0 hc1 hc2 hc3 hc4 hc5 x0 x1 xs0 xs1 xs2 xs3).2.2.1 = cPieces (rowsOf x1) := by
    rw [← rdRows_eq arg2 harg2]; rfl
  have hE : (run_B c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.1 = ePieces (k0_off5 i) (k0_off6 i) (k0_off7 i) (k0_off8 i) (k0_off5_inb i hc3) (k0_off6_inb i hc3) (k0_off7_inb i hc3) (k0_off8_inb i hc3) (rowsOf x1) := by
    rw [← rdRows_eq arg2 harg2]; rfl
  have hA : (run_B c i arg1 harg1 arg2 harg2 arg3 harg3 arg4 harg4 arg5 harg5 arg6 harg6 arg7 harg7 arg8 harg8 arg9 harg9 hc0 hc1 hc2 hc3 hc4 hc5 x0 x1 xs0 xs1 xs2 xs3).1 = zP3 arg6 x0 (colsOf xs1) := by
    rw [← rdCols_eq arg7 harg7]
    conv_rhs => rw [← rdLeft_eq arg1 harg1 x0]
    rfl
  iintro ⟨H0, H1, H2, H3, H4, HS0, HS1, HS2, HS3, Hk⟩
  iapply ((run_B c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, ⟨%f3, H3⟩, H4, ⟨%fs0, HS0⟩, HS1, ⟨%fs2, HS2⟩, HS3⟩
  iapply Hk
  isplitl [H0]; · iexact H0
  isplitl [H1]; · iexact H1
  isplitl [H2]; · iexact H2
  isplitl [H3]
  · unfold owns
    iexists _; isplitr; swap; · iexact H3
    ipureintro; rw [hC]; exact read_cPieces _ _ _
  isplitl [H4]; · iexact H4
  isplitl [HS0]
  · unfold owns
    iexists _; isplitr; swap; · iexact HS0
    ipureintro; rw [hA]; exact read_zP3 _ _ _ _
  isplitl [HS1]; · iexact HS1
  isplitl [HS2]
  · unfold owns
    iexists _; isplitr; swap; · iexact HS2
    ipureintro; rw [hD]; exact read_wPieces _ _ _
  unfold owns
  iexists _; isplitr; swap; · iexact HS3
  ipureintro; rw [hE]; exact read_ePieces arg9 harg9 xs3 x1 ((min (i 0).val 79) % 8) _ _ _ _ (k0_off5_eq i) (k0_off6_eq i) (k0_off7_eq i) (k0_off8_eq i)

end Cert.KernelYIdeal.Hand

end
-- ==== Proof.YExecC.lean ====
/- The body at an even point in the middle of a sum: the run with the contents the stores leave read back as values. -/
module

public import proofs.«01_k».proof.Proof.YTiles

@[expose] public section

set_option maxRecDepth 16384

noncomputable section

namespace Cert.KernelYIdeal.Hand

open Cert.KernelYIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at an even point in the middle of a sum, by what the buffers hold after it. -/
theorem exec_C (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S1024x256 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S256x1024 .i32) (harg9 : arg9.IsWhole) (hc0 : ¬cond0_0 i) (hc1 : ¬cond0_1 i) (hc2 : cond0_2 i) (hc3 : ¬cond0_3 i) (hc4 : ¬cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S256x1024 .i32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
      ∗ (iprop(owns (c : Thread nD τ) arg1 fullShare x0 ∗ owns (c : Thread nD τ) arg2 fullShare x1 ∗ (∃ d, owns (c : Thread nD τ) arg3 fullShare d) ∗ owns (c : Thread nD τ) arg4 fullShare (codesNew x1) ∗ (∃ d, owns (c : Thread nD τ) arg5 fullShare d) ∗ owns (c : Thread nD τ) arg6 fullShare (accNew x0 xs2 xs0) ∗ owns (c : Thread nD τ) arg7 fullShare (wideNew x1) ∗ owns (c : Thread nD τ) arg8 fullShare xs2 ∗ owns (c : Thread nD τ) arg9 fullShare (eNew ((min (i 0).val 79) % 8) x1 xs3)) -∗ K ⟨⟩))
    ⊢ wp frame (wpE (defs₀ (F := F)) Variants.none c none) E (cc0_qmm_row i arg1 harg1 arg2 harg2 arg3 harg3 arg4 harg4 arg5 harg5 arg6 harg6 arg7 harg7 arg8 harg8 arg9 harg9) K := by
  have hD : (run_C c i arg1 harg1 arg2 harg2 arg3 harg3 arg4 harg4 arg5 harg5 arg6 harg6 arg7 harg7 arg8 harg8 arg9 harg9 hc0 hc1 hc2 hc3 hc4 hc5 x0 x1 xs0 xs1 xs2 xs3).2.1 = wPieces (rowsOf x1) := by
    rw [← rdRows_eq arg2 harg2]; rfl
  have hC : (run_C c i arg1 harg1 arg2 harg2 arg3 harg3 arg4 harg4 arg5 harg5 arg6 harg6 arg7 harg7 arg8 harg8 arg9 harg9 hc0 hc1 hc2 hc3 hc4 hc5 x0 x1 xs0 xs1 xs2 xs3).2.2.1 = cPieces (rowsOf x1) := by
    rw [← rdRows_eq arg2 harg2]; rfl
  have hE : (run_C c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.1 = ePieces (k0_off1 i) (k0_off2 i) (k0_off3 i) (k0_off4 i) (k0_off1_inb i hc2) (k0_off2_inb i hc2) (k0_off3_inb i hc2) (k0_off4_inb i hc2) (rowsOf x1) := by
    rw [← rdRows_eq arg2 harg2]; rfl
  have hA : (run_C c i arg1 harg1 arg2 harg2 arg3 harg3 arg4 harg4 arg5 harg5 arg6 harg6 arg7 harg7 arg8 harg8 arg9 harg9 hc0 hc1 hc2 hc3 hc4 hc5 x0 x1 xs0 xs1 xs2 xs3).1 = aPieces (sumColsOf xs0) x0 (colsOf xs2) := by
    rw [← rdCols_eq arg8 harg8, ← rdSum_eq arg6 harg6]
    conv_rhs => rw [← rdLeft_eq arg1 harg1 x0]
    rfl
  iintro ⟨H0, H1, H2, H3, H4, HS0, HS1, HS2, HS3, Hk⟩
  iapply ((run_C c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, ⟨%f3, H3⟩, H4, ⟨%fs0, HS0⟩, ⟨%fs1, HS1⟩, HS2, HS3⟩
  iapply Hk
  isplitl [H0]; · iexact H0
  isplitl [H1]; · iexact H1
  isplitl [H2]; · iexact H2
  isplitl [H3]
  · unfold owns
    iexists _; isplitr; swap; · iexact H3
    ipureintro; rw [hC]; exact read_cPieces _ _ _
  isplitl [H4]; · iexact H4
  isplitl [HS0]
  · unfold owns
    iexists _; isplitr; swap; · iexact HS0
    ipureintro; rw [hA]; exact read_aPieces _ _ _ _ _
  isplitl [HS1]
  · unfold owns
    iexists _; isplitr; swap; · iexact HS1
    ipureintro; rw [hD]; exact read_wPieces _ _ _
  isplitl [HS2]; · iexact HS2
  unfold owns
  iexists _; isplitr; swap; · iexact HS3
  ipureintro; rw [hE]; exact read_ePieces arg9 harg9 xs3 x1 ((min (i 0).val 79) % 8) _ _ _ _ (k0_off1_eq i) (k0_off2_eq i) (k0_off3_eq i) (k0_off4_eq i)

end Cert.KernelYIdeal.Hand

end
-- ==== Proof.YExecD.lean ====
/- The body at an odd point in the middle of a sum: the run with the contents the stores leave read back as values. -/
module

public import proofs.«01_k».proof.Proof.YTiles

@[expose] public section

set_option maxRecDepth 16384

noncomputable section

namespace Cert.KernelYIdeal.Hand

open Cert.KernelYIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at an odd point in the middle of a sum, by what the buffers hold after it. -/
theorem exec_D (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S1024x256 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S256x1024 .i32) (harg9 : arg9.IsWhole) (hc0 : ¬cond0_0 i) (hc1 : ¬cond0_1 i) (hc2 : ¬cond0_2 i) (hc3 : cond0_3 i) (hc4 : ¬cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S256x1024 .i32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
      ∗ (iprop(owns (c : Thread nD τ) arg1 fullShare x0 ∗ owns (c : Thread nD τ) arg2 fullShare x1 ∗ (∃ d, owns (c : Thread nD τ) arg3 fullShare d) ∗ owns (c : Thread nD τ) arg4 fullShare (codesNew x1) ∗ (∃ d, owns (c : Thread nD τ) arg5 fullShare d) ∗ owns (c : Thread nD τ) arg6 fullShare (accNew x0 xs1 xs0) ∗ owns (c : Thread nD τ) arg7 fullShare xs1 ∗ owns (c : Thread nD τ) arg8 fullShare (wideNew x1) ∗ owns (c : Thread nD τ) arg9 fullShare (eNew ((min (i 0).val 79) % 8) x1 xs3)) -∗ K ⟨⟩))
    ⊢ wp frame (wpE (defs₀ (F := F)) Variants.none c none) E (cc0_qmm_row i arg1 harg1 arg2 harg2 arg3 harg3 arg4 harg4 arg5 harg5 arg6 harg6 arg7 harg7 arg8 harg8 arg9 harg9) K := by
  have hD : (run_D c i arg1 harg1 arg2 harg2 arg3 harg3 arg4 harg4 arg5 harg5 arg6 harg6 arg7 harg7 arg8 harg8 arg9 harg9 hc0 hc1 hc2 hc3 hc4 hc5 x0 x1 xs0 xs1 xs2 xs3).2.1 = wPieces (rowsOf x1) := by
    rw [← rdRows_eq arg2 harg2]; rfl
  have hC : (run_D c i arg1 harg1 arg2 harg2 arg3 harg3 arg4 harg4 arg5 harg5 arg6 harg6 arg7 harg7 arg8 harg8 arg9 harg9 hc0 hc1 hc2 hc3 hc4 hc5 x0 x1 xs0 xs1 xs2 xs3).2.2.1 = cPieces (rowsOf x1) := by
    rw [← rdRows_eq arg2 harg2]; rfl
  have hE : (run_D c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.1 = ePieces (k0_off5 i) (k0_off6 i) (k0_off7 i) (k0_off8 i) (k0_off5_inb i hc3) (k0_off6_inb i hc3) (k0_off7_inb i hc3) (k0_off8_inb i hc3) (rowsOf x1) := by
    rw [← rdRows_eq arg2 harg2]; rfl
  have hA : (run_D c i arg1 harg1 arg2 harg2 arg3 harg3 arg4 harg4 arg5 harg5 arg6 harg6 arg7 harg7 arg8 harg8 arg9 harg9 hc0 hc1 hc2 hc3 hc4 hc5 x0 x1 xs0 xs1 xs2 xs3).1 = aPieces (sumColsOf xs0) x0 (colsOf xs1) := by
    rw [← rdCols_eq arg7 harg7, ← rdSum_eq arg6 harg6]
    conv_rhs => rw [← rdLeft_eq arg1 harg1 x0]
    rfl
  iintro ⟨H0, H1, H2, H3, H4, HS0, HS1, HS2, HS3, Hk⟩
  iapply ((run_D c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, ⟨%f3, H3⟩, H4, ⟨%fs0, HS0⟩, HS1, ⟨%fs2, HS2⟩, HS3⟩
  iapply Hk
  isplitl [H0]; · iexact H0
  isplitl [H1]; · iexact H1
  isplitl [H2]; · iexact H2
  isplitl [H3]
  · unfold owns
    iexists _; isplitr; swap; · iexact H3
    ipureintro; rw [hC]; exact read_cPieces _ _ _
  isplitl [H4]; · iexact H4
  isplitl [HS0]
  · unfold owns
    iexists _; isplitr; swap; · iexact HS0
    ipureintro; rw [hA]; exact read_aPieces _ _ _ _ _
  isplitl [HS1]; · iexact HS1
  isplitl [HS2]
  · unfold owns
    iexists _; isplitr; swap; · iexact HS2
    ipureintro; rw [hD]; exact read_wPieces _ _ _
  unfold owns
  iexists _; isplitr; swap; · iexact HS3
  ipureintro; rw [hE]; exact read_ePieces arg9 harg9 xs3 x1 ((min (i 0).val 79) % 8) _ _ _ _ (k0_off5_eq i) (k0_off6_eq i) (k0_off7_eq i) (k0_off8_eq i)

end Cert.KernelYIdeal.Hand

end
-- ==== Proof.YExecE.lean ====
/- The body at the last point of a block row: the run with the contents the stores leave read back as values. -/
module

public import proofs.«01_k».proof.Proof.YTiles

@[expose] public section

set_option maxRecDepth 16384

noncomputable section

namespace Cert.KernelYIdeal.Hand

open Cert.KernelYIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point of a block row, by what the buffers hold after it. -/
theorem exec_E (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S1024x256 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S256x1024 .i32) (harg9 : arg9.IsWhole) (hc0 : ¬cond0_0 i) (hc1 : ¬cond0_1 i) (hc2 : ¬cond0_2 i) (hc3 : cond0_3 i) (hc4 : cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S256x1024 .i32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
      ∗ (iprop(owns (c : Thread nD τ) arg1 fullShare x0 ∗ owns (c : Thread nD τ) arg2 fullShare x1 ∗ (∃ d, owns (c : Thread nD τ) arg3 fullShare d) ∗ owns (c : Thread nD τ) arg4 fullShare (codesNew x1) ∗ owns (c : Thread nD τ) arg5 fullShare (k0_pay9 (eNew ((min (i 0).val 79) % 8) x1 xs3)) ∗ owns (c : Thread nD τ) arg6 fullShare (accNew x0 xs1 xs0) ∗ owns (c : Thread nD τ) arg7 fullShare xs1 ∗ owns (c : Thread nD τ) arg8 fullShare (wideNew x1) ∗ owns (c : Thread nD τ) arg9 fullShare (eNew ((min (i 0).val 79) % 8) x1 xs3)) -∗ K ⟨⟩))
    ⊢ wp frame (wpE (defs₀ (F := F)) Variants.none c none) E (cc0_qmm_row i arg1 harg1 arg2 harg2 arg3 harg3 arg4 harg4 arg5 harg5 arg6 harg6 arg7 harg7 arg8 harg8 arg9 harg9) K := by
  have hD : (run_E c i arg1 harg1 arg2 harg2 arg3 harg3 arg4 harg4 arg5 harg5 arg6 harg6 arg7 harg7 arg8 harg8 arg9 harg9 hc0 hc1 hc2 hc3 hc4 hc5 x0 x1 xs0 xs1 xs2 xs3).2.1 = wPieces (rowsOf x1) := by
    rw [← rdRows_eq arg2 harg2]; rfl
  have hC : (run_E c i arg1 harg1 arg2 harg2 arg3 harg3 arg4 harg4 arg5 harg5 arg6 harg6 arg7 harg7 arg8 harg8 arg9 harg9 hc0 hc1 hc2 hc3 hc4 hc5 x0 x1 xs0 xs1 xs2 xs3).2.2.1 = cPieces (rowsOf x1) := by
    rw [← rdRows_eq arg2 harg2]; rfl
  have hE : (run_E c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.1 = ePieces (k0_off5 i) (k0_off6 i) (k0_off7 i) (k0_off8 i) (k0_off5_inb i hc3) (k0_off6_inb i hc3) (k0_off7_inb i hc3) (k0_off8_inb i hc3) (rowsOf x1) := by
    rw [← rdRows_eq arg2 harg2]; rfl
  have hA : (run_E c i arg1 harg1 arg2 harg2 arg3 harg3 arg4 harg4 arg5 harg5 arg6 harg6 arg7 harg7 arg8 harg8 arg9 harg9 hc0 hc1 hc2 hc3 hc4 hc5 x0 x1 xs0 xs1 xs2 xs3).1 = aPieces (sumColsOf xs0) x0 (colsOf xs1) := by
    rw [← rdCols_eq arg7 harg7, ← rdSum_eq arg6 harg6]
    conv_rhs => rw [← rdLeft_eq arg1 harg1 x0]
    rfl
  have hS : (run_E c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.1 = [⟨Rect.unit (s := S1024x256) ![0, 0] S1024x256.size inb_S1024x256_S1024x256_0_0, k0_pay9 (arg9.view.readAt (Elt F) (Rect.unit (s := S256x1024) ![0, 0] ![256, 1024] inb_S256x1024_S256x1024_0_0).toLoadRect (arg9.view.writes (Elt F) (harg9.unread xs3) ((run_E c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.1)))⟩] := rfl
  iintro ⟨H0, H1, H2, H3, H4, HS0, HS1, HS2, HS3, Hk⟩
  iapply ((run_E c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, ⟨%f3, H3⟩, ⟨%f4, H4⟩, ⟨%fs0, HS0⟩, HS1, ⟨%fs2, HS2⟩, HS3⟩
  iapply Hk
  isplitl [H0]; · iexact H0
  isplitl [H1]; · iexact H1
  isplitl [H2]; · iexact H2
  isplitl [H3]
  · unfold owns
    iexists _; isplitr; swap; · iexact H3
    ipureintro; rw [hC]; exact read_cPieces _ _ _
  isplitl [H4]
  · unfold owns
    iexists _; isplitr; swap; · iexact H4
    ipureintro; rw [hS, hE]; exact whole_store _ _ _ _ (fun q => congrArg (fun w => k0_pay9 w q) (funext (readAt_ePieces arg9 harg9 xs3 x1 ((min (i 0).val 79) % 8) _ _ _ _ (k0_off5_eq i) (k0_off6_eq i) (k0_off7_eq i) (k0_off8_eq i))))
  isplitl [HS0]
  · unfold owns
    iexists _; isplitr; swap; · iexact HS0
    ipureintro; rw [hA]; exact read_aPieces _ _ _ _ _
  isplitl [HS1]; · iexact HS1
  isplitl [HS2]
  · unfold owns
    iexists _; isplitr; swap; · iexact HS2
    ipureintro; rw [hD]; exact read_wPieces _ _ _
  unfold owns
  iexists _; isplitr; swap; · iexact HS3
  ipureintro; rw [hE]; exact read_ePieces arg9 harg9 xs3 x1 ((min (i 0).val 79) % 8) _ _ _ _ (k0_off5_eq i) (k0_off6_eq i) (k0_off7_eq i) (k0_off8_eq i)

end Cert.KernelYIdeal.Hand

end
-- ==== Proof.YExecF.lean ====
/- The body at the last point of a sum: the run with the contents the stores leave read back as values. -/
module

public import proofs.«01_k».proof.Proof.YTiles

@[expose] public section

set_option maxRecDepth 16384

noncomputable section

namespace Cert.KernelYIdeal.Hand

open Cert.KernelYIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point of a sum, by what the buffers hold after it. -/
theorem exec_F (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S1024x256 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S256x1024 .i32) (harg9 : arg9.IsWhole) (hc0 : ¬cond0_0 i) (hc1 : ¬cond0_1 i) (hc2 : cond0_2 i) (hc3 : ¬cond0_3 i) (hc4 : ¬cond0_4 i) (hc5 : cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S256x1024 .i32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
      ∗ (iprop(owns (c : Thread nD τ) arg1 fullShare x0 ∗ owns (c : Thread nD τ) arg2 fullShare x1 ∗ owns (c : Thread nD τ) arg3 fullShare (k0_pay10 (accNew x0 xs2 xs0)) ∗ owns (c : Thread nD τ) arg4 fullShare (codesNew x1) ∗ (∃ d, owns (c : Thread nD τ) arg5 fullShare d) ∗ owns (c : Thread nD τ) arg6 fullShare (accNew x0 xs2 xs0) ∗ owns (c : Thread nD τ) arg7 fullShare (wideNew x1) ∗ owns (c : Thread nD τ) arg8 fullShare xs2 ∗ owns (c : Thread nD τ) arg9 fullShare (eNew ((min (i 0).val 79) % 8) x1 xs3)) -∗ K ⟨⟩))
    ⊢ wp frame (wpE (defs₀ (F := F)) Variants.none c none) E (cc0_qmm_row i arg1 harg1 arg2 harg2 arg3 harg3 arg4 harg4 arg5 harg5 arg6 harg6 arg7 harg7 arg8 harg8 arg9 harg9) K := by
  have hD : (run_F c i arg1 harg1 arg2 harg2 arg3 harg3 arg4 harg4 arg5 harg5 arg6 harg6 arg7 harg7 arg8 harg8 arg9 harg9 hc0 hc1 hc2 hc3 hc4 hc5 x0 x1 xs0 xs1 xs2 xs3).2.1 = wPieces (rowsOf x1) := by
    rw [← rdRows_eq arg2 harg2]; rfl
  have hC : (run_F c i arg1 harg1 arg2 harg2 arg3 harg3 arg4 harg4 arg5 harg5 arg6 harg6 arg7 harg7 arg8 harg8 arg9 harg9 hc0 hc1 hc2 hc3 hc4 hc5 x0 x1 xs0 xs1 xs2 xs3).2.2.1 = cPieces (rowsOf x1) := by
    rw [← rdRows_eq arg2 harg2]; rfl
  have hE : (run_F c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.1 = ePieces (k0_off1 i) (k0_off2 i) (k0_off3 i) (k0_off4 i) (k0_off1_inb i hc2) (k0_off2_inb i hc2) (k0_off3_inb i hc2) (k0_off4_inb i hc2) (rowsOf x1) := by
    rw [← rdRows_eq arg2 harg2]; rfl
  have hA : (run_F c i arg1 harg1 arg2 harg2 arg3 harg3 arg4 harg4 arg5 harg5 arg6 harg6 arg7 harg7 arg8 harg8 arg9 harg9 hc0 hc1 hc2 hc3 hc4 hc5 x0 x1 xs0 xs1 xs2 xs3).1 = aPieces (sumColsOf xs0) x0 (colsOf xs2) := by
    rw [← rdCols_eq arg8 harg8, ← rdSum_eq arg6 harg6]
    conv_rhs => rw [← rdLeft_eq arg1 harg1 x0]
    rfl
  have hO : (run_F c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.1 = [⟨Rect.unit (s := S1536x1024) ![0, 0] S1536x1024.size inb_S1536x1024_S1536x1024_0_0, k0_pay10 (arg6.view.readCov ((run_F c i arg1 harg1 arg2 harg2 arg3 harg3 arg4 harg4 arg5 harg5 arg6 harg6 arg7 harg7 arg8 harg8 arg9 harg9 hc0 hc1 hc2 hc3 hc4 hc5 x0 x1 xs0 xs1 xs2 xs3).1) (Rect.unit (s := S1536x1024) ![0, 0] ![1536, 1024] inb_S1536x1024_S1536x1024_0_0).toLoadRect)⟩] := rfl
  iintro ⟨H0, H1, H2, H3, H4, HS0, HS1, HS2, HS3, Hk⟩
  iapply ((run_F c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, ⟨%f2, H2⟩, ⟨%f3, H3⟩, H4, ⟨%fs0, HS0⟩, ⟨%fs1, HS1⟩, HS2, HS3⟩
  iapply Hk
  isplitl [H0]; · iexact H0
  isplitl [H1]; · iexact H1
  isplitl [H2]
  · unfold owns
    iexists _; isplitr; swap; · iexact H2
    ipureintro; rw [hO, hA]; exact whole_store _ _ _ _ (fun q => congrArg (fun w => k0_pay10 w q) (funext (readCov_aPieces arg6 x0 xs2 xs0)))
  isplitl [H3]
  · unfold owns
    iexists _; isplitr; swap; · iexact H3
    ipureintro; rw [hC]; exact read_cPieces _ _ _
  isplitl [H4]; · iexact H4
  isplitl [HS0]
  · unfold owns
    iexists _; isplitr; swap; · iexact HS0
    ipureintro; rw [hA]; exact read_aPieces _ _ _ _ _
  isplitl [HS1]
  · unfold owns
    iexists _; isplitr; swap; · iexact HS1
    ipureintro; rw [hD]; exact read_wPieces _ _ _
  isplitl [HS2]; · iexact HS2
  unfold owns
  iexists _; isplitr; swap; · iexact HS3
  ipureintro; rw [hE]; exact read_ePieces arg9 harg9 xs3 x1 ((min (i 0).val 79) % 8) _ _ _ _ (k0_off1_eq i) (k0_off2_eq i) (k0_off3_eq i) (k0_off4_eq i)

end Cert.KernelYIdeal.Hand

end
-- ==== Proof.YExecG.lean ====
/- The body at the last point: the run with the contents the stores leave read back as values. -/
module

public import proofs.«01_k».proof.Proof.YTiles

@[expose] public section

set_option maxRecDepth 16384

noncomputable section

namespace Cert.KernelYIdeal.Hand

open Cert.KernelYIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point, by what the buffers hold after it. -/
theorem exec_G (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S1024x256 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S256x1024 .i32) (harg9 : arg9.IsWhole) (hc0 : ¬cond0_0 i) (hc1 : ¬cond0_1 i) (hc2 : cond0_2 i) (hc3 : ¬cond0_3 i) (hc4 : cond0_4 i) (hc5 : cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S256x1024 .i32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
      ∗ (iprop(owns (c : Thread nD τ) arg1 fullShare x0 ∗ owns (c : Thread nD τ) arg2 fullShare x1 ∗ owns (c : Thread nD τ) arg3 fullShare (k0_pay10 (accNew x0 xs2 xs0)) ∗ owns (c : Thread nD τ) arg4 fullShare (codesNew x1) ∗ owns (c : Thread nD τ) arg5 fullShare (k0_pay9 (eNew ((min (i 0).val 79) % 8) x1 xs3)) ∗ owns (c : Thread nD τ) arg6 fullShare (accNew x0 xs2 xs0) ∗ owns (c : Thread nD τ) arg7 fullShare (wideNew x1) ∗ owns (c : Thread nD τ) arg8 fullShare xs2 ∗ owns (c : Thread nD τ) arg9 fullShare (eNew ((min (i 0).val 79) % 8) x1 xs3)) -∗ K ⟨⟩))
    ⊢ wp frame (wpE (defs₀ (F := F)) Variants.none c none) E (cc0_qmm_row i arg1 harg1 arg2 harg2 arg3 harg3 arg4 harg4 arg5 harg5 arg6 harg6 arg7 harg7 arg8 harg8 arg9 harg9) K := by
  have hD : (run_G c i arg1 harg1 arg2 harg2 arg3 harg3 arg4 harg4 arg5 harg5 arg6 harg6 arg7 harg7 arg8 harg8 arg9 harg9 hc0 hc1 hc2 hc3 hc4 hc5 x0 x1 xs0 xs1 xs2 xs3).2.1 = wPieces (rowsOf x1) := by
    rw [← rdRows_eq arg2 harg2]; rfl
  have hC : (run_G c i arg1 harg1 arg2 harg2 arg3 harg3 arg4 harg4 arg5 harg5 arg6 harg6 arg7 harg7 arg8 harg8 arg9 harg9 hc0 hc1 hc2 hc3 hc4 hc5 x0 x1 xs0 xs1 xs2 xs3).2.2.1 = cPieces (rowsOf x1) := by
    rw [← rdRows_eq arg2 harg2]; rfl
  have hE : (run_G c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.2.1 = ePieces (k0_off1 i) (k0_off2 i) (k0_off3 i) (k0_off4 i) (k0_off1_inb i hc2) (k0_off2_inb i hc2) (k0_off3_inb i hc2) (k0_off4_inb i hc2) (rowsOf x1) := by
    rw [← rdRows_eq arg2 harg2]; rfl
  have hA : (run_G c i arg1 harg1 arg2 harg2 arg3 harg3 arg4 harg4 arg5 harg5 arg6 harg6 arg7 harg7 arg8 harg8 arg9 harg9 hc0 hc1 hc2 hc3 hc4 hc5 x0 x1 xs0 xs1 xs2 xs3).1 = aPieces (sumColsOf xs0) x0 (colsOf xs2) := by
    rw [← rdCols_eq arg8 harg8, ← rdSum_eq arg6 harg6]
    conv_rhs => rw [← rdLeft_eq arg1 harg1 x0]
    rfl
  have hS : (run_G c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.1 = [⟨Rect.unit (s := S1024x256) ![0, 0] S1024x256.size inb_S1024x256_S1024x256_0_0, k0_pay9 (arg9.view.readAt (Elt F) (Rect.unit (s := S256x1024) ![0, 0] ![256, 1024] inb_S256x1024_S256x1024_0_0).toLoadRect (arg9.view.writes (Elt F) (harg9.unread xs3) ((run_G c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.2.1)))⟩] := rfl
  have hO : (run_G c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.1 = [⟨Rect.unit (s := S1536x1024) ![0, 0] S1536x1024.size inb_S1536x1024_S1536x1024_0_0, k0_pay10 (arg6.view.readCov ((run_G c i arg1 harg1 arg2 harg2 arg3 harg3 arg4 harg4 arg5 harg5 arg6 harg6 arg7 harg7 arg8 harg8 arg9 harg9 hc0 hc1 hc2 hc3 hc4 hc5 x0 x1 xs0 xs1 xs2 xs3).1) (Rect.unit (s := S1536x1024) ![0, 0] ![1536, 1024] inb_S1536x1024_S1536x1024_0_0).toLoadRect)⟩] := rfl
  iintro ⟨H0, H1, H2, H3, H4, HS0, HS1, HS2, HS3, Hk⟩
  iapply ((run_G c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, ⟨%f2, H2⟩, ⟨%f3, H3⟩, ⟨%f4, H4⟩, ⟨%fs0, HS0⟩, ⟨%fs1, HS1⟩, HS2, HS3⟩
  iapply Hk
  isplitl [H0]; · iexact H0
  isplitl [H1]; · iexact H1
  isplitl [H2]
  · unfold owns
    iexists _; isplitr; swap; · iexact H2
    ipureintro; rw [hO, hA]; exact whole_store _ _ _ _ (fun q => congrArg (fun w => k0_pay10 w q) (funext (readCov_aPieces arg6 x0 xs2 xs0)))
  isplitl [H3]
  · unfold owns
    iexists _; isplitr; swap; · iexact H3
    ipureintro; rw [hC]; exact read_cPieces _ _ _
  isplitl [H4]
  · unfold owns
    iexists _; isplitr; swap; · iexact H4
    ipureintro; rw [hS, hE]; exact whole_store _ _ _ _ (fun q => congrArg (fun w => k0_pay9 w q) (funext (readAt_ePieces arg9 harg9 xs3 x1 ((min (i 0).val 79) % 8) _ _ _ _ (k0_off1_eq i) (k0_off2_eq i) (k0_off3_eq i) (k0_off4_eq i))))
  isplitl [HS0]
  · unfold owns
    iexists _; isplitr; swap; · iexact HS0
    ipureintro; rw [hA]; exact read_aPieces _ _ _ _ _
  isplitl [HS1]
  · unfold owns
    iexists _; isplitr; swap; · iexact HS1
    ipureintro; rw [hD]; exact read_wPieces _ _ _
  isplitl [HS2]; · iexact HS2
  unfold owns
  iexists _; isplitr; swap; · iexact HS3
  ipureintro; rw [hE]; exact read_ePieces arg9 harg9 xs3 x1 ((min (i 0).val 79) % 8) _ _ _ _ (k0_off1_eq i) (k0_off2_eq i) (k0_off3_eq i) (k0_off4_eq i)

end Cert.KernelYIdeal.Hand

end
-- ==== Proof.YBody.lean ====
/- The body at any point of the grid, the four scratch buffers carried from one point to the next, and the
   run of the whole call. What the scratch holds is any property `R` that the steps of the body keep. -/
module

public import proofs.«01_k».proof.Proof.YExecA
public import proofs.«01_k».proof.Proof.YExecB
public import proofs.«01_k».proof.Proof.YExecC
public import proofs.«01_k».proof.Proof.YExecD
public import proofs.«01_k».proof.Proof.YExecE
public import proofs.«01_k».proof.Proof.YExecF
public import proofs.«01_k».proof.Proof.YExecG
public import Idealize.ShloMosaic.Lib.Pipeline.ArrRel
public import Idealize.ShloMosaic.Lib.Pipeline.DatRel

@[expose] public section

set_option maxRecDepth 16384

noncomputable section

namespace Cert.KernelYIdeal.Hand

open Cert.KernelYIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the scratch buffers hold between two points: the sum, the two widened tiles in turn, the exponents. -/
structure St (F : FTy → Type) where
  acc : Vec F S1536x1024 .f32
  w0 : Vec F S1024x1024 .bf16
  w1 : Vec F S1024x1024 .bf16
  e : Vec F S256x1024 .i32

/-- What the body makes at point `t` of the scratch. -/
structure Step (c : Dev nD) (t : Fin cfg0.N) (s s' : St F) : Prop where
  e : s'.e = eNew ((min (grid0.coords t 0).val 79) % 8) (iblk m c 1 t) s.e
  even : t.val % 2 = 0 → s'.w0 = wideNew (iblk m c 1 t)
  evenKept : t.val % 2 = 0 → t.val ≠ 0 → s'.w1 = s.w1
  odd : t.val % 2 = 1 → s'.w1 = wideNew (iblk m c 1 t)
  oddKept : t.val % 2 = 1 → s'.w0 = s.w0
  accEven : t.val % 2 = 0 → t.val ≠ 0 → s'.acc = accNew (iblk m c 0 t) s.w1 s.acc
  accOdd : t.val % 2 = 1 → t.val % 8 ≠ 1 → s'.acc = accNew (iblk m c 0 t) s.w0 s.acc
  accFirst : t.val % 2 = 1 → t.val % 8 = 1 → s'.acc = accNew (iblk m c 0 t) s.w0 k0_pay108

/-- The scratch buffers at the contents `s`. -/
def scr (c : Dev nD) (s : St F) : sProp 𝕄 :=
  iprop(owns (c : Thread nD τ) scM0_0 fullShare s.acc ∗ owns (c : Thread nD τ) scM0_1 fullShare s.w0 ∗ owns (c : Thread nD τ) scM0_2 fullShare s.w1 ∗ owns (c : Thread nD τ) scM0_3 fullShare s.e ∗ (∃ r, prngReg c r))

variable (R : Dev nD → ℕ → St F → Prop)

/-- The invariant before point `n`. -/
def PhiS (c : Dev nD) : (n : ℕ) → n ≤ cfg0.N → sProp 𝕄
  | 0, _ => Pipeline.ΦA spec0 c
  | n + 1, _ => iprop(∃ s, ⌜R c (n + 1) s⌝ ∗ scr c s)

theorem PhiS_zero (c : Dev nD) (n : ℕ) (h : n ≤ cfg0.N) (hz : n = 0) : PhiS R c n h = Pipeline.ΦA spec0 c := by
  subst hz; rfl

theorem PhiS_succ (c : Dev nD) (n : ℕ) (hn : n < cfg0.N) : PhiS R c (n + 1) hn = iprop(∃ s, ⌜R c (n + 1) s⌝ ∗ scr c s) := rfl

theorem PhiS_pos (c : Dev nD) (n : ℕ) (h : n ≤ cfg0.N) (hz : n ≠ 0) : PhiS R c n h = iprop(∃ s, ⌜R c n s⌝ ∗ scr c s) := by
  cases n with
  | zero => exact absurd rfl hz
  | succ n => rfl

/-- The windows of the results. -/
def results0 : Fin 5 → Bool := fun w => w.val == 2 || w.val == 3 || w.val == 4

/-- What the body leaves in the windows of the results. -/
def Rl (c : Dev nD) : (w : Fin cfg0.W) → Fin cfg0.N → ((cfg0.win w).block.Idx → Elt F (cfg0.win w).elt) → Prop := fun w t => match w with
  | ⟨2, _⟩ => fun X => cond0_5 (grid0.coords t) → ∃ s, R c (t.val + 1) s ∧ X = k0_pay10 s.acc
  | ⟨3, _⟩ => fun X => X = codesNew (iblk m c 1 t)
  | ⟨4, _⟩ => fun X => cond0_4 (grid0.coords t) → ∃ s, R c (t.val + 1) s ∧ X = k0_pay9 s.e
  | _ => fun _ => True

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ t := PhiS R c t.val (Nat.le_of_lt_succ t.isLt)
  q _ := fullShare
  owed _ := 0

theorem A_eq (c : Dev nD) (w : Fin cfg0.W) : (dats m R 0 c).A w = V m c (Pipeline.arrRef spec0 w) := by dsimp only [dats]

theorem PhiS_castSucc (c : Dev nD) (t : Fin cfg0.N) : (dats m R 0 c).Φ t.castSucc = PhiS R c t.val (Nat.le_of_lt t.isLt) := by
  dsimp only [dats]; exact Pipeline.Dat.Φ_castSucc (PhiS R c) t

theorem after0_0 (c : Dev nD) (t : Fin cfg0.N) : (dats m R 0 c).after 0 t = iblk m c 0 t := by dsimp only [dats]
theorem after0_1 (c : Dev nD) (t : Fin cfg0.N) : (dats m R 0 c).after 1 t = iblk m c 1 t := by dsimp only [dats]
theorem before0_0 (c : Dev nD) (t : Fin cfg0.N) (d) : (dats m R 0 c).before 0 t d = iblk m c 0 t :=
  before0_0_of m (dats m R 0 c) (A_eq m R c 0) (after0_0 m R c) t d
theorem before0_1 (c : Dev nD) (t : Fin cfg0.N) (d) : (dats m R 0 c).before 1 t d = iblk m c 1 t :=
  before0_1_of m (dats m R 0 c) (A_eq m R c 1) (after0_1 m R c) t d

def bodyPre (c : Dev nD) (t : Fin cfg0.N) : sProp 𝕄 :=
  iprop((dats m R 0 c).Φ t.castSucc ∗ (dats m R 0 c).owesAt () t.castSucc
    ∗ (∃ d, owns (c : Thread nD τ) (ms0_0 t) fullShare ((dats m R 0 c).before 0 t d)) ∗ (∃ d, owns (c : Thread nD τ) (ms0_1 t) fullShare ((dats m R 0 c).before 1 t d))
    ∗ (∃ Y, ⌜((dats m R 0 c).toRRel results0 (Rl m R c)).Finds 2 t Y⌝ ∗ owns (c : Thread nD τ) (ms0_2 t) fullShare Y)
    ∗ (∃ Y, ⌜((dats m R 0 c).toRRel results0 (Rl m R c)).Finds 3 t Y⌝ ∗ owns (c : Thread nD τ) (ms0_3 t) fullShare Y)
    ∗ (∃ Y, ⌜((dats m R 0 c).toRRel results0 (Rl m R c)).Finds 4 t Y⌝ ∗ owns (c : Thread nD τ) (ms0_4 t) fullShare Y))

def bodyPost (c : Dev nD) (t : Fin cfg0.N) : sProp 𝕄 :=
  iprop((dats m R 0 c).Φ t.succ ∗ (dats m R 0 c).owesAt () t.succ
    ∗ owns (c : Thread nD τ) (ms0_0 t) fullShare ((dats m R 0 c).after 0 t) ∗ owns (c : Thread nD τ) (ms0_1 t) fullShare ((dats m R 0 c).after 1 t)
    ∗ (∃ X, ⌜Rl m R c 2 t X⌝ ∗ owns (c : Thread nD τ) (ms0_2 t) fullShare X)
    ∗ (∃ X, ⌜Rl m R c 3 t X⌝ ∗ owns (c : Thread nD τ) (ms0_3 t) fullShare X)
    ∗ (∃ X, ⌜Rl m R c 4 t X⌝ ∗ owns (c : Thread nD τ) (ms0_4 t) fullShare X))

/-- The steps of the body keep `R`. -/
def Keeps : Prop := ∀ (c : Dev nD) (t : Fin cfg0.N) (s s' : St F), (t.val = 0 ∨ R c t.val s) → Step m c t s s' → R c (t.val + 1) s'

theorem coords_val0 : ∀ t : Fin cfg0.N, (grid0.coords t 0).val = t.val := (by decide +kernel : ∀ t : Fin grid0.N, (grid0.coords t 0).val = t.val)

variable {m R}

set_option maxHeartbeats 1000000 in
/-- The body at a point of kind A. -/
theorem sound_A (hR : Keeps m R) (c : Dev nD) (t : Fin cfg0.N) (hc0 : cond0_0 (grid0.coords t)) (hc1 : cond0_1 (grid0.coords t)) (hc2 : cond0_2 (grid0.coords t)) (hc3 : ¬cond0_3 (grid0.coords t)) (hc4 : ¬cond0_4 (grid0.coords t)) (hc5 : ¬cond0_5 (grid0.coords t)) :
    bodyPre m R c t ⊢ wp frame (wpE (defs₀ (F := F)) Variants.none c none) Set.univ (bodyAt0 t) (fun _ => bodyPost m R c t) := by
  unfold bodyPre bodyPost bodyAt0
  simp only [before0_0, before0_1]
  rw [show (dats m R 0 c).owesAt () t.succ = (dats m R 0 c).owesAt () t.castSucc from rfl,
    show (dats m R 0 c).Φ t.succ = PhiS R c (t.val + 1) t.isLt from rfl, PhiS_succ, after0_0, after0_1]
  have hN : t.val < 81 := lt_of_lt_of_eq t.isLt (show cfg0.N = 81 from N_0)
  have e0 : (t.val % 81 = 0) := (hcond0_0 t).mp hc0
  have e1 : ((t.val % 81 = 0 ∨ t.val % 81 = 1 ∨ t.val % 81 = 9 ∨ t.val % 81 = 17 ∨ t.val % 81 = 25 ∨ t.val % 81 = 33 ∨ t.val % 81 = 41 ∨ t.val % 81 = 49 ∨ t.val % 81 = 57 ∨ t.val % 81 = 65 ∨ t.val % 81 = 73)) := (hcond0_1 t).mp hc1
  have e2 : (t.val % 2 = 0) := (hcond0_2 t).mp hc2
  have e3 : ¬(t.val % 2 = 1) := fun h => hc3 ((hcond0_3 t).mpr h)
  have e4 : ¬((t.val % 81 = 7 ∨ t.val % 81 = 15 ∨ t.val % 81 = 23 ∨ t.val % 81 = 31 ∨ t.val % 81 = 39 ∨ t.val % 81 = 47 ∨ t.val % 81 = 55 ∨ t.val % 81 = 63 ∨ t.val % 81 = 71 ∨ t.val % 81 = 79 ∨ t.val % 81 = 80)) := fun h => hc4 ((hcond0_4 t).mpr h)
  have e5 : ¬((t.val % 81 = 8 ∨ t.val % 81 = 16 ∨ t.val % 81 = 24 ∨ t.val % 81 = 32 ∨ t.val % 81 = 40 ∨ t.val % 81 = 48 ∨ t.val % 81 = 56 ∨ t.val % 81 = 64 ∨ t.val % 81 = 72 ∨ t.val % 81 = 80)) := fun h => hc5 ((hcond0_5 t).mpr h)
  rw [Nat.mod_eq_of_lt hN] at e0 e1 e4 e5
  have hz : t.val = 0 := by omega
  rw [PhiS_castSucc, PhiS_zero R c _ _ hz, PhiA0_eq]
  unfold scr
  iintro ⟨⟨⟨⟨%xs0, HS0⟩, ⟨%xs1, HS1⟩, ⟨%xs2, HS2⟩, ⟨%xs3, HS3⟩⟩, Hg⟩, Ho, ⟨%d0, H0⟩, ⟨%d1, H1⟩, ⟨%Y2, -, H2⟩, ⟨%Y3, -, H3⟩, ⟨%Y4, -, H4⟩⟩
  iapply (exec_A c (grid0.coords t) _ (hs0_0 t) _ (hs0_1 t) _ (hs0_2 t) _ (hs0_3 t) _ (hs0_4 t) _ (Memref.isWhole_whole _) _ (Memref.isWhole_whole _) _ (Memref.isWhole_whole _) _ (Memref.isWhole_whole _) hc0 hc1 hc2 hc3 hc4 hc5 (iblk m c 0 t) (iblk m c 1 t) xs0 xs1 xs2 xs3 Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, ⟨%f2, H2⟩, H3, ⟨%f4, H4⟩, ⟨%g0, HS0⟩, HS1, ⟨%g2, HS2⟩, HS3⟩
  have hst : R c (t.val + 1) ⟨g0, wideNew (iblk m c 1 t), g2, eNew ((min (grid0.coords t 0).val 79) % 8) (iblk m c 1 t) xs3⟩ := by
    refine hR c t ⟨xs0, xs1, xs2, xs3⟩ _ (Or.inl hz) ?_
    constructor
    · rfl
    · intro h; rfl
    · intro h h2; exfalso; omega
    · intro h; exfalso; omega
    · intro h; exfalso; omega
    · intro h h2; exfalso; omega
    · intro h h2; exfalso; omega
    · intro h h2; exfalso; omega
  isplitl [HS0 HS1 HS2 HS3 Hg]
  · iexists (⟨g0, wideNew (iblk m c 1 t), g2, eNew ((min (grid0.coords t 0).val 79) % 8) (iblk m c 1 t) xs3⟩ : St F)
    isplitr; swap
    · isplitl [HS0]; · iexact HS0
      isplitl [HS1]; · iexact HS1
      isplitl [HS2]; · iexact HS2
      isplitl [HS3]; · iexact HS3
      iexact Hg
    · ipureintro; exact hst
  isplitl [Ho]; · iexact Ho
  isplitl [H0]; · iexact H0
  isplitl [H1]; · iexact H1
  isplitl [H2]
  · iexists _
    isplitr; swap
    · iexact H2
    · ipureintro; exact fun h => absurd h hc5
  isplitl [H3]
  · iexists _
    isplitr; swap
    · iexact H3
    · ipureintro; rfl
  iexists _
  isplitr; swap
  · iexact H4
  · ipureintro; exact fun h => absurd h hc4

set_option maxHeartbeats 1000000 in
/-- The body at a point of kind B. -/
theorem sound_B (hR : Keeps m R) (c : Dev nD) (t : Fin cfg0.N) (hc0 : ¬cond0_0 (grid0.coords t)) (hc1 : cond0_1 (grid0.coords t)) (hc2 : ¬cond0_2 (grid0.coords t)) (hc3 : cond0_3 (grid0.coords t)) (hc4 : ¬cond0_4 (grid0.coords t)) (hc5 : ¬cond0_5 (grid0.coords t)) :
    bodyPre m R c t ⊢ wp frame (wpE (defs₀ (F := F)) Variants.none c none) Set.univ (bodyAt0 t) (fun _ => bodyPost m R c t) := by
  unfold bodyPre bodyPost bodyAt0
  simp only [before0_0, before0_1]
  rw [show (dats m R 0 c).owesAt () t.succ = (dats m R 0 c).owesAt () t.castSucc from rfl,
    show (dats m R 0 c).Φ t.succ = PhiS R c (t.val + 1) t.isLt from rfl, PhiS_succ, after0_0, after0_1]
  have hN : t.val < 81 := lt_of_lt_of_eq t.isLt (show cfg0.N = 81 from N_0)
  have e0 : ¬(t.val % 81 = 0) := fun h => hc0 ((hcond0_0 t).mpr h)
  have e1 : ((t.val % 81 = 0 ∨ t.val % 81 = 1 ∨ t.val % 81 = 9 ∨ t.val % 81 = 17 ∨ t.val % 81 = 25 ∨ t.val % 81 = 33 ∨ t.val % 81 = 41 ∨ t.val % 81 = 49 ∨ t.val % 81 = 57 ∨ t.val % 81 = 65 ∨ t.val % 81 = 73)) := (hcond0_1 t).mp hc1
  have e2 : ¬(t.val % 2 = 0) := fun h => hc2 ((hcond0_2 t).mpr h)
  have e3 : (t.val % 2 = 1) := (hcond0_3 t).mp hc3
  have e4 : ¬((t.val % 81 = 7 ∨ t.val % 81 = 15 ∨ t.val % 81 = 23 ∨ t.val % 81 = 31 ∨ t.val % 81 = 39 ∨ t.val % 81 = 47 ∨ t.val % 81 = 55 ∨ t.val % 81 = 63 ∨ t.val % 81 = 71 ∨ t.val % 81 = 79 ∨ t.val % 81 = 80)) := fun h => hc4 ((hcond0_4 t).mpr h)
  have e5 : ¬((t.val % 81 = 8 ∨ t.val % 81 = 16 ∨ t.val % 81 = 24 ∨ t.val % 81 = 32 ∨ t.val % 81 = 40 ∨ t.val % 81 = 48 ∨ t.val % 81 = 56 ∨ t.val % 81 = 64 ∨ t.val % 81 = 72 ∨ t.val % 81 = 80)) := fun h => hc5 ((hcond0_5 t).mpr h)
  rw [Nat.mod_eq_of_lt hN] at e0 e1 e4 e5
  have hz : t.val ≠ 0 := by omega
  rw [PhiS_castSucc, PhiS_pos R c _ _ hz]
  unfold scr
  iintro ⟨⟨%s, %hs, HS0, HS1, HS2, HS3, Hg⟩, Ho, ⟨%d0, H0⟩, ⟨%d1, H1⟩, ⟨%Y2, -, H2⟩, ⟨%Y3, -, H3⟩, ⟨%Y4, -, H4⟩⟩
  iapply (exec_B c (grid0.coords t) _ (hs0_0 t) _ (hs0_1 t) _ (hs0_2 t) _ (hs0_3 t) _ (hs0_4 t) _ (Memref.isWhole_whole _) _ (Memref.isWhole_whole _) _ (Memref.isWhole_whole _) _ (Memref.isWhole_whole _) hc0 hc1 hc2 hc3 hc4 hc5 (iblk m c 0 t) (iblk m c 1 t) s.acc s.w0 s.w1 s.e Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, ⟨%f2, H2⟩, H3, ⟨%f4, H4⟩, HS0, HS1, HS2, HS3⟩
  have hst : R c (t.val + 1) ⟨accNew (iblk m c 0 t) s.w0 k0_pay108, s.w0, wideNew (iblk m c 1 t), eNew ((min (grid0.coords t 0).val 79) % 8) (iblk m c 1 t) s.e⟩ := by
    refine hR c t s _ (Or.inr hs) ?_
    constructor
    · rfl
    · intro h; exfalso; omega
    · intro h h2; exfalso; omega
    · intro h; rfl
    · intro h; rfl
    · intro h h2; exfalso; omega
    · intro h h2; exfalso; omega
    · intro h h2; rfl
  isplitl [HS0 HS1 HS2 HS3 Hg]
  · iexists (⟨accNew (iblk m c 0 t) s.w0 k0_pay108, s.w0, wideNew (iblk m c 1 t), eNew ((min (grid0.coords t 0).val 79) % 8) (iblk m c 1 t) s.e⟩ : St F)
    isplitr; swap
    · isplitl [HS0]; · iexact HS0
      isplitl [HS1]; · iexact HS1
      isplitl [HS2]; · iexact HS2
      isplitl [HS3]; · iexact HS3
      iexact Hg
    · ipureintro; exact hst
  isplitl [Ho]; · iexact Ho
  isplitl [H0]; · iexact H0
  isplitl [H1]; · iexact H1
  isplitl [H2]
  · iexists _
    isplitr; swap
    · iexact H2
    · ipureintro; exact fun h => absurd h hc5
  isplitl [H3]
  · iexists _
    isplitr; swap
    · iexact H3
    · ipureintro; rfl
  iexists _
  isplitr; swap
  · iexact H4
  · ipureintro; exact fun h => absurd h hc4

set_option maxHeartbeats 1000000 in
/-- The body at a point of kind C. -/
theorem sound_C (hR : Keeps m R) (c : Dev nD) (t : Fin cfg0.N) (hc0 : ¬cond0_0 (grid0.coords t)) (hc1 : ¬cond0_1 (grid0.coords t)) (hc2 : cond0_2 (grid0.coords t)) (hc3 : ¬cond0_3 (grid0.coords t)) (hc4 : ¬cond0_4 (grid0.coords t)) (hc5 : ¬cond0_5 (grid0.coords t)) :
    bodyPre m R c t ⊢ wp frame (wpE (defs₀ (F := F)) Variants.none c none) Set.univ (bodyAt0 t) (fun _ => bodyPost m R c t) := by
  unfold bodyPre bodyPost bodyAt0
  simp only [before0_0, before0_1]
  rw [show (dats m R 0 c).owesAt () t.succ = (dats m R 0 c).owesAt () t.castSucc from rfl,
    show (dats m R 0 c).Φ t.succ = PhiS R c (t.val + 1) t.isLt from rfl, PhiS_succ, after0_0, after0_1]
  have hN : t.val < 81 := lt_of_lt_of_eq t.isLt (show cfg0.N = 81 from N_0)
  have e0 : ¬(t.val % 81 = 0) := fun h => hc0 ((hcond0_0 t).mpr h)
  have e1 : ¬((t.val % 81 = 0 ∨ t.val % 81 = 1 ∨ t.val % 81 = 9 ∨ t.val % 81 = 17 ∨ t.val % 81 = 25 ∨ t.val % 81 = 33 ∨ t.val % 81 = 41 ∨ t.val % 81 = 49 ∨ t.val % 81 = 57 ∨ t.val % 81 = 65 ∨ t.val % 81 = 73)) := fun h => hc1 ((hcond0_1 t).mpr h)
  have e2 : (t.val % 2 = 0) := (hcond0_2 t).mp hc2
  have e3 : ¬(t.val % 2 = 1) := fun h => hc3 ((hcond0_3 t).mpr h)
  have e4 : ¬((t.val % 81 = 7 ∨ t.val % 81 = 15 ∨ t.val % 81 = 23 ∨ t.val % 81 = 31 ∨ t.val % 81 = 39 ∨ t.val % 81 = 47 ∨ t.val % 81 = 55 ∨ t.val % 81 = 63 ∨ t.val % 81 = 71 ∨ t.val % 81 = 79 ∨ t.val % 81 = 80)) := fun h => hc4 ((hcond0_4 t).mpr h)
  have e5 : ¬((t.val % 81 = 8 ∨ t.val % 81 = 16 ∨ t.val % 81 = 24 ∨ t.val % 81 = 32 ∨ t.val % 81 = 40 ∨ t.val % 81 = 48 ∨ t.val % 81 = 56 ∨ t.val % 81 = 64 ∨ t.val % 81 = 72 ∨ t.val % 81 = 80)) := fun h => hc5 ((hcond0_5 t).mpr h)
  rw [Nat.mod_eq_of_lt hN] at e0 e1 e4 e5
  have hz : t.val ≠ 0 := by omega
  rw [PhiS_castSucc, PhiS_pos R c _ _ hz]
  unfold scr
  iintro ⟨⟨%s, %hs, HS0, HS1, HS2, HS3, Hg⟩, Ho, ⟨%d0, H0⟩, ⟨%d1, H1⟩, ⟨%Y2, -, H2⟩, ⟨%Y3, -, H3⟩, ⟨%Y4, -, H4⟩⟩
  iapply (exec_C c (grid0.coords t) _ (hs0_0 t) _ (hs0_1 t) _ (hs0_2 t) _ (hs0_3 t) _ (hs0_4 t) _ (Memref.isWhole_whole _) _ (Memref.isWhole_whole _) _ (Memref.isWhole_whole _) _ (Memref.isWhole_whole _) hc0 hc1 hc2 hc3 hc4 hc5 (iblk m c 0 t) (iblk m c 1 t) s.acc s.w0 s.w1 s.e Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, ⟨%f2, H2⟩, H3, ⟨%f4, H4⟩, HS0, HS1, HS2, HS3⟩
  have hst : R c (t.val + 1) ⟨accNew (iblk m c 0 t) s.w1 s.acc, wideNew (iblk m c 1 t), s.w1, eNew ((min (grid0.coords t 0).val 79) % 8) (iblk m c 1 t) s.e⟩ := by
    refine hR c t s _ (Or.inr hs) ?_
    constructor
    · rfl
    · intro h; rfl
    · intro h h2; rfl
    · intro h; exfalso; omega
    · intro h; exfalso; omega
    · intro h h2; rfl
    · intro h h2; exfalso; omega
    · intro h h2; exfalso; omega
  isplitl [HS0 HS1 HS2 HS3 Hg]
  · iexists (⟨accNew (iblk m c 0 t) s.w1 s.acc, wideNew (iblk m c 1 t), s.w1, eNew ((min (grid0.coords t 0).val 79) % 8) (iblk m c 1 t) s.e⟩ : St F)
    isplitr; swap
    · isplitl [HS0]; · iexact HS0
      isplitl [HS1]; · iexact HS1
      isplitl [HS2]; · iexact HS2
      isplitl [HS3]; · iexact HS3
      iexact Hg
    · ipureintro; exact hst
  isplitl [Ho]; · iexact Ho
  isplitl [H0]; · iexact H0
  isplitl [H1]; · iexact H1
  isplitl [H2]
  · iexists _
    isplitr; swap
    · iexact H2
    · ipureintro; exact fun h => absurd h hc5
  isplitl [H3]
  · iexists _
    isplitr; swap
    · iexact H3
    · ipureintro; rfl
  iexists _
  isplitr; swap
  · iexact H4
  · ipureintro; exact fun h => absurd h hc4

set_option maxHeartbeats 1000000 in
/-- The body at a point of kind D. -/
theorem sound_D (hR : Keeps m R) (c : Dev nD) (t : Fin cfg0.N) (hc0 : ¬cond0_0 (grid0.coords t)) (hc1 : ¬cond0_1 (grid0.coords t)) (hc2 : ¬cond0_2 (grid0.coords t)) (hc3 : cond0_3 (grid0.coords t)) (hc4 : ¬cond0_4 (grid0.coords t)) (hc5 : ¬cond0_5 (grid0.coords t)) :
    bodyPre m R c t ⊢ wp frame (wpE (defs₀ (F := F)) Variants.none c none) Set.univ (bodyAt0 t) (fun _ => bodyPost m R c t) := by
  unfold bodyPre bodyPost bodyAt0
  simp only [before0_0, before0_1]
  rw [show (dats m R 0 c).owesAt () t.succ = (dats m R 0 c).owesAt () t.castSucc from rfl,
    show (dats m R 0 c).Φ t.succ = PhiS R c (t.val + 1) t.isLt from rfl, PhiS_succ, after0_0, after0_1]
  have hN : t.val < 81 := lt_of_lt_of_eq t.isLt (show cfg0.N = 81 from N_0)
  have e0 : ¬(t.val % 81 = 0) := fun h => hc0 ((hcond0_0 t).mpr h)
  have e1 : ¬((t.val % 81 = 0 ∨ t.val % 81 = 1 ∨ t.val % 81 = 9 ∨ t.val % 81 = 17 ∨ t.val % 81 = 25 ∨ t.val % 81 = 33 ∨ t.val % 81 = 41 ∨ t.val % 81 = 49 ∨ t.val % 81 = 57 ∨ t.val % 81 = 65 ∨ t.val % 81 = 73)) := fun h => hc1 ((hcond0_1 t).mpr h)
  have e2 : ¬(t.val % 2 = 0) := fun h => hc2 ((hcond0_2 t).mpr h)
  have e3 : (t.val % 2 = 1) := (hcond0_3 t).mp hc3
  have e4 : ¬((t.val % 81 = 7 ∨ t.val % 81 = 15 ∨ t.val % 81 = 23 ∨ t.val % 81 = 31 ∨ t.val % 81 = 39 ∨ t.val % 81 = 47 ∨ t.val % 81 = 55 ∨ t.val % 81 = 63 ∨ t.val % 81 = 71 ∨ t.val % 81 = 79 ∨ t.val % 81 = 80)) := fun h => hc4 ((hcond0_4 t).mpr h)
  have e5 : ¬((t.val % 81 = 8 ∨ t.val % 81 = 16 ∨ t.val % 81 = 24 ∨ t.val % 81 = 32 ∨ t.val % 81 = 40 ∨ t.val % 81 = 48 ∨ t.val % 81 = 56 ∨ t.val % 81 = 64 ∨ t.val % 81 = 72 ∨ t.val % 81 = 80)) := fun h => hc5 ((hcond0_5 t).mpr h)
  rw [Nat.mod_eq_of_lt hN] at e0 e1 e4 e5
  have hz : t.val ≠ 0 := by omega
  rw [PhiS_castSucc, PhiS_pos R c _ _ hz]
  unfold scr
  iintro ⟨⟨%s, %hs, HS0, HS1, HS2, HS3, Hg⟩, Ho, ⟨%d0, H0⟩, ⟨%d1, H1⟩, ⟨%Y2, -, H2⟩, ⟨%Y3, -, H3⟩, ⟨%Y4, -, H4⟩⟩
  iapply (exec_D c (grid0.coords t) _ (hs0_0 t) _ (hs0_1 t) _ (hs0_2 t) _ (hs0_3 t) _ (hs0_4 t) _ (Memref.isWhole_whole _) _ (Memref.isWhole_whole _) _ (Memref.isWhole_whole _) _ (Memref.isWhole_whole _) hc0 hc1 hc2 hc3 hc4 hc5 (iblk m c 0 t) (iblk m c 1 t) s.acc s.w0 s.w1 s.e Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, ⟨%f2, H2⟩, H3, ⟨%f4, H4⟩, HS0, HS1, HS2, HS3⟩
  have hst : R c (t.val + 1) ⟨accNew (iblk m c 0 t) s.w0 s.acc, s.w0, wideNew (iblk m c 1 t), eNew ((min (grid0.coords t 0).val 79) % 8) (iblk m c 1 t) s.e⟩ := by
    refine hR c t s _ (Or.inr hs) ?_
    constructor
    · rfl
    · intro h; exfalso; omega
    · intro h h2; exfalso; omega
    · intro h; rfl
    · intro h; rfl
    · intro h h2; exfalso; omega
    · intro h h2; rfl
    · intro h h2; exfalso; omega
  isplitl [HS0 HS1 HS2 HS3 Hg]
  · iexists (⟨accNew (iblk m c 0 t) s.w0 s.acc, s.w0, wideNew (iblk m c 1 t), eNew ((min (grid0.coords t 0).val 79) % 8) (iblk m c 1 t) s.e⟩ : St F)
    isplitr; swap
    · isplitl [HS0]; · iexact HS0
      isplitl [HS1]; · iexact HS1
      isplitl [HS2]; · iexact HS2
      isplitl [HS3]; · iexact HS3
      iexact Hg
    · ipureintro; exact hst
  isplitl [Ho]; · iexact Ho
  isplitl [H0]; · iexact H0
  isplitl [H1]; · iexact H1
  isplitl [H2]
  · iexists _
    isplitr; swap
    · iexact H2
    · ipureintro; exact fun h => absurd h hc5
  isplitl [H3]
  · iexists _
    isplitr; swap
    · iexact H3
    · ipureintro; rfl
  iexists _
  isplitr; swap
  · iexact H4
  · ipureintro; exact fun h => absurd h hc4

set_option maxHeartbeats 1000000 in
/-- The body at a point of kind E. -/
theorem sound_E (hR : Keeps m R) (c : Dev nD) (t : Fin cfg0.N) (hc0 : ¬cond0_0 (grid0.coords t)) (hc1 : ¬cond0_1 (grid0.coords t)) (hc2 : ¬cond0_2 (grid0.coords t)) (hc3 : cond0_3 (grid0.coords t)) (hc4 : cond0_4 (grid0.coords t)) (hc5 : ¬cond0_5 (grid0.coords t)) :
    bodyPre m R c t ⊢ wp frame (wpE (defs₀ (F := F)) Variants.none c none) Set.univ (bodyAt0 t) (fun _ => bodyPost m R c t) := by
  unfold bodyPre bodyPost bodyAt0
  simp only [before0_0, before0_1]
  rw [show (dats m R 0 c).owesAt () t.succ = (dats m R 0 c).owesAt () t.castSucc from rfl,
    show (dats m R 0 c).Φ t.succ = PhiS R c (t.val + 1) t.isLt from rfl, PhiS_succ, after0_0, after0_1]
  have hN : t.val < 81 := lt_of_lt_of_eq t.isLt (show cfg0.N = 81 from N_0)
  have e0 : ¬(t.val % 81 = 0) := fun h => hc0 ((hcond0_0 t).mpr h)
  have e1 : ¬((t.val % 81 = 0 ∨ t.val % 81 = 1 ∨ t.val % 81 = 9 ∨ t.val % 81 = 17 ∨ t.val % 81 = 25 ∨ t.val % 81 = 33 ∨ t.val % 81 = 41 ∨ t.val % 81 = 49 ∨ t.val % 81 = 57 ∨ t.val % 81 = 65 ∨ t.val % 81 = 73)) := fun h => hc1 ((hcond0_1 t).mpr h)
  have e2 : ¬(t.val % 2 = 0) := fun h => hc2 ((hcond0_2 t).mpr h)
  have e3 : (t.val % 2 = 1) := (hcond0_3 t).mp hc3
  have e4 : ((t.val % 81 = 7 ∨ t.val % 81 = 15 ∨ t.val % 81 = 23 ∨ t.val % 81 = 31 ∨ t.val % 81 = 39 ∨ t.val % 81 = 47 ∨ t.val % 81 = 55 ∨ t.val % 81 = 63 ∨ t.val % 81 = 71 ∨ t.val % 81 = 79 ∨ t.val % 81 = 80)) := (hcond0_4 t).mp hc4
  have e5 : ¬((t.val % 81 = 8 ∨ t.val % 81 = 16 ∨ t.val % 81 = 24 ∨ t.val % 81 = 32 ∨ t.val % 81 = 40 ∨ t.val % 81 = 48 ∨ t.val % 81 = 56 ∨ t.val % 81 = 64 ∨ t.val % 81 = 72 ∨ t.val % 81 = 80)) := fun h => hc5 ((hcond0_5 t).mpr h)
  rw [Nat.mod_eq_of_lt hN] at e0 e1 e4 e5
  have hz : t.val ≠ 0 := by omega
  rw [PhiS_castSucc, PhiS_pos R c _ _ hz]
  unfold scr
  iintro ⟨⟨%s, %hs, HS0, HS1, HS2, HS3, Hg⟩, Ho, ⟨%d0, H0⟩, ⟨%d1, H1⟩, ⟨%Y2, -, H2⟩, ⟨%Y3, -, H3⟩, ⟨%Y4, -, H4⟩⟩
  iapply (exec_E c (grid0.coords t) _ (hs0_0 t) _ (hs0_1 t) _ (hs0_2 t) _ (hs0_3 t) _ (hs0_4 t) _ (Memref.isWhole_whole _) _ (Memref.isWhole_whole _) _ (Memref.isWhole_whole _) _ (Memref.isWhole_whole _) hc0 hc1 hc2 hc3 hc4 hc5 (iblk m c 0 t) (iblk m c 1 t) s.acc s.w0 s.w1 s.e Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, ⟨%f2, H2⟩, H3, H4, HS0, HS1, HS2, HS3⟩
  have hst : R c (t.val + 1) ⟨accNew (iblk m c 0 t) s.w0 s.acc, s.w0, wideNew (iblk m c 1 t), eNew ((min (grid0.coords t 0).val 79) % 8) (iblk m c 1 t) s.e⟩ := by
    refine hR c t s _ (Or.inr hs) ?_
    constructor
    · rfl
    · intro h; exfalso; omega
    · intro h h2; exfalso; omega
    · intro h; rfl
    · intro h; rfl
    · intro h h2; exfalso; omega
    · intro h h2; rfl
    · intro h h2; exfalso; omega
  isplitl [HS0 HS1 HS2 HS3 Hg]
  · iexists (⟨accNew (iblk m c 0 t) s.w0 s.acc, s.w0, wideNew (iblk m c 1 t), eNew ((min (grid0.coords t 0).val 79) % 8) (iblk m c 1 t) s.e⟩ : St F)
    isplitr; swap
    · isplitl [HS0]; · iexact HS0
      isplitl [HS1]; · iexact HS1
      isplitl [HS2]; · iexact HS2
      isplitl [HS3]; · iexact HS3
      iexact Hg
    · ipureintro; exact hst
  isplitl [Ho]; · iexact Ho
  isplitl [H0]; · iexact H0
  isplitl [H1]; · iexact H1
  isplitl [H2]
  · iexists _
    isplitr; swap
    · iexact H2
    · ipureintro; exact fun h => absurd h hc5
  isplitl [H3]
  · iexists _
    isplitr; swap
    · iexact H3
    · ipureintro; rfl
  iexists _
  isplitr; swap
  · iexact H4
  · ipureintro; exact fun _ => ⟨_, hst, rfl⟩

set_option maxHeartbeats 1000000 in
/-- The body at a point of kind F. -/
theorem sound_F (hR : Keeps m R) (c : Dev nD) (t : Fin cfg0.N) (hc0 : ¬cond0_0 (grid0.coords t)) (hc1 : ¬cond0_1 (grid0.coords t)) (hc2 : cond0_2 (grid0.coords t)) (hc3 : ¬cond0_3 (grid0.coords t)) (hc4 : ¬cond0_4 (grid0.coords t)) (hc5 : cond0_5 (grid0.coords t)) :
    bodyPre m R c t ⊢ wp frame (wpE (defs₀ (F := F)) Variants.none c none) Set.univ (bodyAt0 t) (fun _ => bodyPost m R c t) := by
  unfold bodyPre bodyPost bodyAt0
  simp only [before0_0, before0_1]
  rw [show (dats m R 0 c).owesAt () t.succ = (dats m R 0 c).owesAt () t.castSucc from rfl,
    show (dats m R 0 c).Φ t.succ = PhiS R c (t.val + 1) t.isLt from rfl, PhiS_succ, after0_0, after0_1]
  have hN : t.val < 81 := lt_of_lt_of_eq t.isLt (show cfg0.N = 81 from N_0)
  have e0 : ¬(t.val % 81 = 0) := fun h => hc0 ((hcond0_0 t).mpr h)
  have e1 : ¬((t.val % 81 = 0 ∨ t.val % 81 = 1 ∨ t.val % 81 = 9 ∨ t.val % 81 = 17 ∨ t.val % 81 = 25 ∨ t.val % 81 = 33 ∨ t.val % 81 = 41 ∨ t.val % 81 = 49 ∨ t.val % 81 = 57 ∨ t.val % 81 = 65 ∨ t.val % 81 = 73)) := fun h => hc1 ((hcond0_1 t).mpr h)
  have e2 : (t.val % 2 = 0) := (hcond0_2 t).mp hc2
  have e3 : ¬(t.val % 2 = 1) := fun h => hc3 ((hcond0_3 t).mpr h)
  have e4 : ¬((t.val % 81 = 7 ∨ t.val % 81 = 15 ∨ t.val % 81 = 23 ∨ t.val % 81 = 31 ∨ t.val % 81 = 39 ∨ t.val % 81 = 47 ∨ t.val % 81 = 55 ∨ t.val % 81 = 63 ∨ t.val % 81 = 71 ∨ t.val % 81 = 79 ∨ t.val % 81 = 80)) := fun h => hc4 ((hcond0_4 t).mpr h)
  have e5 : ((t.val % 81 = 8 ∨ t.val % 81 = 16 ∨ t.val % 81 = 24 ∨ t.val % 81 = 32 ∨ t.val % 81 = 40 ∨ t.val % 81 = 48 ∨ t.val % 81 = 56 ∨ t.val % 81 = 64 ∨ t.val % 81 = 72 ∨ t.val % 81 = 80)) := (hcond0_5 t).mp hc5
  rw [Nat.mod_eq_of_lt hN] at e0 e1 e4 e5
  have hz : t.val ≠ 0 := by omega
  rw [PhiS_castSucc, PhiS_pos R c _ _ hz]
  unfold scr
  iintro ⟨⟨%s, %hs, HS0, HS1, HS2, HS3, Hg⟩, Ho, ⟨%d0, H0⟩, ⟨%d1, H1⟩, ⟨%Y2, -, H2⟩, ⟨%Y3, -, H3⟩, ⟨%Y4, -, H4⟩⟩
  iapply (exec_F c (grid0.coords t) _ (hs0_0 t) _ (hs0_1 t) _ (hs0_2 t) _ (hs0_3 t) _ (hs0_4 t) _ (Memref.isWhole_whole _) _ (Memref.isWhole_whole _) _ (Memref.isWhole_whole _) _ (Memref.isWhole_whole _) hc0 hc1 hc2 hc3 hc4 hc5 (iblk m c 0 t) (iblk m c 1 t) s.acc s.w0 s.w1 s.e Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%f4, H4⟩, HS0, HS1, HS2, HS3⟩
  have hst : R c (t.val + 1) ⟨accNew (iblk m c 0 t) s.w1 s.acc, wideNew (iblk m c 1 t), s.w1, eNew ((min (grid0.coords t 0).val 79) % 8) (iblk m c 1 t) s.e⟩ := by
    refine hR c t s _ (Or.inr hs) ?_
    constructor
    · rfl
    · intro h; rfl
    · intro h h2; rfl
    · intro h; exfalso; omega
    · intro h; exfalso; omega
    · intro h h2; rfl
    · intro h h2; exfalso; omega
    · intro h h2; exfalso; omega
  isplitl [HS0 HS1 HS2 HS3 Hg]
  · iexists (⟨accNew (iblk m c 0 t) s.w1 s.acc, wideNew (iblk m c 1 t), s.w1, eNew ((min (grid0.coords t 0).val 79) % 8) (iblk m c 1 t) s.e⟩ : St F)
    isplitr; swap
    · isplitl [HS0]; · iexact HS0
      isplitl [HS1]; · iexact HS1
      isplitl [HS2]; · iexact HS2
      isplitl [HS3]; · iexact HS3
      iexact Hg
    · ipureintro; exact hst
  isplitl [Ho]; · iexact Ho
  isplitl [H0]; · iexact H0
  isplitl [H1]; · iexact H1
  isplitl [H2]
  · iexists _
    isplitr; swap
    · iexact H2
    · ipureintro; exact fun _ => ⟨_, hst, rfl⟩
  isplitl [H3]
  · iexists _
    isplitr; swap
    · iexact H3
    · ipureintro; rfl
  iexists _
  isplitr; swap
  · iexact H4
  · ipureintro; exact fun h => absurd h hc4

set_option maxHeartbeats 1000000 in
/-- The body at a point of kind G. -/
theorem sound_G (hR : Keeps m R) (c : Dev nD) (t : Fin cfg0.N) (hc0 : ¬cond0_0 (grid0.coords t)) (hc1 : ¬cond0_1 (grid0.coords t)) (hc2 : cond0_2 (grid0.coords t)) (hc3 : ¬cond0_3 (grid0.coords t)) (hc4 : cond0_4 (grid0.coords t)) (hc5 : cond0_5 (grid0.coords t)) :
    bodyPre m R c t ⊢ wp frame (wpE (defs₀ (F := F)) Variants.none c none) Set.univ (bodyAt0 t) (fun _ => bodyPost m R c t) := by
  unfold bodyPre bodyPost bodyAt0
  simp only [before0_0, before0_1]
  rw [show (dats m R 0 c).owesAt () t.succ = (dats m R 0 c).owesAt () t.castSucc from rfl,
    show (dats m R 0 c).Φ t.succ = PhiS R c (t.val + 1) t.isLt from rfl, PhiS_succ, after0_0, after0_1]
  have hN : t.val < 81 := lt_of_lt_of_eq t.isLt (show cfg0.N = 81 from N_0)
  have e0 : ¬(t.val % 81 = 0) := fun h => hc0 ((hcond0_0 t).mpr h)
  have e1 : ¬((t.val % 81 = 0 ∨ t.val % 81 = 1 ∨ t.val % 81 = 9 ∨ t.val % 81 = 17 ∨ t.val % 81 = 25 ∨ t.val % 81 = 33 ∨ t.val % 81 = 41 ∨ t.val % 81 = 49 ∨ t.val % 81 = 57 ∨ t.val % 81 = 65 ∨ t.val % 81 = 73)) := fun h => hc1 ((hcond0_1 t).mpr h)
  have e2 : (t.val % 2 = 0) := (hcond0_2 t).mp hc2
  have e3 : ¬(t.val % 2 = 1) := fun h => hc3 ((hcond0_3 t).mpr h)
  have e4 : ((t.val % 81 = 7 ∨ t.val % 81 = 15 ∨ t.val % 81 = 23 ∨ t.val % 81 = 31 ∨ t.val % 81 = 39 ∨ t.val % 81 = 47 ∨ t.val % 81 = 55 ∨ t.val % 81 = 63 ∨ t.val % 81 = 71 ∨ t.val % 81 = 79 ∨ t.val % 81 = 80)) := (hcond0_4 t).mp hc4
  have e5 : ((t.val % 81 = 8 ∨ t.val % 81 = 16 ∨ t.val % 81 = 24 ∨ t.val % 81 = 32 ∨ t.val % 81 = 40 ∨ t.val % 81 = 48 ∨ t.val % 81 = 56 ∨ t.val % 81 = 64 ∨ t.val % 81 = 72 ∨ t.val % 81 = 80)) := (hcond0_5 t).mp hc5
  rw [Nat.mod_eq_of_lt hN] at e0 e1 e4 e5
  have hz : t.val ≠ 0 := by omega
  rw [PhiS_castSucc, PhiS_pos R c _ _ hz]
  unfold scr
  iintro ⟨⟨%s, %hs, HS0, HS1, HS2, HS3, Hg⟩, Ho, ⟨%d0, H0⟩, ⟨%d1, H1⟩, ⟨%Y2, -, H2⟩, ⟨%Y3, -, H3⟩, ⟨%Y4, -, H4⟩⟩
  iapply (exec_G c (grid0.coords t) _ (hs0_0 t) _ (hs0_1 t) _ (hs0_2 t) _ (hs0_3 t) _ (hs0_4 t) _ (Memref.isWhole_whole _) _ (Memref.isWhole_whole _) _ (Memref.isWhole_whole _) _ (Memref.isWhole_whole _) hc0 hc1 hc2 hc3 hc4 hc5 (iblk m c 0 t) (iblk m c 1 t) s.acc s.w0 s.w1 s.e Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  have hst : R c (t.val + 1) ⟨accNew (iblk m c 0 t) s.w1 s.acc, wideNew (iblk m c 1 t), s.w1, eNew ((min (grid0.coords t 0).val 79) % 8) (iblk m c 1 t) s.e⟩ := by
    refine hR c t s _ (Or.inr hs) ?_
    constructor
    · rfl
    · intro h; rfl
    · intro h h2; rfl
    · intro h; exfalso; omega
    · intro h; exfalso; omega
    · intro h h2; rfl
    · intro h h2; exfalso; omega
    · intro h h2; exfalso; omega
  isplitl [HS0 HS1 HS2 HS3 Hg]
  · iexists (⟨accNew (iblk m c 0 t) s.w1 s.acc, wideNew (iblk m c 1 t), s.w1, eNew ((min (grid0.coords t 0).val 79) % 8) (iblk m c 1 t) s.e⟩ : St F)
    isplitr; swap
    · isplitl [HS0]; · iexact HS0
      isplitl [HS1]; · iexact HS1
      isplitl [HS2]; · iexact HS2
      isplitl [HS3]; · iexact HS3
      iexact Hg
    · ipureintro; exact hst
  isplitl [Ho]; · iexact Ho
  isplitl [H0]; · iexact H0
  isplitl [H1]; · iexact H1
  isplitl [H2]
  · iexists _
    isplitr; swap
    · iexact H2
    · ipureintro; exact fun _ => ⟨_, hst, rfl⟩
  isplitl [H3]
  · iexists _
    isplitr; swap
    · iexact H3
    · ipureintro; rfl
  iexists _
  isplitr; swap
  · iexact H4
  · ipureintro; exact fun _ => ⟨_, hst, rfl⟩

/-- The kinds of points. -/
theorem kinds : ∀ t : Fin cfg0.N, (cond0_0 (grid0.coords t) ∧ cond0_1 (grid0.coords t) ∧ cond0_2 (grid0.coords t) ∧ ¬cond0_3 (grid0.coords t) ∧ ¬cond0_4 (grid0.coords t) ∧ ¬cond0_5 (grid0.coords t)) ∨ (¬cond0_0 (grid0.coords t) ∧ cond0_1 (grid0.coords t) ∧ ¬cond0_2 (grid0.coords t) ∧ cond0_3 (grid0.coords t) ∧ ¬cond0_4 (grid0.coords t) ∧ ¬cond0_5 (grid0.coords t)) ∨ (¬cond0_0 (grid0.coords t) ∧ ¬cond0_1 (grid0.coords t) ∧ cond0_2 (grid0.coords t) ∧ ¬cond0_3 (grid0.coords t) ∧ ¬cond0_4 (grid0.coords t) ∧ ¬cond0_5 (grid0.coords t)) ∨ (¬cond0_0 (grid0.coords t) ∧ ¬cond0_1 (grid0.coords t) ∧ ¬cond0_2 (grid0.coords t) ∧ cond0_3 (grid0.coords t) ∧ ¬cond0_4 (grid0.coords t) ∧ ¬cond0_5 (grid0.coords t)) ∨ (¬cond0_0 (grid0.coords t) ∧ ¬cond0_1 (grid0.coords t) ∧ ¬cond0_2 (grid0.coords t) ∧ cond0_3 (grid0.coords t) ∧ cond0_4 (grid0.coords t) ∧ ¬cond0_5 (grid0.coords t)) ∨ (¬cond0_0 (grid0.coords t) ∧ ¬cond0_1 (grid0.coords t) ∧ cond0_2 (grid0.coords t) ∧ ¬cond0_3 (grid0.coords t) ∧ ¬cond0_4 (grid0.coords t) ∧ cond0_5 (grid0.coords t)) ∨ (¬cond0_0 (grid0.coords t) ∧ ¬cond0_1 (grid0.coords t) ∧ cond0_2 (grid0.coords t) ∧ ¬cond0_3 (grid0.coords t) ∧ cond0_4 (grid0.coords t) ∧ cond0_5 (grid0.coords t)) :=
  (by decide +kernel : ∀ t : Fin grid0.N, (cond0_0 (grid0.coords t) ∧ cond0_1 (grid0.coords t) ∧ cond0_2 (grid0.coords t) ∧ ¬cond0_3 (grid0.coords t) ∧ ¬cond0_4 (grid0.coords t) ∧ ¬cond0_5 (grid0.coords t)) ∨ (¬cond0_0 (grid0.coords t) ∧ cond0_1 (grid0.coords t) ∧ ¬cond0_2 (grid0.coords t) ∧ cond0_3 (grid0.coords t) ∧ ¬cond0_4 (grid0.coords t) ∧ ¬cond0_5 (grid0.coords t)) ∨ (¬cond0_0 (grid0.coords t) ∧ ¬cond0_1 (grid0.coords t) ∧ cond0_2 (grid0.coords t) ∧ ¬cond0_3 (grid0.coords t) ∧ ¬cond0_4 (grid0.coords t) ∧ ¬cond0_5 (grid0.coords t)) ∨ (¬cond0_0 (grid0.coords t) ∧ ¬cond0_1 (grid0.coords t) ∧ ¬cond0_2 (grid0.coords t) ∧ cond0_3 (grid0.coords t) ∧ ¬cond0_4 (grid0.coords t) ∧ ¬cond0_5 (grid0.coords t)) ∨ (¬cond0_0 (grid0.coords t) ∧ ¬cond0_1 (grid0.coords t) ∧ ¬cond0_2 (grid0.coords t) ∧ cond0_3 (grid0.coords t) ∧ cond0_4 (grid0.coords t) ∧ ¬cond0_5 (grid0.coords t)) ∨ (¬cond0_0 (grid0.coords t) ∧ ¬cond0_1 (grid0.coords t) ∧ cond0_2 (grid0.coords t) ∧ ¬cond0_3 (grid0.coords t) ∧ ¬cond0_4 (grid0.coords t) ∧ cond0_5 (grid0.coords t)) ∨ (¬cond0_0 (grid0.coords t) ∧ ¬cond0_1 (grid0.coords t) ∧ cond0_2 (grid0.coords t) ∧ ¬cond0_3 (grid0.coords t) ∧ cond0_4 (grid0.coords t) ∧ cond0_5 (grid0.coords t)))

/-- The body at any point. -/
theorem sound_body (hR : Keeps m R) (c : Dev nD) (t : Fin cfg0.N) :
    bodyPre m R c t ⊢ wp frame (wpE (defs₀ (F := F)) Variants.none c none) Set.univ (bodyAt0 t) (fun _ => bodyPost m R c t) := by
  rcases kinds t with ⟨c0, c1, c2, c3, c4, c5⟩ | ⟨c0, c1, c2, c3, c4, c5⟩ | ⟨c0, c1, c2, c3, c4, c5⟩ | ⟨c0, c1, c2, c3, c4, c5⟩ | ⟨c0, c1, c2, c3, c4, c5⟩ | ⟨c0, c1, c2, c3, c4, c5⟩ | ⟨c0, c1, c2, c3, c4, c5⟩
  · exact sound_A hR c t c0 c1 c2 c3 c4 c5
  · exact sound_B hR c t c0 c1 c2 c3 c4 c5
  · exact sound_C hR c t c0 c1 c2 c3 c4 c5
  · exact sound_D hR c t c0 c1 c2 c3 c4 c5
  · exact sound_E hR c t c0 c1 c2 c3 c4 c5
  · exact sound_F hR c t c0 c1 c2 c3 c4 c5
  · exact sound_G hR c t c0 c1 c2 c3 c4 c5

theorem defs₀_row (t : Fin cfg0.N) : defs₀ (F := F) .tc cfg0.body (cfg0.bodyArgs t (cfg0.slots t)) = bodyAt0 t := by
  unfold defs₀; rw [Defs.onTc_tc]

/-- The body obligation, relationally. -/
theorem body_obligation (hR : Keeps m R) (c : Dev nD) :
    Pipeline.BodyObligationRel (dats (F := F) m R 0 c) (defs₀ (F := F)) Variants.none () Set.univ results0 (Rl m R c) := fun t => by
  rw [bigSep_W0, bigSep_W0, defs₀_row]
  exact triple_restated (sound_body hR c t) rfl .rfl fun _ => .rfl

theorem hin (c : Dev nD) : Pipeline.ΦA spec0 c ⊢ (dats m R 0 c).Φ 0 := by
  rw [show (dats m R 0 c).Φ 0 = PhiS R c 0 (Nat.zero_le _) from rfl, PhiS_zero R c 0 _ rfl]

theorem hout (c : Dev nD) : (dats m R 0 c).Φ (Fin.last cfg0.N) ⊢ Pipeline.ΦA spec0 c := by
  rw [show (dats m R 0 c).Φ (Fin.last cfg0.N) = PhiS R c cfg0.N (Nat.le_refl _) from rfl, PhiS_pos R c _ _ (by rw [show cfg0.N = 81 from N_0]; decide), PhiA0_eq]
  unfold scr
  iintro ⟨%s, -, HS0, HS1, HS2, HS3, Hg⟩
  isplitr [Hg]; swap
  · iexact Hg
  isplitl [HS0]; · iexists _; iexact HS0
  isplitl [HS1]; · iexists _; iexact HS1
  isplitl [HS2]; · iexists _; iexact HS2
  iexists _; iexact HS3

set_option backward.isDefEq.respectTransparency.types false in
/-- The run of the call. -/
theorem run_main (hR : Keeps m R) : θ_run defs (onTc (τ := τ) (main (F := F))) (s₀ m ρ)
    (fun r => (Pipeline.RDat.FramePost (cfgs 0) (fun c => (dats m R 0 c).toRRel results0 (Rl m R c)) (V m)) r ∧ r.2.sem = fun _ => 0) :=
  Pipeline.RDat.θ_run_frame_track (Q' := _) cfgs (0 : Fin 1) launch0 defs₀ Variants.none (fun c => (dats m R 0 c).toRRel results0 (Rl m R c)) m ρ main
    (hbody := fun c => (body_obligation hR c).toRRel) (hshare := fun c => (dats m R 0 c).share_full fun _ => rfl)
    (howed := fun _ _ => rfl) (V := V m) (hmain := hmain m Variants.none) (hA := A_eq m R) (hin := hin (m := m) (R := R)) (hout := hout (m := m) (R := R))

/-- The arguments after the run. -/
theorem unchanged_of {r : PUnit × MemSt nD τ sig (Elt F)}
    (h : Pipeline.RDat.FramePost (cfgs 0) (fun c => (dats m R 0 c).toRRel results0 (Rl m R c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨(Pipeline.RDat.FramePost.arr_in h c 0 rfl).trans ((A_eq m R c 0).trans (V_main_arg0 m c)),
    (Pipeline.RDat.FramePost.arr_in h c 1 rfl).trans ((A_eq m R c 1).trans (V_main_arg1 m c))⟩

/-- The run leaves the arguments and the semaphores as they were. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨unchanged_of h.1, h.2⟩) (run_main (R := fun _ _ _ => True) ρ fun _ _ _ _ _ _ => trivial)

end Cert.KernelYIdeal.Hand

end
-- ==== Proof.Quant.lean ====
/- The exponent of one block, two ways: the kernel's bitwise search for the exponent field of `t`, and the
   reference's `floor (log t / log 2) + 1`. Over the extended reals they are the same number, and the powers of two
   built from it by shifting it into the exponent field are those the reference computes by `exp2`. -/
module

public import Idealize.ShloMosaic.PureOps.Ideal
public import Idealize.ShloMosaic.Lib.Pipeline.ValueKit

@[expose] public section

noncomputable section

namespace Cert.Quant

open Idealize.ShloMosaic

/-- The float whose exponent field is `n` and whose other bits are zero. -/
def pw (n : BitVec 32) : EReal := Ideal.ofBits .f32 (IntOp.shli .vector n 23#32)

/-- One step of the search: `k` is added to `n` unless the float of exponent field `n + k` is above `t`. -/
def bstep (t : EReal) (n k : BitVec 32) : BitVec 32 :=
  Scalar.select (Ideal.cmp .olt t (pw (IntOp.addi n k))) n (IntOp.addi n k)

/-- The search over the first two bits. -/
def field2 (t : EReal) : BitVec 32 := bstep t (bstep t 0#32 128#32) 64#32
/-- The search over the next five bits. -/
def field5 (t : EReal) (n : BitVec 32) : BitVec 32 :=
  bstep t (bstep t (bstep t (bstep t (bstep t n 32#32) 16#32) 8#32) 4#32) 2#32
/-- The whole search. -/
def field (t : EReal) : BitVec 32 := bstep t (field5 t (field2 t)) 1#32

/-- The biased exponent of the scale, from the exponent field. -/
def expOf (n : BitVec 32) : BitVec 32 := Scalar.select (IntOp.cmpi .eq n 0#32) 127#32 (IntOp.addi n 1#32)

/-- The kernel's biased exponent. -/
def kerE (t : EReal) : BitVec 32 := expOf (field t)

/-- The reference's exponent. -/
def refE (t : EReal) : BitVec 32 :=
  Scalar.select (Ideal.cmp .olt t (Ideal.ofBits .f32 0x00800000#32)) 0#32
    (IntOp.addi (Ideal.fptosi 32 (Ideal.liftRound Int.floor (Ideal.div (Ideal.log t) (Ideal.log (Ideal.ofBits .f32 0x40000000#32))))) 1#32)

theorem ofBits_f32 (b : BitVec 32) : Ideal.ofBits .f32 b = Ideal.ieee 8 23 b := rfl

theorem bits_facts : ∀ n : Fin 255, (BitVec.ofNat 32 n.val <<< (23#32)).extractLsb' 31 1 = 0#1
    ∧ ((BitVec.ofNat 32 n.val <<< (23#32)).extractLsb' 23 8).toNat = n.val
    ∧ ((BitVec.ofNat 32 n.val <<< (23#32)).extractLsb' 0 23).toNat = 0 := by decide +kernel

theorem pw_eq (n : ℕ) (h1 : 1 ≤ n) (h2 : n ≤ 254) : pw (BitVec.ofNat 32 n) = (((2 : ℝ) ^ ((n : ℤ) - 127) : ℝ) : EReal) := by
  obtain ⟨a, b, c⟩ := bits_facts ⟨n, by omega⟩
  have hs : IntOp.shli .vector (BitVec.ofNat 32 n) 23#32 = BitVec.ofNat 32 n <<< (23#32) := by
    unfold IntOp.shli; exact if_pos (by decide)
  unfold pw
  rw [hs, ofBits_f32]
  generalize BitVec.ofNat 32 n <<< (23#32) = x at a b c
  unfold Ideal.ieee
  simp only [b, c, a]
  rw [if_neg (by omega), if_neg (by omega)]
  congr 1
  have : ((n : ℤ) - (2 ^ (8 - 1) - 1) - (23 : ℕ)) = ((n : ℤ) - 127) - 23 := by norm_num
  rw [this, zpow_sub₀ (by norm_num)]
  norm_num
  ring

theorem pw_255 : pw 255#32 = ⊤ := by
  have hs : IntOp.shli .vector 255#32 23#32 = 0x7F800000#32 := by decide
  unfold pw
  rw [hs, ofBits_f32]
  simp [Ideal.ieee]

/-- One step in numbers. -/
theorem bstep_eq (r : ℝ) (hr : r < (2 : ℝ) ^ (120 : ℤ)) (n k : ℕ) (hk : 1 ≤ k) (h : n + k ≤ 255) :
    bstep (r : EReal) (BitVec.ofNat 32 n) (BitVec.ofNat 32 k)
      = BitVec.ofNat 32 (if r < (2 : ℝ) ^ (((n + k : ℕ) : ℤ) - 127) then n else n + k) := by
  have hadd : IntOp.addi (BitVec.ofNat 32 n) (BitVec.ofNat 32 k) = BitVec.ofNat 32 (n + k) := (BitVec.ofNat_add n k).symm
  have hc : Ideal.cmp .olt (r : EReal) (pw (BitVec.ofNat 32 (n + k)))
      = BitVec.ofBool (decide (r < (2 : ℝ) ^ (((n + k : ℕ) : ℤ) - 127))) := by
    show BitVec.ofBool (decide ((r : EReal) < pw (BitVec.ofNat 32 (n + k)))) = _
    congr 1
    rw [decide_eq_decide]
    by_cases h5 : n + k = 255
    · rw [h5, show BitVec.ofNat 32 255 = 255#32 from rfl, pw_255]
      refine ⟨fun _ => hr.trans ?_, fun _ => EReal.coe_lt_top r⟩
      exact zpow_lt_zpow_right₀ (by norm_num) (by norm_num)
    · rw [pw_eq (n + k) (by omega) (by omega), EReal.coe_lt_coe_iff]
  unfold bstep
  rw [hadd, hc]
  unfold Scalar.select
  by_cases hlt : r < (2 : ℝ) ^ (((n + k : ℕ) : ℤ) - 127)
  · rw [decide_eq_true hlt, if_pos hlt]; rfl
  · rw [decide_eq_false hlt, if_neg hlt]; rfl

/-- What the search has found when `w` candidates are left. -/
def Found (r : ℝ) (w : ℕ) (x : BitVec 32) : Prop :=
  ∃ n : ℕ, x = BitVec.ofNat 32 n ∧ n + w ≤ 256 ∧ (n = 0 ∨ (2 : ℝ) ^ ((n : ℤ) - 127) ≤ r) ∧ r < (2 : ℝ) ^ (((n + w : ℕ) : ℤ) - 127)

theorem Found.step {r : ℝ} (hr : r < (2 : ℝ) ^ (120 : ℤ)) {k : ℕ} (hk : 1 ≤ k) {x : BitVec 32} (h : Found r (2 * k) x) :
    Found r k (bstep (r : EReal) x (BitVec.ofNat 32 k)) := by
  obtain ⟨n, rfl, hn, hlo, hhi⟩ := h
  rw [bstep_eq r hr n k hk (by omega)]
  by_cases hlt : r < (2 : ℝ) ^ (((n + k : ℕ) : ℤ) - 127)
  · rw [if_pos hlt]
    exact ⟨n, rfl, by omega, hlo, hlt⟩
  · rw [if_neg hlt]
    exact ⟨n + k, rfl, by omega, Or.inr (not_lt.mp hlt), by rw [show n + k + k = n + 2 * k by omega]; exact hhi⟩

theorem field_found {r : ℝ} (hr : r < (2 : ℝ) ^ (120 : ℤ)) : Found r 1 (field (r : EReal)) := by
  have h0 : Found r (2 * 128) 0#32 := ⟨0, rfl, by omega, Or.inl rfl, hr.trans (zpow_lt_zpow_right₀ (by norm_num) (by norm_num))⟩
  exact ((((((((h0.step hr (by norm_num)).step (k := 64) hr (by norm_num)).step (k := 32) hr (by norm_num)).step (k := 16) hr (by norm_num)).step
    (k := 8) hr (by norm_num)).step (k := 4) hr (by norm_num)).step (k := 2) hr (by norm_num)).step (k := 1) hr (by norm_num))

theorem min_normal : Ideal.ofBits .f32 0x00800000#32 = (((2 : ℝ) ^ (-126 : ℤ) : ℝ) : EReal) := by
  have h := pw_eq 1 (by norm_num) (by norm_num)
  have hs : IntOp.shli .vector (BitVec.ofNat 32 1) 23#32 = 0x00800000#32 := by decide
  unfold pw at h
  rw [hs] at h
  rw [h]; norm_num

theorem two : Ideal.ofBits .f32 0x40000000#32 = ((2 : ℝ) : EReal) := by
  have h := pw_eq 128 (by norm_num) (by norm_num)
  have hs : IntOp.shli .vector (BitVec.ofNat 32 128) 23#32 = 0x40000000#32 := by decide
  unfold pw at h
  rw [hs] at h
  rw [h]; norm_num

theorem floor_log {r : ℝ} {n : ℤ} (h1 : (2 : ℝ) ^ n ≤ r) (h2 : r < (2 : ℝ) ^ (n + 1)) : ⌊Real.log r / Real.log 2⌋ = n := by
  have hr : 0 < r := lt_of_lt_of_le (zpow_pos (by norm_num) _) h1
  have hl : 0 < Real.log 2 := Real.log_pos (by norm_num)
  rw [Int.floor_eq_iff, le_div_iff₀ hl, div_lt_iff₀ hl]
  constructor
  · rw [← Real.log_zpow]; exact Real.log_le_log (zpow_pos (by norm_num) _) h1
  · have := Real.log_lt_log hr h2
    rw [Real.log_zpow] at this
    push_cast at this ⊢
    exact this

/-- The two exponents agree. -/
theorem exps {r : ℝ} (h0 : 0 ≤ r) (hr : r < (2 : ℝ) ^ (120 : ℤ)) :
    ∃ E : ℕ, 2 ≤ E ∧ E ≤ 247 ∧ kerE (r : EReal) = BitVec.ofNat 32 E ∧ refE (r : EReal) = BitVec.ofInt 32 ((E : ℤ) - 127) := by
  obtain ⟨n, hx, hn, hlo, hhi⟩ := field_found hr
  have hn' : n ≤ 246 := by
    rcases hlo with h | h
    · omega
    · have := (zpow_lt_zpow_iff_right₀ (by norm_num : (1 : ℝ) < 2)).mp (h.trans_lt hr)
      omega
  unfold kerE refE
  rw [hx, min_normal, two]
  have hcmp : Ideal.cmp .olt (r : EReal) (((2 : ℝ) ^ (-126 : ℤ) : ℝ) : EReal) = BitVec.ofBool (decide (r < (2 : ℝ) ^ (-126 : ℤ))) := by
    show BitVec.ofBool (decide _) = _
    congr 1
    rw [decide_eq_decide, EReal.coe_lt_coe_iff]
  rw [hcmp]
  by_cases hn0 : n = 0
  · subst hn0
    have hlt : r < (2 : ℝ) ^ (-126 : ℤ) := by simpa using hhi
    refine ⟨127, by norm_num, by norm_num, rfl, ?_⟩
    rw [decide_eq_true hlt]
    rfl
  · have hlo' := hlo.resolve_left hn0
    have hge : ¬ r < (2 : ℝ) ^ (-126 : ℤ) := by
      rw [not_lt]
      refine le_trans ?_ hlo'
      exact zpow_le_zpow_right₀ (by norm_num) (by omega)
    refine ⟨n + 1, by omega, by omega, ?_, ?_⟩
    · unfold expOf Scalar.select
      rw [if_neg]
      · exact (BitVec.ofNat_add n 1).symm
      · have hne : (BitVec.ofNat 32 n == 0#32) = false := by
          rw [beq_eq_false_iff_ne]
          intro h
          have := congrArg BitVec.toNat h
          simp only [BitVec.toNat_ofNat] at this
          omega
        show ¬ BitVec.ofBool (BitVec.ofNat 32 n == 0#32) = 1
        rw [hne]; decide
    · rw [decide_eq_false hge]
      have hrpos : 0 < r := lt_of_lt_of_le (zpow_pos (by norm_num) _) hlo'
      rw [Ideal.log_coe, Ideal.log_coe, if_neg (by linarith), if_neg (by norm_num)]
      have hl2 : Real.log 2 ≠ 0 := (Real.log_pos (by norm_num)).ne'
      rw [Ideal.div_coe hl2, ← EReal.coe_mul, mul_one_div, Ideal.liftRound_coe]
      rw [floor_log (n := (n : ℤ) - 127) hlo' (by
        have : ((n : ℤ) - 127 + 1) = (((n + 1 : ℕ) : ℤ) - 127) := by push_cast; ring
        rw [this]; exact hhi)]
      unfold Ideal.fptosi
      rw [Ideal.toIntClamped_coe]
      have hfl : (if (0 : ℝ) ≤ (((n : ℤ) - 127 : ℤ) : ℝ) then ⌊(((n : ℤ) - 127 : ℤ) : ℝ)⌋ else ⌈(((n : ℤ) - 127 : ℤ) : ℝ)⌉) = (n : ℤ) - 127 := by
        split <;> simp only [Int.floor_intCast, Int.ceil_intCast]
      rw [hfl]
      have hcl : max (-(2 ^ (32 - 1) : ℕ) : ℤ) (min ((2 ^ (32 - 1) : ℕ) - 1) ((n : ℤ) - 127)) = (n : ℤ) - 127 := by norm_num; omega
      rw [hcl]
      show BitVec.ofInt 32 ((n : ℤ) - 127) + 1#32 = _
      rw [show ((n + 1 : ℕ) : ℤ) - 127 = ((n : ℤ) - 127) + 1 by push_cast; ring, BitVec.ofInt_add]
      rfl

/-- What is computed from the exponents agrees: the biased exponent, the factor the values are scaled by, the factor
    they are scaled back by. -/
theorem agree {r : ℝ} (h0 : 0 ≤ r) (hr : r < (2 : ℝ) ^ (120 : ℤ)) :
    kerE (r : EReal) = IntOp.addi (refE (r : EReal)) 127#32
    ∧ pw (IntOp.subi 254#32 (kerE (r : EReal))) = Ideal.exp2 (0 - (((refE (r : EReal)).toInt : ℝ) : EReal))
    ∧ pw (kerE (r : EReal))
      = Ideal.exp2 (((IntOp.subi (((IntOp.addi (refE (r : EReal)) 127#32).setWidth 8).setWidth 32) 127#32).toInt : ℝ) : EReal) := by
  obtain ⟨E, h2, h247, hk, he⟩ := exps h0 hr
  have hadd : IntOp.addi (BitVec.ofInt 32 ((E : ℤ) - 127)) 127#32 = BitVec.ofNat 32 E := by
    show BitVec.ofInt 32 ((E : ℤ) - 127) + 127#32 = _
    rw [show (127#32 : BitVec 32) = BitVec.ofInt 32 127 from rfl, ← BitVec.ofInt_add, sub_add_cancel, BitVec.ofInt_natCast]
  have hint : (BitVec.ofInt 32 ((E : ℤ) - 127)).toInt = (E : ℤ) - 127 := by
    rw [BitVec.toInt_ofInt]
    exact Int.bmod_eq_of_le (by norm_num; omega) (by norm_num; omega)
  rw [hk, he, hadd, hint]
  refine ⟨rfl, ?_, ?_⟩
  · have hsub : IntOp.subi 254#32 (BitVec.ofNat 32 E) = BitVec.ofNat 32 (254 - E) := by
      show 254#32 - BitVec.ofNat 32 E = _
      apply BitVec.eq_of_toNat_eq
      rw [BitVec.toNat_sub]
      simp only [BitVec.toNat_ofNat]
      omega
    rw [hsub, pw_eq (254 - E) (by omega) (by omega), zero_sub, ← EReal.coe_neg, Ideal.exp2_coe]
    congr 1
    show _ = (2 : ℝ) ^ (-(((E : ℤ) - 127 : ℤ) : ℝ))
    rw [← Int.cast_neg, Real.rpow_intCast]
    congr 1
    omega
  · have hw : IntOp.subi (((BitVec.ofNat 32 E).setWidth 8).setWidth 32) 127#32 = BitVec.ofInt 32 ((E : ℤ) - 127) := by
      have h1 : ((BitVec.ofNat 32 E).setWidth 8).setWidth 32 = BitVec.ofNat 32 E := by
        apply BitVec.eq_of_toNat_eq
        simp only [BitVec.toNat_setWidth, BitVec.toNat_ofNat]
        omega
      rw [h1, ← hadd]
      show BitVec.ofInt 32 ((E : ℤ) - 127) + 127#32 - 127#32 = _
      exact BitVec.add_sub_cancel _ _
    rw [hw, hint, pw_eq E (by omega) (by omega), Ideal.exp2_coe]
    congr 1
    exact (Real.rpow_intCast 2 ((E : ℤ) - 127)).symm

/-! ## Operations as what they are -/

theorem absf_eq {φ : FTy} (x : Ideal φ) : FloatOps.absf (F := Ideal) x = max x (-x) := rfl
theorem exp2_eq {φ : FTy} (x : Ideal φ) : FloatOps.exp2 (F := Ideal) x = Ideal.exp2 x := rfl
theorem cmpf_eq {φ : FTy} (p : CmpFPredicate) (x y : Ideal φ) : FloatOps.cmpf (F := Ideal) p x y = Ideal.cmp p x y := rfl
theorem sitofp_eq (φ : FTy) {w : Nat} (b : BitVec w) : FloatOps.sitofp (F := Ideal) φ b = ((b.toInt : ℝ) : EReal) := rfl
theorem fptosi_eq {φ : FTy} (w : Nat) (x : Ideal φ) : FloatOps.fptosi (F := Ideal) w x = Ideal.fptosi w x := rfl

theorem scalar_log_eq {φ : FTy} (x : Ideal φ) : Scalar.log (F := Ideal) x = Ideal.log x := rfl

/-! ## One block of 32 values -/

/-- The largest magnitude of a block, times the nearest float to 1/448. -/
def amax (f : Fin 32 → EReal) : EReal :=
  (Finset.univ.fold max ⊥ fun j => max (f j) (-f j)) * Ideal.ofBits .f32 0x3B124925#32

/-- The clipped, scaled value. -/
def clip (x : EReal) : EReal := min (Ideal.ofBits .f32 0x43E00000#32) (max (Ideal.ofBits .f32 0xC3E00000#32) x)

/-- The reference's biased exponent of a block. -/
def qexp (f : Fin 32 → EReal) : BitVec 32 := IntOp.addi (refE (amax f)) 127#32
/-- The reference's code of a value of a block. -/
def qcode (f : Fin 32 → EReal) (x : EReal) : EReal := clip (x * Ideal.exp2 (0 - (((refE (amax f)).toInt : ℝ) : EReal)))
/-- The reference's factor from codes back to values. -/
def qscale (f : Fin 32 → EReal) : EReal :=
  Ideal.exp2 (((IntOp.subi (((qexp f).setWidth 8).setWidth 32) 127#32).toInt : ℝ) : EReal)

/-- No value of the block exceeds the largest bf16 number. -/
def Small (f : Fin 32 → EReal) : Prop := ∀ j, max (f j) (-f j) ≤ Ideal.ofBits .bf16 0x7F7F#16

theorem ofBits_bf16 (b : BitVec 16) : Ideal.ofBits .bf16 b = Ideal.ieee 8 7 b := rfl

theorem largest : Ideal.ofBits .bf16 0x7F7F#16 = (((255 : ℝ) * (2 : ℝ) ^ (120 : ℤ) : ℝ) : EReal) := by
  rw [ofBits_bf16]
  simp [Ideal.ieee, -EReal.coe_mul]

theorem recip : Ideal.ofBits .f32 0x3B124925#32 = (((9586981 : ℝ) * (2 : ℝ) ^ (-32 : ℤ) : ℝ) : EReal) := by
  rw [ofBits_f32]
  simp [Ideal.ieee, -EReal.coe_mul]

theorem bot_bf16 : Ideal.ofBits .bf16 0xFF80#16 = ⊥ := by
  rw [ofBits_bf16]
  simp [Ideal.ieee]

theorem bot_f32 : Ideal.ofBits .f32 0xFF800000#32 = ⊥ := by
  rw [ofBits_f32]
  simp [Ideal.ieee]

/-- A block of finite values has a largest magnitude in the range where the two exponents agree. -/
theorem amax_real {f : Fin 32 → EReal} (h : Small f) : ∃ r : ℝ, amax f = (r : EReal) ∧ 0 ≤ r ∧ r < (2 : ℝ) ^ (120 : ℤ) := by
  unfold Small at h
  rw [largest] at h
  unfold amax
  rw [recip]
  set A : EReal := Finset.univ.fold max ⊥ fun j => max (f j) (-f j) with hA
  have hle : A ≤ (((255 : ℝ) * (2 : ℝ) ^ (120 : ℤ) : ℝ) : EReal) := Finset.fold_max_le _ |>.mpr ⟨bot_le, fun j _ => h j⟩
  have hge : (0 : EReal) ≤ A := by
    refine (Finset.le_fold_max _).mpr (Or.inr ⟨0, Finset.mem_univ _, ?_⟩)
    rcases le_total (0 : EReal) (f 0) with h0 | h0
    · exact le_max_of_le_left h0
    · exact le_max_of_le_right (EReal.neg_nonneg.mpr h0)
  clear_value A
  induction A with
  | bot => exact absurd hge (by simp)
  | top => exact absurd hle (not_le.mpr (EReal.coe_lt_top _))
  | coe a =>
    rw [EReal.coe_le_coe_iff] at hle
    have hge' : (0 : ℝ) ≤ a := by exact_mod_cast hge
    refine ⟨a * ((9586981 : ℝ) * (2 : ℝ) ^ (-32 : ℤ)), (EReal.coe_mul _ _).symm, by positivity, ?_⟩
    have : a * ((9586981 : ℝ) * (2 : ℝ) ^ (-32 : ℤ)) ≤ ((255 : ℝ) * (2 : ℝ) ^ (120 : ℤ)) * ((9586981 : ℝ) * (2 : ℝ) ^ (-32 : ℤ)) :=
      mul_le_mul_of_nonneg_right hle (by positivity)
    refine this.trans_lt ?_
    norm_num

/-- The kernel's exponent, scaled value and factor of a block of finite values are the reference's. -/
theorem block_eq {f : Fin 32 → EReal} (h : Small f) :
    kerE (amax f) = qexp f ∧ (∀ x, clip (x * pw (IntOp.subi 254#32 (kerE (amax f)))) = qcode f x) ∧ pw (kerE (amax f)) = qscale f := by
  obtain ⟨r, hr, h0, h1⟩ := amax_real h
  obtain ⟨a, b, c⟩ := agree h0 h1
  unfold qexp qcode qscale qexp
  rw [hr]
  exact ⟨a, fun x => by rw [b], c⟩

end Cert.Quant

end
-- ==== Proof.YVal.lean ====
/- The chunk functions of the kernel and the reference's payloads over the extended reals, read at an index. -/
module

public import proofs.«01_k».proof.Proof.YTiles
public import proofs.«01_k».proof.Proof.Quant
public import Idealize.ShloMosaic.Lib.Pipeline.ValueKit

@[expose] public section

set_option maxRecDepth 16384

noncomputable section

namespace Cert.KernelYIdeal.Hand

open Cert.KernelYIdeal.Gen
open Idealize.ShloMosaic Idealize.ShloMosaic.TcCoe
open Cert.Quant

/-- The values of one block of a chunk: row `b`, columns `32 a` to `32 a + 32`. -/
def cblk (v : FVec Ideal S256x1024 .bf16) (a : Fin 32) (b : Fin 256) : Fin 32 → EReal :=
  fun j => v (ix2 b (⟨a.val * 32 + j.val, by omega⟩ : Fin 1024))

theorem cq_at (v : FVec Ideal S256x1024 .bf16) (a : Fin 32) (b : Fin 256) : cq (F := Ideal) v (ix2 a b) = amax (cblk v a b) := by
  unfold amax cblk
  rw [← bot_bf16]
  pointwise [cq, k0_pay13, k0_pay12]
  rfl

theorem pay14_at (v : FVec Ideal S256x1024 .bf16) (q : S32x256.Idx) : k0_pay14 (F := Ideal) v q = field2 (k0_pay13 (F := Ideal) v q) := by
  unfold k0_pay14 field2
  generalize k0_pay13 (F := Ideal) v = t
  generalize (0#32 : BitVec 32) = z
  rfl

theorem pay16_at (t : FVec Ideal S32x256 .f32) (n : IVec S32x256 32) (q : S32x256.Idx) :
    k0_pay16 (F := Ideal) t n (addi n (broadcast S32x256 32#32)) 23#32 q = field5 (t q) (n q) := rfl

theorem pay18_at (t : FVec Ideal S32x256 .f32) (n : IVec S32x256 32) (q : S32x256.Idx) :
    k0_pay18 (F := Ideal) t n (addi n (broadcast S32x256 1#32)) 23#32 q = expOf (bstep (t q) (n q) 1#32) := rfl

theorem chunkE_at (v : FVec Ideal S256x1024 .bf16) (q : S32x256.Idx) : chunkE (F := Ideal) v q = kerE (cq (F := Ideal) v q) := by
  unfold chunkE c142 c140 k0_pay17 k0_pay15
  refine (pay18_at _ _ q).trans ?_
  rw [pay16_at, pay14_at]
  unfold cq
  rfl

theorem chunkS_at (v : FVec Ideal S256x1024 .bf16) (a : Fin 32) (b : Fin 256) : chunkS (F := Ideal) v (ix2 a b) = kerE (amax (cblk v a b)) := by
  rw [← cq_at, ← chunkE_at]
  pointwise [chunkS, k0_pay22]

theorem pay19_at (v70 : FVec Ideal S1024x256 .bf16) (v76 : FVec Ideal S32x256 .f32) (v140 v142 : IVec S32x256 32) (k : Fin 1024) (b : Fin 256) :
    k0_pay19 (F := Ideal) v70 v76 v140 v142 23#32 (ix2 k b)
      = clip (v70 (ix2 k b) * pw (IntOp.subi 254#32 (k0_pay18 (F := Ideal) v76 v140 v142 23#32 (ix2 (⟨k.val / 32, by omega⟩ : Fin 32) b)))) := by
  pointwise [k0_pay19, clip, pw]

/-- The values of one block of a window's block: row `n`, columns `32 a` to `32 a + 32`. -/
def bblk (x1 : FVec Ideal S1024x1024 .bf16) (n : Fin 1024) (a : Fin 32) : Fin 32 → EReal :=
  fun j => x1 (ix2 n (⟨a.val * 32 + j.val, by omega⟩ : Fin 1024))

theorem cblk_rowsOf (x1 : FVec Ideal S1024x1024 .bf16) (n : Fin 1024) (a : Fin 32) :
    cblk (rowsOf (F := Ideal) x1 ⟨n.val / 256, by omega⟩) a ⟨n.val % 256, Nat.mod_lt _ (by decide)⟩ = bblk x1 n a := by
  funext j
  show x1 (ix2 (⟨256 * (n.val / 256) + n.val % 256, _⟩ : Fin 1024) _) = x1 (ix2 n _)
  congr 2
  exact Fin.ext (Nat.div_add_mod _ _)

theorem rowsOf_at (x1 : FVec Ideal S1024x1024 .bf16) (n k : Fin 1024) :
    rowsOf (F := Ideal) x1 ⟨n.val / 256, by omega⟩ (ix2 (⟨n.val % 256, Nat.mod_lt _ (by decide)⟩ : Fin 256) k) = x1 (ix2 n k) := by
  show x1 (ix2 (⟨256 * (n.val / 256) + n.val % 256, _⟩ : Fin 1024) _) = x1 (ix2 n _)
  congr 2
  exact Fin.ext (Nat.div_add_mod _ _)

/-- The code of a chunk's value, before it is turned back. -/
theorem code_at (v : FVec Ideal S256x1024 .bf16) (k : Fin 1024) (b : Fin 256) (h : Small (cblk v ⟨k.val / 32, by omega⟩ b)) :
    k0_pay19 (F := Ideal) (k0_pay12 (F := Ideal) v) (cq (F := Ideal) v) (c140 (F := Ideal) v) (c142 (F := Ideal) v) 23#32 (ix2 k b)
      = qcode (cblk v ⟨k.val / 32, by omega⟩ b) (v (ix2 b k)) := by
  rw [pay19_at]
  have e : k0_pay18 (F := Ideal) (cq (F := Ideal) v) (c140 (F := Ideal) v) (c142 (F := Ideal) v) 23#32 (ix2 (⟨k.val / 32, by omega⟩ : Fin 32) b)
      = kerE (amax (cblk v ⟨k.val / 32, by omega⟩ b)) := (chunkE_at v _).trans (by rw [cq_at])
  rw [e, (block_eq h).2.1]
  congr 1
  pointwise [k0_pay12]

theorem chunkC_at (v : FVec Ideal S256x1024 .bf16) (k : Fin 1024) (b : Fin 256) (h : Small (cblk v ⟨k.val / 32, by omega⟩ b)) :
    chunkC (F := Ideal) v (ix2 b k) = qcode (cblk v ⟨k.val / 32, by omega⟩ b) (v (ix2 b k)) := by
  rw [← code_at v k b h]
  pointwise [chunkC, k0_pay21]

theorem pay20_at (v70 : FVec Ideal S1024x256 .bf16) (v76 : FVec Ideal S32x256 .f32) (v140 v142 : IVec S32x256 32) (k : Fin 1024) (b : Fin 256) :
    k0_pay20 (F := Ideal) v70 v76 v140 v142 23#32 (ix2 k b)
      = k0_pay19 (F := Ideal) v70 v76 v140 v142 23#32 (ix2 k b) * pw (k0_pay18 (F := Ideal) v76 v140 v142 23#32 (ix2 (⟨k.val / 32, by omega⟩ : Fin 32) b)) := by
  pointwise [k0_pay20, pw]

theorem chunkW_at (v : FVec Ideal S256x1024 .bf16) (k : Fin 1024) (b : Fin 256) (h : Small (cblk v ⟨k.val / 32, by omega⟩ b)) :
    chunkW (F := Ideal) v (ix2 k b) = qcode (cblk v ⟨k.val / 32, by omega⟩ b) (v (ix2 b k)) * qscale (cblk v ⟨k.val / 32, by omega⟩ b) := by
  unfold chunkW
  rw [pay20_at, code_at v k b h]
  have e : k0_pay18 (F := Ideal) (cq (F := Ideal) v) (c140 (F := Ideal) v) (c142 (F := Ideal) v) 23#32 (ix2 (⟨k.val / 32, by omega⟩ : Fin 32) b)
      = kerE (amax (cblk v ⟨k.val / 32, by omega⟩ b)) := (chunkE_at v _).trans (by rw [cq_at])
  rw [e, (block_eq h).2.2]

theorem codesNew_val (x1 : FVec Ideal S1024x1024 .bf16) (n k : Fin 1024) (h : Small (bblk x1 n ⟨k.val / 32, by omega⟩)) :
    codesNew (F := Ideal) x1 (ix2 n k) = qcode (bblk x1 n ⟨k.val / 32, by omega⟩) (x1 (ix2 n k)) := by
  have h' := h
  rw [← cblk_rowsOf] at h'
  refine (chunkC_at _ _ _ h').trans ?_
  rw [cblk_rowsOf, rowsOf_at]

theorem wideNew_val (x1 : FVec Ideal S1024x1024 .bf16) (n k : Fin 1024) (h : Small (bblk x1 n ⟨k.val / 32, by omega⟩)) :
    wideNew (F := Ideal) x1 (ix2 k n) = qcode (bblk x1 n ⟨k.val / 32, by omega⟩) (x1 (ix2 n k)) * qscale (bblk x1 n ⟨k.val / 32, by omega⟩) := by
  have h' := h
  rw [← cblk_rowsOf] at h'
  refine (chunkW_at _ _ _ h').trans ?_
  rw [cblk_rowsOf, rowsOf_at]

theorem expNew_val (x1 : FVec Ideal S1024x1024 .bf16) (n : Fin 1024) (a : Fin 32) (h : Small (bblk x1 n a)) :
    expNew (F := Ideal) x1 a n = qexp (bblk x1 n a) := by
  unfold expNew
  rw [chunkS_at, cblk_rowsOf, (block_eq h).1]

theorem chunkA_at (a : FVec Ideal S1536x256 .f32) (l : FVec Ideal S1536x1024 .bf16) (s : FVec Ideal S1024x256 .bf16) (r : Fin 1536) (b : Fin 256) :
    chunkA (F := Ideal) a l s (ix2 r b) = a (ix2 r b) + ∑ k : Fin 1024, l (ix2 r k) * s (ix2 k b) := by
  pointwise [chunkA, k0_pay11]
  all_goals (try rw [zero_add])

theorem accNew_val (x0 : FVec Ideal S1536x1024 .bf16) (src : FVec Ideal S1024x1024 .bf16) (acc : FVec Ideal S1536x1024 .f32) (r : Fin 1536) (n : Fin 1024) :
    accNew (F := Ideal) x0 src acc (ix2 r n) = acc (ix2 r n) + ∑ k : Fin 1024, x0 (ix2 r k) * src (ix2 k n) := by
  refine (chunkA_at _ _ _ _ _).trans ?_
  have hn : (⟨256 * (n.val / 256) + n.val % 256, by omega⟩ : Fin 1024) = n := Fin.ext (Nat.div_add_mod _ _)
  show acc (ix2 r (⟨256 * (n.val / 256) + n.val % 256, _⟩ : Fin 1024))
    + ∑ k : Fin 1024, x0 (ix2 r k) * src (ix2 k (⟨256 * (n.val / 256) + n.val % 256, _⟩ : Fin 1024)) = _
  simp only [hn]

theorem zeros_at (p : S1536x1024.Idx) : k0_pay108 (F := Ideal) p = 0 := by
  pointwise [k0_pay108]

theorem outTile_at (a : FVec Ideal S1536x1024 .f32) (p : S1536x1024.Idx) : k0_pay10 (F := Ideal) a p = a p := by
  pointwise [k0_pay10]

theorem scaleTile_at (e : IVec S256x1024 32) (n : Fin 1024) (q : Fin 256) : k0_pay9 (F := Ideal) e (ix2 n q) = (e (ix2 q n)).setWidth 8 := by
  pointwise [k0_pay9]

end Cert.KernelYIdeal.Hand
end
-- ==== Proof.YRef.lean ====
/- The reference's payloads over the extended reals, read at an index. -/
module

public import proofs.«01_k».proof.Proof.Gen.RefYIdeal.Value
public import proofs.«01_k».proof.Proof.Quant
public import Idealize.ShloMosaic.Lib.Pipeline.ValueKit

@[expose] public section

set_option maxRecDepth 16384

noncomputable section

namespace Cert.RefYIdeal.Hand

open Cert.RefYIdeal.Gen
open Idealize.ShloMosaic Idealize.ShloMosaic.TcCoe
open Cert.Quant

/-- The values of one block of the weight: row `n`, columns `32 a` to `32 a + 32`. -/
def wblk (W : FVec Ideal S10240x8192 .bf16) (n : Fin 10240) (a : Fin 256) : Fin 32 → EReal :=
  fun j => W (ix2 n (⟨a.val * 32 + j.val, by omega⟩ : Fin 8192))

theorem pay3_step (t : FVec Ideal S10240x256x1 .f32) (q : S10240x256x1.Idx) :
    select (cmpf .olt t (broadcast S10240x256x1 (Scalar.ofBits (F := Ideal) .f32 0x00800000#32))) (broadcast S10240x256x1 0#32)
      (addi (fptosi 32 (floor (divf (log t) (broadcast S10240x256x1 (Scalar.log (Scalar.ofBits (F := Ideal) .f32 0x40000000#32)))))) (broadcast S10240x256x1 1#32)) q
      = refE (t q) := by
  unfold refE
  pointwise
  rw [fptosi_eq, scalar_log_eq]

theorem red_at (v : FVec Ideal S10240x256x32 .f32) (n : Fin 10240) (a : Fin 256) :
    multiReduction .maximumf [2] S10240x256 v 0xFF800000#32 reduces_S10240x256x32_S10240x256 (.inl rfl) rfl (ix2 n a)
      = Finset.univ.fold max (Ideal.ofBits .f32 0xFF800000#32) fun j : Fin 32 => v (ix3 n a j) := by
  pointwise

theorem rt_step (u : FVec Ideal S10240x256 .f32) (n : Fin 10240) (a : Fin 256) (z : Fin 1) :
    mulf (shapeCast S10240x256x1 u shapeCasts_S10240x256_S10240x256x1) (broadcast S10240x256x1 (Scalar.ofBits (F := Ideal) .f32 0x3B124925#32)) (ix3 n a z)
      = u (ix2 n a) * Ideal.ofBits .f32 0x3B124925#32 := by
  pointwise

theorem pay2_at (W : FVec Ideal S10240x8192 .bf16) (n : Fin 10240) (a : Fin 256) (j : Fin 32) :
    absf (k0_pay2 (F := Ideal) W) (ix3 n a j) = max (wblk W n a j) (-(wblk W n a j)) := by
  unfold wblk
  pointwise [k0_pay2]
  rw [absf_eq]

theorem pay3_at (W : FVec Ideal S10240x8192 .bf16) (n : Fin 10240) (a : Fin 256) (z : Fin 1) : k0_pay3 (F := Ideal) W (ix3 n a z) = refE (amax (wblk W n a)) := by
  unfold k0_pay3
  refine (pay3_step _ _).trans ?_
  rw [rt_step, red_at, bot_f32]
  unfold amax
  rw [show (fun j : Fin 32 => absf (k0_pay2 (F := Ideal) W) (ix3 n a j)) = fun j => max (wblk W n a j) (-(wblk W n a j)) from funext fun j => pay2_at W n a j]

/-- The codes. -/
theorem codes_at (W : FVec Ideal S10240x8192 .bf16) (n : Fin 10240) (k : Fin 8192) :
    k0_pay4 (F := Ideal) W (ix2 n k) = qcode (wblk W n ⟨k.val / 32, by omega⟩) (W (ix2 n k)) := by
  unfold qcode clip
  rw [← pay3_at W n ⟨k.val / 32, by omega⟩ 0]
  pointwise [k0_pay4, k0_pay2]
  rw [exp2_eq, sitofp_eq]

/-- The scales. -/
theorem scales_at (W : FVec Ideal S10240x8192 .bf16) (n : Fin 10240) (a : Fin 256) :
    k0_pay5 (F := Ideal) W (ix2 n a) = (qexp (wblk W n a)).setWidth 8 := by
  unfold qexp
  rw [← pay3_at W n a 0]
  pointwise [k0_pay5]

theorem widen_at (W : FVec Ideal S10240x8192 .bf16) (n : Fin 10240) (a : Fin 256) :
    Ideal.exp2 ((((IntOp.subi (k0_pay6 (F := Ideal) W (ix2 n a)) 127#32).toInt : ℝ) : EReal)) = qscale (wblk W n a) := by
  unfold qscale
  rw [← scales_at]
  pointwise [k0_pay6]

/-- The product. -/
theorem product_at (X : FVec Ideal S1536x8192 .bf16) (W : FVec Ideal S10240x8192 .bf16) (r : Fin 1536) (n : Fin 10240) :
    k0_pay1 (F := Ideal) (k0_pay4 (F := Ideal) W) X (k0_pay6 (F := Ideal) W) (ix2 r n)
      = ∑ k : Fin 8192, X (ix2 r k) * (qcode (wblk W n ⟨k.val / 32, by omega⟩) (W (ix2 n k)) * qscale (wblk W n ⟨k.val / 32, by omega⟩)) := by
  have h : ∀ k : Fin 8192, X (ix2 r k) * (qcode (wblk W n ⟨k.val / 32, by omega⟩) (W (ix2 n k)) * qscale (wblk W n ⟨k.val / 32, by omega⟩))
      = X (ix2 r k) * (k0_pay4 (F := Ideal) W (ix2 n k) * Ideal.exp2 ((((IntOp.subi (k0_pay6 (F := Ideal) W (ix2 n ⟨k.val / 32, by omega⟩)) 127#32).toInt : ℝ) : EReal))) := fun k => by
    rw [codes_at, widen_at]
  rw [Finset.sum_congr rfl fun k _ => h k]
  generalize k0_pay4 (F := Ideal) W = C
  generalize k0_pay6 (F := Ideal) W = S
  pointwise [k0_pay1]
  refine Finset.sum_congr rfl fun k _ => ?_
  rw [exp2_eq, sitofp_eq]

end Cert.RefYIdeal.Hand
end
-- ==== Proof.YInv.lean ====
/- What the scratch buffers hold between two points of the grid, over the extended reals: the widened tile of the
   weight that was quantised last, the part of the product summed so far, and the exponents of the block row. -/
module

public import proofs.«01_k».proof.Proof.YBody
public import proofs.«01_k».proof.Proof.YVal
public import proofs.«01_k».proof.Proof.YRef

@[expose] public section

set_option maxRecDepth 16384

noncomputable section

namespace Cert.KernelYIdeal.Hand

open Cert.KernelYIdeal.Gen
open Idealize.ShloMosaic Idealize.ShloMosaic.TcCoe
open Cert.Quant
open Cert.RefYIdeal.Hand (wblk)

variable (m : (ℓ : Loc nD τ sig) → Buf (Elt Ideal) ℓ)

/-- The left operand. -/
abbrev lhs (c : Dev nD) : FVec Ideal S1536x8192 .bf16 := m ((c : Thread nD τ).loc main_arg0)
/-- The weight. -/
abbrev wgt (c : Dev nD) : FVec Ideal S10240x8192 .bf16 := m ((c : Thread nD τ).loc main_arg1)

/-- The weight's values are below bf16's largest finite magnitude. -/
def Fine (c : Dev nD) : Prop := ∀ (n : Fin 10240) (a : Fin 256), Small (wblk (wgt m c) n a)

/-- The windows' blocks at a point: the product works one point behind the quantising. -/
theorem idx : ∀ t : Fin cfg0.N, win0_0.index t = ![0, (t.val - 1) % 8] ∧ win0_1.index t = ![(min t.val 79) / 8, (min t.val 79) % 8]
    ∧ win0_2.index t = ![0, (t.val - 1) / 8] ∧ win0_3.index t = ![(min t.val 79) / 8, (min t.val 79) % 8] ∧ win0_4.index t = ![(min t.val 79) / 8, 0] :=
  (by decide +kernel : ∀ t : Fin grid0.N, _)

theorem x_at (c : Dev nD) (t : Fin cfg0.N) (r : Fin 1536) (k : Fin 1024) (K : Fin 8192) (hK : K.val = 1024 * ((t.val - 1) % 8) + k.val) :
    iblk m c 0 t (ix2 r k) = lhs m c (ix2 r K) := by
  have e : K = ⟨((t.val - 1) % 8) * 1024 + k.val, by omega⟩ := Fin.ext (hK.trans (by rw [Nat.mul_comm]))
  rw [e]
  blk_ext [iblk, V, idx t]

theorem w_at (c : Dev nD) (t : Fin cfg0.N) (n k : Fin 1024) (N : Fin 10240) (K : Fin 8192)
    (hN : N.val = 1024 * ((min t.val 79) / 8) + n.val) (hK : K.val = 1024 * ((min t.val 79) % 8) + k.val) :
    iblk m c 1 t (ix2 n k) = wgt m c (ix2 N K) := by
  have e : K = ⟨((min t.val 79) % 8) * 1024 + k.val, by omega⟩ := Fin.ext (hK.trans (by rw [Nat.mul_comm]))
  have e' : N = ⟨((min t.val 79) / 8) * 1024 + n.val, by omega⟩ := Fin.ext (hN.trans (by rw [Nat.mul_comm]))
  rw [e, e']
  blk_ext [iblk, V, idx t]

theorem blk_at (c : Dev nD) (t : Fin cfg0.N) (n : Fin 1024) (a : Fin 32) (N : Fin 10240) (A : Fin 256)
    (hN : N.val = 1024 * ((min t.val 79) / 8) + n.val) (hA : A.val = 32 * ((min t.val 79) % 8) + a.val) :
    bblk (iblk m c 1 t) n a = wblk (wgt m c) N A := by
  funext j
  unfold bblk wblk
  exact w_at m c t n _ N _ hN (by show A.val * 32 + j.val = _ + (a.val * 32 + j.val); omega)

/-- The weight after quantising and widening. -/
def qw (W : FVec Ideal S10240x8192 .bf16) (N : Fin 10240) (K : Fin 8192) : EReal :=
  qcode (wblk W N ⟨K.val / 32, by omega⟩) (W (ix2 N K)) * qscale (wblk W N ⟨K.val / 32, by omega⟩)

/-- One term of the product. -/
def term (X : FVec Ideal S1536x8192 .bf16) (W : FVec Ideal S10240x8192 .bf16) (r : Fin 1536) (N : Fin 10240) (k : ℕ) : EReal :=
  if h : k < 8192 then X (ix2 r ⟨k, h⟩) * qw W N ⟨k, h⟩ else 0

/-- What the scratch buffers hold after point `t`. -/
structure Inv (c : Dev nD) (t : ℕ) (s : St Ideal) : Prop where
  wide : ∀ (n k : Fin 1024) (N : Fin 10240) (K : Fin 8192), N.val = 1024 * ((min t 79) / 8) + n.val → K.val = 1024 * ((min t 79) % 8) + k.val →
    (if t % 2 = 0 then s.w0 else s.w1) (ix2 k n) = qw (wgt m c) N K
  acc : 1 ≤ t → ∀ (r : Fin 1536) (n : Fin 1024) (N : Fin 10240), N.val = 1024 * ((t - 1) / 8) + n.val →
    s.acc (ix2 r n) = ∑ k ∈ Finset.range (1024 * ((t - 1) % 8) + 1024), term (lhs m c) (wgt m c) r N k
  e : ∀ (q : Fin 256) (n : Fin 1024) (N : Fin 10240), N.val = 1024 * ((min t 79) / 8) + n.val → q.val < 32 * ((min t 79) % 8) + 32 →
    s.e (ix2 q n) = qexp (wblk (wgt m c) N q)

theorem step_wide (c : Dev nD) (hf : Fine m c) (t : Fin cfg0.N) (n k : Fin 1024) (N : Fin 10240) (K : Fin 8192)
    (hN : N.val = 1024 * ((min t.val 79) / 8) + n.val) (hK : K.val = 1024 * ((min t.val 79) % 8) + k.val) :
    wideNew (F := Ideal) (iblk m c 1 t) (ix2 k n) = qw (wgt m c) N K := by
  have hb := blk_at m c t n ⟨k.val / 32, by omega⟩ N ⟨K.val / 32, by omega⟩ hN (by show K.val / 32 = _ + k.val / 32; omega)
  rw [wideNew_val _ n k (by rw [hb]; exact hf _ _), hb, w_at m c t n k N K hN hK]
  rfl

theorem step_sum (c : Dev nD) (t : Fin cfg0.N) (src : FVec Ideal S1024x1024 .bf16) (acc : FVec Ideal S1536x1024 .f32) (r : Fin 1536) (n : Fin 1024) (N : Fin 10240)
    (hs : ∀ (k : Fin 1024) (K : Fin 8192), K.val = 1024 * ((t.val - 1) % 8) + k.val → src (ix2 k n) = qw (wgt m c) N K)
    (ha : acc (ix2 r n) = ∑ k ∈ Finset.range (1024 * ((t.val - 1) % 8)), term (lhs m c) (wgt m c) r N k) :
    accNew (F := Ideal) (iblk m c 0 t) src acc (ix2 r n) = ∑ k ∈ Finset.range (1024 * ((t.val - 1) % 8) + 1024), term (lhs m c) (wgt m c) r N k := by
  rw [accNew_val, Finset.sum_range_add, ha, Finset.sum_range (n := 1024)]
  congr 1
  refine Finset.sum_congr rfl fun k _ => ?_
  have hk : 1024 * ((t.val - 1) % 8) + k.val < 8192 := by omega
  unfold term
  rw [dif_pos hk, x_at m c t r k ⟨_, hk⟩ rfl, hs k ⟨_, hk⟩ rfl]

theorem step_exp (c : Dev nD) (hf : Fine m c) (t : Fin cfg0.N) (e : IVec S256x1024 32) (q : Fin 256) (n : Fin 1024) (N : Fin 10240)
    (hN : N.val = 1024 * ((min t.val 79) / 8) + n.val) (hq : q.val < 32 * ((min t.val 79) % 8) + 32)
    (he : q.val < 32 * ((min t.val 79) % 8) → e (ix2 q n) = qexp (wblk (wgt m c) N q)) :
    eNew (F := Ideal) ((min (grid0.coords t 0).val 79) % 8) (iblk m c 1 t) e (ix2 q n) = qexp (wblk (wgt m c) N q) := by
  rw [coords_val0 t]
  by_cases h : 32 * ((min t.val 79) % 8) ≤ q.val
  · have hb := blk_at m c t n ⟨q.val - 32 * ((min t.val 79) % 8), by omega⟩ N q hN (by show q.val = _ + (q.val - 32 * ((min t.val 79) % 8)); omega)
    refine (dif_pos (show 32 * ((min t.val 79) % 8) ≤ q.val ∧ q.val < 32 * ((min t.val 79) % 8) + 32 from ⟨h, hq⟩)).trans ?_
    refine (expNew_val (iblk m c 1 t) n ⟨q.val - 32 * ((min t.val 79) % 8), by omega⟩ (by rw [hb]; exact hf _ _)).trans ?_
    rw [hb]
  · refine (dif_neg (show ¬(32 * ((min t.val 79) % 8) ≤ q.val ∧ q.val < 32 * ((min t.val 79) % 8) + 32) from fun h' => h h'.1)).trans ?_
    exact he (by omega)

/-- The invariant before point `n`, given a weight without infinities. -/
def R : Dev nD → ℕ → St Ideal → Prop := fun c n s => Fine m c → Inv m c (n - 1) s

theorem keeps : Keeps m (R m) := by
  intro c t s s' hs hst hf
  have hN : t.val < 81 := lt_of_lt_of_eq t.isLt (show cfg0.N = 81 from N_0)
  show Inv m c (t.val + 1 - 1) s'
  rw [Nat.add_sub_cancel]
  constructor
  · intro n k N K hN hK
    by_cases h2 : t.val % 2 = 0
    · rw [if_pos h2, hst.even h2]; exact step_wide m c hf t n k N K hN hK
    · rw [if_neg h2, hst.odd (by omega)]; exact step_wide m c hf t n k N K hN hK
  · intro h1 r n N hn
    have hI : Inv m c (t.val - 1) s := (hs.resolve_left (by omega)) hf
    have hm : min (t.val - 1) 79 = t.val - 1 := by omega
    have hw := hI.wide
    rw [hm] at hw
    have ha : t.val % 8 ≠ 1 → s.acc (ix2 r n) = ∑ k ∈ Finset.range (1024 * ((t.val - 1) % 8)), term (lhs m c) (wgt m c) r N k := fun h8 => by
      rw [hI.acc (by omega) r n N (by omega)]
      congr 2
      omega
    by_cases h2 : t.val % 2 = 0
    · rw [hst.accEven h2 (by omega)]
      rw [if_neg (by omega)] at hw
      exact step_sum m c t _ _ r n N (fun k K hK => hw n k N K hn hK) (ha (by omega))
    · rw [if_pos (by omega)] at hw
      by_cases h8 : t.val % 8 = 1
      · rw [hst.accFirst (by omega) h8]
        refine step_sum m c t _ _ r n N (fun k K hK => hw n k N K hn hK) ?_
        rw [zeros_at, show (t.val - 1) % 8 = 0 by omega]
        rfl
      · rw [hst.accOdd (by omega) h8]
        exact step_sum m c t _ _ r n N (fun k K hK => hw n k N K hn hK) (ha h8)
  · intro q n N hn hq
    rw [hst.e]
    refine step_exp m c hf t _ q n N hn hq fun hq' => ?_
    have hI : Inv m c (t.val - 1) s := (hs.resolve_left (by omega)) hf
    exact hI.e q n N (by omega) (by omega)

end Cert.KernelYIdeal.Hand

end
-- ==== Proof.YValue.lean ====
/- The three results of the call, over the extended reals: they are the reference's. -/
module

public import proofs.«01_k».proof.Proof.YInv

@[expose] public section

set_option maxRecDepth 16384

noncomputable section

namespace Cert.KernelYIdeal.Hand

open Cert.KernelYIdeal.Gen
open Idealize.ShloMosaic Idealize.ShloMosaic.TcCoe Idealize.SL.Sem
open Idealize.ShloMosaic.Pipeline (Dat)
open Cert.Quant
open Cert.RefYIdeal.Hand (wblk)

variable (m : (ℓ : Loc nD τ sig) → Buf (Elt Ideal) ℓ) (ρ : Dev nD → PrngReg)

/-- The product of the left operand and the quantised weight. -/
abbrev refOut (c : Dev nD) : FVec Ideal S1536x10240 .bf16 := Cert.RefYIdeal.Gen.k0_pay1 (F := Ideal) (Cert.RefYIdeal.Gen.k0_pay4 (F := Ideal) (wgt m c)) (lhs m c) (Cert.RefYIdeal.Gen.k0_pay6 (F := Ideal) (wgt m c))
/-- The weight's codes. -/
abbrev refCodes (c : Dev nD) : FVec Ideal S10240x8192 .fp8e4m3 := Cert.RefYIdeal.Gen.k0_pay4 (F := Ideal) (wgt m c)
/-- The weight's scales. -/
abbrev refScales (c : Dev nD) : IVec S10240x256 8 := Cert.RefYIdeal.Gen.k0_pay5 (F := Ideal) (wgt m c)

theorem codes_point (c : Dev nD) (hf : Fine m c) (t : Fin cfg0.N) (n k : Fin 1024) (N : Fin 10240) (K : Fin 8192)
    (hN : N.val = 1024 * ((min t.val 79) / 8) + n.val) (hK : K.val = 1024 * ((min t.val 79) % 8) + k.val) :
    codesNew (F := Ideal) (iblk m c 1 t) (ix2 n k) = refCodes m c (ix2 N K) := by
  have hb := blk_at m c t n ⟨k.val / 32, by omega⟩ N ⟨K.val / 32, by omega⟩ hN (by show K.val / 32 = _ + k.val / 32; omega)
  rw [codesNew_val _ n k (by rw [hb]; exact hf _ _), hb, w_at m c t n k N K hN hK]
  exact (Cert.RefYIdeal.Hand.codes_at (wgt m c) N K).symm

theorem scales_point (c : Dev nD) (hf : Fine m c) (t : Fin cfg0.N) (ht : (min t.val 79) % 8 = 7) (s : St Ideal) (hs : R m c (t.val + 1) s)
    (n : Fin 1024) (q : Fin 256) (N : Fin 10240) (hN : N.val = 1024 * ((min t.val 79) / 8) + n.val) :
    k0_pay9 (F := Ideal) s.e (ix2 n q) = refScales m c (ix2 N q) := by
  have hI : Inv m c t.val s := hs hf
  rw [scaleTile_at, hI.e q n N hN (by omega)]
  exact (Cert.RefYIdeal.Hand.scales_at (wgt m c) N q).symm

theorem out_point (c : Dev nD) (hf : Fine m c) (t : Fin cfg0.N) (ht : (t.val - 1) % 8 = 7) (s : St Ideal) (hs : R m c (t.val + 1) s)
    (r : Fin 1536) (n : Fin 1024) (N : Fin 10240) (hN : N.val = 1024 * ((t.val - 1) / 8) + n.val) :
    k0_pay10 (F := Ideal) s.acc (ix2 r n) = refOut m c (ix2 r N) := by
  have hI : Inv m c t.val s := hs hf
  rw [outTile_at, hI.acc (by omega) r n N hN, show 1024 * ((t.val - 1) % 8) + 1024 = 8192 by omega, Finset.sum_range]
  refine Eq.trans ?_ (Cert.RefYIdeal.Hand.product_at (lhs m c) (wgt m c) r N).symm
  refine Finset.sum_congr rfl fun k _ => ?_
  unfold term
  rw [dif_pos k.isLt]
  rfl

theorem flush2 : ∀ t : Fin cfg0.N, (cfg0.win 2).flush t = true → (t.val - 1) % 8 = 7 ∧ cond0_5 (grid0.coords t) :=
  (by decide +kernel : ∀ t : Fin grid0.N, (cfg0.win 2).flush t = true → (t.val - 1) % 8 = 7 ∧ cond0_5 (grid0.coords t))
theorem flush4 : ∀ t : Fin cfg0.N, (cfg0.win 4).flush t = true → (min t.val 79) % 8 = 7 ∧ cond0_4 (grid0.coords t) :=
  (by decide +kernel : ∀ t : Fin grid0.N, (cfg0.win 4).flush t = true → (min t.val 79) % 8 = 7 ∧ cond0_4 (grid0.coords t))

theorem emb2 (G : FVec Ideal S1536x10240 .bf16) (t : Fin cfg0.N) (r : Fin 1536) (n : Fin 1024) (N : Fin 10240) (hN : N.val = 1024 * ((t.val - 1) / 8) + n.val) :
    G (((cfg0.win 2).blk t).view.emb (ix2 r n)) = G (ix2 r N) := by
  have e : N = ⟨((t.val - 1) / 8) * 1024 + n.val, by omega⟩ := Fin.ext (hN.trans (by rw [Nat.mul_comm]))
  rw [e]
  blk_ext [idx t]

theorem emb3 (G : FVec Ideal S10240x8192 .fp8e4m3) (t : Fin cfg0.N) (n k : Fin 1024) (N : Fin 10240) (K : Fin 8192)
    (hN : N.val = 1024 * ((min t.val 79) / 8) + n.val) (hK : K.val = 1024 * ((min t.val 79) % 8) + k.val) :
    G (((cfg0.win 3).blk t).view.emb (ix2 n k)) = G (ix2 N K) := by
  have e : K = ⟨((min t.val 79) % 8) * 1024 + k.val, by omega⟩ := Fin.ext (hK.trans (by rw [Nat.mul_comm]))
  have e' : N = ⟨((min t.val 79) / 8) * 1024 + n.val, by omega⟩ := Fin.ext (hN.trans (by rw [Nat.mul_comm]))
  rw [e, e']
  blk_ext [idx t]

theorem emb4 (G : IVec S10240x256 8) (t : Fin cfg0.N) (n : Fin 1024) (q : Fin 256) (N : Fin 10240)
    (hN : N.val = 1024 * ((min t.val 79) / 8) + n.val) :
    G (((cfg0.win 4).blk t).view.emb (ix2 n q)) = G (ix2 N q) := by
  have e' : N = ⟨((min t.val 79) / 8) * 1024 + n.val, by omega⟩ := Fin.ext (hN.trans (by rw [Nat.mul_comm]))
  rw [e']
  blk_ext [idx t]

/-- The results after the run. -/
theorem results_of {r : PUnit × MemSt nD τ sig (Elt Ideal)}
    (h : Pipeline.RDat.FramePost (cfgs 0) (fun c => (dats m (R m) 0 c).toRRel results0 (Rl m (R m) c)) (V m) r) (c : Dev nD) (hf : Fine m c) :
    r.2.mem ((c.tc : Thread nD τ).loc main_v0_0) = refOut m c
      ∧ r.2.mem ((c.tc : Thread nD τ).loc main_v0_1) = refCodes m c
      ∧ r.2.mem ((c.tc : Thread nD τ).loc main_v0_2) = refScales m c := by
  obtain ⟨after, hL, hA⟩ := Pipeline.RDat.FramePost.exists_exact h c
  refine ⟨(hA 2).trans ?_, (hA 3).trans ?_, (hA 4).trans ?_⟩
  · refine Dat.arrAt_eq_of_covers _ 2 _ (by decide +kernel) fun t ht y => ?_
    obtain ⟨h7, h5⟩ := flush2 t ht
    obtain ⟨s, hs, hX⟩ := (Pipeline.Dat.toRRel_leaves (dats m (R m) 0 c) rfl (hL 2 t ht)) h5
    have hb : t.val < 81 := lt_of_lt_of_eq t.isLt (show cfg0.N = 81 from N_0)
    obtain ⟨r, n, rfl⟩ : ∃ (r : Fin 1536) (n : Fin 1024), y = ix2 r n := ⟨y 0, y 1, eq_ix2 y⟩
    blk_simp
    rw [Pipeline.RDat.withAfter_after, hX]
    exact (out_point m c hf t h7 s hs r n ⟨1024 * ((t.val - 1) / 8) + n.val, by omega⟩ rfl).trans (emb2 (refOut m c) t r n _ rfl).symm
  · refine Dat.arrAt_eq_of_covers _ 3 _ (by decide +kernel) fun t ht y => ?_
    have hX := Pipeline.Dat.toRRel_leaves (dats m (R m) 0 c) rfl (hL 3 t ht)
    have hb : t.val < 81 := lt_of_lt_of_eq t.isLt (show cfg0.N = 81 from N_0)
    obtain ⟨n, k, rfl⟩ : ∃ (n : Fin 1024) (k : Fin 1024), y = ix2 n k := ⟨y 0, y 1, eq_ix2 y⟩
    blk_simp
    rw [Pipeline.RDat.withAfter_after, show after 3 t = codesNew (F := Ideal) (iblk m c 1 t) from hX]
    exact (codes_point m c hf t n k ⟨1024 * ((min t.val 79) / 8) + n.val, by omega⟩ ⟨1024 * ((min t.val 79) % 8) + k.val, by omega⟩ rfl rfl).trans
      (emb3 (refCodes m c) t n k _ _ rfl rfl).symm
  · refine Dat.arrAt_eq_of_covers _ 4 _ (by decide +kernel) fun t ht y => ?_
    obtain ⟨h7, h4⟩ := flush4 t ht
    obtain ⟨s, hs, hX⟩ := (Pipeline.Dat.toRRel_leaves (dats m (R m) 0 c) rfl (hL 4 t ht)) h4
    have hb : t.val < 81 := lt_of_lt_of_eq t.isLt (show cfg0.N = 81 from N_0)
    obtain ⟨n, q, rfl⟩ : ∃ (n : Fin 1024) (q : Fin 256), y = ix2 n q := ⟨y 0, y 1, eq_ix2 y⟩
    blk_simp
    rw [Pipeline.RDat.withAfter_after, hX]
    exact (scales_point m c hf t h7 s hs n q ⟨1024 * ((min t.val 79) / 8) + n.val, by omega⟩ rfl).trans (emb4 (refScales m c) t n q _ rfl).symm

/-- The run of the call, with its results. -/
theorem run_value (hf : ∀ c, Fine m c) : θ_run defs (onTc (τ := τ) (main (F := Ideal))) ⟨m, fun _ => 0, ρ⟩ (fun r => ∀ c : Dev nD,
    r.2.mem ((c.tc : Thread nD τ).loc main_v0_0) = refOut m c
      ∧ r.2.mem ((c.tc : Thread nD τ).loc main_v0_1) = refCodes m c
      ∧ r.2.mem ((c.tc : Thread nD τ).loc main_v0_2) = refScales m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(results_of m h.1 c (hf c)).1, (results_of m h.1 c (hf c)).2.1, (results_of m h.1 c (hf c)).2.2, unchanged_of h.1 c⟩)
    (run_main (R := R m) ρ (keeps m))

end Cert.KernelYIdeal.Hand

end
-- ==== Proof.YPre.lean ====
/- The precondition of the value claim, read at an index: the weight holds no infinity. -/
module

public import proofs.«01_k».proof.Proof.YValue
public import proofs.«01_k».proof.Proof.Gen.Pre_finite_y

@[expose] public section

set_option maxRecDepth 16384

noncomputable section

namespace Cert.KernelYIdeal.Hand

open Cert.KernelYIdeal.Gen
open Idealize.ShloMosaic Idealize.ShloMosaic.TcCoe
open Cert.Quant
open Cert.RefYIdeal.Hand (wblk)

variable (m : (ℓ : Loc nD τ sig) → Buf (Elt Ideal) ℓ)

theorem le_of_pre (X : FVec Ideal S1536x8192 .bf16) (W : FVec Ideal S10240x8192 .bf16)
    (h : Cert.Pre_finite_y.fn (F := Ideal) X W = fun _ => 1#1) (n : Fin 10240) (k : Fin 8192) :
    max (W (ix2 n k)) (-(W (ix2 n k))) ≤ Ideal.ofBits .bf16 0x7F7F#16 := by
  have h' := congrFun h (ix2 n k)
  revert h'
  pointwise [Cert.Pre_finite_y.fn]
  rw [absf_eq]
  intro h'
  by_contra hn
  rw [decide_eq_false hn] at h'
  exact absurd h' (by decide)

/-- The precondition bounds every block. -/
theorem fine_of_pre (c : Dev nD) (h : Cert.Pre_finite_y.fn (F := Ideal) (lhs m c) (wgt m c) = fun _ => 1#1) : Fine m c :=
  fun n a j => le_of_pre _ _ h n _

end Cert.KernelYIdeal.Hand

end
-- ==== Proof.DxSetup.lean ====
/- What the runs of the kernel body share: the branch conditions of the body in closed form over the grid
   points, the staging buffers and scratch buffers by name, and the scratch as separate buffers. -/
module

public import proofs.«01_k».proof.Proof.Gen.KernelDxIdeal.Launch
public import proofs.«01_k».proof.Proof.Gen.KernelDxIdeal.Skeleton
public import proofs.«01_k».proof.Proof.Gen.KernelDxIdeal.Points
public import proofs.«01_k».proof.Proof.Gen.KernelDxIdeal.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelDxIdeal.Hand

open Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 81 = 0 :=
  (fun t => by
    have ht : t.val < 81 := Nat.lt_of_lt_of_eq t.isLt N_0
    have e0 : (grid0.coords t 0).val = t.val / 1 % 81 := Pipeline.Grid.coords_val t 0 (by decide) rfl
    simp only [cond0_0, e0]
    word_cmp
   : ∀ t : Fin grid0.N, cond0_0 (grid0.coords t) ↔ t.val % 81 = 0)

/-- The condition of the body's `scf.if` 1 (`k0_h2`), from the grid coordinates (the skeleton's scalar
    chain substituted). -/
abbrev cond0_1 (i : grid0.Coords) : Prop := (Scalar.cmpi .ne (Scalar.extui (Scalar.cmpi .eq (Scalar.select (Scalar.andi (Scalar.xori (Scalar.cmpi .slt (Scalar.remsi (Scalar.maxsi (Scalar.subi (BitVec.ofNat 32 (i 0).val) 1#32) 0#32) (Scalar.select (Scalar.cmpi .eq 10#32 0#32) 1#32 10#32)) 0#32) (Scalar.cmpi .slt (Scalar.select (Scalar.cmpi .eq 10#32 0#32) 1#32 10#32) 0#32)) (Scalar.cmpi .ne (Scalar.remsi (Scalar.maxsi (Scalar.subi (BitVec.ofNat 32 (i 0).val) 1#32) 0#32) (Scalar.select (Scalar.cmpi .eq 10#32 0#32) 1#32 10#32)) 0#32)) (Scalar.addi (Scalar.remsi (Scalar.maxsi (Scalar.subi (BitVec.ofNat 32 (i 0).val) 1#32) 0#32) (Scalar.select (Scalar.cmpi .eq 10#32 0#32) 1#32 10#32)) (Scalar.select (Scalar.cmpi .eq 10#32 0#32) 1#32 10#32)) (Scalar.remsi (Scalar.maxsi (Scalar.subi (BitVec.ofNat 32 (i 0).val) 1#32) 0#32) (Scalar.select (Scalar.cmpi .eq 10#32 0#32) 1#32 10#32))) 0#32)) 0#32) = 1#1
/-- It holds at points 0, 1, 11, 21, 31, 41, 51, 61 and 71 only — decided over the grid. -/
theorem hcond0_1 : ∀ t : Fin cfg0.N, cond0_1 (grid0.coords t) ↔ (t.val % 81 = 0 ∨ t.val % 81 = 1 ∨ t.val % 81 = 11 ∨ t.val % 81 = 21 ∨ t.val % 81 = 31 ∨ t.val % 81 = 41 ∨ t.val % 81 = 51 ∨ t.val % 81 = 61 ∨ t.val % 81 = 71) :=
  (by decide +kernel : ∀ t : Fin grid0.N, cond0_1 (grid0.coords t) ↔ (t.val % 81 = 0 ∨ t.val % 81 = 1 ∨ t.val % 81 = 11 ∨ t.val % 81 = 21 ∨ t.val % 81 = 31 ∨ t.val % 81 = 41 ∨ t.val % 81 = 51 ∨ t.val % 81 = 61 ∨ t.val % 81 = 71))

/-- The condition of the body's `scf.if` 2 (`k0_h3`), from the grid coordinates (the skeleton's scalar
    chain substituted). -/
abbrev cond0_2 (i : grid0.Coords) : Prop := k0_cond3 i = 1#1
/-- It holds at the points ≡ 0 (mod 2) — decided over the grid. -/
theorem hcond0_2 : ∀ t : Fin cfg0.N, cond0_2 (grid0.coords t) ↔ t.val % 2 = 0 :=
  (by decide +kernel : ∀ t : Fin grid0.N, cond0_2 (grid0.coords t) ↔ t.val % 2 = 0)

/-- The condition of the body's `scf.if` 3 (`k0_h4`), from the grid coordinates (the skeleton's scalar
    chain substituted). -/
abbrev cond0_3 (i : grid0.Coords) : Prop := k0_cond4 i = 1#1
/-- It holds at the points ≡ 1 (mod 2) — decided over the grid. -/
theorem hcond0_3 : ∀ t : Fin cfg0.N, cond0_3 (grid0.coords t) ↔ t.val % 2 = 1 :=
  (by decide +kernel : ∀ t : Fin grid0.N, cond0_3 (grid0.coords t) ↔ t.val % 2 = 1)

/-- The condition of the body's `scf.if` 4 (`k0_h5`), from the grid coordinates (the skeleton's scalar
    chain substituted). -/
abbrev cond0_4 (i : grid0.Coords) : Prop := k0_cond5 i = 1#1
/-- It holds at points 9, 19, 29, 39, 49, 59, 69, 79 and 80 only — decided over the grid. -/
theorem hcond0_4 : ∀ t : Fin cfg0.N, cond0_4 (grid0.coords t) ↔ (t.val % 81 = 9 ∨ t.val % 81 = 19 ∨ t.val % 81 = 29 ∨ t.val % 81 = 39 ∨ t.val % 81 = 49 ∨ t.val % 81 = 59 ∨ t.val % 81 = 69 ∨ t.val % 81 = 79 ∨ t.val % 81 = 80) :=
  (by decide +kernel : ∀ t : Fin grid0.N, cond0_4 (grid0.coords t) ↔ (t.val % 81 = 9 ∨ t.val % 81 = 19 ∨ t.val % 81 = 29 ∨ t.val % 81 = 39 ∨ t.val % 81 = 49 ∨ t.val % 81 = 59 ∨ t.val % 81 = 69 ∨ t.val % 81 = 79 ∨ t.val % 81 = 80))

/-- The condition of the body's `scf.if` 5 (`k0_h6`), from the grid coordinates (the skeleton's scalar
    chain substituted). -/
abbrev cond0_5 (i : grid0.Coords) : Prop := k0_cond6 i = 1#1
/-- It holds at points 10, 20, 30, 40, 50, 60, 70 and 80 only — decided over the grid. -/
theorem hcond0_5 : ∀ t : Fin cfg0.N, cond0_5 (grid0.coords t) ↔ (t.val % 81 = 10 ∨ t.val % 81 = 20 ∨ t.val % 81 = 30 ∨ t.val % 81 = 40 ∨ t.val % 81 = 50 ∨ t.val % 81 = 60 ∨ t.val % 81 = 70 ∨ t.val % 81 = 80) :=
  (by decide +kernel : ∀ t : Fin grid0.N, cond0_5 (grid0.coords t) ↔ (t.val % 81 = 10 ∨ t.val % 81 = 20 ∨ t.val % 81 = 30 ∨ t.val % 81 = 40 ∨ t.val % 81 = 50 ∨ t.val % 81 = 60 ∨ t.val % 81 = 70 ∨ t.val % 81 = 80))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## Where the exponents of a block are kept -/

/-- The rows of the exponent buffer that the point's block of exponents is stored at. -/
theorem k0_off1_eq : ∀ i : grid0.Coords, k0_off1 i = ![32 * ((min (i 0).val 79) % 10), 0] := by decide +kernel
instance closedOff_k0_off1 (i : grid0.Coords) : ClosedOff (k0_off1 i) := ⟨![32 * ((min (i 0).val 79) % 10), 0], k0_off1_eq i⟩
/-- The rows of the exponent buffer that the point's block of exponents is stored at. -/
theorem k0_off2_eq : ∀ i : grid0.Coords, k0_off2 i = ![32 * ((min (i 0).val 79) % 10), 256] := by decide +kernel
instance closedOff_k0_off2 (i : grid0.Coords) : ClosedOff (k0_off2 i) := ⟨![32 * ((min (i 0).val 79) % 10), 256], k0_off2_eq i⟩
/-- The rows of the exponent buffer that the point's block of exponents is stored at. -/
theorem k0_off3_eq : ∀ i : grid0.Coords, k0_off3 i = ![32 * ((min (i 0).val 79) % 10), 512] := by decide +kernel
instance closedOff_k0_off3 (i : grid0.Coords) : ClosedOff (k0_off3 i) := ⟨![32 * ((min (i 0).val 79) % 10), 512], k0_off3_eq i⟩
/-- The rows of the exponent buffer that the point's block of exponents is stored at. -/
theorem k0_off4_eq : ∀ i : grid0.Coords, k0_off4 i = ![32 * ((min (i 0).val 79) % 10), 768] := by decide +kernel
instance closedOff_k0_off4 (i : grid0.Coords) : ClosedOff (k0_off4 i) := ⟨![32 * ((min (i 0).val 79) % 10), 768], k0_off4_eq i⟩
/-- The rows of the exponent buffer that the point's block of exponents is stored at. -/
theorem k0_off5_eq : ∀ i : grid0.Coords, k0_off5 i = ![32 * ((min (i 0).val 79) % 10), 0] := by decide +kernel
instance closedOff_k0_off5 (i : grid0.Coords) : ClosedOff (k0_off5 i) := ⟨![32 * ((min (i 0).val 79) % 10), 0], k0_off5_eq i⟩
/-- The rows of the exponent buffer that the point's block of exponents is stored at. -/
theorem k0_off6_eq : ∀ i : grid0.Coords, k0_off6 i = ![32 * ((min (i 0).val 79) % 10), 256] := by decide +kernel
instance closedOff_k0_off6 (i : grid0.Coords) : ClosedOff (k0_off6 i) := ⟨![32 * ((min (i 0).val 79) % 10), 256], k0_off6_eq i⟩
/-- The rows of the exponent buffer that the point's block of exponents is stored at. -/
theorem k0_off7_eq : ∀ i : grid0.Coords, k0_off7 i = ![32 * ((min (i 0).val 79) % 10), 512] := by decide +kernel
instance closedOff_k0_off7 (i : grid0.Coords) : ClosedOff (k0_off7 i) := ⟨![32 * ((min (i 0).val 79) % 10), 512], k0_off7_eq i⟩
/-- The rows of the exponent buffer that the point's block of exponents is stored at. -/
theorem k0_off8_eq : ∀ i : grid0.Coords, k0_off8 i = ![32 * ((min (i 0).val 79) % 10), 768] := by decide +kernel
instance closedOff_k0_off8 (i : grid0.Coords) : ClosedOff (k0_off8 i) := ⟨![32 * ((min (i 0).val 79) % 10), 768], k0_off8_eq i⟩

/-! ## The kernel body on any staging memrefs: a subtype the run finds -/

/-- Each window's current staging memref at point `t`, spelled as the pipeline passes it (`bodyAt0`), and its wholeness. -/
abbrev ms0_0 (t : Fin cfg0.N) : Memref sig .tc .vmem S1536x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S320x1024 .i8 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S1536x1024 .f32 := Memref.whole cc0_scratch0
abbrev scM0_1 : Memref sig .tc .vmem S1024x1024 .bf16 := Memref.whole cc0_scratch1
abbrev scM0_2 : Memref sig .tc .vmem S1024x1024 .bf16 := Memref.whole cc0_scratch2
abbrev scM0_3 : Memref sig .tc .vmem S320x1024 .i32 := Memref.whole cc0_scratch3
/-- The scratch `arg6` the kernel carries between points, as a view: what it holds is stated through it. -/
abbrev VS0_0 : View sig .tc .vmem S1536x1024 .f32 := scM0_0.view
/-- The scratch `arg7` the kernel carries between points, as a view: what it holds is stated through it. -/
abbrev VS0_1 : View sig .tc .vmem S1024x1024 .bf16 := scM0_1.view
/-- The scratch `arg8` the kernel carries between points, as a view: what it holds is stated through it. -/
abbrev VS0_2 : View sig .tc .vmem S1024x1024 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelDxIdeal.Hand

end
-- ==== Proof.DxRunA.lean ====
/- The run of the kernel body in case A: the first point: the wide buffer and the sum are cleared. -/
module

public import proofs.«01_k».proof.Proof.DxSetup

@[expose] public section

set_option maxRecDepth 16384

noncomputable section

namespace Cert.KernelDxIdeal.Hand

open Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the buffers at the first point: the wide buffer and the sum are cleared: the written pieces of every buffer (last first), with
    the proof that the body runs from the buffers at the named contents to those pieces written. -/
noncomputable def run_A (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S320x1024 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S320x1024 .i32) (harg9 : arg9.IsWhole) (hc0 : cond0_0 i) (hc1 : cond0_1 i) (hc2 : cond0_2 i) (hc3 : ¬cond0_3 i) (hc4 : ¬cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S320x1024 .i32) :
    Σ' (LA : List (View.Piece (Elt F) S1536x1024 .f32)), Σ' (LD : List (View.Piece (Elt F) S1024x1024 .bf16)), Σ' (LZ : List (View.Piece (Elt F) S1024x1024 .bf16)), Σ' (LC : List (View.Piece (Elt F) S1024x1024 .fp8e4m3)), { LE : List (View.Piece (Elt F) S320x1024 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg1 fullShare x0 ∗ owns (c : Thread nD τ) arg2 fullShare x1 ∗ (∃ d, owns (c : Thread nD τ) arg3 fullShare d) ∗ (∃ f, arg4.view.loc (c : Thread nD τ) ↦[arg4.view.set]{fullShare} arg4.view.writes (Elt F) f LC) ∗ (∃ d, owns (c : Thread nD τ) arg5 fullShare d) ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LD) ∗ (∃ f, arg8.view.loc (c : Thread nD τ) ↦[arg8.view.set]{fullShare} arg8.view.writes (Elt F) f LZ) ∗ arg9.view.loc (c : Thread nD τ) ↦[arg9.view.set]{fullShare} arg9.view.writes (Elt F) (harg9.unread xs3) LE) -∗ K ⟨⟩))
          ⊢ wp frame (wpE (defs₀ (F := F)) Variants.none c none) E (cc0_qmm_col i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_qmm_col_eq_skeleton]; unfold cc0_qmm_col_skel
    simp only [k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg6.eq_unread hfs0; obtain rfl := harg7.eq_unread hfs1; obtain rfl := harg8.eq_unread hfs2; obtain rfl := harg9.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]; · iexists _; iexact H3
    isplitl [H4]
    · iexists _, _; isplitr; swap; · iexact H4
      ipureintro; rfl
    isplitl [HS0]; · iexists _; iexact HS0
    isplitl [HS1]; · iexists _; iexact HS1
    isplitl [HS2]; · iexists _; iexact HS2
    iexact HS3

end Cert.KernelDxIdeal.Hand

end
-- ==== Proof.DxRunB.lean ====
/- The run of the kernel body in case B: an odd point that begins a sum. -/
module

public import proofs.«01_k».proof.Proof.DxRunA

@[expose] public section

set_option maxRecDepth 16384

noncomputable section

namespace Cert.KernelDxIdeal.Hand

open Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the buffers at an odd point that begins a sum: the written pieces of every buffer (last first), with
    the proof that the body runs from the buffers at the named contents to those pieces written. -/
noncomputable def run_B (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S320x1024 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S320x1024 .i32) (harg9 : arg9.IsWhole) (hc0 : ¬cond0_0 i) (hc1 : cond0_1 i) (hc2 : ¬cond0_2 i) (hc3 : cond0_3 i) (hc4 : ¬cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S320x1024 .i32) :
    Σ' (LA : List (View.Piece (Elt F) S1536x1024 .f32)), Σ' (LD : List (View.Piece (Elt F) S1024x1024 .bf16)), Σ' (LC : List (View.Piece (Elt F) S1024x1024 .fp8e4m3)), { LE : List (View.Piece (Elt F) S320x1024 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg1 fullShare x0 ∗ owns (c : Thread nD τ) arg2 fullShare x1 ∗ (∃ d, owns (c : Thread nD τ) arg3 fullShare d) ∗ (∃ f, arg4.view.loc (c : Thread nD τ) ↦[arg4.view.set]{fullShare} arg4.view.writes (Elt F) f LC) ∗ (∃ d, owns (c : Thread nD τ) arg5 fullShare d) ∗ (∃ f, arg6.view.loc (c : Thread nD τ) ↦[arg6.view.set]{fullShare} arg6.view.writes (Elt F) f LA) ∗ owns (c : Thread nD τ) arg7 fullShare xs1 ∗ (∃ f, arg8.view.loc (c : Thread nD τ) ↦[arg8.view.set]{fullShare} arg8.view.writes (Elt F) f LD) ∗ arg9.view.loc (c : Thread nD τ) ↦[arg9.view.set]{fullShare} arg9.view.writes (Elt F) (harg9.unread xs3) LE) -∗ K ⟨⟩))
          ⊢ wp frame (wpE (defs₀ (F := F)) Variants.none c none) E (cc0_qmm_col i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_qmm_col_eq_skeleton]; unfold cc0_qmm_col_skel
    simp only [k0_part25_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg6.eq_unread hfs0; obtain rfl := harg7.eq_unread hfs1; obtain rfl := harg8.eq_unread hfs2; obtain rfl := harg9.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]; · iexists _; iexact H3
    isplitl [H4]
    · iexists _, _; isplitr; swap; · iexact H4
      ipureintro; rfl
    isplitl [HS0]; · iexists _; iexact HS0
    isplitl [HS1]
    · iexists _; isplitr; · ipureintro; exact harg7.read_unread _
      iexact HS1
    isplitl [HS2]; · iexists _; iexact HS2
    iexact HS3

end Cert.KernelDxIdeal.Hand

end
-- ==== Proof.DxRunC.lean ====
/- The run of the kernel body in case C: an even point in the middle of a sum. -/
module

public import proofs.«01_k».proof.Proof.DxRunB

@[expose] public section

set_option maxRecDepth 16384

noncomputable section

namespace Cert.KernelDxIdeal.Hand

open Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the buffers at an even point in the middle of a sum: the written pieces of every buffer (last first), with
    the proof that the body runs from the buffers at the named contents to those pieces written. -/
noncomputable def run_C (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S320x1024 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S320x1024 .i32) (harg9 : arg9.IsWhole) (hc0 : ¬cond0_0 i) (hc1 : ¬cond0_1 i) (hc2 : cond0_2 i) (hc3 : ¬cond0_3 i) (hc4 : ¬cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S320x1024 .i32) :
    Σ' (LA : List (View.Piece (Elt F) S1536x1024 .f32)), Σ' (LD : List (View.Piece (Elt F) S1024x1024 .bf16)), Σ' (LC : List (View.Piece (Elt F) S1024x1024 .fp8e4m3)), { LE : List (View.Piece (Elt F) S320x1024 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg1 fullShare x0 ∗ owns (c : Thread nD τ) arg2 fullShare x1 ∗ (∃ d, owns (c : Thread nD τ) arg3 fullShare d) ∗ (∃ f, arg4.view.loc (c : Thread nD τ) ↦[arg4.view.set]{fullShare} arg4.view.writes (Elt F) f LC) ∗ (∃ d, owns (c : Thread nD τ) arg5 fullShare d) ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LD) ∗ owns (c : Thread nD τ) arg8 fullShare xs2 ∗ arg9.view.loc (c : Thread nD τ) ↦[arg9.view.set]{fullShare} arg9.view.writes (Elt F) (harg9.unread xs3) LE) -∗ K ⟨⟩))
          ⊢ wp frame (wpE (defs₀ (F := F)) Variants.none c none) E (cc0_qmm_col i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_qmm_col_eq_skeleton]; unfold cc0_qmm_col_skel
    simp only [k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg6.eq_unread hfs0; obtain rfl := harg7.eq_unread hfs1; obtain rfl := harg8.eq_unread hfs2; obtain rfl := harg9.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]; · iexists _; iexact H3
    isplitl [H4]
    · iexists _, _; isplitr; swap; · iexact H4
      ipureintro; rfl
    isplitl [HS0]; · iexists _; iexact HS0
    isplitl [HS1]; · iexists _; iexact HS1
    isplitl [HS2]
    · iexists _; isplitr; · ipureintro; exact harg8.read_unread _
      iexact HS2
    iexact HS3

end Cert.KernelDxIdeal.Hand

end
-- ==== Proof.DxRunD.lean ====
/- The run of the kernel body in case D: an odd point in the middle of a sum. -/
module

public import proofs.«01_k».proof.Proof.DxRunC

@[expose] public section

set_option maxRecDepth 16384

noncomputable section

namespace Cert.KernelDxIdeal.Hand

open Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the buffers at an odd point in the middle of a sum: the written pieces of every buffer (last first), with
    the proof that the body runs from the buffers at the named contents to those pieces written. -/
noncomputable def run_D (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S320x1024 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S320x1024 .i32) (harg9 : arg9.IsWhole) (hc0 : ¬cond0_0 i) (hc1 : ¬cond0_1 i) (hc2 : ¬cond0_2 i) (hc3 : cond0_3 i) (hc4 : ¬cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S320x1024 .i32) :
    Σ' (LA : List (View.Piece (Elt F) S1536x1024 .f32)), Σ' (LD : List (View.Piece (Elt F) S1024x1024 .bf16)), Σ' (LC : List (View.Piece (Elt F) S1024x1024 .fp8e4m3)), { LE : List (View.Piece (Elt F) S320x1024 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg1 fullShare x0 ∗ owns (c : Thread nD τ) arg2 fullShare x1 ∗ (∃ d, owns (c : Thread nD τ) arg3 fullShare d) ∗ (∃ f, arg4.view.loc (c : Thread nD τ) ↦[arg4.view.set]{fullShare} arg4.view.writes (Elt F) f LC) ∗ (∃ d, owns (c : Thread nD τ) arg5 fullShare d) ∗ (∃ f, arg6.view.loc (c : Thread nD τ) ↦[arg6.view.set]{fullShare} arg6.view.writes (Elt F) f LA) ∗ owns (c : Thread nD τ) arg7 fullShare xs1 ∗ (∃ f, arg8.view.loc (c : Thread nD τ) ↦[arg8.view.set]{fullShare} arg8.view.writes (Elt F) f LD) ∗ arg9.view.loc (c : Thread nD τ) ↦[arg9.view.set]{fullShare} arg9.view.writes (Elt F) (harg9.unread xs3) LE) -∗ K ⟨⟩))
          ⊢ wp frame (wpE (defs₀ (F := F)) Variants.none c none) E (cc0_qmm_col i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_qmm_col_eq_skeleton]; unfold cc0_qmm_col_skel
    simp only [k0_part25_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg6.eq_unread hfs0; obtain rfl := harg7.eq_unread hfs1; obtain rfl := harg8.eq_unread hfs2; obtain rfl := harg9.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]; · iexists _; iexact H3
    isplitl [H4]
    · iexists _, _; isplitr; swap; · iexact H4
      ipureintro; rfl
    isplitl [HS0]; · iexists _; iexact HS0
    isplitl [HS1]
    · iexists _; isplitr; · ipureintro; exact harg7.read_unread _
      iexact HS1
    isplitl [HS2]; · iexists _; iexact HS2
    iexact HS3

end Cert.KernelDxIdeal.Hand

end
-- ==== Proof.DxRunE.lean ====
/- The run of the kernel body in case E: an odd point that ends a row of blocks and stores its scales. -/
module

public import proofs.«01_k».proof.Proof.DxRunD

@[expose] public section

set_option maxRecDepth 16384

noncomputable section

namespace Cert.KernelDxIdeal.Hand

open Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the buffers at an odd point that ends a row of blocks and stores its scales: the written pieces of every buffer (last first), with
    the proof that the body runs from the buffers at the named contents to those pieces written. -/
noncomputable def run_E (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S320x1024 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S320x1024 .i32) (harg9 : arg9.IsWhole) (hc0 : ¬cond0_0 i) (hc1 : ¬cond0_1 i) (hc2 : ¬cond0_2 i) (hc3 : cond0_3 i) (hc4 : cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S320x1024 .i32) :
    Σ' (LA : List (View.Piece (Elt F) S1536x1024 .f32)), Σ' (LD : List (View.Piece (Elt F) S1024x1024 .bf16)), Σ' (LC : List (View.Piece (Elt F) S1024x1024 .fp8e4m3)), Σ' (LS : List (View.Piece (Elt F) S320x1024 .i8)), { LE : List (View.Piece (Elt F) S320x1024 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg1 fullShare x0 ∗ owns (c : Thread nD τ) arg2 fullShare x1 ∗ (∃ d, owns (c : Thread nD τ) arg3 fullShare d) ∗ (∃ f, arg4.view.loc (c : Thread nD τ) ↦[arg4.view.set]{fullShare} arg4.view.writes (Elt F) f LC) ∗ (∃ f, arg5.view.loc (c : Thread nD τ) ↦[arg5.view.set]{fullShare} arg5.view.writes (Elt F) f LS) ∗ (∃ f, arg6.view.loc (c : Thread nD τ) ↦[arg6.view.set]{fullShare} arg6.view.writes (Elt F) f LA) ∗ owns (c : Thread nD τ) arg7 fullShare xs1 ∗ (∃ f, arg8.view.loc (c : Thread nD τ) ↦[arg8.view.set]{fullShare} arg8.view.writes (Elt F) f LD) ∗ arg9.view.loc (c : Thread nD τ) ↦[arg9.view.set]{fullShare} arg9.view.writes (Elt F) (harg9.unread xs3) LE) -∗ K ⟨⟩))
          ⊢ wp frame (wpE (defs₀ (F := F)) Variants.none c none) E (cc0_qmm_col i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_qmm_col_eq_skeleton]; unfold cc0_qmm_col_skel
    simp only [k0_part25_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg6.eq_unread hfs0; obtain rfl := harg7.eq_unread hfs1; obtain rfl := harg8.eq_unread hfs2; obtain rfl := harg9.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]; · iexists _; iexact H3
    isplitl [H4]; · iexists _; iexact H4
    isplitl [HS0]; · iexists _; iexact HS0
    isplitl [HS1]
    · iexists _; isplitr; · ipureintro; exact harg7.read_unread _
      iexact HS1
    isplitl [HS2]; · iexists _; iexact HS2
    iexact HS3

end Cert.KernelDxIdeal.Hand

end
-- ==== Proof.DxRunF.lean ====
/- The run of the kernel body in case F: an even point that ends a sum and stores it. -/
module

public import proofs.«01_k».proof.Proof.DxRunE

@[expose] public section

set_option maxRecDepth 16384

noncomputable section

namespace Cert.KernelDxIdeal.Hand

open Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the buffers at an even point that ends a sum and stores it: the written pieces of every buffer (last first), with
    the proof that the body runs from the buffers at the named contents to those pieces written. -/
noncomputable def run_F (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S320x1024 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S320x1024 .i32) (harg9 : arg9.IsWhole) (hc0 : ¬cond0_0 i) (hc1 : ¬cond0_1 i) (hc2 : cond0_2 i) (hc3 : ¬cond0_3 i) (hc4 : ¬cond0_4 i) (hc5 : cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S320x1024 .i32) :
    Σ' (LA : List (View.Piece (Elt F) S1536x1024 .f32)), Σ' (LD : List (View.Piece (Elt F) S1024x1024 .bf16)), Σ' (LC : List (View.Piece (Elt F) S1024x1024 .fp8e4m3)), Σ' (LO : List (View.Piece (Elt F) S1536x1024 .bf16)), { LE : List (View.Piece (Elt F) S320x1024 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LC) ∗ (∃ d, owns (c : Thread nD τ) arg5 fullShare d) ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LD) ∗ owns (c : Thread nD τ) arg8 fullShare xs2 ∗ arg9.view.loc (c : Thread nD τ) ↦[arg9.view.set]{fullShare} arg9.view.writes (Elt F) (harg9.unread xs3) LE) -∗ K ⟨⟩))
          ⊢ wp frame (wpE (defs₀ (F := F)) Variants.none c none) E (cc0_qmm_col i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_qmm_col_eq_skeleton]; unfold cc0_qmm_col_skel
    simp only [k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg6.eq_unread hfs0; obtain rfl := harg7.eq_unread hfs1; obtain rfl := harg8.eq_unread hfs2; obtain rfl := harg9.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _, _; isplitr; swap; · iexact H4
      ipureintro; rfl
    isplitl [HS0]; · iexists _; iexact HS0
    isplitl [HS1]; · iexists _; iexact HS1
    isplitl [HS2]
    · iexists _; isplitr; · ipureintro; exact harg8.read_unread _
      iexact HS2
    iexact HS3

end Cert.KernelDxIdeal.Hand

end
-- ==== Proof.DxRunG.lean ====
/- The run of the kernel body in case G: the last point: scales and sum are stored. -/
module

public import proofs.«01_k».proof.Proof.DxRunF

@[expose] public section

set_option maxRecDepth 16384

noncomputable section

namespace Cert.KernelDxIdeal.Hand

open Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the buffers at the last point: scales and sum are stored: the written pieces of every buffer (last first), with
    the proof that the body runs from the buffers at the named contents to those pieces written. -/
noncomputable def run_G (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S320x1024 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S320x1024 .i32) (harg9 : arg9.IsWhole) (hc0 : ¬cond0_0 i) (hc1 : ¬cond0_1 i) (hc2 : cond0_2 i) (hc3 : ¬cond0_3 i) (hc4 : cond0_4 i) (hc5 : cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S320x1024 .i32) :
    Σ' (LA : List (View.Piece (Elt F) S1536x1024 .f32)), Σ' (LD : List (View.Piece (Elt F) S1024x1024 .bf16)), Σ' (LC : List (View.Piece (Elt F) S1024x1024 .fp8e4m3)), Σ' (LS : List (View.Piece (Elt F) S320x1024 .i8)), Σ' (LO : List (View.Piece (Elt F) S1536x1024 .bf16)), { LE : List (View.Piece (Elt F) S320x1024 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LC) ∗ (∃ f, arg5.view.loc (c : Thread nD τ) ↦[arg5.view.set]{fullShare} arg5.view.writes (Elt F) f LS) ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LD) ∗ owns (c : Thread nD τ) arg8 fullShare xs2 ∗ arg9.view.loc (c : Thread nD τ) ↦[arg9.view.set]{fullShare} arg9.view.writes (Elt F) (harg9.unread xs3) LE) -∗ K ⟨⟩))
          ⊢ wp frame (wpE (defs₀ (F := F)) Variants.none c none) E (cc0_qmm_col i arg1 harg1 arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0_qmm_col_eq_skeleton]; unfold cc0_qmm_col_skel
    simp only [k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg6.eq_unread hfs0; obtain rfl := harg7.eq_unread hfs1; obtain rfl := harg8.eq_unread hfs2; obtain rfl := harg9.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    isplitl [HS2]
    · iexists _; isplitr; · ipureintro; exact harg8.read_unread _
      iexact HS2
    iexact HS3

end Cert.KernelDxIdeal.Hand

end
-- ==== Proof.DxTiles.lean ====
/- What one chunk of the kernel body computes, and what the buffers hold after the four chunks of a grid point,
   as functions of what they held before. -/
module

public import proofs.«01_k».proof.Proof.DxRunG
public import Idealize.ShloMosaic.Lib.Pipeline.ValueKit
public import Idealize.ShloMosaic.Lib.WholeRead
public import Idealize.ShloMosaic.Lib.WritesUnit

@[expose] public section

set_option maxRecDepth 16384

noncomputable section

namespace Cert.KernelDxIdeal.Hand

open Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One chunk -/

/-- The largest magnitudes of a chunk's blocks, over 448. -/
def cq (v : Vec F S1024x256 .bf16) : FVec F S32x256 .f32 := k0_pay12 v
/-- The exponent search after seven of its eight steps. -/
def c139 (v : Vec F S1024x256 .bf16) : IVec S32x256 32 := k0_pay16 (cq v) (k0_pay13 v) (k0_pay14 v) k0_pay15
/-- The candidate of the eighth step. -/
def c141 (v : Vec F S1024x256 .bf16) : IVec S32x256 32 := k0_pay17 (cq v) (k0_pay13 v) (k0_pay14 v) k0_pay15
/-- The biased exponents of a chunk's scales. -/
def chunkE (v : Vec F S1024x256 .bf16) : IVec S32x256 32 := k0_pay19 (cq v) (c139 v) (c141 v) k0_pay18
/-- The widened chunk. -/
def chunkW (v : Vec F S1024x256 .bf16) : FVec F S1024x256 .bf16 := k0_pay21 v (cq v) (c139 v) (c141 v) k0_pay18
/-- The chunk's codes. -/
def chunkC (v : Vec F S1024x256 .bf16) : FVec F S256x1024 .fp8e4m3 := k0_pay22 v (cq v) (c139 v) (c141 v) k0_pay18
/-- The exponents as they are stored. -/
def chunkS (v : Vec F S1024x256 .bf16) : IVec S32x256 32 := k0_pay23 (chunkE v)
/-- A chunk of the running sum with the product of the left block and a widened chunk added. -/
def chunkA (a : Vec F S1536x256 .f32) (l : Vec F S1536x1024 .bf16) (s : Vec F S1024x256 .bf16) : FVec F S1536x256 .f32 :=
  k0_pay11 a l s

/-! ## A whole block -/

/-- Columns `256 j` to `256 j + 256` of a block. -/
def colsOf (X : Vec F S1024x1024 .bf16) (j : Fin 4) : Vec F S1024x256 .bf16 :=
  fun q => X (ix2 (⟨(q 0).val, (q 0).isLt⟩ : Fin 1024) (⟨256 * j.val + (q 1).val, by have h : (q 1).val < 256 := (q 1).isLt; omega⟩ : Fin 1024))
/-- Columns `256 j` to `256 j + 256` of the running sum. -/
def sumColsOf (X : Vec F S1536x1024 .f32) (j : Fin 4) : Vec F S1536x256 .f32 :=
  fun q => X (ix2 (⟨(q 0).val, (q 0).isLt⟩ : Fin 1536) (⟨256 * j.val + (q 1).val, by have h : (q 1).val < 256 := (q 1).isLt; omega⟩ : Fin 1024))

/-- The running sum after a grid point. -/
def accNew (x0 : Vec F S1536x1024 .bf16) (src : Vec F S1024x1024 .bf16) (acc : Vec F S1536x1024 .f32) : Vec F S1536x1024 .f32 :=
  fun p => chunkA (sumColsOf acc ⟨(p 1).val / 256, by have h : (p 1).val < 1024 := (p 1).isLt; omega⟩) x0
    (colsOf src ⟨(p 1).val / 256, by have h : (p 1).val < 1024 := (p 1).isLt; omega⟩)
    (ix2 (⟨(p 0).val, (p 0).isLt⟩ : Fin 1536) (⟨(p 1).val % 256, Nat.mod_lt _ (by decide)⟩ : Fin 256))
/-- The widened block a grid point leaves. -/
def wideNew (x1 : Vec F S1024x1024 .bf16) : Vec F S1024x1024 .bf16 :=
  fun p => chunkW (colsOf x1 ⟨(p 1).val / 256, by have h : (p 1).val < 1024 := (p 1).isLt; omega⟩)
    (ix2 (⟨(p 0).val, (p 0).isLt⟩ : Fin 1024) (⟨(p 1).val % 256, Nat.mod_lt _ (by decide)⟩ : Fin 256))
/-- The codes a grid point leaves. -/
def codesNew (x1 : Vec F S1024x1024 .bf16) : Vec F S1024x1024 .fp8e4m3 :=
  fun p => chunkC (colsOf x1 ⟨(p 0).val / 256, by have h : (p 0).val < 1024 := (p 0).isLt; omega⟩)
    (ix2 (⟨(p 0).val % 256, Nat.mod_lt _ (by decide)⟩ : Fin 256) (⟨(p 1).val, (p 1).isLt⟩ : Fin 1024))
/-- The exponents of a block. -/
def expNew (x1 : Vec F S1024x1024 .bf16) (a : Fin 32) (b : Fin 1024) : BitVec 32 :=
  chunkS (colsOf x1 ⟨b.val / 256, by omega⟩) (ix2 a (⟨b.val % 256, Nat.mod_lt _ (by decide)⟩ : Fin 256))
/-- The exponent buffer after a grid point: 32 of its rows are the block's exponents. -/
def eNew (r : ℕ) (x1 : Vec F S1024x1024 .bf16) (e : Vec F S320x1024 .i32) : Vec F S320x1024 .i32 :=
  fun p => if h : 32 * r ≤ (p 0).val ∧ (p 0).val < 32 * r + 32 then
      expNew x1 ⟨(p 0).val - 32 * r, by omega⟩ ⟨(p 1).val, (p 1).isLt⟩
    else e p

theorem accNew_at {x0 : Vec F S1536x1024 .bf16} {src : Vec F S1024x1024 .bf16} {acc : Vec F S1536x1024 .f32} (j : Fin 4)
    (x : S1536x256.Idx) (y : S1536x1024.Idx) (h0 : (y 0).val = (x 0).val) (h1 : (y 1).val = 256 * j.val + (x 1).val) :
    chunkA (sumColsOf acc j) x0 (colsOf src j) x = accNew x0 src acc y := by
  have hx : (x 1).val < 256 := (x 1).isLt
  have hj : (⟨(y 1).val / 256, by have h : (y 1).val < 1024 := (y 1).isLt; omega⟩ : Fin 4) = j := Fin.ext (by show (y 1).val / 256 = j.val; omega)
  unfold accNew
  rw [hj]
  congr 1
  funext a
  match a with
  | ⟨0, _⟩ => exact Fin.ext h0.symm
  | ⟨1, _⟩ => exact Fin.ext (show (x 1).val = (y 1).val % 256 by omega)

theorem wideNew_at {x1 : Vec F S1024x1024 .bf16} (j : Fin 4)
    (x : S1024x256.Idx) (y : S1024x1024.Idx) (h0 : (y 0).val = (x 0).val) (h1 : (y 1).val = 256 * j.val + (x 1).val) :
    chunkW (colsOf x1 j) x = wideNew x1 y := by
  have hx : (x 1).val < 256 := (x 1).isLt
  have hj : (⟨(y 1).val / 256, by have h : (y 1).val < 1024 := (y 1).isLt; omega⟩ : Fin 4) = j := Fin.ext (by show (y 1).val / 256 = j.val; omega)
  unfold wideNew
  rw [hj]
  congr 1
  funext a
  match a with
  | ⟨0, _⟩ => exact Fin.ext h0.symm
  | ⟨1, _⟩ => exact Fin.ext (show (x 1).val = (y 1).val % 256 by omega)

theorem codesNew_at {x1 : Vec F S1024x1024 .bf16} (j : Fin 4)
    (x : S256x1024.Idx) (y : S1024x1024.Idx) (h0 : (y 0).val = 256 * j.val + (x 0).val) (h1 : (y 1).val = (x 1).val) :
    chunkC (colsOf x1 j) x = codesNew x1 y := by
  have hx : (x 0).val < 256 := (x 0).isLt
  have hj : (⟨(y 0).val / 256, by have h : (y 0).val < 1024 := (y 0).isLt; omega⟩ : Fin 4) = j := Fin.ext (by show (y 0).val / 256 = j.val; omega)
  unfold codesNew
  rw [hj]
  congr 1
  funext a
  match a with
  | ⟨0, _⟩ => exact Fin.ext (show (x 0).val = (y 0).val % 256 by omega)
  | ⟨1, _⟩ => exact Fin.ext h1.symm

theorem eNew_at {r : ℕ} {x1 : Vec F S1024x1024 .bf16} {e : Vec F S320x1024 .i32} (j : Fin 4)
    (x : S32x256.Idx) (y : S320x1024.Idx) (h0 : (y 0).val = 32 * r + (x 0).val) (h1 : (y 1).val = 256 * j.val + (x 1).val) :
    chunkS (colsOf x1 j) x = eNew r x1 e y := by
  have hx : (x 1).val < 256 := (x 1).isLt
  have hx0 : (x 0).val < 32 := (x 0).isLt
  have hj : (⟨(y 1).val / 256, by have h : (y 1).val < 1024 := (y 1).isLt; omega⟩ : Fin 4) = j := Fin.ext (by show (y 1).val / 256 = j.val; omega)
  unfold eNew
  rw [dif_pos (by omega)]
  unfold expNew
  rw [show (⟨(⟨(y 1).val, (y 1).isLt⟩ : Fin 1024).val / 256, by have h : (y 1).val < 1024 := (y 1).isLt; show (y 1).val / 256 < 4; omega⟩ : Fin 4) = j from hj]
  congr 1
  funext a
  match a with
  | ⟨0, _⟩ => exact Fin.ext (show (x 0).val = (y 0).val - 32 * r by omega)
  | ⟨1, _⟩ => exact Fin.ext (show (x 1).val = (y 1).val % 256 by omega)

/-! ## Loads through the body's rectangles -/

theorem cols_readAt {m : Memref sig .tc .vmem S1024x1024 .bf16} (hm : m.IsWhole) (X : Vec F S1024x1024 .bf16) (j : Fin 4)
    {off : Fin 2 → ℕ} (inb) (ho0 : off 0 = 0) (ho1 : off 1 = 256 * j.val) :
    m.view.readAt (Elt F) (Rect.unit (s := S1024x1024) off ![1024, 256] inb) (hm.unread X) = colsOf X j := by
  funext q
  refine (hm.readAt_unread X _ q).trans (congrArg X (funext fun a => Fin.ext ?_))
  match a with
  | ⟨0, _⟩ => exact (Rect.idx_unit_val off _ inb q 0).trans ((congrArg (· + (q 0).val) ho0).trans (Nat.zero_add _))
  | ⟨1, _⟩ => exact (Rect.idx_unit_val off _ inb q 1).trans (congrArg (· + (q 1).val) ho1)

theorem sumCols_readAt {m : Memref sig .tc .vmem S1536x1024 .f32} (hm : m.IsWhole) (X : Vec F S1536x1024 .f32) (j : Fin 4)
    {off : Fin 2 → ℕ} (inb) (ho0 : off 0 = 0) (ho1 : off 1 = 256 * j.val) :
    m.view.readAt (Elt F) (Rect.unit (s := S1536x1024) off ![1536, 256] inb) (hm.unread X) = sumColsOf X j := by
  funext q
  refine (hm.readAt_unread X _ q).trans (congrArg X (funext fun a => Fin.ext ?_))
  match a with
  | ⟨0, _⟩ => exact (Rect.idx_unit_val off _ inb q 0).trans ((congrArg (· + (q 0).val) ho0).trans (Nat.zero_add _))
  | ⟨1, _⟩ => exact (Rect.idx_unit_val off _ inb q 1).trans (congrArg (· + (q 1).val) ho1)

theorem whole_readAt {S : Shape} {e : EltTy} {m : Memref sig .tc .vmem S e} (hm : m.IsWhole) (X : Vec F S e)
    {off : Fin S.rank → ℕ} (inb) (ho : ∀ a, off a = 0) :
    m.view.readAt (Elt F) (Rect.unit (s := S) off S.size inb) (hm.unread X) = X := by
  funext q
  exact (hm.readAt_unread X _ q).trans (congrArg X (funext fun a => Fin.ext ((Rect.idx_unit_val off _ inb q a).trans (by rw [ho]; exact Nat.zero_add _))))

/-! ## The body's stores as lists of pieces -/

/-- The four column chunks of a block, as the body loads them. -/
def rdCols (m : Memref sig .tc .vmem S1024x1024 .bf16) (hm : m.IsWhole) (X : Vec F S1024x1024 .bf16) (j : Fin 4) : Vec F S1024x256 .bf16 :=
  m.view.readAt (Elt F) (Rect.unit (s := S1024x1024) ![0, 256 * j.val] ![1024, 256]
    (fun a => by fin_cases j <;> fin_cases a <;> decide)).toLoadRect (hm.unread X)
/-- The four column chunks of the running sum, as the body loads them. -/
def rdSum (m : Memref sig .tc .vmem S1536x1024 .f32) (hm : m.IsWhole) (X : Vec F S1536x1024 .f32) (j : Fin 4) : Vec F S1536x256 .f32 :=
  m.view.readAt (Elt F) (Rect.unit (s := S1536x1024) ![0, 256 * j.val] ![1536, 256]
    (fun a => by fin_cases j <;> fin_cases a <;> decide)).toLoadRect (hm.unread X)
/-- The left block, as the body loads it. -/
def rdLeft (m : Memref sig .tc .vmem S1536x1024 .bf16) (hm : m.IsWhole) (X : Vec F S1536x1024 .bf16) : Vec F S1536x1024 .bf16 :=
  m.view.readAt (Elt F) (Rect.unit (s := S1536x1024) ![0, 0] ![1536, 1024] inb_S1536x1024_S1536x1024_0_0).toLoadRect (hm.unread X)

theorem rdCols_eq (m : Memref sig .tc .vmem S1024x1024 .bf16) (hm : m.IsWhole) (X : Vec F S1024x1024 .bf16) : rdCols m hm X = colsOf X :=
  funext fun j => cols_readAt hm X j _ rfl rfl
theorem rdSum_eq (m : Memref sig .tc .vmem S1536x1024 .f32) (hm : m.IsWhole) (X : Vec F S1536x1024 .f32) : rdSum m hm X = sumColsOf X :=
  funext fun j => sumCols_readAt hm X j _ rfl rfl
theorem rdLeft_eq (m : Memref sig .tc .vmem S1536x1024 .bf16) (hm : m.IsWhole) (X : Vec F S1536x1024 .bf16) : rdLeft m hm X = X :=
  whole_readAt hm X _ (fun a => by fin_cases a <;> rfl)

/-- The widened chunks, as stored. -/
def wPieces (v : Fin 4 → Vec F S1024x256 .bf16) : List (View.Piece (Elt F) S1024x1024 .bf16) :=
  [⟨Rect.unit (s := S1024x1024) ![0, 768] ![1024, 256] inb_S1024x1024_S1024x256_0_768, chunkW (v 3)⟩,
   ⟨Rect.unit (s := S1024x1024) ![0, 512] ![1024, 256] inb_S1024x1024_S1024x256_0_512, chunkW (v 2)⟩,
   ⟨Rect.unit (s := S1024x1024) ![0, 256] ![1024, 256] inb_S1024x1024_S1024x256_0_256, chunkW (v 1)⟩,
   ⟨Rect.unit (s := S1024x1024) ![0, 0] ![1024, 256] inb_S1024x1024_S1024x256_0_0, chunkW (v 0)⟩]
/-- The codes of the chunks, as stored. -/
def cPieces (v : Fin 4 → Vec F S1024x256 .bf16) : List (View.Piece (Elt F) S1024x1024 .fp8e4m3) :=
  [⟨Rect.unit (s := S1024x1024) ![768, 0] ![256, 1024] inb_S1024x1024_S256x1024_768_0, chunkC (v 3)⟩,
   ⟨Rect.unit (s := S1024x1024) ![512, 0] ![256, 1024] inb_S1024x1024_S256x1024_512_0, chunkC (v 2)⟩,
   ⟨Rect.unit (s := S1024x1024) ![256, 0] ![256, 1024] inb_S1024x1024_S256x1024_256_0, chunkC (v 1)⟩,
   ⟨Rect.unit (s := S1024x1024) ![0, 0] ![256, 1024] inb_S1024x1024_S256x1024_0_0, chunkC (v 0)⟩]
/-- The exponents of the chunks, as stored. -/
def ePieces (o0 o1 o2 o3 : Fin 2 → ℕ) (h0 : ∀ a, o0 a + S32x256.size a ≤ S320x1024.size a) (h1 : ∀ a, o1 a + S32x256.size a ≤ S320x1024.size a)
    (h2 : ∀ a, o2 a + S32x256.size a ≤ S320x1024.size a) (h3 : ∀ a, o3 a + S32x256.size a ≤ S320x1024.size a)
    (v : Fin 4 → Vec F S1024x256 .bf16) : List (View.Piece (Elt F) S320x1024 .i32) :=
  [⟨Rect.unit (s := S320x1024) o3 S32x256.size h3, chunkS (v 3)⟩, ⟨Rect.unit (s := S320x1024) o2 S32x256.size h2, chunkS (v 2)⟩,
   ⟨Rect.unit (s := S320x1024) o1 S32x256.size h1, chunkS (v 1)⟩, ⟨Rect.unit (s := S320x1024) o0 S32x256.size h0, chunkS (v 0)⟩]
/-- The chunks of the running sum, as stored. -/
def aPieces (a : Fin 4 → Vec F S1536x256 .f32) (l : Vec F S1536x1024 .bf16) (s : Fin 4 → Vec F S1024x256 .bf16) :
    List (View.Piece (Elt F) S1536x1024 .f32) :=
  [⟨Rect.unit (s := S1536x1024) ![0, 768] ![1536, 256] inb_S1536x1024_S1536x256_0_768, chunkA (a 3) l (s 3)⟩,
   ⟨Rect.unit (s := S1536x1024) ![0, 512] ![1536, 256] inb_S1536x1024_S1536x256_0_512, chunkA (a 2) l (s 2)⟩,
   ⟨Rect.unit (s := S1536x1024) ![0, 256] ![1536, 256] inb_S1536x1024_S1536x256_0_256, chunkA (a 1) l (s 1)⟩,
   ⟨Rect.unit (s := S1536x1024) ![0, 0] ![1536, 256] inb_S1536x1024_S1536x256_0_0, chunkA (a 0) l (s 0)⟩]

/-! Where the running sum starts from zero: the zeros first, then chunk by chunk, each read back over the stores
before it. -/

/-- The zeros. -/
def zP : List (View.Piece (Elt F) S1536x1024 .f32) :=
  [⟨Rect.unit (s := S1536x1024) ![0, 0] ![1536, 1024] inb_S1536x1024_S1536x1024_0_0, k0_pay112⟩]
/-- Chunk 0 as read. -/
def zA0 (m : Memref sig .tc .vmem S1536x1024 .f32) : Vec F S1536x256 .f32 :=
  m.view.readCov zP (Rect.unit (s := S1536x1024) ![0, 0] ![1536, 256] inb_S1536x1024_S1536x256_0_0).toLoadRect
/-- The stores up to chunk 0. -/
def zP0 (m : Memref sig .tc .vmem S1536x1024 .f32) (l : Vec F S1536x1024 .bf16) (s : Fin 4 → Vec F S1024x256 .bf16) : List (View.Piece (Elt F) S1536x1024 .f32) :=
  ⟨Rect.unit (s := S1536x1024) ![0, 0] ![1536, 256] inb_S1536x1024_S1536x256_0_0, chunkA (zA0 m) l (s 0)⟩ :: zP
/-- Chunk 1 as read. -/
def zA1 (m : Memref sig .tc .vmem S1536x1024 .f32) (l : Vec F S1536x1024 .bf16) (s : Fin 4 → Vec F S1024x256 .bf16) : Vec F S1536x256 .f32 :=
  m.view.readCov (zP0 m l s) (Rect.unit (s := S1536x1024) ![0, 256] ![1536, 256] inb_S1536x1024_S1536x256_0_256).toLoadRect
/-- The stores up to chunk 1. -/
def zP1 (m : Memref sig .tc .vmem S1536x1024 .f32) (l : Vec F S1536x1024 .bf16) (s : Fin 4 → Vec F S1024x256 .bf16) : List (View.Piece (Elt F) S1536x1024 .f32) :=
  ⟨Rect.unit (s := S1536x1024) ![0, 256] ![1536, 256] inb_S1536x1024_S1536x256_0_256, chunkA (zA1 m l s) l (s 1)⟩ :: zP0 m l s
/-- Chunk 2 as read. -/
def zA2 (m : Memref sig .tc .vmem S1536x1024 .f32) (l : Vec F S1536x1024 .bf16) (s : Fin 4 → Vec F S1024x256 .bf16) : Vec F S1536x256 .f32 :=
  m.view.readCov (zP1 m l s) (Rect.unit (s := S1536x1024) ![0, 512] ![1536, 256] inb_S1536x1024_S1536x256_0_512).toLoadRect
/-- The stores up to chunk 2. -/
def zP2 (m : Memref sig .tc .vmem S1536x1024 .f32) (l : Vec F S1536x1024 .bf16) (s : Fin 4 → Vec F S1024x256 .bf16) : List (View.Piece (Elt F) S1536x1024 .f32) :=
  ⟨Rect.unit (s := S1536x1024) ![0, 512] ![1536, 256] inb_S1536x1024_S1536x256_0_512, chunkA (zA2 m l s) l (s 2)⟩ :: zP1 m l s
/-- Chunk 3 as read. -/
def zA3 (m : Memref sig .tc .vmem S1536x1024 .f32) (l : Vec F S1536x1024 .bf16) (s : Fin 4 → Vec F S1024x256 .bf16) : Vec F S1536x256 .f32 :=
  m.view.readCov (zP2 m l s) (Rect.unit (s := S1536x1024) ![0, 768] ![1536, 256] inb_S1536x1024_S1536x256_0_768).toLoadRect
/-- All stores. -/
def zP3 (m : Memref sig .tc .vmem S1536x1024 .f32) (l : Vec F S1536x1024 .bf16) (s : Fin 4 → Vec F S1024x256 .bf16) : List (View.Piece (Elt F) S1536x1024 .f32) :=
  ⟨Rect.unit (s := S1536x1024) ![0, 768] ![1536, 256] inb_S1536x1024_S1536x256_0_768, chunkA (zA3 m l s) l (s 3)⟩ :: zP2 m l s

/-! ## What the pieces leave -/

theorem read_wPieces (m : Memref sig .tc .vmem S1024x1024 .bf16) (f) (x1 : Vec F S1024x1024 .bf16) :
    m.view.read (Elt F) (m.view.writes (Elt F) f (wPieces (colsOf x1))) = wideNew x1 := by
  funext y
  refine View.read_writes_apply_of_pieces (v := m.view) (f := f) (wideNew x1) (wPieces (colsOf x1)) ?_ y (View.cover_of_tiledL (s := S1024x1024) (wPieces (colsOf x1)) S1024x256.size (by sl_kernel_rfl) y)
  intro p hp x
  simp only [wPieces, List.mem_cons, List.not_mem_nil, _root_.or_false] at hp
  rcases hp with rfl | rfl | rfl | rfl
  · exact wideNew_at 3 x _ (by show 0 + 1 * (x 0).val = (x 0).val; omega) (by show 768 + 1 * (x 1).val = 256 * 3 + (x 1).val; omega)
  · exact wideNew_at 2 x _ (by show 0 + 1 * (x 0).val = (x 0).val; omega) (by show 512 + 1 * (x 1).val = 256 * 2 + (x 1).val; omega)
  · exact wideNew_at 1 x _ (by show 0 + 1 * (x 0).val = (x 0).val; omega) (by show 256 + 1 * (x 1).val = 256 * 1 + (x 1).val; omega)
  · exact wideNew_at 0 x _ (by show 0 + 1 * (x 0).val = (x 0).val; omega) (by show 0 + 1 * (x 1).val = 256 * 0 + (x 1).val; omega)

theorem read_cPieces (m : Memref sig .tc .vmem S1024x1024 .fp8e4m3) (f) (x1 : Vec F S1024x1024 .bf16) :
    m.view.read (Elt F) (m.view.writes (Elt F) f (cPieces (colsOf x1))) = codesNew x1 := by
  funext y
  refine View.read_writes_apply_of_pieces (v := m.view) (f := f) (codesNew x1) (cPieces (colsOf x1)) ?_ y (View.cover_of_tiledL (s := S1024x1024) (cPieces (colsOf x1)) S256x1024.size (by sl_kernel_rfl) y)
  intro p hp x
  simp only [cPieces, List.mem_cons, List.not_mem_nil, _root_.or_false] at hp
  rcases hp with rfl | rfl | rfl | rfl
  · exact codesNew_at 3 x _ (by show 768 + 1 * (x 0).val = 256 * 3 + (x 0).val; omega) (by show 0 + 1 * (x 1).val = (x 1).val; omega)
  · exact codesNew_at 2 x _ (by show 512 + 1 * (x 0).val = 256 * 2 + (x 0).val; omega) (by show 0 + 1 * (x 1).val = (x 1).val; omega)
  · exact codesNew_at 1 x _ (by show 256 + 1 * (x 0).val = 256 * 1 + (x 0).val; omega) (by show 0 + 1 * (x 1).val = (x 1).val; omega)
  · exact codesNew_at 0 x _ (by show 0 + 1 * (x 0).val = 256 * 0 + (x 0).val; omega) (by show 0 + 1 * (x 1).val = (x 1).val; omega)

theorem aPieces_at (x0 : Vec F S1536x1024 .bf16) (src : Vec F S1024x1024 .bf16) (acc : Vec F S1536x1024 .f32)
    (p : View.Piece (Elt F) S1536x1024 .f32) (hp : p ∈ aPieces (sumColsOf acc) x0 (colsOf src)) (x : p.1.shape.Idx) :
    p.2 x = accNew x0 src acc (p.1.emb x) := by
  simp only [aPieces, List.mem_cons, List.not_mem_nil, _root_.or_false] at hp
  rcases hp with rfl | rfl | rfl | rfl
  · exact accNew_at 3 x _ (by show 0 + 1 * (x 0).val = (x 0).val; omega) (by show 768 + 1 * (x 1).val = 256 * 3 + (x 1).val; omega)
  · exact accNew_at 2 x _ (by show 0 + 1 * (x 0).val = (x 0).val; omega) (by show 512 + 1 * (x 1).val = 256 * 2 + (x 1).val; omega)
  · exact accNew_at 1 x _ (by show 0 + 1 * (x 0).val = (x 0).val; omega) (by show 256 + 1 * (x 1).val = 256 * 1 + (x 1).val; omega)
  · exact accNew_at 0 x _ (by show 0 + 1 * (x 0).val = (x 0).val; omega) (by show 0 + 1 * (x 1).val = 256 * 0 + (x 1).val; omega)

theorem read_aPieces (m : Memref sig .tc .vmem S1536x1024 .f32) (f) (x0 : Vec F S1536x1024 .bf16) (src : Vec F S1024x1024 .bf16)
    (acc : Vec F S1536x1024 .f32) :
    m.view.read (Elt F) (m.view.writes (Elt F) f (aPieces (sumColsOf acc) x0 (colsOf src))) = accNew x0 src acc := by
  funext y
  exact View.read_writes_apply_of_pieces (v := m.view) (f := f) (accNew x0 src acc) _ (aPieces_at x0 src acc) y (View.cover_of_tiledL (s := S1536x1024) (aPieces (sumColsOf acc) x0 (colsOf src)) S1536x256.size (by sl_kernel_rfl) y)

theorem read_ePieces (m : Memref sig .tc .vmem S320x1024 .i32) (hm : m.IsWhole) (e : Vec F S320x1024 .i32) (x1 : Vec F S1024x1024 .bf16)
    (r : ℕ) {o0 o1 o2 o3 : Fin 2 → ℕ} (h0 h1 h2 h3) (e0 : o0 = ![32 * r, 0]) (e1 : o1 = ![32 * r, 256]) (e2 : o2 = ![32 * r, 512])
    (e3 : o3 = ![32 * r, 768]) :
    m.view.read (Elt F) (m.view.writes (Elt F) (hm.unread e) (ePieces o0 o1 o2 o3 h0 h1 h2 h3 (colsOf x1))) = eNew r x1 e := by
  funext y
  have hy1 : (y 1).val < 1024 := (y 1).isLt
  by_cases hr : 32 * r ≤ (y 0).val ∧ (y 0).val < 32 * r + 32
  · have hit : ∀ (j : Fin 4) {o : Fin 2 → ℕ} (h : ∀ a, o a + S32x256.size a ≤ S320x1024.size a) (ho : o = ![32 * r, 256 * j.val]) (L : List (View.Piece (Elt F) S320x1024 .i32)),
        (y 1).val / 256 = j.val → m.view.read (Elt F) (m.view.writes (Elt F) (hm.unread e)
          (⟨Rect.unit (s := S320x1024) o S32x256.size h, chunkS (colsOf x1 j)⟩ :: L)) y = eNew r x1 e y := by
      intro j o h ho L hj
      refine (View.read_writes_cons_unit_of_mem m.view _ h _ L y
        (ix2 (⟨(y 0).val - 32 * r, by omega⟩ : Fin 32) (⟨(y 1).val % 256, Nat.mod_lt _ (by decide)⟩ : Fin 256)) ho ?_).trans
        (eNew_at j _ y ?_ ?_)
      · refine Fin.forall_fin_two.mpr ⟨?_, ?_⟩
        · show (y 0).val = 32 * r + ((y 0).val - 32 * r); omega
        · show (y 1).val = 256 * j.val + (y 1).val % 256; omega
      · show (y 0).val = 32 * r + ((y 0).val - 32 * r); omega
      · show (y 1).val = 256 * j.val + (y 1).val % 256; omega
    have miss : ∀ (j : Fin 4) {o : Fin 2 → ℕ} (h : ∀ a, o a + S32x256.size a ≤ S320x1024.size a) (ho : o = ![32 * r, 256 * j.val]) (w) (L : List (View.Piece (Elt F) S320x1024 .i32)),
        (y 1).val / 256 ≠ j.val → m.view.read (Elt F) (m.view.writes (Elt F) (hm.unread e)
          (⟨Rect.unit (s := S320x1024) o S32x256.size h, w⟩ :: L)) y = m.view.read (Elt F) (m.view.writes (Elt F) (hm.unread e) L) y := by
      intro j o h ho w L hj
      refine View.read_writes_cons_unit_of_not_mem m.view _ h w L y ho 1 ?_
      show (y 1).val < 256 * j.val ∨ 256 * j.val + 256 ≤ (y 1).val
      omega
    unfold ePieces
    by_cases c3 : (y 1).val / 256 = 3
    · exact hit 3 h3 e3 _ c3
    rw [miss 3 h3 e3 _ _ c3]
    by_cases c2 : (y 1).val / 256 = 2
    · exact hit 2 h2 e2 _ c2
    rw [miss 2 h2 e2 _ _ c2]
    by_cases c1 : (y 1).val / 256 = 1
    · exact hit 1 h1 e1 _ c1
    rw [miss 1 h1 e1 _ _ c1]
    exact hit 0 h0 e0 _ (by show (y 1).val / 256 = 0; omega)
  · have miss : ∀ (j : ℕ) {o : Fin 2 → ℕ} (h : ∀ a, o a + S32x256.size a ≤ S320x1024.size a) (ho : o = ![32 * r, j]) (w) (L : List (View.Piece (Elt F) S320x1024 .i32)),
        m.view.read (Elt F) (m.view.writes (Elt F) (hm.unread e)
          (⟨Rect.unit (s := S320x1024) o S32x256.size h, w⟩ :: L)) y = m.view.read (Elt F) (m.view.writes (Elt F) (hm.unread e) L) y := by
      intro j o h ho w L
      refine View.read_writes_cons_unit_of_not_mem m.view _ h w L y ho 0 ?_
      show (y 0).val < 32 * r ∨ 32 * r + 32 ≤ (y 0).val
      omega
    unfold ePieces
    rw [miss 768 h3 e3, miss 512 h2 e2, miss 256 h1 e1, miss 0 h0 e0]
    unfold eNew
    rw [dif_neg hr]
    exact congrFun (hm.read_unread e) y

/-- A column chunk read back over stores of column chunks to its left and the zeros is zeros. -/
theorem zP_read (m : Memref sig .tc .vmem S1536x1024 .f32) (f) (y : S1536x1024.Idx) :
    m.view.read (Elt F) (m.view.writes (Elt F) f zP) y = k0_pay112 y :=
  View.read_writes_cons_unit_of_mem m.view f _ k0_pay112 [] y y rfl (Fin.forall_fin_two.mpr ⟨(Nat.zero_add _).symm, (Nat.zero_add _).symm⟩)

theorem zP_miss (m : Memref sig .tc .vmem S1536x1024 .f32) (f) (c : ℕ) (inb : ∀ a, (![0, c] : Fin 2 → ℕ) a + S1536x256.size a ≤ S1536x1024.size a)
    (w) (L : List (View.Piece (Elt F) S1536x1024 .f32)) (y : S1536x1024.Idx) (h : c + 256 ≤ (y 1).val) :
    m.view.read (Elt F) (m.view.writes (Elt F) f (⟨Rect.unit (s := S1536x1024) ![0, c] S1536x256.size inb, w⟩ :: L)) y
      = m.view.read (Elt F) (m.view.writes (Elt F) f L) y :=
  View.read_writes_cons_unit_of_not_mem m.view f inb w L y rfl 1 (Or.inr h)

theorem zA0_eq (m : Memref sig .tc .vmem S1536x1024 .f32) : zA0 (F := F) m = sumColsOf k0_pay112 0 := by
  funext q
  exact zP_read m _ _
theorem zA1_eq (m : Memref sig .tc .vmem S1536x1024 .f32) (l s) : zA1 (F := F) m l s = sumColsOf k0_pay112 1 := by
  funext q
  refine (zP_miss m _ 0 _ _ zP _ ?_).trans (zP_read m _ _)
  show 0 + 256 ≤ 256 + 1 * (q 1).val; omega
theorem zA2_eq (m : Memref sig .tc .vmem S1536x1024 .f32) (l s) : zA2 (F := F) m l s = sumColsOf k0_pay112 2 := by
  funext q
  refine (zP_miss m _ 256 _ _ (zP0 m l s) _ ?_).trans ((zP_miss m _ 0 _ _ zP _ ?_).trans (zP_read m _ _))
  · show 256 + 256 ≤ 512 + 1 * (q 1).val; omega
  · show 0 + 256 ≤ 512 + 1 * (q 1).val; omega
theorem zA3_eq (m : Memref sig .tc .vmem S1536x1024 .f32) (l s) : zA3 (F := F) m l s = sumColsOf k0_pay112 3 := by
  funext q
  refine (zP_miss m _ 512 _ _ (zP1 m l s) _ ?_).trans ((zP_miss m _ 256 _ _ (zP0 m l s) _ ?_).trans ((zP_miss m _ 0 _ _ zP _ ?_).trans (zP_read m _ _)))
  · show 512 + 256 ≤ 768 + 1 * (q 1).val; omega
  · show 256 + 256 ≤ 768 + 1 * (q 1).val; omega
  · show 0 + 256 ≤ 768 + 1 * (q 1).val; omega

theorem zP3_eq (m : Memref sig .tc .vmem S1536x1024 .f32) (l : Vec F S1536x1024 .bf16) (s : Fin 4 → Vec F S1024x256 .bf16) :
    zP3 m l s = aPieces (sumColsOf k0_pay112) l s ++ zP := by
  unfold zP3 zP2 zP1 zP0
  rw [zA3_eq, zA2_eq, zA1_eq, zA0_eq]
  rfl

theorem read_zP3 (m : Memref sig .tc .vmem S1536x1024 .f32) (f) (x0 : Vec F S1536x1024 .bf16) (src : Vec F S1024x1024 .bf16) :
    m.view.read (Elt F) (m.view.writes (Elt F) f (zP3 m x0 (colsOf src))) = accNew x0 src k0_pay112 := by
  rw [zP3_eq, View.writes_append]
  exact read_aPieces m _ x0 src _

/-- The whole running sum read back over its chunks, as it is stored. -/
theorem readCov_aPieces (m : Memref sig .tc .vmem S1536x1024 .f32) (x0 : Vec F S1536x1024 .bf16) (src : Vec F S1024x1024 .bf16)
    (acc : Vec F S1536x1024 .f32) (q : S1536x1024.Idx) :
    (m.view.readCov (aPieces (sumColsOf acc) x0 (colsOf src)) (Rect.unit (s := S1536x1024) ![0, 0] ![1536, 1024] inb_S1536x1024_S1536x1024_0_0).toLoadRect : Vec F S1536x1024 .f32) q
      = accNew x0 src acc q := by
  refine (congrFun (read_aPieces m _ x0 src acc) _).trans (congrArg (accNew x0 src acc) (funext fun a => Fin.ext ?_))
  match a with
  | ⟨0, _⟩ => show 0 + 1 * (q 0).val = (q 0).val; omega
  | ⟨1, _⟩ => show 0 + 1 * (q 1).val = (q 1).val; omega

/-- The whole exponent buffer read back over its chunks, as it is stored. -/
theorem readAt_ePieces (m : Memref sig .tc .vmem S320x1024 .i32) (hm : m.IsWhole) (e : Vec F S320x1024 .i32) (x1 : Vec F S1024x1024 .bf16)
    (r : ℕ) {o0 o1 o2 o3 : Fin 2 → ℕ} (h0 h1 h2 h3) (e0 : o0 = ![32 * r, 0]) (e1 : o1 = ![32 * r, 256]) (e2 : o2 = ![32 * r, 512])
    (e3 : o3 = ![32 * r, 768]) (q : S320x1024.Idx) :
    (m.view.readAt (Elt F) (Rect.unit (s := S320x1024) ![0, 0] ![320, 1024] inb_S320x1024_S320x1024_0_0).toLoadRect
      (m.view.writes (Elt F) (hm.unread e) (ePieces o0 o1 o2 o3 h0 h1 h2 h3 (colsOf x1))) : Vec F S320x1024 .i32) q = eNew r x1 e q := by
  refine (congrFun (read_ePieces m hm e x1 r h0 h1 h2 h3 e0 e1 e2 e3) _).trans (congrArg (eNew r x1 e) (funext fun a => Fin.ext ?_))
  match a with
  | ⟨0, _⟩ => show 0 + 1 * (q 0).val = (q 0).val; omega
  | ⟨1, _⟩ => show 0 + 1 * (q 1).val = (q 1).val; omega

/-- A whole buffer stored in one piece reads back the piece. -/
theorem whole_store {S : Shape} {e : EltTy} (m : Memref sig .tc .vmem S e) (f) (off : Fin S.rank → ℕ) (inb) {w : S.Idx → Elt F e} {X : Vec F S e}
    (h : ∀ q, w q = X q) (ho : ∀ a, off a = 0 := by decide) :
    m.view.read (Elt F) (m.view.writes (Elt F) f [⟨Rect.unit (s := S) off S.size inb, w⟩]) = X := by
  funext y
  refine (View.read_writes_cons_unit_of_mem m.view f inb w [] y y rfl (fun a => ?_)).trans (h y)
  rw [ho a, Nat.zero_add]

end Cert.KernelDxIdeal.Hand

end
-- ==== Proof.DxExecA.lean ====
/- The body at the first point: the run with the contents the stores leave read back as values. -/
module

public import proofs.«01_k».proof.Proof.DxTiles

@[expose] public section

set_option maxRecDepth 16384

noncomputable section

namespace Cert.KernelDxIdeal.Hand

open Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point, by what the buffers hold after it. -/
theorem exec_A (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S320x1024 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S320x1024 .i32) (harg9 : arg9.IsWhole) (hc0 : cond0_0 i) (hc1 : cond0_1 i) (hc2 : cond0_2 i) (hc3 : ¬cond0_3 i) (hc4 : ¬cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S320x1024 .i32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
      ∗ (iprop(owns (c : Thread nD τ) arg1 fullShare x0 ∗ owns (c : Thread nD τ) arg2 fullShare x1 ∗ (∃ d, owns (c : Thread nD τ) arg3 fullShare d) ∗ owns (c : Thread nD τ) arg4 fullShare (codesNew x1) ∗ (∃ d, owns (c : Thread nD τ) arg5 fullShare d) ∗ (∃ d, owns (c : Thread nD τ) arg6 fullShare d) ∗ owns (c : Thread nD τ) arg7 fullShare (wideNew x1) ∗ (∃ d, owns (c : Thread nD τ) arg8 fullShare d) ∗ owns (c : Thread nD τ) arg9 fullShare (eNew ((min (i 0).val 79) % 10) x1 xs3)) -∗ K ⟨⟩))
    ⊢ wp frame (wpE (defs₀ (F := F)) Variants.none c none) E (cc0_qmm_col i arg1 harg1 arg2 harg2 arg3 harg3 arg4 harg4 arg5 harg5 arg6 harg6 arg7 harg7 arg8 harg8 arg9 harg9) K := by
  have hD : (run_A c i arg1 harg1 arg2 harg2 arg3 harg3 arg4 harg4 arg5 harg5 arg6 harg6 arg7 harg7 arg8 harg8 arg9 harg9 hc0 hc1 hc2 hc3 hc4 hc5 x0 x1 xs0 xs1 xs2 xs3).2.1 = wPieces (colsOf x1) := by
    rw [← rdCols_eq arg2 harg2]; rfl
  have hC : (run_A c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.1 = cPieces (colsOf x1) := by
    rw [← rdCols_eq arg2 harg2]; rfl
  have hE : (run_A c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.1 = ePieces (k0_off1 i) (k0_off2 i) (k0_off3 i) (k0_off4 i) (k0_off1_inb i hc2) (k0_off2_inb i hc2) (k0_off3_inb i hc2) (k0_off4_inb i hc2) (colsOf x1) := by
    rw [← rdCols_eq arg2 harg2]; rfl
  iintro ⟨H0, H1, H2, H3, H4, HS0, HS1, HS2, HS3, Hk⟩
  iapply ((run_A c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, ⟨%f3, H3⟩, H4, ⟨%fs0, HS0⟩, ⟨%fs1, HS1⟩, ⟨%fs2, HS2⟩, HS3⟩
  iapply Hk
  isplitl [H0]; · iexact H0
  isplitl [H1]; · iexact H1
  isplitl [H2]; · iexact H2
  isplitl [H3]
  · unfold owns
    iexists _; isplitr; swap; · iexact H3
    ipureintro; rw [hC]; exact read_cPieces _ _ _
  isplitl [H4]; · iexact H4
  isplitl [HS0]
  · unfold owns
    iexists _, _; isplitr; swap; · iexact HS0
    ipureintro; rfl
  isplitl [HS1]
  · unfold owns
    iexists _; isplitr; swap; · iexact HS1
    ipureintro; rw [hD]; exact read_wPieces _ _ _
  isplitl [HS2]
  · unfold owns
    iexists _, _; isplitr; swap; · iexact HS2
    ipureintro; rfl
  unfold owns
  iexists _; isplitr; swap; · iexact HS3
  ipureintro; rw [hE]; exact read_ePieces arg9 harg9 xs3 x1 ((min (i 0).val 79) % 10) _ _ _ _ (k0_off1_eq i) (k0_off2_eq i) (k0_off3_eq i) (k0_off4_eq i)

end Cert.KernelDxIdeal.Hand

end
-- ==== Proof.DxExecB.lean ====
/- The body at the first point of a sum: the run with the contents the stores leave read back as values. -/
module

public import proofs.«01_k».proof.Proof.DxTiles

@[expose] public section

set_option maxRecDepth 16384

noncomputable section

namespace Cert.KernelDxIdeal.Hand

open Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point of a sum, by what the buffers hold after it. -/
theorem exec_B (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S320x1024 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S320x1024 .i32) (harg9 : arg9.IsWhole) (hc0 : ¬cond0_0 i) (hc1 : cond0_1 i) (hc2 : ¬cond0_2 i) (hc3 : cond0_3 i) (hc4 : ¬cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S320x1024 .i32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
      ∗ (iprop(owns (c : Thread nD τ) arg1 fullShare x0 ∗ owns (c : Thread nD τ) arg2 fullShare x1 ∗ (∃ d, owns (c : Thread nD τ) arg3 fullShare d) ∗ owns (c : Thread nD τ) arg4 fullShare (codesNew x1) ∗ (∃ d, owns (c : Thread nD τ) arg5 fullShare d) ∗ owns (c : Thread nD τ) arg6 fullShare (accNew x0 xs1 k0_pay112) ∗ owns (c : Thread nD τ) arg7 fullShare xs1 ∗ owns (c : Thread nD τ) arg8 fullShare (wideNew x1) ∗ owns (c : Thread nD τ) arg9 fullShare (eNew ((min (i 0).val 79) % 10) x1 xs3)) -∗ K ⟨⟩))
    ⊢ wp frame (wpE (defs₀ (F := F)) Variants.none c none) E (cc0_qmm_col i arg1 harg1 arg2 harg2 arg3 harg3 arg4 harg4 arg5 harg5 arg6 harg6 arg7 harg7 arg8 harg8 arg9 harg9) K := by
  have hD : (run_B c i arg1 harg1 arg2 harg2 arg3 harg3 arg4 harg4 arg5 harg5 arg6 harg6 arg7 harg7 arg8 harg8 arg9 harg9 hc0 hc1 hc2 hc3 hc4 hc5 x0 x1 xs0 xs1 xs2 xs3).2.1 = wPieces (colsOf x1) := by
    rw [← rdCols_eq arg2 harg2]; rfl
  have hC : (run_B c i arg1 harg1 arg2 harg2 arg3 harg3 arg4 harg4 arg5 harg5 arg6 harg6 arg7 harg7 arg8 harg8 arg9 harg9 hc0 hc1 hc2 hc3 hc4 hc5 x0 x1 xs0 xs1 xs2 xs3).2.2.1 = cPieces (colsOf x1) := by
    rw [← rdCols_eq arg2 harg2]; rfl
  have hE : (run_B c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.1 = ePieces (k0_off5 i) (k0_off6 i) (k0_off7 i) (k0_off8 i) (k0_off5_inb i hc3) (k0_off6_inb i hc3) (k0_off7_inb i hc3) (k0_off8_inb i hc3) (colsOf x1) := by
    rw [← rdCols_eq arg2 harg2]; rfl
  have hA : (run_B c i arg1 harg1 arg2 harg2 arg3 harg3 arg4 harg4 arg5 harg5 arg6 harg6 arg7 harg7 arg8 harg8 arg9 harg9 hc0 hc1 hc2 hc3 hc4 hc5 x0 x1 xs0 xs1 xs2 xs3).1 = zP3 arg6 x0 (colsOf xs1) := by
    rw [← rdCols_eq arg7 harg7]
    conv_rhs => rw [← rdLeft_eq arg1 harg1 x0]
    rfl
  iintro ⟨H0, H1, H2, H3, H4, HS0, HS1, HS2, HS3, Hk⟩
  iapply ((run_B c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, ⟨%f3, H3⟩, H4, ⟨%fs0, HS0⟩, HS1, ⟨%fs2, HS2⟩, HS3⟩
  iapply Hk
  isplitl [H0]; · iexact H0
  isplitl [H1]; · iexact H1
  isplitl [H2]; · iexact H2
  isplitl [H3]
  · unfold owns
    iexists _; isplitr; swap; · iexact H3
    ipureintro; rw [hC]; exact read_cPieces _ _ _
  isplitl [H4]; · iexact H4
  isplitl [HS0]
  · unfold owns
    iexists _; isplitr; swap; · iexact HS0
    ipureintro; rw [hA]; exact read_zP3 _ _ _ _
  isplitl [HS1]; · iexact HS1
  isplitl [HS2]
  · unfold owns
    iexists _; isplitr; swap; · iexact HS2
    ipureintro; rw [hD]; exact read_wPieces _ _ _
  unfold owns
  iexists _; isplitr; swap; · iexact HS3
  ipureintro; rw [hE]; exact read_ePieces arg9 harg9 xs3 x1 ((min (i 0).val 79) % 10) _ _ _ _ (k0_off5_eq i) (k0_off6_eq i) (k0_off7_eq i) (k0_off8_eq i)

end Cert.KernelDxIdeal.Hand

end
-- ==== Proof.DxExecC.lean ====
/- The body at an even point in the middle of a sum: the run with the contents the stores leave read back as values. -/
module

public import proofs.«01_k».proof.Proof.DxTiles

@[expose] public section

set_option maxRecDepth 16384

noncomputable section

namespace Cert.KernelDxIdeal.Hand

open Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at an even point in the middle of a sum, by what the buffers hold after it. -/
theorem exec_C (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S320x1024 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S320x1024 .i32) (harg9 : arg9.IsWhole) (hc0 : ¬cond0_0 i) (hc1 : ¬cond0_1 i) (hc2 : cond0_2 i) (hc3 : ¬cond0_3 i) (hc4 : ¬cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S320x1024 .i32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
      ∗ (iprop(owns (c : Thread nD τ) arg1 fullShare x0 ∗ owns (c : Thread nD τ) arg2 fullShare x1 ∗ (∃ d, owns (c : Thread nD τ) arg3 fullShare d) ∗ owns (c : Thread nD τ) arg4 fullShare (codesNew x1) ∗ (∃ d, owns (c : Thread nD τ) arg5 fullShare d) ∗ owns (c : Thread nD τ) arg6 fullShare (accNew x0 xs2 xs0) ∗ owns (c : Thread nD τ) arg7 fullShare (wideNew x1) ∗ owns (c : Thread nD τ) arg8 fullShare xs2 ∗ owns (c : Thread nD τ) arg9 fullShare (eNew ((min (i 0).val 79) % 10) x1 xs3)) -∗ K ⟨⟩))
    ⊢ wp frame (wpE (defs₀ (F := F)) Variants.none c none) E (cc0_qmm_col i arg1 harg1 arg2 harg2 arg3 harg3 arg4 harg4 arg5 harg5 arg6 harg6 arg7 harg7 arg8 harg8 arg9 harg9) K := by
  have hD : (run_C c i arg1 harg1 arg2 harg2 arg3 harg3 arg4 harg4 arg5 harg5 arg6 harg6 arg7 harg7 arg8 harg8 arg9 harg9 hc0 hc1 hc2 hc3 hc4 hc5 x0 x1 xs0 xs1 xs2 xs3).2.1 = wPieces (colsOf x1) := by
    rw [← rdCols_eq arg2 harg2]; rfl
  have hC : (run_C c i arg1 harg1 arg2 harg2 arg3 harg3 arg4 harg4 arg5 harg5 arg6 harg6 arg7 harg7 arg8 harg8 arg9 harg9 hc0 hc1 hc2 hc3 hc4 hc5 x0 x1 xs0 xs1 xs2 xs3).2.2.1 = cPieces (colsOf x1) := by
    rw [← rdCols_eq arg2 harg2]; rfl
  have hE : (run_C c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.1 = ePieces (k0_off1 i) (k0_off2 i) (k0_off3 i) (k0_off4 i) (k0_off1_inb i hc2) (k0_off2_inb i hc2) (k0_off3_inb i hc2) (k0_off4_inb i hc2) (colsOf x1) := by
    rw [← rdCols_eq arg2 harg2]; rfl
  have hA : (run_C c i arg1 harg1 arg2 harg2 arg3 harg3 arg4 harg4 arg5 harg5 arg6 harg6 arg7 harg7 arg8 harg8 arg9 harg9 hc0 hc1 hc2 hc3 hc4 hc5 x0 x1 xs0 xs1 xs2 xs3).1 = aPieces (sumColsOf xs0) x0 (colsOf xs2) := by
    rw [← rdCols_eq arg8 harg8, ← rdSum_eq arg6 harg6]
    conv_rhs => rw [← rdLeft_eq arg1 harg1 x0]
    rfl
  iintro ⟨H0, H1, H2, H3, H4, HS0, HS1, HS2, HS3, Hk⟩
  iapply ((run_C c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, ⟨%f3, H3⟩, H4, ⟨%fs0, HS0⟩, ⟨%fs1, HS1⟩, HS2, HS3⟩
  iapply Hk
  isplitl [H0]; · iexact H0
  isplitl [H1]; · iexact H1
  isplitl [H2]; · iexact H2
  isplitl [H3]
  · unfold owns
    iexists _; isplitr; swap; · iexact H3
    ipureintro; rw [hC]; exact read_cPieces _ _ _
  isplitl [H4]; · iexact H4
  isplitl [HS0]
  · unfold owns
    iexists _; isplitr; swap; · iexact HS0
    ipureintro; rw [hA]; exact read_aPieces _ _ _ _ _
  isplitl [HS1]
  · unfold owns
    iexists _; isplitr; swap; · iexact HS1
    ipureintro; rw [hD]; exact read_wPieces _ _ _
  isplitl [HS2]; · iexact HS2
  unfold owns
  iexists _; isplitr; swap; · iexact HS3
  ipureintro; rw [hE]; exact read_ePieces arg9 harg9 xs3 x1 ((min (i 0).val 79) % 10) _ _ _ _ (k0_off1_eq i) (k0_off2_eq i) (k0_off3_eq i) (k0_off4_eq i)

end Cert.KernelDxIdeal.Hand

end
-- ==== Proof.DxExecD.lean ====
/- The body at an odd point in the middle of a sum: the run with the contents the stores leave read back as values. -/
module

public import proofs.«01_k».proof.Proof.DxTiles

@[expose] public section

set_option maxRecDepth 16384

noncomputable section

namespace Cert.KernelDxIdeal.Hand

open Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at an odd point in the middle of a sum, by what the buffers hold after it. -/
theorem exec_D (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S320x1024 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S320x1024 .i32) (harg9 : arg9.IsWhole) (hc0 : ¬cond0_0 i) (hc1 : ¬cond0_1 i) (hc2 : ¬cond0_2 i) (hc3 : cond0_3 i) (hc4 : ¬cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S320x1024 .i32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
      ∗ (iprop(owns (c : Thread nD τ) arg1 fullShare x0 ∗ owns (c : Thread nD τ) arg2 fullShare x1 ∗ (∃ d, owns (c : Thread nD τ) arg3 fullShare d) ∗ owns (c : Thread nD τ) arg4 fullShare (codesNew x1) ∗ (∃ d, owns (c : Thread nD τ) arg5 fullShare d) ∗ owns (c : Thread nD τ) arg6 fullShare (accNew x0 xs1 xs0) ∗ owns (c : Thread nD τ) arg7 fullShare xs1 ∗ owns (c : Thread nD τ) arg8 fullShare (wideNew x1) ∗ owns (c : Thread nD τ) arg9 fullShare (eNew ((min (i 0).val 79) % 10) x1 xs3)) -∗ K ⟨⟩))
    ⊢ wp frame (wpE (defs₀ (F := F)) Variants.none c none) E (cc0_qmm_col i arg1 harg1 arg2 harg2 arg3 harg3 arg4 harg4 arg5 harg5 arg6 harg6 arg7 harg7 arg8 harg8 arg9 harg9) K := by
  have hD : (run_D c i arg1 harg1 arg2 harg2 arg3 harg3 arg4 harg4 arg5 harg5 arg6 harg6 arg7 harg7 arg8 harg8 arg9 harg9 hc0 hc1 hc2 hc3 hc4 hc5 x0 x1 xs0 xs1 xs2 xs3).2.1 = wPieces (colsOf x1) := by
    rw [← rdCols_eq arg2 harg2]; rfl
  have hC : (run_D c i arg1 harg1 arg2 harg2 arg3 harg3 arg4 harg4 arg5 harg5 arg6 harg6 arg7 harg7 arg8 harg8 arg9 harg9 hc0 hc1 hc2 hc3 hc4 hc5 x0 x1 xs0 xs1 xs2 xs3).2.2.1 = cPieces (colsOf x1) := by
    rw [← rdCols_eq arg2 harg2]; rfl
  have hE : (run_D c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.1 = ePieces (k0_off5 i) (k0_off6 i) (k0_off7 i) (k0_off8 i) (k0_off5_inb i hc3) (k0_off6_inb i hc3) (k0_off7_inb i hc3) (k0_off8_inb i hc3) (colsOf x1) := by
    rw [← rdCols_eq arg2 harg2]; rfl
  have hA : (run_D c i arg1 harg1 arg2 harg2 arg3 harg3 arg4 harg4 arg5 harg5 arg6 harg6 arg7 harg7 arg8 harg8 arg9 harg9 hc0 hc1 hc2 hc3 hc4 hc5 x0 x1 xs0 xs1 xs2 xs3).1 = aPieces (sumColsOf xs0) x0 (colsOf xs1) := by
    rw [← rdCols_eq arg7 harg7, ← rdSum_eq arg6 harg6]
    conv_rhs => rw [← rdLeft_eq arg1 harg1 x0]
    rfl
  iintro ⟨H0, H1, H2, H3, H4, HS0, HS1, HS2, HS3, Hk⟩
  iapply ((run_D c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, ⟨%f3, H3⟩, H4, ⟨%fs0, HS0⟩, HS1, ⟨%fs2, HS2⟩, HS3⟩
  iapply Hk
  isplitl [H0]; · iexact H0
  isplitl [H1]; · iexact H1
  isplitl [H2]; · iexact H2
  isplitl [H3]
  · unfold owns
    iexists _; isplitr; swap; · iexact H3
    ipureintro; rw [hC]; exact read_cPieces _ _ _
  isplitl [H4]; · iexact H4
  isplitl [HS0]
  · unfold owns
    iexists _; isplitr; swap; · iexact HS0
    ipureintro; rw [hA]; exact read_aPieces _ _ _ _ _
  isplitl [HS1]; · iexact HS1
  isplitl [HS2]
  · unfold owns
    iexists _; isplitr; swap; · iexact HS2
    ipureintro; rw [hD]; exact read_wPieces _ _ _
  unfold owns
  iexists _; isplitr; swap; · iexact HS3
  ipureintro; rw [hE]; exact read_ePieces arg9 harg9 xs3 x1 ((min (i 0).val 79) % 10) _ _ _ _ (k0_off5_eq i) (k0_off6_eq i) (k0_off7_eq i) (k0_off8_eq i)

end Cert.KernelDxIdeal.Hand

end
-- ==== Proof.DxExecE.lean ====
/- The body at the last point of a block row: the run with the contents the stores leave read back as values. -/
module

public import proofs.«01_k».proof.Proof.DxTiles

@[expose] public section

set_option maxRecDepth 16384

noncomputable section

namespace Cert.KernelDxIdeal.Hand

open Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point of a block row, by what the buffers hold after it. -/
theorem exec_E (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S320x1024 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S320x1024 .i32) (harg9 : arg9.IsWhole) (hc0 : ¬cond0_0 i) (hc1 : ¬cond0_1 i) (hc2 : ¬cond0_2 i) (hc3 : cond0_3 i) (hc4 : cond0_4 i) (hc5 : ¬cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S320x1024 .i32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
      ∗ (iprop(owns (c : Thread nD τ) arg1 fullShare x0 ∗ owns (c : Thread nD τ) arg2 fullShare x1 ∗ (∃ d, owns (c : Thread nD τ) arg3 fullShare d) ∗ owns (c : Thread nD τ) arg4 fullShare (codesNew x1) ∗ owns (c : Thread nD τ) arg5 fullShare (k0_pay9 (eNew ((min (i 0).val 79) % 10) x1 xs3)) ∗ owns (c : Thread nD τ) arg6 fullShare (accNew x0 xs1 xs0) ∗ owns (c : Thread nD τ) arg7 fullShare xs1 ∗ owns (c : Thread nD τ) arg8 fullShare (wideNew x1) ∗ owns (c : Thread nD τ) arg9 fullShare (eNew ((min (i 0).val 79) % 10) x1 xs3)) -∗ K ⟨⟩))
    ⊢ wp frame (wpE (defs₀ (F := F)) Variants.none c none) E (cc0_qmm_col i arg1 harg1 arg2 harg2 arg3 harg3 arg4 harg4 arg5 harg5 arg6 harg6 arg7 harg7 arg8 harg8 arg9 harg9) K := by
  have hD : (run_E c i arg1 harg1 arg2 harg2 arg3 harg3 arg4 harg4 arg5 harg5 arg6 harg6 arg7 harg7 arg8 harg8 arg9 harg9 hc0 hc1 hc2 hc3 hc4 hc5 x0 x1 xs0 xs1 xs2 xs3).2.1 = wPieces (colsOf x1) := by
    rw [← rdCols_eq arg2 harg2]; rfl
  have hC : (run_E c i arg1 harg1 arg2 harg2 arg3 harg3 arg4 harg4 arg5 harg5 arg6 harg6 arg7 harg7 arg8 harg8 arg9 harg9 hc0 hc1 hc2 hc3 hc4 hc5 x0 x1 xs0 xs1 xs2 xs3).2.2.1 = cPieces (colsOf x1) := by
    rw [← rdCols_eq arg2 harg2]; rfl
  have hE : (run_E c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.1 = ePieces (k0_off5 i) (k0_off6 i) (k0_off7 i) (k0_off8 i) (k0_off5_inb i hc3) (k0_off6_inb i hc3) (k0_off7_inb i hc3) (k0_off8_inb i hc3) (colsOf x1) := by
    rw [← rdCols_eq arg2 harg2]; rfl
  have hA : (run_E c i arg1 harg1 arg2 harg2 arg3 harg3 arg4 harg4 arg5 harg5 arg6 harg6 arg7 harg7 arg8 harg8 arg9 harg9 hc0 hc1 hc2 hc3 hc4 hc5 x0 x1 xs0 xs1 xs2 xs3).1 = aPieces (sumColsOf xs0) x0 (colsOf xs1) := by
    rw [← rdCols_eq arg7 harg7, ← rdSum_eq arg6 harg6]
    conv_rhs => rw [← rdLeft_eq arg1 harg1 x0]
    rfl
  have hS : (run_E c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.1 = [⟨Rect.unit (s := S320x1024) ![0, 0] S320x1024.size inb_S320x1024_S320x1024_0_0, k0_pay9 (arg9.view.readAt (Elt F) (Rect.unit (s := S320x1024) ![0, 0] ![320, 1024] inb_S320x1024_S320x1024_0_0).toLoadRect (arg9.view.writes (Elt F) (harg9.unread xs3) ((run_E c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.1)))⟩] := rfl
  iintro ⟨H0, H1, H2, H3, H4, HS0, HS1, HS2, HS3, Hk⟩
  iapply ((run_E c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, ⟨%f3, H3⟩, ⟨%f4, H4⟩, ⟨%fs0, HS0⟩, HS1, ⟨%fs2, HS2⟩, HS3⟩
  iapply Hk
  isplitl [H0]; · iexact H0
  isplitl [H1]; · iexact H1
  isplitl [H2]; · iexact H2
  isplitl [H3]
  · unfold owns
    iexists _; isplitr; swap; · iexact H3
    ipureintro; rw [hC]; exact read_cPieces _ _ _
  isplitl [H4]
  · unfold owns
    iexists _; isplitr; swap; · iexact H4
    ipureintro; rw [hS, hE]; exact whole_store _ _ _ _ (fun q => congrArg (fun w => k0_pay9 w q) (funext (readAt_ePieces arg9 harg9 xs3 x1 ((min (i 0).val 79) % 10) _ _ _ _ (k0_off5_eq i) (k0_off6_eq i) (k0_off7_eq i) (k0_off8_eq i))))
  isplitl [HS0]
  · unfold owns
    iexists _; isplitr; swap; · iexact HS0
    ipureintro; rw [hA]; exact read_aPieces _ _ _ _ _
  isplitl [HS1]; · iexact HS1
  isplitl [HS2]
  · unfold owns
    iexists _; isplitr; swap; · iexact HS2
    ipureintro; rw [hD]; exact read_wPieces _ _ _
  unfold owns
  iexists _; isplitr; swap; · iexact HS3
  ipureintro; rw [hE]; exact read_ePieces arg9 harg9 xs3 x1 ((min (i 0).val 79) % 10) _ _ _ _ (k0_off5_eq i) (k0_off6_eq i) (k0_off7_eq i) (k0_off8_eq i)

end Cert.KernelDxIdeal.Hand

end
-- ==== Proof.DxExecF.lean ====
/- The body at the last point of a sum: the run with the contents the stores leave read back as values. -/
module

public import proofs.«01_k».proof.Proof.DxTiles

@[expose] public section

set_option maxRecDepth 16384

noncomputable section

namespace Cert.KernelDxIdeal.Hand

open Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point of a sum, by what the buffers hold after it. -/
theorem exec_F (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S320x1024 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S320x1024 .i32) (harg9 : arg9.IsWhole) (hc0 : ¬cond0_0 i) (hc1 : ¬cond0_1 i) (hc2 : cond0_2 i) (hc3 : ¬cond0_3 i) (hc4 : ¬cond0_4 i) (hc5 : cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S320x1024 .i32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
      ∗ (iprop(owns (c : Thread nD τ) arg1 fullShare x0 ∗ owns (c : Thread nD τ) arg2 fullShare x1 ∗ owns (c : Thread nD τ) arg3 fullShare (k0_pay10 (accNew x0 xs2 xs0)) ∗ owns (c : Thread nD τ) arg4 fullShare (codesNew x1) ∗ (∃ d, owns (c : Thread nD τ) arg5 fullShare d) ∗ owns (c : Thread nD τ) arg6 fullShare (accNew x0 xs2 xs0) ∗ owns (c : Thread nD τ) arg7 fullShare (wideNew x1) ∗ owns (c : Thread nD τ) arg8 fullShare xs2 ∗ owns (c : Thread nD τ) arg9 fullShare (eNew ((min (i 0).val 79) % 10) x1 xs3)) -∗ K ⟨⟩))
    ⊢ wp frame (wpE (defs₀ (F := F)) Variants.none c none) E (cc0_qmm_col i arg1 harg1 arg2 harg2 arg3 harg3 arg4 harg4 arg5 harg5 arg6 harg6 arg7 harg7 arg8 harg8 arg9 harg9) K := by
  have hD : (run_F c i arg1 harg1 arg2 harg2 arg3 harg3 arg4 harg4 arg5 harg5 arg6 harg6 arg7 harg7 arg8 harg8 arg9 harg9 hc0 hc1 hc2 hc3 hc4 hc5 x0 x1 xs0 xs1 xs2 xs3).2.1 = wPieces (colsOf x1) := by
    rw [← rdCols_eq arg2 harg2]; rfl
  have hC : (run_F c i arg1 harg1 arg2 harg2 arg3 harg3 arg4 harg4 arg5 harg5 arg6 harg6 arg7 harg7 arg8 harg8 arg9 harg9 hc0 hc1 hc2 hc3 hc4 hc5 x0 x1 xs0 xs1 xs2 xs3).2.2.1 = cPieces (colsOf x1) := by
    rw [← rdCols_eq arg2 harg2]; rfl
  have hE : (run_F c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.1 = ePieces (k0_off1 i) (k0_off2 i) (k0_off3 i) (k0_off4 i) (k0_off1_inb i hc2) (k0_off2_inb i hc2) (k0_off3_inb i hc2) (k0_off4_inb i hc2) (colsOf x1) := by
    rw [← rdCols_eq arg2 harg2]; rfl
  have hA : (run_F c i arg1 harg1 arg2 harg2 arg3 harg3 arg4 harg4 arg5 harg5 arg6 harg6 arg7 harg7 arg8 harg8 arg9 harg9 hc0 hc1 hc2 hc3 hc4 hc5 x0 x1 xs0 xs1 xs2 xs3).1 = aPieces (sumColsOf xs0) x0 (colsOf xs2) := by
    rw [← rdCols_eq arg8 harg8, ← rdSum_eq arg6 harg6]
    conv_rhs => rw [← rdLeft_eq arg1 harg1 x0]
    rfl
  have hO : (run_F c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.1 = [⟨Rect.unit (s := S1536x1024) ![0, 0] S1536x1024.size inb_S1536x1024_S1536x1024_0_0, k0_pay10 (arg6.view.readCov ((run_F c i arg1 harg1 arg2 harg2 arg3 harg3 arg4 harg4 arg5 harg5 arg6 harg6 arg7 harg7 arg8 harg8 arg9 harg9 hc0 hc1 hc2 hc3 hc4 hc5 x0 x1 xs0 xs1 xs2 xs3).1) (Rect.unit (s := S1536x1024) ![0, 0] ![1536, 1024] inb_S1536x1024_S1536x1024_0_0).toLoadRect)⟩] := rfl
  iintro ⟨H0, H1, H2, H3, H4, HS0, HS1, HS2, HS3, Hk⟩
  iapply ((run_F c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, ⟨%f2, H2⟩, ⟨%f3, H3⟩, H4, ⟨%fs0, HS0⟩, ⟨%fs1, HS1⟩, HS2, HS3⟩
  iapply Hk
  isplitl [H0]; · iexact H0
  isplitl [H1]; · iexact H1
  isplitl [H2]
  · unfold owns
    iexists _; isplitr; swap; · iexact H2
    ipureintro; rw [hO, hA]; exact whole_store _ _ _ _ (fun q => congrArg (fun w => k0_pay10 w q) (funext (readCov_aPieces arg6 x0 xs2 xs0)))
  isplitl [H3]
  · unfold owns
    iexists _; isplitr; swap; · iexact H3
    ipureintro; rw [hC]; exact read_cPieces _ _ _
  isplitl [H4]; · iexact H4
  isplitl [HS0]
  · unfold owns
    iexists _; isplitr; swap; · iexact HS0
    ipureintro; rw [hA]; exact read_aPieces _ _ _ _ _
  isplitl [HS1]
  · unfold owns
    iexists _; isplitr; swap; · iexact HS1
    ipureintro; rw [hD]; exact read_wPieces _ _ _
  isplitl [HS2]; · iexact HS2
  unfold owns
  iexists _; isplitr; swap; · iexact HS3
  ipureintro; rw [hE]; exact read_ePieces arg9 harg9 xs3 x1 ((min (i 0).val 79) % 10) _ _ _ _ (k0_off1_eq i) (k0_off2_eq i) (k0_off3_eq i) (k0_off4_eq i)

end Cert.KernelDxIdeal.Hand

end
-- ==== Proof.DxExecG.lean ====
/- The body at the last point: the run with the contents the stores leave read back as values. -/
module

public import proofs.«01_k».proof.Proof.DxTiles

@[expose] public section

set_option maxRecDepth 16384

noncomputable section

namespace Cert.KernelDxIdeal.Hand

open Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point, by what the buffers hold after it. -/
theorem exec_G (c : Dev nD) (i : grid0.Coords) (arg1 : Memref sig .tc .vmem S1536x1024 .bf16) (harg1 : arg1.IsWhole) (arg2 : Memref sig .tc .vmem S1024x1024 .bf16) (harg2 : arg2.IsWhole) (arg3 : Memref sig .tc .vmem S1536x1024 .bf16) (harg3 : arg3.IsWhole) (arg4 : Memref sig .tc .vmem S1024x1024 .fp8e4m3) (harg4 : arg4.IsWhole) (arg5 : Memref sig .tc .vmem S320x1024 .i8) (harg5 : arg5.IsWhole) (arg6 : Memref sig .tc .vmem S1536x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S320x1024 .i32) (harg9 : arg9.IsWhole) (hc0 : ¬cond0_0 i) (hc1 : ¬cond0_1 i) (hc2 : cond0_2 i) (hc3 : ¬cond0_3 i) (hc4 : cond0_4 i) (hc5 : cond0_5 i)
    (x0 : Vec F S1536x1024 .bf16) (x1 : Vec F S1024x1024 .bf16) (xs0 : Vec F S1536x1024 .f32) (xs1 : Vec F S1024x1024 .bf16) (xs2 : Vec F S1024x1024 .bf16) (xs3 : Vec F S320x1024 .i32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
      ∗ (iprop(owns (c : Thread nD τ) arg1 fullShare x0 ∗ owns (c : Thread nD τ) arg2 fullShare x1 ∗ owns (c : Thread nD τ) arg3 fullShare (k0_pay10 (accNew x0 xs2 xs0)) ∗ owns (c : Thread nD τ) arg4 fullShare (codesNew x1) ∗ owns (c : Thread nD τ) arg5 fullShare (k0_pay9 (eNew ((min (i 0).val 79) % 10) x1 xs3)) ∗ owns (c : Thread nD τ) arg6 fullShare (accNew x0 xs2 xs0) ∗ owns (c : Thread nD τ) arg7 fullShare (wideNew x1) ∗ owns (c : Thread nD τ) arg8 fullShare xs2 ∗ owns (c : Thread nD τ) arg9 fullShare (eNew ((min (i 0).val 79) % 10) x1 xs3)) -∗ K ⟨⟩))
    ⊢ wp frame (wpE (defs₀ (F := F)) Variants.none c none) E (cc0_qmm_col i arg1 harg1 arg2 harg2 arg3 harg3 arg4 harg4 arg5 harg5 arg6 harg6 arg7 harg7 arg8 harg8 arg9 harg9) K := by
  have hD : (run_G c i arg1 harg1 arg2 harg2 arg3 harg3 arg4 harg4 arg5 harg5 arg6 harg6 arg7 harg7 arg8 harg8 arg9 harg9 hc0 hc1 hc2 hc3 hc4 hc5 x0 x1 xs0 xs1 xs2 xs3).2.1 = wPieces (colsOf x1) := by
    rw [← rdCols_eq arg2 harg2]; rfl
  have hC : (run_G c i arg1 harg1 arg2 harg2 arg3 harg3 arg4 harg4 arg5 harg5 arg6 harg6 arg7 harg7 arg8 harg8 arg9 harg9 hc0 hc1 hc2 hc3 hc4 hc5 x0 x1 xs0 xs1 xs2 xs3).2.2.1 = cPieces (colsOf x1) := by
    rw [← rdCols_eq arg2 harg2]; rfl
  have hE : (run_G c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.2.1 = ePieces (k0_off1 i) (k0_off2 i) (k0_off3 i) (k0_off4 i) (k0_off1_inb i hc2) (k0_off2_inb i hc2) (k0_off3_inb i hc2) (k0_off4_inb i hc2) (colsOf x1) := by
    rw [← rdCols_eq arg2 harg2]; rfl
  have hA : (run_G c i arg1 harg1 arg2 harg2 arg3 harg3 arg4 harg4 arg5 harg5 arg6 harg6 arg7 harg7 arg8 harg8 arg9 harg9 hc0 hc1 hc2 hc3 hc4 hc5 x0 x1 xs0 xs1 xs2 xs3).1 = aPieces (sumColsOf xs0) x0 (colsOf xs2) := by
    rw [← rdCols_eq arg8 harg8, ← rdSum_eq arg6 harg6]
    conv_rhs => rw [← rdLeft_eq arg1 harg1 x0]
    rfl
  have hS : (run_G c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.1 = [⟨Rect.unit (s := S320x1024) ![0, 0] S320x1024.size inb_S320x1024_S320x1024_0_0, k0_pay9 (arg9.view.readAt (Elt F) (Rect.unit (s := S320x1024) ![0, 0] ![320, 1024] inb_S320x1024_S320x1024_0_0).toLoadRect (arg9.view.writes (Elt F) (harg9.unread xs3) ((run_G c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.2.1)))⟩] := rfl
  have hO : (run_G c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.1 = [⟨Rect.unit (s := S1536x1024) ![0, 0] S1536x1024.size inb_S1536x1024_S1536x1024_0_0, k0_pay10 (arg6.view.readCov ((run_G c i arg1 harg1 arg2 harg2 arg3 harg3 arg4 harg4 arg5 harg5 arg6 harg6 arg7 harg7 arg8 harg8 arg9 harg9 hc0 hc1 hc2 hc3 hc4 hc5 x0 x1 xs0 xs1 xs2 xs3).1) (Rect.unit (s := S1536x1024) ![0, 0] ![1536, 1024] inb_S1536x1024_S1536x1024_0_0).toLoadRect)⟩] := rfl
  iintro ⟨H0, H1, H2, H3, H4, HS0, HS1, HS2, HS3, Hk⟩
  iapply ((run_G c i arg1 harg1 arg2 harg2 arg3 harg3 arg4 harg4 arg5 harg5 arg6 harg6 arg7 harg7 arg8 harg8 arg9 harg9 hc0 hc1 hc2 hc3 hc4 hc5 x0 x1 xs0 xs1 xs2 xs3).2.2.2.2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, ⟨%f2, H2⟩, ⟨%f3, H3⟩, ⟨%f4, H4⟩, ⟨%fs0, HS0⟩, ⟨%fs1, HS1⟩, HS2, HS3⟩
  iapply Hk
  isplitl [H0]; · iexact H0
  isplitl [H1]; · iexact H1
  isplitl [H2]
  · unfold owns
    iexists _; isplitr; swap; · iexact H2
    ipureintro; rw [hO, hA]; exact whole_store _ _ _ _ (fun q => congrArg (fun w => k0_pay10 w q) (funext (readCov_aPieces arg6 x0 xs2 xs0)))
  isplitl [H3]
  · unfold owns
    iexists _; isplitr; swap; · iexact H3
    ipureintro; rw [hC]; exact read_cPieces _ _ _
  isplitl [H4]
  · unfold owns
    iexists _; isplitr; swap; · iexact H4
    ipureintro; rw [hS, hE]; exact whole_store _ _ _ _ (fun q => congrArg (fun w => k0_pay9 w q) (funext (readAt_ePieces arg9 harg9 xs3 x1 ((min (i 0).val 79) % 10) _ _ _ _ (k0_off1_eq i) (k0_off2_eq i) (k0_off3_eq i) (k0_off4_eq i))))
  isplitl [HS0]
  · unfold owns
    iexists _; isplitr; swap; · iexact HS0
    ipureintro; rw [hA]; exact read_aPieces _ _ _ _ _
  isplitl [HS1]
  · unfold owns
    iexists _; isplitr; swap; · iexact HS1
    ipureintro; rw [hD]; exact read_wPieces _ _ _
  isplitl [HS2]; · iexact HS2
  unfold owns
  iexists _; isplitr; swap; · iexact HS3
  ipureintro; rw [hE]; exact read_ePieces arg9 harg9 xs3 x1 ((min (i 0).val 79) % 10) _ _ _ _ (k0_off1_eq i) (k0_off2_eq i) (k0_off3_eq i) (k0_off4_eq i)

end Cert.KernelDxIdeal.Hand

end
-- ==== Proof.DxBody.lean ====
/- The body at any point of the grid, the four scratch buffers carried from one point to the next, and the
   run of the whole call. What the scratch holds is any property `R` that the steps of the body keep. -/
module

public import proofs.«01_k».proof.Proof.DxExecA
public import proofs.«01_k».proof.Proof.DxExecB
public import proofs.«01_k».proof.Proof.DxExecC
public import proofs.«01_k».proof.Proof.DxExecD
public import proofs.«01_k».proof.Proof.DxExecE
public import proofs.«01_k».proof.Proof.DxExecF
public import proofs.«01_k».proof.Proof.DxExecG
public import Idealize.ShloMosaic.Lib.Pipeline.ArrRel
public import Idealize.ShloMosaic.Lib.Pipeline.DatRel

@[expose] public section

set_option maxRecDepth 16384

noncomputable section

namespace Cert.KernelDxIdeal.Hand

open Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the scratch buffers hold between two points: the sum, the two widened tiles in turn, the exponents. -/
structure St (F : FTy → Type) where
  acc : Vec F S1536x1024 .f32
  w0 : Vec F S1024x1024 .bf16
  w1 : Vec F S1024x1024 .bf16
  e : Vec F S320x1024 .i32

/-- What the body makes at point `t` of the scratch. -/
structure Step (c : Dev nD) (t : Fin cfg0.N) (s s' : St F) : Prop where
  e : s'.e = eNew ((min (grid0.coords t 0).val 79) % 10) (iblk m c 1 t) s.e
  even : t.val % 2 = 0 → s'.w0 = wideNew (iblk m c 1 t)
  evenKept : t.val % 2 = 0 → t.val ≠ 0 → s'.w1 = s.w1
  odd : t.val % 2 = 1 → s'.w1 = wideNew (iblk m c 1 t)
  oddKept : t.val % 2 = 1 → s'.w0 = s.w0
  accEven : t.val % 2 = 0 → t.val ≠ 0 → s'.acc = accNew (iblk m c 0 t) s.w1 s.acc
  accOdd : t.val % 2 = 1 → t.val % 10 ≠ 1 → s'.acc = accNew (iblk m c 0 t) s.w0 s.acc
  accFirst : t.val % 2 = 1 → t.val % 10 = 1 → s'.acc = accNew (iblk m c 0 t) s.w0 k0_pay112

/-- The scratch buffers at the contents `s`. -/
def scr (c : Dev nD) (s : St F) : sProp 𝕄 :=
  iprop(owns (c : Thread nD τ) scM0_0 fullShare s.acc ∗ owns (c : Thread nD τ) scM0_1 fullShare s.w0 ∗ owns (c : Thread nD τ) scM0_2 fullShare s.w1 ∗ owns (c : Thread nD τ) scM0_3 fullShare s.e ∗ (∃ r, prngReg c r))

variable (R : Dev nD → ℕ → St F → Prop)

/-- The invariant before point `n`. -/
def PhiS (c : Dev nD) : (n : ℕ) → n ≤ cfg0.N → sProp 𝕄
  | 0, _ => Pipeline.ΦA spec0 c
  | n + 1, _ => iprop(∃ s, ⌜R c (n + 1) s⌝ ∗ scr c s)

theorem PhiS_zero (c : Dev nD) (n : ℕ) (h : n ≤ cfg0.N) (hz : n = 0) : PhiS R c n h = Pipeline.ΦA spec0 c := by
  subst hz; rfl

theorem PhiS_succ (c : Dev nD) (n : ℕ) (hn : n < cfg0.N) : PhiS R c (n + 1) hn = iprop(∃ s, ⌜R c (n + 1) s⌝ ∗ scr c s) := rfl

theorem PhiS_pos (c : Dev nD) (n : ℕ) (h : n ≤ cfg0.N) (hz : n ≠ 0) : PhiS R c n h = iprop(∃ s, ⌜R c n s⌝ ∗ scr c s) := by
  cases n with
  | zero => exact absurd rfl hz
  | succ n => rfl

/-- The windows of the results. -/
def results0 : Fin 5 → Bool := fun w => w.val == 2 || w.val == 3 || w.val == 4

/-- What the body leaves in the windows of the results. -/
def Rl (c : Dev nD) : (w : Fin cfg0.W) → Fin cfg0.N → ((cfg0.win w).block.Idx → Elt F (cfg0.win w).elt) → Prop := fun w t => match w with
  | ⟨2, _⟩ => fun X => cond0_5 (grid0.coords t) → ∃ s, R c (t.val + 1) s ∧ X = k0_pay10 s.acc
  | ⟨3, _⟩ => fun X => X = codesNew (iblk m c 1 t)
  | ⟨4, _⟩ => fun X => cond0_4 (grid0.coords t) → ∃ s, R c (t.val + 1) s ∧ X = k0_pay9 s.e
  | _ => fun _ => True

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ t := PhiS R c t.val (Nat.le_of_lt_succ t.isLt)
  q _ := fullShare
  owed _ := 0

theorem A_eq (c : Dev nD) (w : Fin cfg0.W) : (dats m R 0 c).A w = V m c (Pipeline.arrRef spec0 w) := by dsimp only [dats]

theorem PhiS_castSucc (c : Dev nD) (t : Fin cfg0.N) : (dats m R 0 c).Φ t.castSucc = PhiS R c t.val (Nat.le_of_lt t.isLt) := by
  dsimp only [dats]; exact Pipeline.Dat.Φ_castSucc (PhiS R c) t

theorem after0_0 (c : Dev nD) (t : Fin cfg0.N) : (dats m R 0 c).after 0 t = iblk m c 0 t := by dsimp only [dats]
theorem after0_1 (c : Dev nD) (t : Fin cfg0.N) : (dats m R 0 c).after 1 t = iblk m c 1 t := by dsimp only [dats]
theorem before0_0 (c : Dev nD) (t : Fin cfg0.N) (d) : (dats m R 0 c).before 0 t d = iblk m c 0 t :=
  before0_0_of m (dats m R 0 c) (A_eq m R c 0) (after0_0 m R c) t d
theorem before0_1 (c : Dev nD) (t : Fin cfg0.N) (d) : (dats m R 0 c).before 1 t d = iblk m c 1 t :=
  before0_1_of m (dats m R 0 c) (A_eq m R c 1) (after0_1 m R c) t d

def bodyPre (c : Dev nD) (t : Fin cfg0.N) : sProp 𝕄 :=
  iprop((dats m R 0 c).Φ t.castSucc ∗ (dats m R 0 c).owesAt () t.castSucc
    ∗ (∃ d, owns (c : Thread nD τ) (ms0_0 t) fullShare ((dats m R 0 c).before 0 t d)) ∗ (∃ d, owns (c : Thread nD τ) (ms0_1 t) fullShare ((dats m R 0 c).before 1 t d))
    ∗ (∃ Y, ⌜((dats m R 0 c).toRRel results0 (Rl m R c)).Finds 2 t Y⌝ ∗ owns (c : Thread nD τ) (ms0_2 t) fullShare Y)
    ∗ (∃ Y, ⌜((dats m R 0 c).toRRel results0 (Rl m R c)).Finds 3 t Y⌝ ∗ owns (c : Thread nD τ) (ms0_3 t) fullShare Y)
    ∗ (∃ Y, ⌜((dats m R 0 c).toRRel results0 (Rl m R c)).Finds 4 t Y⌝ ∗ owns (c : Thread nD τ) (ms0_4 t) fullShare Y))

def bodyPost (c : Dev nD) (t : Fin cfg0.N) : sProp 𝕄 :=
  iprop((dats m R 0 c).Φ t.succ ∗ (dats m R 0 c).owesAt () t.succ
    ∗ owns (c : Thread nD τ) (ms0_0 t) fullShare ((dats m R 0 c).after 0 t) ∗ owns (c : Thread nD τ) (ms0_1 t) fullShare ((dats m R 0 c).after 1 t)
    ∗ (∃ X, ⌜Rl m R c 2 t X⌝ ∗ owns (c : Thread nD τ) (ms0_2 t) fullShare X)
    ∗ (∃ X, ⌜Rl m R c 3 t X⌝ ∗ owns (c : Thread nD τ) (ms0_3 t) fullShare X)
    ∗ (∃ X, ⌜Rl m R c 4 t X⌝ ∗ owns (c : Thread nD τ) (ms0_4 t) fullShare X))

/-- The steps of the body keep `R`. -/
def Keeps : Prop := ∀ (c : Dev nD) (t : Fin cfg0.N) (s s' : St F), (t.val = 0 ∨ R c t.val s) → Step m c t s s' → R c (t.val + 1) s'

theorem coords_val0 : ∀ t : Fin cfg0.N, (grid0.coords t 0).val = t.val := (by decide +kernel : ∀ t : Fin grid0.N, (grid0.coords t 0).val = t.val)

variable {m R}

set_option maxHeartbeats 1000000 in
/-- The body at a point of kind A. -/
theorem sound_A (hR : Keeps m R) (c : Dev nD) (t : Fin cfg0.N) (hc0 : cond0_0 (grid0.coords t)) (hc1 : cond0_1 (grid0.coords t)) (hc2 : cond0_2 (grid0.coords t)) (hc3 : ¬cond0_3 (grid0.coords t)) (hc4 : ¬cond0_4 (grid0.coords t)) (hc5 : ¬cond0_5 (grid0.coords t)) :
    bodyPre m R c t ⊢ wp frame (wpE (defs₀ (F := F)) Variants.none c none) Set.univ (bodyAt0 t) (fun _ => bodyPost m R c t) := by
  unfold bodyPre bodyPost bodyAt0
  simp only [before0_0, before0_1]
  rw [show (dats m R 0 c).owesAt () t.succ = (dats m R 0 c).owesAt () t.castSucc from rfl,
    show (dats m R 0 c).Φ t.succ = PhiS R c (t.val + 1) t.isLt from rfl, PhiS_succ, after0_0, after0_1]
  have hN : t.val < 81 := lt_of_lt_of_eq t.isLt (show cfg0.N = 81 from N_0)
  have e0 : (t.val % 81 = 0) := (hcond0_0 t).mp hc0
  have e1 : ((t.val % 81 = 0 ∨ t.val % 81 = 1 ∨ t.val % 81 = 11 ∨ t.val % 81 = 21 ∨ t.val % 81 = 31 ∨ t.val % 81 = 41 ∨ t.val % 81 = 51 ∨ t.val % 81 = 61 ∨ t.val % 81 = 71)) := (hcond0_1 t).mp hc1
  have e2 : (t.val % 2 = 0) := (hcond0_2 t).mp hc2
  have e3 : ¬(t.val % 2 = 1) := fun h => hc3 ((hcond0_3 t).mpr h)
  have e4 : ¬((t.val % 81 = 9 ∨ t.val % 81 = 19 ∨ t.val % 81 = 29 ∨ t.val % 81 = 39 ∨ t.val % 81 = 49 ∨ t.val % 81 = 59 ∨ t.val % 81 = 69 ∨ t.val % 81 = 79 ∨ t.val % 81 = 80)) := fun h => hc4 ((hcond0_4 t).mpr h)
  have e5 : ¬((t.val % 81 = 10 ∨ t.val % 81 = 20 ∨ t.val % 81 = 30 ∨ t.val % 81 = 40 ∨ t.val % 81 = 50 ∨ t.val % 81 = 60 ∨ t.val % 81 = 70 ∨ t.val % 81 = 80)) := fun h => hc5 ((hcond0_5 t).mpr h)
  rw [Nat.mod_eq_of_lt hN] at e0 e1 e4 e5
  have hz : t.val = 0 := by omega
  rw [PhiS_castSucc, PhiS_zero R c _ _ hz, PhiA0_eq]
  unfold scr
  iintro ⟨⟨⟨⟨%xs0, HS0⟩, ⟨%xs1, HS1⟩, ⟨%xs2, HS2⟩, ⟨%xs3, HS3⟩⟩, Hg⟩, Ho, ⟨%d0, H0⟩, ⟨%d1, H1⟩, ⟨%Y2, -, H2⟩, ⟨%Y3, -, H3⟩, ⟨%Y4, -, H4⟩⟩
  iapply (exec_A c (grid0.coords t) _ (hs0_0 t) _ (hs0_1 t) _ (hs0_2 t) _ (hs0_3 t) _ (hs0_4 t) _ (Memref.isWhole_whole _) _ (Memref.isWhole_whole _) _ (Memref.isWhole_whole _) _ (Memref.isWhole_whole _) hc0 hc1 hc2 hc3 hc4 hc5 (iblk m c 0 t) (iblk m c 1 t) xs0 xs1 xs2 xs3 Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, ⟨%f2, H2⟩, H3, ⟨%f4, H4⟩, ⟨%g0, HS0⟩, HS1, ⟨%g2, HS2⟩, HS3⟩
  have hst : R c (t.val + 1) ⟨g0, wideNew (iblk m c 1 t), g2, eNew ((min (grid0.coords t 0).val 79) % 10) (iblk m c 1 t) xs3⟩ := by
    refine hR c t ⟨xs0, xs1, xs2, xs3⟩ _ (Or.inl hz) ?_
    constructor
    · rfl
    · intro h; rfl
    · intro h h2; exfalso; omega
    · intro h; exfalso; omega
    · intro h; exfalso; omega
    · intro h h2; exfalso; omega
    · intro h h2; exfalso; omega
    · intro h h2; exfalso; omega
  isplitl [HS0 HS1 HS2 HS3 Hg]
  · iexists (⟨g0, wideNew (iblk m c 1 t), g2, eNew ((min (grid0.coords t 0).val 79) % 10) (iblk m c 1 t) xs3⟩ : St F)
    isplitr; swap
    · isplitl [HS0]; · iexact HS0
      isplitl [HS1]; · iexact HS1
      isplitl [HS2]; · iexact HS2
      isplitl [HS3]; · iexact HS3
      iexact Hg
    · ipureintro; exact hst
  isplitl [Ho]; · iexact Ho
  isplitl [H0]; · iexact H0
  isplitl [H1]; · iexact H1
  isplitl [H2]
  · iexists _
    isplitr; swap
    · iexact H2
    · ipureintro; exact fun h => absurd h hc5
  isplitl [H3]
  · iexists _
    isplitr; swap
    · iexact H3
    · ipureintro; rfl
  iexists _
  isplitr; swap
  · iexact H4
  · ipureintro; exact fun h => absurd h hc4

set_option maxHeartbeats 1000000 in
/-- The body at a point of kind B. -/
theorem sound_B (hR : Keeps m R) (c : Dev nD) (t : Fin cfg0.N) (hc0 : ¬cond0_0 (grid0.coords t)) (hc1 : cond0_1 (grid0.coords t)) (hc2 : ¬cond0_2 (grid0.coords t)) (hc3 : cond0_3 (grid0.coords t)) (hc4 : ¬cond0_4 (grid0.coords t)) (hc5 : ¬cond0_5 (grid0.coords t)) :
    bodyPre m R c t ⊢ wp frame (wpE (defs₀ (F := F)) Variants.none c none) Set.univ (bodyAt0 t) (fun _ => bodyPost m R c t) := by
  unfold bodyPre bodyPost bodyAt0
  simp only [before0_0, before0_1]
  rw [show (dats m R 0 c).owesAt () t.succ = (dats m R 0 c).owesAt () t.castSucc from rfl,
    show (dats m R 0 c).Φ t.succ = PhiS R c (t.val + 1) t.isLt from rfl, PhiS_succ, after0_0, after0_1]
  have hN : t.val < 81 := lt_of_lt_of_eq t.isLt (show cfg0.N = 81 from N_0)
  have e0 : ¬(t.val % 81 = 0) := fun h => hc0 ((hcond0_0 t).mpr h)
  have e1 : ((t.val % 81 = 0 ∨ t.val % 81 = 1 ∨ t.val % 81 = 11 ∨ t.val % 81 = 21 ∨ t.val % 81 = 31 ∨ t.val % 81 = 41 ∨ t.val % 81 = 51 ∨ t.val % 81 = 61 ∨ t.val % 81 = 71)) := (hcond0_1 t).mp hc1
  have e2 : ¬(t.val % 2 = 0) := fun h => hc2 ((hcond0_2 t).mpr h)
  have e3 : (t.val % 2 = 1) := (hcond0_3 t).mp hc3
  have e4 : ¬((t.val % 81 = 9 ∨ t.val % 81 = 19 ∨ t.val % 81 = 29 ∨ t.val % 81 = 39 ∨ t.val % 81 = 49 ∨ t.val % 81 = 59 ∨ t.val % 81 = 69 ∨ t.val % 81 = 79 ∨ t.val % 81 = 80)) := fun h => hc4 ((hcond0_4 t).mpr h)
  have e5 : ¬((t.val % 81 = 10 ∨ t.val % 81 = 20 ∨ t.val % 81 = 30 ∨ t.val % 81 = 40 ∨ t.val % 81 = 50 ∨ t.val % 81 = 60 ∨ t.val % 81 = 70 ∨ t.val % 81 = 80)) := fun h => hc5 ((hcond0_5 t).mpr h)
  rw [Nat.mod_eq_of_lt hN] at e0 e1 e4 e5
  have hz : t.val ≠ 0 := by omega
  rw [PhiS_castSucc, PhiS_pos R c _ _ hz]
  unfold scr
  iintro ⟨⟨%s, %hs, HS0, HS1, HS2, HS3, Hg⟩, Ho, ⟨%d0, H0⟩, ⟨%d1, H1⟩, ⟨%Y2, -, H2⟩, ⟨%Y3, -, H3⟩, ⟨%Y4, -, H4⟩⟩
  iapply (exec_B c (grid0.coords t) _ (hs0_0 t) _ (hs0_1 t) _ (hs0_2 t) _ (hs0_3 t) _ (hs0_4 t) _ (Memref.isWhole_whole _) _ (Memref.isWhole_whole _) _ (Memref.isWhole_whole _) _ (Memref.isWhole_whole _) hc0 hc1 hc2 hc3 hc4 hc5 (iblk m c 0 t) (iblk m c 1 t) s.acc s.w0 s.w1 s.e Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, ⟨%f2, H2⟩, H3, ⟨%f4, H4⟩, HS0, HS1, HS2, HS3⟩
  have hst : R c (t.val + 1) ⟨accNew (iblk m c 0 t) s.w0 k0_pay112, s.w0, wideNew (iblk m c 1 t), eNew ((min (grid0.coords t 0).val 79) % 10) (iblk m c 1 t) s.e⟩ := by
    refine hR c t s _ (Or.inr hs) ?_
    constructor
    · rfl
    · intro h; exfalso; omega
    · intro h h2; exfalso; omega
    · intro h; rfl
    · intro h; rfl
    · intro h h2; exfalso; omega
    · intro h h2; exfalso; omega
    · intro h h2; rfl
  isplitl [HS0 HS1 HS2 HS3 Hg]
  · iexists (⟨accNew (iblk m c 0 t) s.w0 k0_pay112, s.w0, wideNew (iblk m c 1 t), eNew ((min (grid0.coords t 0).val 79) % 10) (iblk m c 1 t) s.e⟩ : St F)
    isplitr; swap
    · isplitl [HS0]; · iexact HS0
      isplitl [HS1]; · iexact HS1
      isplitl [HS2]; · iexact HS2
      isplitl [HS3]; · iexact HS3
      iexact Hg
    · ipureintro; exact hst
  isplitl [Ho]; · iexact Ho
  isplitl [H0]; · iexact H0
  isplitl [H1]; · iexact H1
  isplitl [H2]
  · iexists _
    isplitr; swap
    · iexact H2
    · ipureintro; exact fun h => absurd h hc5
  isplitl [H3]
  · iexists _
    isplitr; swap
    · iexact H3
    · ipureintro; rfl
  iexists _
  isplitr; swap
  · iexact H4
  · ipureintro; exact fun h => absurd h hc4

set_option maxHeartbeats 1000000 in
/-- The body at a point of kind C. -/
theorem sound_C (hR : Keeps m R) (c : Dev nD) (t : Fin cfg0.N) (hc0 : ¬cond0_0 (grid0.coords t)) (hc1 : ¬cond0_1 (grid0.coords t)) (hc2 : cond0_2 (grid0.coords t)) (hc3 : ¬cond0_3 (grid0.coords t)) (hc4 : ¬cond0_4 (grid0.coords t)) (hc5 : ¬cond0_5 (grid0.coords t)) :
    bodyPre m R c t ⊢ wp frame (wpE (defs₀ (F := F)) Variants.none c none) Set.univ (bodyAt0 t) (fun _ => bodyPost m R c t) := by
  unfold bodyPre bodyPost bodyAt0
  simp only [before0_0, before0_1]
  rw [show (dats m R 0 c).owesAt () t.succ = (dats m R 0 c).owesAt () t.castSucc from rfl,
    show (dats m R 0 c).Φ t.succ = PhiS R c (t.val + 1) t.isLt from rfl, PhiS_succ, after0_0, after0_1]
  have hN : t.val < 81 := lt_of_lt_of_eq t.isLt (show cfg0.N = 81 from N_0)
  have e0 : ¬(t.val % 81 = 0) := fun h => hc0 ((hcond0_0 t).mpr h)
  have e1 : ¬((t.val % 81 = 0 ∨ t.val % 81 = 1 ∨ t.val % 81 = 11 ∨ t.val % 81 = 21 ∨ t.val % 81 = 31 ∨ t.val % 81 = 41 ∨ t.val % 81 = 51 ∨ t.val % 81 = 61 ∨ t.val % 81 = 71)) := fun h => hc1 ((hcond0_1 t).mpr h)
  have e2 : (t.val % 2 = 0) := (hcond0_2 t).mp hc2
  have e3 : ¬(t.val % 2 = 1) := fun h => hc3 ((hcond0_3 t).mpr h)
  have e4 : ¬((t.val % 81 = 9 ∨ t.val % 81 = 19 ∨ t.val % 81 = 29 ∨ t.val % 81 = 39 ∨ t.val % 81 = 49 ∨ t.val % 81 = 59 ∨ t.val % 81 = 69 ∨ t.val % 81 = 79 ∨ t.val % 81 = 80)) := fun h => hc4 ((hcond0_4 t).mpr h)
  have e5 : ¬((t.val % 81 = 10 ∨ t.val % 81 = 20 ∨ t.val % 81 = 30 ∨ t.val % 81 = 40 ∨ t.val % 81 = 50 ∨ t.val % 81 = 60 ∨ t.val % 81 = 70 ∨ t.val % 81 = 80)) := fun h => hc5 ((hcond0_5 t).mpr h)
  rw [Nat.mod_eq_of_lt hN] at e0 e1 e4 e5
  have hz : t.val ≠ 0 := by omega
  rw [PhiS_castSucc, PhiS_pos R c _ _ hz]
  unfold scr
  iintro ⟨⟨%s, %hs, HS0, HS1, HS2, HS3, Hg⟩, Ho, ⟨%d0, H0⟩, ⟨%d1, H1⟩, ⟨%Y2, -, H2⟩, ⟨%Y3, -, H3⟩, ⟨%Y4, -, H4⟩⟩
  iapply (exec_C c (grid0.coords t) _ (hs0_0 t) _ (hs0_1 t) _ (hs0_2 t) _ (hs0_3 t) _ (hs0_4 t) _ (Memref.isWhole_whole _) _ (Memref.isWhole_whole _) _ (Memref.isWhole_whole _) _ (Memref.isWhole_whole _) hc0 hc1 hc2 hc3 hc4 hc5 (iblk m c 0 t) (iblk m c 1 t) s.acc s.w0 s.w1 s.e Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, ⟨%f2, H2⟩, H3, ⟨%f4, H4⟩, HS0, HS1, HS2, HS3⟩
  have hst : R c (t.val + 1) ⟨accNew (iblk m c 0 t) s.w1 s.acc, wideNew (iblk m c 1 t), s.w1, eNew ((min (grid0.coords t 0).val 79) % 10) (iblk m c 1 t) s.e⟩ := by
    refine hR c t s _ (Or.inr hs) ?_
    constructor
    · rfl
    · intro h; rfl
    · intro h h2; rfl
    · intro h; exfalso; omega
    · intro h; exfalso; omega
    · intro h h2; rfl
    · intro h h2; exfalso; omega
    · intro h h2; exfalso; omega
  isplitl [HS0 HS1 HS2 HS3 Hg]
  · iexists (⟨accNew (iblk m c 0 t) s.w1 s.acc, wideNew (iblk m c 1 t), s.w1, eNew ((min (grid0.coords t 0).val 79) % 10) (iblk m c 1 t) s.e⟩ : St F)
    isplitr; swap
    · isplitl [HS0]; · iexact HS0
      isplitl [HS1]; · iexact HS1
      isplitl [HS2]; · iexact HS2
      isplitl [HS3]; · iexact HS3
      iexact Hg
    · ipureintro; exact hst
  isplitl [Ho]; · iexact Ho
  isplitl [H0]; · iexact H0
  isplitl [H1]; · iexact H1
  isplitl [H2]
  · iexists _
    isplitr; swap
    · iexact H2
    · ipureintro; exact fun h => absurd h hc5
  isplitl [H3]
  · iexists _
    isplitr; swap
    · iexact H3
    · ipureintro; rfl
  iexists _
  isplitr; swap
  · iexact H4
  · ipureintro; exact fun h => absurd h hc4

set_option maxHeartbeats 1000000 in
/-- The body at a point of kind D. -/
theorem sound_D (hR : Keeps m R) (c : Dev nD) (t : Fin cfg0.N) (hc0 : ¬cond0_0 (grid0.coords t)) (hc1 : ¬cond0_1 (grid0.coords t)) (hc2 : ¬cond0_2 (grid0.coords t)) (hc3 : cond0_3 (grid0.coords t)) (hc4 : ¬cond0_4 (grid0.coords t)) (hc5 : ¬cond0_5 (grid0.coords t)) :
    bodyPre m R c t ⊢ wp frame (wpE (defs₀ (F := F)) Variants.none c none) Set.univ (bodyAt0 t) (fun _ => bodyPost m R c t) := by
  unfold bodyPre bodyPost bodyAt0
  simp only [before0_0, before0_1]
  rw [show (dats m R 0 c).owesAt () t.succ = (dats m R 0 c).owesAt () t.castSucc from rfl,
    show (dats m R 0 c).Φ t.succ = PhiS R c (t.val + 1) t.isLt from rfl, PhiS_succ, after0_0, after0_1]
  have hN : t.val < 81 := lt_of_lt_of_eq t.isLt (show cfg0.N = 81 from N_0)
  have e0 : ¬(t.val % 81 = 0) := fun h => hc0 ((hcond0_0 t).mpr h)
  have e1 : ¬((t.val % 81 = 0 ∨ t.val % 81 = 1 ∨ t.val % 81 = 11 ∨ t.val % 81 = 21 ∨ t.val % 81 = 31 ∨ t.val % 81 = 41 ∨ t.val % 81 = 51 ∨ t.val % 81 = 61 ∨ t.val % 81 = 71)) := fun h => hc1 ((hcond0_1 t).mpr h)
  have e2 : ¬(t.val % 2 = 0) := fun h => hc2 ((hcond0_2 t).mpr h)
  have e3 : (t.val % 2 = 1) := (hcond0_3 t).mp hc3
  have e4 : ¬((t.val % 81 = 9 ∨ t.val % 81 = 19 ∨ t.val % 81 = 29 ∨ t.val % 81 = 39 ∨ t.val % 81 = 49 ∨ t.val % 81 = 59 ∨ t.val % 81 = 69 ∨ t.val % 81 = 79 ∨ t.val % 81 = 80)) := fun h => hc4 ((hcond0_4 t).mpr h)
  have e5 : ¬((t.val % 81 = 10 ∨ t.val % 81 = 20 ∨ t.val % 81 = 30 ∨ t.val % 81 = 40 ∨ t.val % 81 = 50 ∨ t.val % 81 = 60 ∨ t.val % 81 = 70 ∨ t.val % 81 = 80)) := fun h => hc5 ((hcond0_5 t).mpr h)
  rw [Nat.mod_eq_of_lt hN] at e0 e1 e4 e5
  have hz : t.val ≠ 0 := by omega
  rw [PhiS_castSucc, PhiS_pos R c _ _ hz]
  unfold scr
  iintro ⟨⟨%s, %hs, HS0, HS1, HS2, HS3, Hg⟩, Ho, ⟨%d0, H0⟩, ⟨%d1, H1⟩, ⟨%Y2, -, H2⟩, ⟨%Y3, -, H3⟩, ⟨%Y4, -, H4⟩⟩
  iapply (exec_D c (grid0.coords t) _ (hs0_0 t) _ (hs0_1 t) _ (hs0_2 t) _ (hs0_3 t) _ (hs0_4 t) _ (Memref.isWhole_whole _) _ (Memref.isWhole_whole _) _ (Memref.isWhole_whole _) _ (Memref.isWhole_whole _) hc0 hc1 hc2 hc3 hc4 hc5 (iblk m c 0 t) (iblk m c 1 t) s.acc s.w0 s.w1 s.e Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, ⟨%f2, H2⟩, H3, ⟨%f4, H4⟩, HS0, HS1, HS2, HS3⟩
  have hst : R c (t.val + 1) ⟨accNew (iblk m c 0 t) s.w0 s.acc, s.w0, wideNew (iblk m c 1 t), eNew ((min (grid0.coords t 0).val 79) % 10) (iblk m c 1 t) s.e⟩ := by
    refine hR c t s _ (Or.inr hs) ?_
    constructor
    · rfl
    · intro h; exfalso; omega
    · intro h h2; exfalso; omega
    · intro h; rfl
    · intro h; rfl
    · intro h h2; exfalso; omega
    · intro h h2; rfl
    · intro h h2; exfalso; omega
  isplitl [HS0 HS1 HS2 HS3 Hg]
  · iexists (⟨accNew (iblk m c 0 t) s.w0 s.acc, s.w0, wideNew (iblk m c 1 t), eNew ((min (grid0.coords t 0).val 79) % 10) (iblk m c 1 t) s.e⟩ : St F)
    isplitr; swap
    · isplitl [HS0]; · iexact HS0
      isplitl [HS1]; · iexact HS1
      isplitl [HS2]; · iexact HS2
      isplitl [HS3]; · iexact HS3
      iexact Hg
    · ipureintro; exact hst
  isplitl [Ho]; · iexact Ho
  isplitl [H0]; · iexact H0
  isplitl [H1]; · iexact H1
  isplitl [H2]
  · iexists _
    isplitr; swap
    · iexact H2
    · ipureintro; exact fun h => absurd h hc5
  isplitl [H3]
  · iexists _
    isplitr; swap
    · iexact H3
    · ipureintro; rfl
  iexists _
  isplitr; swap
  · iexact H4
  · ipureintro; exact fun h => absurd h hc4

set_option maxHeartbeats 1000000 in
/-- The body at a point of kind E. -/
theorem sound_E (hR : Keeps m R) (c : Dev nD) (t : Fin cfg0.N) (hc0 : ¬cond0_0 (grid0.coords t)) (hc1 : ¬cond0_1 (grid0.coords t)) (hc2 : ¬cond0_2 (grid0.coords t)) (hc3 : cond0_3 (grid0.coords t)) (hc4 : cond0_4 (grid0.coords t)) (hc5 : ¬cond0_5 (grid0.coords t)) :
    bodyPre m R c t ⊢ wp frame (wpE (defs₀ (F := F)) Variants.none c none) Set.univ (bodyAt0 t) (fun _ => bodyPost m R c t) := by
  unfold bodyPre bodyPost bodyAt0
  simp only [before0_0, before0_1]
  rw [show (dats m R 0 c).owesAt () t.succ = (dats m R 0 c).owesAt () t.castSucc from rfl,
    show (dats m R 0 c).Φ t.succ = PhiS R c (t.val + 1) t.isLt from rfl, PhiS_succ, after0_0, after0_1]
  have hN : t.val < 81 := lt_of_lt_of_eq t.isLt (show cfg0.N = 81 from N_0)
  have e0 : ¬(t.val % 81 = 0) := fun h => hc0 ((hcond0_0 t).mpr h)
  have e1 : ¬((t.val % 81 = 0 ∨ t.val % 81 = 1 ∨ t.val % 81 = 11 ∨ t.val % 81 = 21 ∨ t.val % 81 = 31 ∨ t.val % 81 = 41 ∨ t.val % 81 = 51 ∨ t.val % 81 = 61 ∨ t.val % 81 = 71)) := fun h => hc1 ((hcond0_1 t).mpr h)
  have e2 : ¬(t.val % 2 = 0) := fun h => hc2 ((hcond0_2 t).mpr h)
  have e3 : (t.val % 2 = 1) := (hcond0_3 t).mp hc3
  have e4 : ((t.val % 81 = 9 ∨ t.val % 81 = 19 ∨ t.val % 81 = 29 ∨ t.val % 81 = 39 ∨ t.val % 81 = 49 ∨ t.val % 81 = 59 ∨ t.val % 81 = 69 ∨ t.val % 81 = 79 ∨ t.val % 81 = 80)) := (hcond0_4 t).mp hc4
  have e5 : ¬((t.val % 81 = 10 ∨ t.val % 81 = 20 ∨ t.val % 81 = 30 ∨ t.val % 81 = 40 ∨ t.val % 81 = 50 ∨ t.val % 81 = 60 ∨ t.val % 81 = 70 ∨ t.val % 81 = 80)) := fun h => hc5 ((hcond0_5 t).mpr h)
  rw [Nat.mod_eq_of_lt hN] at e0 e1 e4 e5
  have hz : t.val ≠ 0 := by omega
  rw [PhiS_castSucc, PhiS_pos R c _ _ hz]
  unfold scr
  iintro ⟨⟨%s, %hs, HS0, HS1, HS2, HS3, Hg⟩, Ho, ⟨%d0, H0⟩, ⟨%d1, H1⟩, ⟨%Y2, -, H2⟩, ⟨%Y3, -, H3⟩, ⟨%Y4, -, H4⟩⟩
  iapply (exec_E c (grid0.coords t) _ (hs0_0 t) _ (hs0_1 t) _ (hs0_2 t) _ (hs0_3 t) _ (hs0_4 t) _ (Memref.isWhole_whole _) _ (Memref.isWhole_whole _) _ (Memref.isWhole_whole _) _ (Memref.isWhole_whole _) hc0 hc1 hc2 hc3 hc4 hc5 (iblk m c 0 t) (iblk m c 1 t) s.acc s.w0 s.w1 s.e Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, ⟨%f2, H2⟩, H3, H4, HS0, HS1, HS2, HS3⟩
  have hst : R c (t.val + 1) ⟨accNew (iblk m c 0 t) s.w0 s.acc, s.w0, wideNew (iblk m c 1 t), eNew ((min (grid0.coords t 0).val 79) % 10) (iblk m c 1 t) s.e⟩ := by
    refine hR c t s _ (Or.inr hs) ?_
    constructor
    · rfl
    · intro h; exfalso; omega
    · intro h h2; exfalso; omega
    · intro h; rfl
    · intro h; rfl
    · intro h h2; exfalso; omega
    · intro h h2; rfl
    · intro h h2; exfalso; omega
  isplitl [HS0 HS1 HS2 HS3 Hg]
  · iexists (⟨accNew (iblk m c 0 t) s.w0 s.acc, s.w0, wideNew (iblk m c 1 t), eNew ((min (grid0.coords t 0).val 79) % 10) (iblk m c 1 t) s.e⟩ : St F)
    isplitr; swap
    · isplitl [HS0]; · iexact HS0
      isplitl [HS1]; · iexact HS1
      isplitl [HS2]; · iexact HS2
      isplitl [HS3]; · iexact HS3
      iexact Hg
    · ipureintro; exact hst
  isplitl [Ho]; · iexact Ho
  isplitl [H0]; · iexact H0
  isplitl [H1]; · iexact H1
  isplitl [H2]
  · iexists _
    isplitr; swap
    · iexact H2
    · ipureintro; exact fun h => absurd h hc5
  isplitl [H3]
  · iexists _
    isplitr; swap
    · iexact H3
    · ipureintro; rfl
  iexists _
  isplitr; swap
  · iexact H4
  · ipureintro; exact fun _ => ⟨_, hst, rfl⟩

set_option maxHeartbeats 1000000 in
/-- The body at a point of kind F. -/
theorem sound_F (hR : Keeps m R) (c : Dev nD) (t : Fin cfg0.N) (hc0 : ¬cond0_0 (grid0.coords t)) (hc1 : ¬cond0_1 (grid0.coords t)) (hc2 : cond0_2 (grid0.coords t)) (hc3 : ¬cond0_3 (grid0.coords t)) (hc4 : ¬cond0_4 (grid0.coords t)) (hc5 : cond0_5 (grid0.coords t)) :
    bodyPre m R c t ⊢ wp frame (wpE (defs₀ (F := F)) Variants.none c none) Set.univ (bodyAt0 t) (fun _ => bodyPost m R c t) := by
  unfold bodyPre bodyPost bodyAt0
  simp only [before0_0, before0_1]
  rw [show (dats m R 0 c).owesAt () t.succ = (dats m R 0 c).owesAt () t.castSucc from rfl,
    show (dats m R 0 c).Φ t.succ = PhiS R c (t.val + 1) t.isLt from rfl, PhiS_succ, after0_0, after0_1]
  have hN : t.val < 81 := lt_of_lt_of_eq t.isLt (show cfg0.N = 81 from N_0)
  have e0 : ¬(t.val % 81 = 0) := fun h => hc0 ((hcond0_0 t).mpr h)
  have e1 : ¬((t.val % 81 = 0 ∨ t.val % 81 = 1 ∨ t.val % 81 = 11 ∨ t.val % 81 = 21 ∨ t.val % 81 = 31 ∨ t.val % 81 = 41 ∨ t.val % 81 = 51 ∨ t.val % 81 = 61 ∨ t.val % 81 = 71)) := fun h => hc1 ((hcond0_1 t).mpr h)
  have e2 : (t.val % 2 = 0) := (hcond0_2 t).mp hc2
  have e3 : ¬(t.val % 2 = 1) := fun h => hc3 ((hcond0_3 t).mpr h)
  have e4 : ¬((t.val % 81 = 9 ∨ t.val % 81 = 19 ∨ t.val % 81 = 29 ∨ t.val % 81 = 39 ∨ t.val % 81 = 49 ∨ t.val % 81 = 59 ∨ t.val % 81 = 69 ∨ t.val % 81 = 79 ∨ t.val % 81 = 80)) := fun h => hc4 ((hcond0_4 t).mpr h)
  have e5 : ((t.val % 81 = 10 ∨ t.val % 81 = 20 ∨ t.val % 81 = 30 ∨ t.val % 81 = 40 ∨ t.val % 81 = 50 ∨ t.val % 81 = 60 ∨ t.val % 81 = 70 ∨ t.val % 81 = 80)) := (hcond0_5 t).mp hc5
  rw [Nat.mod_eq_of_lt hN] at e0 e1 e4 e5
  have hz : t.val ≠ 0 := by omega
  rw [PhiS_castSucc, PhiS_pos R c _ _ hz]
  unfold scr
  iintro ⟨⟨%s, %hs, HS0, HS1, HS2, HS3, Hg⟩, Ho, ⟨%d0, H0⟩, ⟨%d1, H1⟩, ⟨%Y2, -, H2⟩, ⟨%Y3, -, H3⟩, ⟨%Y4, -, H4⟩⟩
  iapply (exec_F c (grid0.coords t) _ (hs0_0 t) _ (hs0_1 t) _ (hs0_2 t) _ (hs0_3 t) _ (hs0_4 t) _ (Memref.isWhole_whole _) _ (Memref.isWhole_whole _) _ (Memref.isWhole_whole _) _ (Memref.isWhole_whole _) hc0 hc1 hc2 hc3 hc4 hc5 (iblk m c 0 t) (iblk m c 1 t) s.acc s.w0 s.w1 s.e Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%f4, H4⟩, HS0, HS1, HS2, HS3⟩
  have hst : R c (t.val + 1) ⟨accNew (iblk m c 0 t) s.w1 s.acc, wideNew (iblk m c 1 t), s.w1, eNew ((min (grid0.coords t 0).val 79) % 10) (iblk m c 1 t) s.e⟩ := by
    refine hR c t s _ (Or.inr hs) ?_
    constructor
    · rfl
    · intro h; rfl
    · intro h h2; rfl
    · intro h; exfalso; omega
    · intro h; exfalso; omega
    · intro h h2; rfl
    · intro h h2; exfalso; omega
    · intro h h2; exfalso; omega
  isplitl [HS0 HS1 HS2 HS3 Hg]
  · iexists (⟨accNew (iblk m c 0 t) s.w1 s.acc, wideNew (iblk m c 1 t), s.w1, eNew ((min (grid0.coords t 0).val 79) % 10) (iblk m c 1 t) s.e⟩ : St F)
    isplitr; swap
    · isplitl [HS0]; · iexact HS0
      isplitl [HS1]; · iexact HS1
      isplitl [HS2]; · iexact HS2
      isplitl [HS3]; · iexact HS3
      iexact Hg
    · ipureintro; exact hst
  isplitl [Ho]; · iexact Ho
  isplitl [H0]; · iexact H0
  isplitl [H1]; · iexact H1
  isplitl [H2]
  · iexists _
    isplitr; swap
    · iexact H2
    · ipureintro; exact fun _ => ⟨_, hst, rfl⟩
  isplitl [H3]
  · iexists _
    isplitr; swap
    · iexact H3
    · ipureintro; rfl
  iexists _
  isplitr; swap
  · iexact H4
  · ipureintro; exact fun h => absurd h hc4

set_option maxHeartbeats 1000000 in
/-- The body at a point of kind G. -/
theorem sound_G (hR : Keeps m R) (c : Dev nD) (t : Fin cfg0.N) (hc0 : ¬cond0_0 (grid0.coords t)) (hc1 : ¬cond0_1 (grid0.coords t)) (hc2 : cond0_2 (grid0.coords t)) (hc3 : ¬cond0_3 (grid0.coords t)) (hc4 : cond0_4 (grid0.coords t)) (hc5 : cond0_5 (grid0.coords t)) :
    bodyPre m R c t ⊢ wp frame (wpE (defs₀ (F := F)) Variants.none c none) Set.univ (bodyAt0 t) (fun _ => bodyPost m R c t) := by
  unfold bodyPre bodyPost bodyAt0
  simp only [before0_0, before0_1]
  rw [show (dats m R 0 c).owesAt () t.succ = (dats m R 0 c).owesAt () t.castSucc from rfl,
    show (dats m R 0 c).Φ t.succ = PhiS R c (t.val + 1) t.isLt from rfl, PhiS_succ, after0_0, after0_1]
  have hN : t.val < 81 := lt_of_lt_of_eq t.isLt (show cfg0.N = 81 from N_0)
  have e0 : ¬(t.val % 81 = 0) := fun h => hc0 ((hcond0_0 t).mpr h)
  have e1 : ¬((t.val % 81 = 0 ∨ t.val % 81 = 1 ∨ t.val % 81 = 11 ∨ t.val % 81 = 21 ∨ t.val % 81 = 31 ∨ t.val % 81 = 41 ∨ t.val % 81 = 51 ∨ t.val % 81 = 61 ∨ t.val % 81 = 71)) := fun h => hc1 ((hcond0_1 t).mpr h)
  have e2 : (t.val % 2 = 0) := (hcond0_2 t).mp hc2
  have e3 : ¬(t.val % 2 = 1) := fun h => hc3 ((hcond0_3 t).mpr h)
  have e4 : ((t.val % 81 = 9 ∨ t.val % 81 = 19 ∨ t.val % 81 = 29 ∨ t.val % 81 = 39 ∨ t.val % 81 = 49 ∨ t.val % 81 = 59 ∨ t.val % 81 = 69 ∨ t.val % 81 = 79 ∨ t.val % 81 = 80)) := (hcond0_4 t).mp hc4
  have e5 : ((t.val % 81 = 10 ∨ t.val % 81 = 20 ∨ t.val % 81 = 30 ∨ t.val % 81 = 40 ∨ t.val % 81 = 50 ∨ t.val % 81 = 60 ∨ t.val % 81 = 70 ∨ t.val % 81 = 80)) := (hcond0_5 t).mp hc5
  rw [Nat.mod_eq_of_lt hN] at e0 e1 e4 e5
  have hz : t.val ≠ 0 := by omega
  rw [PhiS_castSucc, PhiS_pos R c _ _ hz]
  unfold scr
  iintro ⟨⟨%s, %hs, HS0, HS1, HS2, HS3, Hg⟩, Ho, ⟨%d0, H0⟩, ⟨%d1, H1⟩, ⟨%Y2, -, H2⟩, ⟨%Y3, -, H3⟩, ⟨%Y4, -, H4⟩⟩
  iapply (exec_G c (grid0.coords t) _ (hs0_0 t) _ (hs0_1 t) _ (hs0_2 t) _ (hs0_3 t) _ (hs0_4 t) _ (Memref.isWhole_whole _) _ (Memref.isWhole_whole _) _ (Memref.isWhole_whole _) _ (Memref.isWhole_whole _) hc0 hc1 hc2 hc3 hc4 hc5 (iblk m c 0 t) (iblk m c 1 t) s.acc s.w0 s.w1 s.e Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  have hst : R c (t.val + 1) ⟨accNew (iblk m c 0 t) s.w1 s.acc, wideNew (iblk m c 1 t), s.w1, eNew ((min (grid0.coords t 0).val 79) % 10) (iblk m c 1 t) s.e⟩ := by
    refine hR c t s _ (Or.inr hs) ?_
    constructor
    · rfl
    · intro h; rfl
    · intro h h2; rfl
    · intro h; exfalso; omega
    · intro h; exfalso; omega
    · intro h h2; rfl
    · intro h h2; exfalso; omega
    · intro h h2; exfalso; omega
  isplitl [HS0 HS1 HS2 HS3 Hg]
  · iexists (⟨accNew (iblk m c 0 t) s.w1 s.acc, wideNew (iblk m c 1 t), s.w1, eNew ((min (grid0.coords t 0).val 79) % 10) (iblk m c 1 t) s.e⟩ : St F)
    isplitr; swap
    · isplitl [HS0]; · iexact HS0
      isplitl [HS1]; · iexact HS1
      isplitl [HS2]; · iexact HS2
      isplitl [HS3]; · iexact HS3
      iexact Hg
    · ipureintro; exact hst
  isplitl [Ho]; · iexact Ho
  isplitl [H0]; · iexact H0
  isplitl [H1]; · iexact H1
  isplitl [H2]
  · iexists _
    isplitr; swap
    · iexact H2
    · ipureintro; exact fun _ => ⟨_, hst, rfl⟩
  isplitl [H3]
  · iexists _
    isplitr; swap
    · iexact H3
    · ipureintro; rfl
  iexists _
  isplitr; swap
  · iexact H4
  · ipureintro; exact fun _ => ⟨_, hst, rfl⟩

/-- The kinds of points. -/
theorem kinds : ∀ t : Fin cfg0.N, (cond0_0 (grid0.coords t) ∧ cond0_1 (grid0.coords t) ∧ cond0_2 (grid0.coords t) ∧ ¬cond0_3 (grid0.coords t) ∧ ¬cond0_4 (grid0.coords t) ∧ ¬cond0_5 (grid0.coords t)) ∨ (¬cond0_0 (grid0.coords t) ∧ cond0_1 (grid0.coords t) ∧ ¬cond0_2 (grid0.coords t) ∧ cond0_3 (grid0.coords t) ∧ ¬cond0_4 (grid0.coords t) ∧ ¬cond0_5 (grid0.coords t)) ∨ (¬cond0_0 (grid0.coords t) ∧ ¬cond0_1 (grid0.coords t) ∧ cond0_2 (grid0.coords t) ∧ ¬cond0_3 (grid0.coords t) ∧ ¬cond0_4 (grid0.coords t) ∧ ¬cond0_5 (grid0.coords t)) ∨ (¬cond0_0 (grid0.coords t) ∧ ¬cond0_1 (grid0.coords t) ∧ ¬cond0_2 (grid0.coords t) ∧ cond0_3 (grid0.coords t) ∧ ¬cond0_4 (grid0.coords t) ∧ ¬cond0_5 (grid0.coords t)) ∨ (¬cond0_0 (grid0.coords t) ∧ ¬cond0_1 (grid0.coords t) ∧ ¬cond0_2 (grid0.coords t) ∧ cond0_3 (grid0.coords t) ∧ cond0_4 (grid0.coords t) ∧ ¬cond0_5 (grid0.coords t)) ∨ (¬cond0_0 (grid0.coords t) ∧ ¬cond0_1 (grid0.coords t) ∧ cond0_2 (grid0.coords t) ∧ ¬cond0_3 (grid0.coords t) ∧ ¬cond0_4 (grid0.coords t) ∧ cond0_5 (grid0.coords t)) ∨ (¬cond0_0 (grid0.coords t) ∧ ¬cond0_1 (grid0.coords t) ∧ cond0_2 (grid0.coords t) ∧ ¬cond0_3 (grid0.coords t) ∧ cond0_4 (grid0.coords t) ∧ cond0_5 (grid0.coords t)) :=
  (by decide +kernel : ∀ t : Fin grid0.N, (cond0_0 (grid0.coords t) ∧ cond0_1 (grid0.coords t) ∧ cond0_2 (grid0.coords t) ∧ ¬cond0_3 (grid0.coords t) ∧ ¬cond0_4 (grid0.coords t) ∧ ¬cond0_5 (grid0.coords t)) ∨ (¬cond0_0 (grid0.coords t) ∧ cond0_1 (grid0.coords t) ∧ ¬cond0_2 (grid0.coords t) ∧ cond0_3 (grid0.coords t) ∧ ¬cond0_4 (grid0.coords t) ∧ ¬cond0_5 (grid0.coords t)) ∨ (¬cond0_0 (grid0.coords t) ∧ ¬cond0_1 (grid0.coords t) ∧ cond0_2 (grid0.coords t) ∧ ¬cond0_3 (grid0.coords t) ∧ ¬cond0_4 (grid0.coords t) ∧ ¬cond0_5 (grid0.coords t)) ∨ (¬cond0_0 (grid0.coords t) ∧ ¬cond0_1 (grid0.coords t) ∧ ¬cond0_2 (grid0.coords t) ∧ cond0_3 (grid0.coords t) ∧ ¬cond0_4 (grid0.coords t) ∧ ¬cond0_5 (grid0.coords t)) ∨ (¬cond0_0 (grid0.coords t) ∧ ¬cond0_1 (grid0.coords t) ∧ ¬cond0_2 (grid0.coords t) ∧ cond0_3 (grid0.coords t) ∧ cond0_4 (grid0.coords t) ∧ ¬cond0_5 (grid0.coords t)) ∨ (¬cond0_0 (grid0.coords t) ∧ ¬cond0_1 (grid0.coords t) ∧ cond0_2 (grid0.coords t) ∧ ¬cond0_3 (grid0.coords t) ∧ ¬cond0_4 (grid0.coords t) ∧ cond0_5 (grid0.coords t)) ∨ (¬cond0_0 (grid0.coords t) ∧ ¬cond0_1 (grid0.coords t) ∧ cond0_2 (grid0.coords t) ∧ ¬cond0_3 (grid0.coords t) ∧ cond0_4 (grid0.coords t) ∧ cond0_5 (grid0.coords t)))

/-- The body at any point. -/
theorem sound_body (hR : Keeps m R) (c : Dev nD) (t : Fin cfg0.N) :
    bodyPre m R c t ⊢ wp frame (wpE (defs₀ (F := F)) Variants.none c none) Set.univ (bodyAt0 t) (fun _ => bodyPost m R c t) := by
  rcases kinds t with ⟨c0, c1, c2, c3, c4, c5⟩ | ⟨c0, c1, c2, c3, c4, c5⟩ | ⟨c0, c1, c2, c3, c4, c5⟩ | ⟨c0, c1, c2, c3, c4, c5⟩ | ⟨c0, c1, c2, c3, c4, c5⟩ | ⟨c0, c1, c2, c3, c4, c5⟩ | ⟨c0, c1, c2, c3, c4, c5⟩
  · exact sound_A hR c t c0 c1 c2 c3 c4 c5
  · exact sound_B hR c t c0 c1 c2 c3 c4 c5
  · exact sound_C hR c t c0 c1 c2 c3 c4 c5
  · exact sound_D hR c t c0 c1 c2 c3 c4 c5
  · exact sound_E hR c t c0 c1 c2 c3 c4 c5
  · exact sound_F hR c t c0 c1 c2 c3 c4 c5
  · exact sound_G hR c t c0 c1 c2 c3 c4 c5

theorem defs₀_row (t : Fin cfg0.N) : defs₀ (F := F) .tc cfg0.body (cfg0.bodyArgs t (cfg0.slots t)) = bodyAt0 t := by
  unfold defs₀; rw [Defs.onTc_tc]

/-- The body obligation, relationally. -/
theorem body_obligation (hR : Keeps m R) (c : Dev nD) :
    Pipeline.BodyObligationRel (dats (F := F) m R 0 c) (defs₀ (F := F)) Variants.none () Set.univ results0 (Rl m R c) := fun t => by
  rw [bigSep_W0, bigSep_W0, defs₀_row]
  exact triple_restated (sound_body hR c t) rfl .rfl fun _ => .rfl

theorem hin (c : Dev nD) : Pipeline.ΦA spec0 c ⊢ (dats m R 0 c).Φ 0 := by
  rw [show (dats m R 0 c).Φ 0 = PhiS R c 0 (Nat.zero_le _) from rfl, PhiS_zero R c 0 _ rfl]

theorem hout (c : Dev nD) : (dats m R 0 c).Φ (Fin.last cfg0.N) ⊢ Pipeline.ΦA spec0 c := by
  rw [show (dats m R 0 c).Φ (Fin.last cfg0.N) = PhiS R c cfg0.N (Nat.le_refl _) from rfl, PhiS_pos R c _ _ (by rw [show cfg0.N = 81 from N_0]; decide), PhiA0_eq]
  unfold scr
  iintro ⟨%s, -, HS0, HS1, HS2, HS3, Hg⟩
  isplitr [Hg]; swap
  · iexact Hg
  isplitl [HS0]; · iexists _; iexact HS0
  isplitl [HS1]; · iexists _; iexact HS1
  isplitl [HS2]; · iexists _; iexact HS2
  iexists _; iexact HS3

set_option backward.isDefEq.respectTransparency.types false in
/-- The run of the call. -/
theorem run_main (hR : Keeps m R) : θ_run defs (onTc (τ := τ) (main (F := F))) (s₀ m ρ)
    (fun r => (Pipeline.RDat.FramePost (cfgs 0) (fun c => (dats m R 0 c).toRRel results0 (Rl m R c)) (V m)) r ∧ r.2.sem = fun _ => 0) :=
  Pipeline.RDat.θ_run_frame_track (Q' := _) cfgs (0 : Fin 1) launch0 defs₀ Variants.none (fun c => (dats m R 0 c).toRRel results0 (Rl m R c)) m ρ main
    (hbody := fun c => (body_obligation hR c).toRRel) (hshare := fun c => (dats m R 0 c).share_full fun _ => rfl)
    (howed := fun _ _ => rfl) (V := V m) (hmain := hmain m Variants.none) (hA := A_eq m R) (hin := hin (m := m) (R := R)) (hout := hout (m := m) (R := R))

/-- The arguments after the run. -/
theorem unchanged_of {r : PUnit × MemSt nD τ sig (Elt F)}
    (h : Pipeline.RDat.FramePost (cfgs 0) (fun c => (dats m R 0 c).toRRel results0 (Rl m R c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨(Pipeline.RDat.FramePost.arr_in h c 0 rfl).trans ((A_eq m R c 0).trans (V_main_arg0 m c)),
    (Pipeline.RDat.FramePost.arr_in h c 1 rfl).trans ((A_eq m R c 1).trans (V_main_arg1 m c))⟩

/-- The run leaves the arguments and the semaphores as they were. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨unchanged_of h.1, h.2⟩) (run_main (R := fun _ _ _ => True) ρ fun _ _ _ _ _ _ => trivial)

end Cert.KernelDxIdeal.Hand

end
-- ==== Proof.DxVal.lean ====
/- The chunk functions of the kernel and the reference's payloads over the extended reals, read at an index. -/
module

public import proofs.«01_k».proof.Proof.DxTiles
public import proofs.«01_k».proof.Proof.Quant
public import Idealize.ShloMosaic.Lib.Pipeline.ValueKit

@[expose] public section

set_option maxRecDepth 16384

noncomputable section

namespace Cert.KernelDxIdeal.Hand

open Cert.KernelDxIdeal.Gen
open Idealize.ShloMosaic Idealize.ShloMosaic.TcCoe
open Cert.Quant

/-- The values of one block of a chunk: column `b`, rows `32 a` to `32 a + 32`. -/
def cblk (v : FVec Ideal S1024x256 .bf16) (a : Fin 32) (b : Fin 256) : Fin 32 → EReal :=
  fun j => v (ix2 (⟨a.val * 32 + j.val, by omega⟩ : Fin 1024) b)

theorem cq_at (v : FVec Ideal S1024x256 .bf16) (a : Fin 32) (b : Fin 256) : cq (F := Ideal) v (ix2 a b) = amax (cblk v a b) := by
  unfold amax cblk
  rw [← bot_bf16]
  pointwise [cq, k0_pay12]
  rfl

theorem pay13_at (v : FVec Ideal S1024x256 .bf16) (q : S32x256.Idx) : k0_pay13 (F := Ideal) v q = field2 (k0_pay12 (F := Ideal) v q) := by
  unfold k0_pay13 field2
  generalize k0_pay12 (F := Ideal) v = t
  generalize (0#32 : BitVec 32) = z
  rfl

theorem pay16_at (t : FVec Ideal S32x256 .f32) (n : IVec S32x256 32) (q : S32x256.Idx) :
    k0_pay16 (F := Ideal) t n (addi n (broadcast S32x256 32#32)) (broadcast S32x256 23#32) q = field5 (t q) (n q) := rfl

theorem pay19_at (t : FVec Ideal S32x256 .f32) (n : IVec S32x256 32) (q : S32x256.Idx) :
    k0_pay19 (F := Ideal) t n (addi n (broadcast S32x256 1#32)) (broadcast S32x256 23#32) q = expOf (bstep (t q) (n q) 1#32) := rfl

theorem chunkE_at (v : FVec Ideal S1024x256 .bf16) (q : S32x256.Idx) : chunkE (F := Ideal) v q = kerE (cq (F := Ideal) v q) := by
  unfold chunkE c141 c139 k0_pay17 k0_pay14 k0_pay15 k0_pay18
  refine (pay19_at _ _ q).trans ?_
  rw [pay16_at, pay13_at]
  unfold cq
  rfl

theorem chunkS_at (v : FVec Ideal S1024x256 .bf16) (a : Fin 32) (b : Fin 256) : chunkS (F := Ideal) v (ix2 a b) = kerE (amax (cblk v a b)) := by
  rw [← cq_at, ← chunkE_at]
  pointwise [chunkS, k0_pay23]

theorem pay20_at (v69 : FVec Ideal S1024x256 .bf16) (v75 : FVec Ideal S32x256 .f32) (v139 v141 v142 : IVec S32x256 32) (k : Fin 1024) (b : Fin 256) :
    k0_pay20 (F := Ideal) v69 v75 v139 v141 v142 (ix2 k b)
      = clip (v69 (ix2 k b) * pw (IntOp.subi 254#32 (k0_pay19 (F := Ideal) v75 v139 v141 v142 (ix2 (⟨k.val / 32, by omega⟩ : Fin 32) b)))) := by
  pointwise [k0_pay20, clip, pw]

/-- The values of one block of a window's block: column `n`, rows `32 a` to `32 a + 32`. -/
def bblk (x1 : FVec Ideal S1024x1024 .bf16) (n : Fin 1024) (a : Fin 32) : Fin 32 → EReal :=
  fun j => x1 (ix2 (⟨a.val * 32 + j.val, by omega⟩ : Fin 1024) n)

theorem cblk_colsOf (x1 : FVec Ideal S1024x1024 .bf16) (n : Fin 1024) (a : Fin 32) :
    cblk (colsOf (F := Ideal) x1 ⟨n.val / 256, by omega⟩) a ⟨n.val % 256, Nat.mod_lt _ (by decide)⟩ = bblk x1 n a := by
  funext j
  show x1 (ix2 _ (⟨256 * (n.val / 256) + n.val % 256, _⟩ : Fin 1024)) = x1 (ix2 _ n)
  congr 2
  exact Fin.ext (Nat.div_add_mod _ _)

theorem colsOf_at (x1 : FVec Ideal S1024x1024 .bf16) (n k : Fin 1024) :
    colsOf (F := Ideal) x1 ⟨n.val / 256, by omega⟩ (ix2 k (⟨n.val % 256, Nat.mod_lt _ (by decide)⟩ : Fin 256)) = x1 (ix2 k n) := by
  show x1 (ix2 _ (⟨256 * (n.val / 256) + n.val % 256, _⟩ : Fin 1024)) = x1 (ix2 _ n)
  congr 2
  exact Fin.ext (Nat.div_add_mod _ _)

/-- The code of a chunk's value, before it is turned. -/
theorem code_at (v : FVec Ideal S1024x256 .bf16) (k : Fin 1024) (b : Fin 256) (h : Small (cblk v ⟨k.val / 32, by omega⟩ b)) :
    k0_pay20 (F := Ideal) v (cq (F := Ideal) v) (c139 (F := Ideal) v) (c141 (F := Ideal) v) k0_pay18 (ix2 k b)
      = qcode (cblk v ⟨k.val / 32, by omega⟩ b) (v (ix2 k b)) := by
  rw [pay20_at]
  have e : k0_pay19 (F := Ideal) (cq (F := Ideal) v) (c139 (F := Ideal) v) (c141 (F := Ideal) v) k0_pay18 (ix2 (⟨k.val / 32, by omega⟩ : Fin 32) b)
      = kerE (amax (cblk v ⟨k.val / 32, by omega⟩ b)) := (chunkE_at v _).trans (by rw [cq_at])
  rw [e, (block_eq h).2.1]

theorem chunkC_at (v : FVec Ideal S1024x256 .bf16) (k : Fin 1024) (b : Fin 256) (h : Small (cblk v ⟨k.val / 32, by omega⟩ b)) :
    chunkC (F := Ideal) v (ix2 b k) = qcode (cblk v ⟨k.val / 32, by omega⟩ b) (v (ix2 k b)) := by
  rw [← code_at v k b h]
  pointwise [chunkC, k0_pay22]

theorem pay21_at (v69 : FVec Ideal S1024x256 .bf16) (v75 : FVec Ideal S32x256 .f32) (v139 v141 v142 : IVec S32x256 32) (k : Fin 1024) (b : Fin 256) :
    k0_pay21 (F := Ideal) v69 v75 v139 v141 v142 (ix2 k b)
      = k0_pay20 (F := Ideal) v69 v75 v139 v141 v142 (ix2 k b) * pw (k0_pay19 (F := Ideal) v75 v139 v141 v142 (ix2 (⟨k.val / 32, by omega⟩ : Fin 32) b)) := by
  pointwise [k0_pay21, pw]

theorem chunkW_at (v : FVec Ideal S1024x256 .bf16) (k : Fin 1024) (b : Fin 256) (h : Small (cblk v ⟨k.val / 32, by omega⟩ b)) :
    chunkW (F := Ideal) v (ix2 k b) = qcode (cblk v ⟨k.val / 32, by omega⟩ b) (v (ix2 k b)) * qscale (cblk v ⟨k.val / 32, by omega⟩ b) := by
  unfold chunkW
  rw [pay21_at, code_at v k b h]
  have e : k0_pay19 (F := Ideal) (cq (F := Ideal) v) (c139 (F := Ideal) v) (c141 (F := Ideal) v) k0_pay18 (ix2 (⟨k.val / 32, by omega⟩ : Fin 32) b)
      = kerE (amax (cblk v ⟨k.val / 32, by omega⟩ b)) := (chunkE_at v _).trans (by rw [cq_at])
  rw [e, (block_eq h).2.2]

theorem codesNew_val (x1 : FVec Ideal S1024x1024 .bf16) (n k : Fin 1024) (h : Small (bblk x1 n ⟨k.val / 32, by omega⟩)) :
    codesNew (F := Ideal) x1 (ix2 n k) = qcode (bblk x1 n ⟨k.val / 32, by omega⟩) (x1 (ix2 k n)) := by
  have h' := h
  rw [← cblk_colsOf] at h'
  refine (chunkC_at _ _ _ h').trans ?_
  rw [cblk_colsOf, colsOf_at]

theorem wideNew_val (x1 : FVec Ideal S1024x1024 .bf16) (n k : Fin 1024) (h : Small (bblk x1 n ⟨k.val / 32, by omega⟩)) :
    wideNew (F := Ideal) x1 (ix2 k n) = qcode (bblk x1 n ⟨k.val / 32, by omega⟩) (x1 (ix2 k n)) * qscale (bblk x1 n ⟨k.val / 32, by omega⟩) := by
  have h' := h
  rw [← cblk_colsOf] at h'
  refine (chunkW_at _ _ _ h').trans ?_
  rw [cblk_colsOf, colsOf_at]

theorem expNew_val (x1 : FVec Ideal S1024x1024 .bf16) (n : Fin 1024) (a : Fin 32) (h : Small (bblk x1 n a)) :
    expNew (F := Ideal) x1 a n = qexp (bblk x1 n a) := by
  unfold expNew
  rw [chunkS_at, cblk_colsOf, (block_eq h).1]

theorem chunkA_at (a : FVec Ideal S1536x256 .f32) (l : FVec Ideal S1536x1024 .bf16) (s : FVec Ideal S1024x256 .bf16) (r : Fin 1536) (b : Fin 256) :
    chunkA (F := Ideal) a l s (ix2 r b) = a (ix2 r b) + ∑ k : Fin 1024, l (ix2 r k) * s (ix2 k b) := by
  pointwise [chunkA, k0_pay11]
  all_goals (try rw [zero_add])

theorem accNew_val (x0 : FVec Ideal S1536x1024 .bf16) (src : FVec Ideal S1024x1024 .bf16) (acc : FVec Ideal S1536x1024 .f32) (r : Fin 1536) (n : Fin 1024) :
    accNew (F := Ideal) x0 src acc (ix2 r n) = acc (ix2 r n) + ∑ k : Fin 1024, x0 (ix2 r k) * src (ix2 k n) := by
  refine (chunkA_at _ _ _ _ _).trans ?_
  have hn : (⟨256 * (n.val / 256) + n.val % 256, by omega⟩ : Fin 1024) = n := Fin.ext (Nat.div_add_mod _ _)
  show acc (ix2 r (⟨256 * (n.val / 256) + n.val % 256, _⟩ : Fin 1024))
    + ∑ k : Fin 1024, x0 (ix2 r k) * src (ix2 k (⟨256 * (n.val / 256) + n.val % 256, _⟩ : Fin 1024)) = _
  simp only [hn]

theorem zeros_at (p : S1536x1024.Idx) : k0_pay112 (F := Ideal) p = 0 := by
  pointwise [k0_pay112]

theorem outTile_at (a : FVec Ideal S1536x1024 .f32) (p : S1536x1024.Idx) : k0_pay10 (F := Ideal) a p = a p := by
  pointwise [k0_pay10]

theorem scaleTile_at (e : IVec S320x1024 32) (q : Fin 320) (n : Fin 1024) : k0_pay9 (F := Ideal) e (ix2 q n) = (e (ix2 q n)).setWidth 8 := by
  pointwise [k0_pay9]

end Cert.KernelDxIdeal.Hand
end
-- ==== Proof.DxRef.lean ====
/- The reference's payloads over the extended reals, read at an index. -/
module

public import proofs.«01_k».proof.Proof.Gen.RefDxIdeal.Value
public import proofs.«01_k».proof.Proof.Quant
public import Idealize.ShloMosaic.Lib.Pipeline.ValueKit

@[expose] public section

set_option maxRecDepth 16384

noncomputable section

namespace Cert.RefDxIdeal.Hand

open Cert.RefDxIdeal.Gen
open Idealize.ShloMosaic Idealize.ShloMosaic.TcCoe
open Cert.Quant

/-- The values of one block of the weight: column `n`, rows `32 a` to `32 a + 32`. -/
def wblk (W : FVec Ideal S10240x8192 .bf16) (n : Fin 8192) (a : Fin 320) : Fin 32 → EReal :=
  fun j => W (ix2 (⟨a.val * 32 + j.val, by omega⟩ : Fin 10240) n)

theorem pay3_step (t : FVec Ideal S8192x320x1 .f32) (q : S8192x320x1.Idx) :
    select (cmpf .olt t (broadcast S8192x320x1 (Scalar.ofBits (F := Ideal) .f32 0x00800000#32))) (broadcast S8192x320x1 0#32)
      (addi (fptosi 32 (floor (divf (log t) (broadcast S8192x320x1 (Scalar.log (Scalar.ofBits (F := Ideal) .f32 0x40000000#32)))))) (broadcast S8192x320x1 1#32)) q
      = refE (t q) := by
  unfold refE
  pointwise
  rw [fptosi_eq, scalar_log_eq]

theorem red_at (v : FVec Ideal S8192x320x32 .f32) (n : Fin 8192) (a : Fin 320) :
    multiReduction .maximumf [2] S8192x320 v 0xFF800000#32 reduces_S8192x320x32_S8192x320 (.inl rfl) rfl (ix2 n a)
      = Finset.univ.fold max (Ideal.ofBits .f32 0xFF800000#32) fun j : Fin 32 => v (ix3 n a j) := by
  pointwise

theorem rt_step (u : FVec Ideal S8192x320 .f32) (n : Fin 8192) (a : Fin 320) (z : Fin 1) :
    mulf (shapeCast S8192x320x1 u shapeCasts_S8192x320_S8192x320x1) (broadcast S8192x320x1 (Scalar.ofBits (F := Ideal) .f32 0x3B124925#32)) (ix3 n a z)
      = u (ix2 n a) * Ideal.ofBits .f32 0x3B124925#32 := by
  pointwise

theorem pay2_at (W : FVec Ideal S10240x8192 .bf16) (n : Fin 8192) (a : Fin 320) (j : Fin 32) :
    absf (k0_pay2 (F := Ideal) W) (ix3 n a j) = max (wblk W n a j) (-(wblk W n a j)) := by
  unfold wblk
  pointwise [k0_pay2]
  rw [absf_eq]

theorem pay3_at (W : FVec Ideal S10240x8192 .bf16) (n : Fin 8192) (a : Fin 320) (z : Fin 1) : k0_pay3 (F := Ideal) W (ix3 n a z) = refE (amax (wblk W n a)) := by
  unfold k0_pay3
  refine (pay3_step _ _).trans ?_
  rw [rt_step, red_at, bot_f32]
  unfold amax
  rw [show (fun j : Fin 32 => absf (k0_pay2 (F := Ideal) W) (ix3 n a j)) = fun j => max (wblk W n a j) (-(wblk W n a j)) from funext fun j => pay2_at W n a j]

/-- The codes. -/
theorem codes_at (W : FVec Ideal S10240x8192 .bf16) (n : Fin 8192) (k : Fin 10240) :
    k0_pay4 (F := Ideal) W (ix2 n k) = qcode (wblk W n ⟨k.val / 32, by omega⟩) (W (ix2 k n)) := by
  unfold qcode clip
  rw [← pay3_at W n ⟨k.val / 32, by omega⟩ 0]
  pointwise [k0_pay4, k0_pay2]
  rw [exp2_eq, sitofp_eq]

/-- The scales, before they are turned. -/
theorem scale_at (W : FVec Ideal S10240x8192 .bf16) (n : Fin 8192) (a : Fin 320) :
    k0_pay5 (F := Ideal) W (ix2 n a) = (qexp (wblk W n a)).setWidth 8 := by
  unfold qexp
  rw [← pay3_at W n a 0]
  pointwise [k0_pay5]

/-- The scales. -/
theorem scales_at (W : FVec Ideal S10240x8192 .bf16) (n : Fin 8192) (a : Fin 320) :
    k0_pay6 (F := Ideal) W (ix2 a n) = (qexp (wblk W n a)).setWidth 8 := by
  rw [← scale_at]
  pointwise [k0_pay6]

theorem widen_at (W : FVec Ideal S10240x8192 .bf16) (n : Fin 8192) (a : Fin 320) :
    Ideal.exp2 ((((IntOp.subi ((k0_pay5 (F := Ideal) W (ix2 n a)).setWidth 32) 127#32).toInt : ℝ) : EReal)) = qscale (wblk W n a) := by
  unfold qscale
  rw [← scale_at]

/-- The product. -/
theorem product_at (X : FVec Ideal S1536x10240 .bf16) (W : FVec Ideal S10240x8192 .bf16) (r : Fin 1536) (n : Fin 8192) :
    k0_pay1 (F := Ideal) (k0_pay4 (F := Ideal) W) (k0_pay5 (F := Ideal) W) X (ix2 r n)
      = ∑ k : Fin 10240, X (ix2 r k) * (qcode (wblk W n ⟨k.val / 32, by omega⟩) (W (ix2 k n)) * qscale (wblk W n ⟨k.val / 32, by omega⟩)) := by
  have h : ∀ k : Fin 10240, X (ix2 r k) * (qcode (wblk W n ⟨k.val / 32, by omega⟩) (W (ix2 k n)) * qscale (wblk W n ⟨k.val / 32, by omega⟩))
      = X (ix2 r k) * (k0_pay4 (F := Ideal) W (ix2 n k) * Ideal.exp2 ((((IntOp.subi ((k0_pay5 (F := Ideal) W (ix2 n ⟨k.val / 32, by omega⟩)).setWidth 32) 127#32).toInt : ℝ) : EReal))) := fun k => by
    rw [codes_at, widen_at]
  rw [Finset.sum_congr rfl fun k _ => h k]
  generalize k0_pay4 (F := Ideal) W = C
  generalize k0_pay5 (F := Ideal) W = S
  pointwise [k0_pay1]
  refine Finset.sum_congr rfl fun k _ => ?_
  rw [exp2_eq, sitofp_eq]

end Cert.RefDxIdeal.Hand
end
-- ==== Proof.DxInv.lean ====
/- What the scratch buffers hold between two points of the grid, over the extended reals: the widened tile of the
   weight that was quantised last, the part of the product summed so far, and the exponents of the block row. -/
module

public import proofs.«01_k».proof.Proof.DxBody
public import proofs.«01_k».proof.Proof.DxVal
public import proofs.«01_k».proof.Proof.DxRef

@[expose] public section

set_option maxRecDepth 16384

noncomputable section

namespace Cert.KernelDxIdeal.Hand

open Cert.KernelDxIdeal.Gen
open Idealize.ShloMosaic Idealize.ShloMosaic.TcCoe
open Cert.Quant
open Cert.RefDxIdeal.Hand (wblk)

variable (m : (ℓ : Loc nD τ sig) → Buf (Elt Ideal) ℓ)

/-- The left operand. -/
abbrev lhs (c : Dev nD) : FVec Ideal S1536x10240 .bf16 := m ((c : Thread nD τ).loc main_arg0)
/-- The weight. -/
abbrev wgt (c : Dev nD) : FVec Ideal S10240x8192 .bf16 := m ((c : Thread nD τ).loc main_arg1)

/-- The weight's values are below bf16's largest finite magnitude. -/
def Fine (c : Dev nD) : Prop := ∀ (n : Fin 8192) (a : Fin 320), Small (wblk (wgt m c) n a)

/-- The windows' blocks at a point: the product works one point behind the quantising. -/
theorem idx : ∀ t : Fin cfg0.N, win0_0.index t = ![0, (t.val - 1) % 10] ∧ win0_1.index t = ![(min t.val 79) % 10, (min t.val 79) / 10]
    ∧ win0_2.index t = ![0, (t.val - 1) / 10] ∧ win0_3.index t = ![(min t.val 79) / 10, (min t.val 79) % 10] ∧ win0_4.index t = ![0, (min t.val 79) / 10] :=
  (by decide +kernel : ∀ t : Fin grid0.N, _)

theorem x_at (c : Dev nD) (t : Fin cfg0.N) (r : Fin 1536) (k : Fin 1024) (K : Fin 10240) (hK : K.val = 1024 * ((t.val - 1) % 10) + k.val) :
    iblk m c 0 t (ix2 r k) = lhs m c (ix2 r K) := by
  have e : K = ⟨((t.val - 1) % 10) * 1024 + k.val, by omega⟩ := Fin.ext (hK.trans (by rw [Nat.mul_comm]))
  rw [e]
  blk_ext [iblk, V, idx t]

theorem w_at (c : Dev nD) (t : Fin cfg0.N) (n k : Fin 1024) (N : Fin 8192) (K : Fin 10240)
    (hN : N.val = 1024 * ((min t.val 79) / 10) + n.val) (hK : K.val = 1024 * ((min t.val 79) % 10) + k.val) :
    iblk m c 1 t (ix2 k n) = wgt m c (ix2 K N) := by
  have e : K = ⟨((min t.val 79) % 10) * 1024 + k.val, by omega⟩ := Fin.ext (hK.trans (by rw [Nat.mul_comm]))
  have e' : N = ⟨((min t.val 79) / 10) * 1024 + n.val, by omega⟩ := Fin.ext (hN.trans (by rw [Nat.mul_comm]))
  rw [e, e']
  blk_ext [iblk, V, idx t]

theorem blk_at (c : Dev nD) (t : Fin cfg0.N) (n : Fin 1024) (a : Fin 32) (N : Fin 8192) (A : Fin 320)
    (hN : N.val = 1024 * ((min t.val 79) / 10) + n.val) (hA : A.val = 32 * ((min t.val 79) % 10) + a.val) :
    bblk (iblk m c 1 t) n a = wblk (wgt m c) N A := by
  funext j
  unfold bblk wblk
  exact w_at m c t n _ N _ hN (by show A.val * 32 + j.val = _ + (a.val * 32 + j.val); omega)

/-- The weight after quantising and widening. -/
def qw (W : FVec Ideal S10240x8192 .bf16) (N : Fin 8192) (K : Fin 10240) : EReal :=
  qcode (wblk W N ⟨K.val / 32, by omega⟩) (W (ix2 K N)) * qscale (wblk W N ⟨K.val / 32, by omega⟩)

/-- One term of the product. -/
def term (X : FVec Ideal S1536x10240 .bf16) (W : FVec Ideal S10240x8192 .bf16) (r : Fin 1536) (N : Fin 8192) (k : ℕ) : EReal :=
  if h : k < 10240 then X (ix2 r ⟨k, h⟩) * qw W N ⟨k, h⟩ else 0

/-- What the scratch buffers hold after point `t`. -/
structure Inv (c : Dev nD) (t : ℕ) (s : St Ideal) : Prop where
  wide : ∀ (n k : Fin 1024) (N : Fin 8192) (K : Fin 10240), N.val = 1024 * ((min t 79) / 10) + n.val → K.val = 1024 * ((min t 79) % 10) + k.val →
    (if t % 2 = 0 then s.w0 else s.w1) (ix2 k n) = qw (wgt m c) N K
  acc : 1 ≤ t → ∀ (r : Fin 1536) (n : Fin 1024) (N : Fin 8192), N.val = 1024 * ((t - 1) / 10) + n.val →
    s.acc (ix2 r n) = ∑ k ∈ Finset.range (1024 * ((t - 1) % 10) + 1024), term (lhs m c) (wgt m c) r N k
  e : ∀ (q : Fin 320) (n : Fin 1024) (N : Fin 8192), N.val = 1024 * ((min t 79) / 10) + n.val → q.val < 32 * ((min t 79) % 10) + 32 →
    s.e (ix2 q n) = qexp (wblk (wgt m c) N q)

theorem step_wide (c : Dev nD) (hf : Fine m c) (t : Fin cfg0.N) (n k : Fin 1024) (N : Fin 8192) (K : Fin 10240)
    (hN : N.val = 1024 * ((min t.val 79) / 10) + n.val) (hK : K.val = 1024 * ((min t.val 79) % 10) + k.val) :
    wideNew (F := Ideal) (iblk m c 1 t) (ix2 k n) = qw (wgt m c) N K := by
  have hb := blk_at m c t n ⟨k.val / 32, by omega⟩ N ⟨K.val / 32, by omega⟩ hN (by show K.val / 32 = _ + k.val / 32; omega)
  rw [wideNew_val _ n k (by rw [hb]; exact hf _ _), hb, w_at m c t n k N K hN hK]
  rfl

theorem step_sum (c : Dev nD) (t : Fin cfg0.N) (src : FVec Ideal S1024x1024 .bf16) (acc : FVec Ideal S1536x1024 .f32) (r : Fin 1536) (n : Fin 1024) (N : Fin 8192)
    (hs : ∀ (k : Fin 1024) (K : Fin 10240), K.val = 1024 * ((t.val - 1) % 10) + k.val → src (ix2 k n) = qw (wgt m c) N K)
    (ha : acc (ix2 r n) = ∑ k ∈ Finset.range (1024 * ((t.val - 1) % 10)), term (lhs m c) (wgt m c) r N k) :
    accNew (F := Ideal) (iblk m c 0 t) src acc (ix2 r n) = ∑ k ∈ Finset.range (1024 * ((t.val - 1) % 10) + 1024), term (lhs m c) (wgt m c) r N k := by
  rw [accNew_val, Finset.sum_range_add, ha, Finset.sum_range (n := 1024)]
  congr 1
  refine Finset.sum_congr rfl fun k _ => ?_
  have hk : 1024 * ((t.val - 1) % 10) + k.val < 10240 := by omega
  unfold term
  rw [dif_pos hk, x_at m c t r k ⟨_, hk⟩ rfl, hs k ⟨_, hk⟩ rfl]

theorem step_exp (c : Dev nD) (hf : Fine m c) (t : Fin cfg0.N) (e : IVec S320x1024 32) (q : Fin 320) (n : Fin 1024) (N : Fin 8192)
    (hN : N.val = 1024 * ((min t.val 79) / 10) + n.val) (hq : q.val < 32 * ((min t.val 79) % 10) + 32)
    (he : q.val < 32 * ((min t.val 79) % 10) → e (ix2 q n) = qexp (wblk (wgt m c) N q)) :
    eNew (F := Ideal) ((min (grid0.coords t 0).val 79) % 10) (iblk m c 1 t) e (ix2 q n) = qexp (wblk (wgt m c) N q) := by
  rw [coords_val0 t]
  by_cases h : 32 * ((min t.val 79) % 10) ≤ q.val
  · have hb := blk_at m c t n ⟨q.val - 32 * ((min t.val 79) % 10), by omega⟩ N q hN (by show q.val = _ + (q.val - 32 * ((min t.val 79) % 10)); omega)
    refine (dif_pos (show 32 * ((min t.val 79) % 10) ≤ q.val ∧ q.val < 32 * ((min t.val 79) % 10) + 32 from ⟨h, hq⟩)).trans ?_
    refine (expNew_val (iblk m c 1 t) n ⟨q.val - 32 * ((min t.val 79) % 10), by omega⟩ (by rw [hb]; exact hf _ _)).trans ?_
    rw [hb]
  · refine (dif_neg (show ¬(32 * ((min t.val 79) % 10) ≤ q.val ∧ q.val < 32 * ((min t.val 79) % 10) + 32) from fun h' => h h'.1)).trans ?_
    exact he (by omega)

/-- The invariant before point `n`, given a weight without infinities. -/
def R : Dev nD → ℕ → St Ideal → Prop := fun c n s => Fine m c → Inv m c (n - 1) s

theorem keeps : Keeps m (R m) := by
  intro c t s s' hs hst hf
  have hN : t.val < 81 := lt_of_lt_of_eq t.isLt (show cfg0.N = 81 from N_0)
  show Inv m c (t.val + 1 - 1) s'
  rw [Nat.add_sub_cancel]
  constructor
  · intro n k N K hN hK
    by_cases h2 : t.val % 2 = 0
    · rw [if_pos h2, hst.even h2]; exact step_wide m c hf t n k N K hN hK
    · rw [if_neg h2, hst.odd (by omega)]; exact step_wide m c hf t n k N K hN hK
  · intro h1 r n N hn
    have hI : Inv m c (t.val - 1) s := (hs.resolve_left (by omega)) hf
    have hm : min (t.val - 1) 79 = t.val - 1 := by omega
    have hw := hI.wide
    rw [hm] at hw
    have ha : t.val % 10 ≠ 1 → s.acc (ix2 r n) = ∑ k ∈ Finset.range (1024 * ((t.val - 1) % 10)), term (lhs m c) (wgt m c) r N k := fun h8 => by
      rw [hI.acc (by omega) r n N (by omega)]
      congr 2
      omega
    by_cases h2 : t.val % 2 = 0
    · rw [hst.accEven h2 (by omega)]
      rw [if_neg (by omega)] at hw
      exact step_sum m c t _ _ r n N (fun k K hK => hw n k N K hn hK) (ha (by omega))
    · rw [if_pos (by omega)] at hw
      by_cases h8 : t.val % 10 = 1
      · rw [hst.accFirst (by omega) h8]
        refine step_sum m c t _ _ r n N (fun k K hK => hw n k N K hn hK) ?_
        rw [zeros_at, show (t.val - 1) % 10 = 0 by omega]
        rfl
      · rw [hst.accOdd (by omega) h8]
        exact step_sum m c t _ _ r n N (fun k K hK => hw n k N K hn hK) (ha h8)
  · intro q n N hn hq
    rw [hst.e]
    refine step_exp m c hf t _ q n N hn hq fun hq' => ?_
    have hI : Inv m c (t.val - 1) s := (hs.resolve_left (by omega)) hf
    exact hI.e q n N (by omega) (by omega)

end Cert.KernelDxIdeal.Hand

end
-- ==== Proof.DxValue.lean ====
/- The three results of the call, over the extended reals: they are the reference's. -/
module

public import proofs.«01_k».proof.Proof.DxInv

@[expose] public section

set_option maxRecDepth 16384

noncomputable section

namespace Cert.KernelDxIdeal.Hand

open Cert.KernelDxIdeal.Gen
open Idealize.ShloMosaic Idealize.ShloMosaic.TcCoe Idealize.SL.Sem
open Idealize.ShloMosaic.Pipeline (Dat)
open Cert.Quant
open Cert.RefDxIdeal.Hand (wblk)

variable (m : (ℓ : Loc nD τ sig) → Buf (Elt Ideal) ℓ) (ρ : Dev nD → PrngReg)

/-- The product of the left operand and the quantised weight. -/
abbrev refOut (c : Dev nD) : FVec Ideal S1536x8192 .bf16 := Cert.RefDxIdeal.Gen.k0_pay1 (F := Ideal) (Cert.RefDxIdeal.Gen.k0_pay4 (F := Ideal) (wgt m c)) (Cert.RefDxIdeal.Gen.k0_pay5 (F := Ideal) (wgt m c)) (lhs m c)
/-- The weight's codes. -/
abbrev refCodes (c : Dev nD) : FVec Ideal S8192x10240 .fp8e4m3 := Cert.RefDxIdeal.Gen.k0_pay4 (F := Ideal) (wgt m c)
/-- The weight's scales. -/
abbrev refScales (c : Dev nD) : IVec S320x8192 8 := Cert.RefDxIdeal.Gen.k0_pay6 (F := Ideal) (wgt m c)

theorem codes_point (c : Dev nD) (hf : Fine m c) (t : Fin cfg0.N) (n k : Fin 1024) (N : Fin 8192) (K : Fin 10240)
    (hN : N.val = 1024 * ((min t.val 79) / 10) + n.val) (hK : K.val = 1024 * ((min t.val 79) % 10) + k.val) :
    codesNew (F := Ideal) (iblk m c 1 t) (ix2 n k) = refCodes m c (ix2 N K) := by
  have hb := blk_at m c t n ⟨k.val / 32, by omega⟩ N ⟨K.val / 32, by omega⟩ hN (by show K.val / 32 = _ + k.val / 32; omega)
  rw [codesNew_val _ n k (by rw [hb]; exact hf _ _), hb, w_at m c t n k N K hN hK]
  exact (Cert.RefDxIdeal.Hand.codes_at (wgt m c) N K).symm

theorem scales_point (c : Dev nD) (hf : Fine m c) (t : Fin cfg0.N) (ht : (min t.val 79) % 10 = 9) (s : St Ideal) (hs : R m c (t.val + 1) s)
    (n : Fin 1024) (q : Fin 320) (N : Fin 8192) (hN : N.val = 1024 * ((min t.val 79) / 10) + n.val) :
    k0_pay9 (F := Ideal) s.e (ix2 q n) = refScales m c (ix2 q N) := by
  have hI : Inv m c t.val s := hs hf
  rw [scaleTile_at, hI.e q n N hN (by omega)]
  exact (Cert.RefDxIdeal.Hand.scales_at (wgt m c) N q).symm

theorem out_point (c : Dev nD) (hf : Fine m c) (t : Fin cfg0.N) (ht : (t.val - 1) % 10 = 9) (s : St Ideal) (hs : R m c (t.val + 1) s)
    (r : Fin 1536) (n : Fin 1024) (N : Fin 8192) (hN : N.val = 1024 * ((t.val - 1) / 10) + n.val) :
    k0_pay10 (F := Ideal) s.acc (ix2 r n) = refOut m c (ix2 r N) := by
  have hI : Inv m c t.val s := hs hf
  rw [outTile_at, hI.acc (by omega) r n N hN, show 1024 * ((t.val - 1) % 10) + 1024 = 10240 by omega, Finset.sum_range]
  refine Eq.trans ?_ (Cert.RefDxIdeal.Hand.product_at (lhs m c) (wgt m c) r N).symm
  refine Finset.sum_congr rfl fun k _ => ?_
  unfold term
  rw [dif_pos k.isLt]
  rfl

theorem flush2 : ∀ t : Fin cfg0.N, (cfg0.win 2).flush t = true → (t.val - 1) % 10 = 9 ∧ cond0_5 (grid0.coords t) :=
  (by decide +kernel : ∀ t : Fin grid0.N, (cfg0.win 2).flush t = true → (t.val - 1) % 10 = 9 ∧ cond0_5 (grid0.coords t))
theorem flush4 : ∀ t : Fin cfg0.N, (cfg0.win 4).flush t = true → (min t.val 79) % 10 = 9 ∧ cond0_4 (grid0.coords t) :=
  (by decide +kernel : ∀ t : Fin grid0.N, (cfg0.win 4).flush t = true → (min t.val 79) % 10 = 9 ∧ cond0_4 (grid0.coords t))

theorem emb2 (G : FVec Ideal S1536x8192 .bf16) (t : Fin cfg0.N) (r : Fin 1536) (n : Fin 1024) (N : Fin 8192) (hN : N.val = 1024 * ((t.val - 1) / 10) + n.val) :
    G (((cfg0.win 2).blk t).view.emb (ix2 r n)) = G (ix2 r N) := by
  have e : N = ⟨((t.val - 1) / 10) * 1024 + n.val, by omega⟩ := Fin.ext (hN.trans (by rw [Nat.mul_comm]))
  rw [e]
  blk_ext [idx t]

theorem emb3 (G : FVec Ideal S8192x10240 .fp8e4m3) (t : Fin cfg0.N) (n k : Fin 1024) (N : Fin 8192) (K : Fin 10240)
    (hN : N.val = 1024 * ((min t.val 79) / 10) + n.val) (hK : K.val = 1024 * ((min t.val 79) % 10) + k.val) :
    G (((cfg0.win 3).blk t).view.emb (ix2 n k)) = G (ix2 N K) := by
  have e : K = ⟨((min t.val 79) % 10) * 1024 + k.val, by omega⟩ := Fin.ext (hK.trans (by rw [Nat.mul_comm]))
  have e' : N = ⟨((min t.val 79) / 10) * 1024 + n.val, by omega⟩ := Fin.ext (hN.trans (by rw [Nat.mul_comm]))
  rw [e, e']
  blk_ext [idx t]

theorem emb4 (G : IVec S320x8192 8) (t : Fin cfg0.N) (n : Fin 1024) (q : Fin 320) (N : Fin 8192)
    (hN : N.val = 1024 * ((min t.val 79) / 10) + n.val) :
    G (((cfg0.win 4).blk t).view.emb (ix2 q n)) = G (ix2 q N) := by
  have e' : N = ⟨((min t.val 79) / 10) * 1024 + n.val, by omega⟩ := Fin.ext (hN.trans (by rw [Nat.mul_comm]))
  rw [e']
  blk_ext [idx t]

/-- The results after the run. -/
theorem results_of {r : PUnit × MemSt nD τ sig (Elt Ideal)}
    (h : Pipeline.RDat.FramePost (cfgs 0) (fun c => (dats m (R m) 0 c).toRRel results0 (Rl m (R m) c)) (V m) r) (c : Dev nD) (hf : Fine m c) :
    r.2.mem ((c.tc : Thread nD τ).loc main_v0_0) = refOut m c
      ∧ r.2.mem ((c.tc : Thread nD τ).loc main_v0_1) = refCodes m c
      ∧ r.2.mem ((c.tc : Thread nD τ).loc main_v0_2) = refScales m c := by
  obtain ⟨after, hL, hA⟩ := Pipeline.RDat.FramePost.exists_exact h c
  refine ⟨(hA 2).trans ?_, (hA 3).trans ?_, (hA 4).trans ?_⟩
  · refine Dat.arrAt_eq_of_covers _ 2 _ (by decide +kernel) fun t ht y => ?_
    obtain ⟨h7, h5⟩ := flush2 t ht
    obtain ⟨s, hs, hX⟩ := (Pipeline.Dat.toRRel_leaves (dats m (R m) 0 c) rfl (hL 2 t ht)) h5
    have hb : t.val < 81 := lt_of_lt_of_eq t.isLt (show cfg0.N = 81 from N_0)
    obtain ⟨r, n, rfl⟩ : ∃ (r : Fin 1536) (n : Fin 1024), y = ix2 r n := ⟨y 0, y 1, eq_ix2 y⟩
    blk_simp
    rw [Pipeline.RDat.withAfter_after, hX]
    exact (out_point m c hf t h7 s hs r n ⟨1024 * ((t.val - 1) / 10) + n.val, by omega⟩ rfl).trans (emb2 (refOut m c) t r n _ rfl).symm
  · refine Dat.arrAt_eq_of_covers _ 3 _ (by decide +kernel) fun t ht y => ?_
    have hX := Pipeline.Dat.toRRel_leaves (dats m (R m) 0 c) rfl (hL 3 t ht)
    have hb : t.val < 81 := lt_of_lt_of_eq t.isLt (show cfg0.N = 81 from N_0)
    obtain ⟨n, k, rfl⟩ : ∃ (n : Fin 1024) (k : Fin 1024), y = ix2 n k := ⟨y 0, y 1, eq_ix2 y⟩
    blk_simp
    rw [Pipeline.RDat.withAfter_after, show after 3 t = codesNew (F := Ideal) (iblk m c 1 t) from hX]
    exact (codes_point m c hf t n k ⟨1024 * ((min t.val 79) / 10) + n.val, by omega⟩ ⟨1024 * ((min t.val 79) % 10) + k.val, by omega⟩ rfl rfl).trans
      (emb3 (refCodes m c) t n k _ _ rfl rfl).symm
  · refine Dat.arrAt_eq_of_covers _ 4 _ (by decide +kernel) fun t ht y => ?_
    obtain ⟨h7, h4⟩ := flush4 t ht
    obtain ⟨s, hs, hX⟩ := (Pipeline.Dat.toRRel_leaves (dats m (R m) 0 c) rfl (hL 4 t ht)) h4
    have hb : t.val < 81 := lt_of_lt_of_eq t.isLt (show cfg0.N = 81 from N_0)
    obtain ⟨q, n, rfl⟩ : ∃ (q : Fin 320) (n : Fin 1024), y = ix2 q n := ⟨y 0, y 1, eq_ix2 y⟩
    blk_simp
    rw [Pipeline.RDat.withAfter_after, hX]
    exact (scales_point m c hf t h7 s hs n q ⟨1024 * ((min t.val 79) / 10) + n.val, by omega⟩ rfl).trans (emb4 (refScales m c) t n q _ rfl).symm

/-- The run of the call, with its results. -/
theorem run_value (hf : ∀ c, Fine m c) : θ_run defs (onTc (τ := τ) (main (F := Ideal))) ⟨m, fun _ => 0, ρ⟩ (fun r => ∀ c : Dev nD,
    r.2.mem ((c.tc : Thread nD τ).loc main_v0_0) = refOut m c
      ∧ r.2.mem ((c.tc : Thread nD τ).loc main_v0_1) = refCodes m c
      ∧ r.2.mem ((c.tc : Thread nD τ).loc main_v0_2) = refScales m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(results_of m h.1 c (hf c)).1, (results_of m h.1 c (hf c)).2.1, (results_of m h.1 c (hf c)).2.2, unchanged_of h.1 c⟩)
    (run_main (R := R m) ρ (keeps m))

end Cert.KernelDxIdeal.Hand

end
-- ==== Proof.DxPre.lean ====
/- The precondition of the value claim, read at an index: the weight holds no infinity. -/
module

public import proofs.«01_k».proof.Proof.DxValue
public import proofs.«01_k».proof.Proof.Gen.Pre_finite_dx

@[expose] public section

set_option maxRecDepth 16384

noncomputable section

namespace Cert.KernelDxIdeal.Hand

open Cert.KernelDxIdeal.Gen
open Idealize.ShloMosaic Idealize.ShloMosaic.TcCoe
open Cert.Quant
open Cert.RefDxIdeal.Hand (wblk)

variable (m : (ℓ : Loc nD τ sig) → Buf (Elt Ideal) ℓ)

theorem le_of_pre (X : FVec Ideal S1536x10240 .bf16) (W : FVec Ideal S10240x8192 .bf16)
    (h : Cert.Pre_finite_dx.fn (F := Ideal) X W = fun _ => 1#1) (n : Fin 10240) (k : Fin 8192) :
    max (W (ix2 n k)) (-(W (ix2 n k))) ≤ Ideal.ofBits .bf16 0x7F7F#16 := by
  have h' := congrFun h (ix2 n k)
  revert h'
  pointwise [Cert.Pre_finite_dx.fn]
  rw [absf_eq]
  intro h'
  by_contra hn
  rw [decide_eq_false hn] at h'
  exact absurd h' (by decide)

/-- The precondition bounds every block. -/
theorem fine_of_pre (c : Dev nD) (h : Cert.Pre_finite_dx.fn (F := Ideal) (lhs m c) (wgt m c) = fun _ => 1#1) : Fine m c :=
  fun n a j => le_of_pre _ _ h _ n

end Cert.KernelDxIdeal.Hand

end
-- ==== Proof.DwValue.lean ====
/-
  The value of the `dw` call: the tiled product leaves in its result array the
  plain product of its two argument arrays.
-/
module

public import proofs.«01_k».proof.Proof.Gen.KernelDwIdeal.Frame
public import proofs.«01_k».proof.Proof.Gen.RefDwIdeal.Read
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.KernelDwIdeal.Value
open Cert.KernelDwIdeal Cert.KernelDwIdeal.Gen
variable (m : (ℓ : Loc nD τ sig) → Buf (Elt Ideal) ℓ)

/-- The reference's product over the two argument arrays. -/
abbrev REF (X : FVec Ideal S10240x1536 .bf16) (Y : FVec Ideal S1536x8192 .bf16) : FVec Ideal S10240x8192 .f32 :=
  Host.dotGeneral Cert.RefDwIdeal.dot_S10240x1536_S1536x8192_S10240x8192_1_0_0_1_n_n none X Y

/-- The three windows' block indices at every grid point. -/
theorem idx : ∀ t : Fin cfg0.N, win0_0.index t = ![(grid0.coords t 0).val, 0] ∧ win0_1.index t = ![0, (grid0.coords t 1).val] ∧ win0_2.index t = ![(grid0.coords t 0).val, (grid0.coords t 1).val] :=
  (by decide +kernel : ∀ t : Fin grid0.N, _)

/-- What the body stores at block index `y` of point `t` is the product at the array index `y` sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KernelDwIdeal.Value
end
-- ==== Proof.XSetup.lean ====
/- What the runs of the body that quantises the first operand share: its branch condition over the grid points, the staging
   buffers and the exponent buffer by name. -/
module

public import proofs.«01_k».proof.Proof.Gen.KernelXIdeal.Launch
public import proofs.«01_k».proof.Proof.Gen.KernelXIdeal.Skeleton
public import proofs.«01_k».proof.Proof.Gen.KernelXIdeal.Points
public import proofs.«01_k».proof.Proof.Gen.KernelXIdeal.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelXIdeal.Hand

open Cert.KernelXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's branch: the last point of the grid. -/
abbrev cond0_0 (i : grid0.Coords) : Prop := k0_cond1 i = 1#1
/-- It holds at the last point only — decided over the grid. -/
theorem hcond0_0 : ∀ t : Fin cfg0.N, cond0_0 (grid0.coords t) ↔ t.val = 31 :=
  (by decide +kernel : ∀ t : Fin grid0.N, cond0_0 (grid0.coords t) ↔ t.val = 31)

/-- The rows of the exponent buffer that the point's exponents are stored at. -/
theorem k0_off1_eq : ∀ i : grid0.Coords, k0_off1 i = ![8 * (i 0).val, 0] := by decide +kernel
instance closedOff_k0_off1 (i : grid0.Coords) : ClosedOff (k0_off1 i) := ⟨![8 * (i 0).val, 0], k0_off1_eq i⟩

/-! ## The buffers by name -/

/-- Each window's current staging memref at point `t`, spelled as the pipeline passes it (`bodyAt0`), and its wholeness. -/
abbrev ms0_0 (t : Fin cfg0.N) : Memref sig .tc .vmem S1536x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x256x768 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x24x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x256 .bf16 := win0_6.stage (cfg0.slots t 6)
abbrev hs0_6 (t : Fin cfg0.N) : (ms0_6 t).IsWhole := hstage0_6 ((cfg0.slots t 6).cast nbuf0_6)
/-- The exponent buffer: a whole scoped buffer of the kernel's own, passed beside the windows. -/
abbrev scM0_0 : Memref sig .tc .vmem S256x1536 .i32 := Memref.whole cc0_scratch0

/-- The frame kit's invariant with the exponent buffer as a memref owned at some contents. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

end Cert.KernelXIdeal.Hand

end
-- ==== Proof.XRunA.lean ====
/- The run of the body that quantises the first operand, at a point before the last. -/
module

public import proofs.«01_k».proof.Proof.XSetup

@[expose] public section

set_option maxRecDepth 16384

noncomputable section

namespace Cert.KernelXIdeal.Hand

open Cert.KernelXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the buffers at a point before the last: the written pieces of every buffer (last first), with
    the proof that the body runs from the buffers at the named contents to those pieces written. -/
noncomputable def run_A (c : Dev nD) (i : grid0.Coords) (arg1 : Memref sig .tc .vmem S1536x256 .bf16) (harg1 : arg1.IsWhole) (arg2 : Memref sig .tc .vmem S1536x256 .fp8e4m3) (harg2 : arg2.IsWhole) (arg3 : Memref sig .tc .vmem S1536x256 .i8) (harg3 : arg3.IsWhole) (arg4 : Memref sig .tc .vmem S2x256x768 .fp8e4m3) (harg4 : arg4.IsWhole) (arg5 : Memref sig .tc .vmem S2x24x256 .i8) (harg5 : arg5.IsWhole) (arg6 : Memref sig .tc .vmem S1536x256 .bf16) (harg6 : arg6.IsWhole) (arg7 : Memref sig .tc .vmem S1536x256 .bf16) (harg7 : arg7.IsWhole) (arg8 : Memref sig .tc .vmem S256x1536 .i32) (harg8 : arg8.IsWhole) (hc0 : ¬cond0_0 i)
    (x0 : Vec F S1536x256 .bf16) (xs : Vec F S256x1536 .i32) :
    Σ' (L2 : List (View.Piece (Elt F) S1536x256 .fp8e4m3)), Σ' (L4 : List (View.Piece (Elt F) S2x256x768 .fp8e4m3)), Σ' (L5 : List (View.Piece (Elt F) S2x24x256 .i8)), Σ' (L6 : List (View.Piece (Elt F) S1536x256 .bf16)), Σ' (L7 : List (View.Piece (Elt F) S1536x256 .bf16)), { LE : List (View.Piece (Elt F) S256x1536 .i32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
            ∗ (iprop(owns (c : Thread nD τ) arg1 fullShare x0 ∗ (∃ f, arg2.view.loc (c : Thread nD τ) ↦[arg2.view.set]{fullShare} arg2.view.writes (Elt F) f L2) ∗ (∃ d, owns (c : Thread nD τ) arg3 fullShare d) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ arg8.view.loc (c : Thread nD τ) ↦[arg8.view.set]{fullShare} arg8.view.writes (Elt F) (harg8.unread xs) LE) -∗ K ⟨⟩))
          ⊢ wp frame (wpE (defs₀ (F := F)) Variants.none c none) E (cc0_prep i arg1 harg1 arg2 harg2 arg3 harg3 arg4 harg4 arg5 harg5 arg6 harg6 arg7 harg7 arg8 harg8) K } := by
  refine ⟨?_, ?_, ?_, ?_, ?_, ?_, fun E K => ?run⟩
  case run =>
    simp only [cc0_prep_eq_skeleton]; unfold cc0_prep_skel
    simp only [k0_part1_eq_skeleton, k0_part2_eq_skeleton, k0_part3_eq_skeleton, k0_part4_eq_skeleton, k0_part5_eq_skeleton]
    unfold owns
    iintro ⟨⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%fs, %hfs, HS⟩, Hk⟩
    obtain rfl := harg1.eq_unread hf1; obtain rfl := harg8.eq_unread hfs
    sl_exec (disch := first | sl_exact hc0)
    sl_step
    iapply Hk
    isplitl [H1]
    · iexists _; isplitr; · ipureintro; exact harg1.read_unread _
      iexact H1
    isplitl [H2]; · iexists _; iexact H2
    isplitl [H3]
    · iexists _, _; isplitr; swap; · iexact H3
      ipureintro; rfl
    isplitl [H4]; · iexists _; iexact H4
    isplitl [H5]; · iexists _; iexact H5
    isplitl [H6]; · iexists _; iexact H6
    isplitl [H7]; · iexists _; iexact H7
    iexact HS

end Cert.KernelXIdeal.Hand

end
-- ==== Proof.XRunB.lean ====
/- The run of the body that quantises the first operand, at the last point, where the row scales are stored. -/
module

public import proofs.«01_k».proof.Proof.XSetup

@[expose] public section

set_option maxRecDepth 16384

noncomputable section

namespace Cert.KernelXIdeal.Hand

open Cert.KernelXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the buffers at the last point, where the row scales are stored: the written pieces of every buffer (last first), with
    the proof that the body runs from the buffers at the named contents to those pieces written. -/
noncomputable def run_B (c : Dev nD) (i : grid0.Coords) (arg1 : Memref sig .tc .vmem S1536x256 .bf16) (harg1 : arg1.IsWhole) (arg2 : Memref sig .tc .vmem S1536x256 .fp8e4m3) (harg2 : arg2.IsWhole) (arg3 : Memref sig .tc .vmem S1536x256 .i8) (harg3 : arg3.IsWhole) (arg4 : Memref sig .tc .vmem S2x256x768 .fp8e4m3) (harg4 : arg4.IsWhole) (arg5 : Memref sig .tc .vmem S2x24x256 .i8) (harg5 : arg5.IsWhole) (arg6 : Memref sig .tc .vmem S1536x256 .bf16) (harg6 : arg6.IsWhole) (arg7 : Memref sig .tc .vmem S1536x256 .bf16) (harg7 : arg7.IsWhole) (arg8 : Memref sig .tc .vmem S256x1536 .i32) (harg8 : arg8.IsWhole) (hc0 : cond0_0 i)
    (x0 : Vec F S1536x256 .bf16) (xs : Vec F S256x1536 .i32) :
    Σ' (L2 : List (View.Piece (Elt F) S1536x256 .fp8e4m3)), Σ' (L3 : List (View.Piece (Elt F) S1536x256 .i8)), Σ' (L4 : List (View.Piece (Elt F) S2x256x768 .fp8e4m3)), Σ' (L5 : List (View.Piece (Elt F) S2x24x256 .i8)), Σ' (L6 : List (View.Piece (Elt F) S1536x256 .bf16)), Σ' (L7 : List (View.Piece (Elt F) S1536x256 .bf16)), { LE : List (View.Piece (Elt F) S256x1536 .i32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
            ∗ (iprop(owns (c : Thread nD τ) arg1 fullShare x0 ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ arg8.view.loc (c : Thread nD τ) ↦[arg8.view.set]{fullShare} arg8.view.writes (Elt F) (harg8.unread xs) LE) -∗ K ⟨⟩))
          ⊢ wp frame (wpE (defs₀ (F := F)) Variants.none c none) E (cc0_prep i arg1 harg1 arg2 harg2 arg3 harg3 arg4 harg4 arg5 harg5 arg6 harg6 arg7 harg7 arg8 harg8) K } := by
  refine ⟨?_, ?_, ?_, ?_, ?_, ?_, ?_, fun E K => ?run⟩
  case run =>
    simp only [cc0_prep_eq_skeleton]; unfold cc0_prep_skel
    simp only [k0_part1_eq_skeleton, k0_part2_eq_skeleton, k0_part3_eq_skeleton, k0_part4_eq_skeleton, k0_part5_eq_skeleton]
    unfold owns
    iintro ⟨⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%fs, %hfs, HS⟩, Hk⟩
    obtain rfl := harg1.eq_unread hf1; obtain rfl := harg8.eq_unread hfs
    sl_exec (disch := first | sl_exact hc0)
    sl_step
    iapply Hk
    isplitl [H1]
    · iexists _; isplitr; · ipureintro; exact harg1.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexact HS

end Cert.KernelXIdeal.Hand

end
-- ==== Proof.XTiles.lean ====
/- What the body that quantises the first operand computes from a block, and what its stores leave in the buffers. -/
module

public import proofs.«01_k».proof.Proof.XRunA
public import proofs.«01_k».proof.Proof.XRunB
public import Idealize.ShloMosaic.Lib.Pipeline.ValueKit
public import Idealize.ShloMosaic.Lib.WholeRead
public import Idealize.ShloMosaic.Lib.WritesUnit

@[expose] public section

set_option maxRecDepth 16384

noncomputable section

namespace Cert.KernelXIdeal.Hand

open Cert.KernelXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes from a block -/

variable (v : Vec F S1536x256 .bf16)

/-- The biased exponents of the blocks down the columns. -/
def eCol : IVec S48x256 32 := k0_pay10 (k0_pay6 v) (k0_pay7 v) (k0_pay8 v) k0_pay9
/-- The block quantised down its columns and widened. -/
def cwTile : FVec F S1536x256 .bf16 := k0_pay12 v (eCol v) 254#32
/-- The column codes of the first batch. -/
def cc0 : FVec F S1x256x768 .fp8e4m3 := k0_pay14 v (eCol v) 254#32
/-- The column codes of the second batch. -/
def cc1 : FVec F S1x256x768 .fp8e4m3 := k0_pay15 v (eCol v) 254#32
/-- The column codes. -/
def ccTile : Vec F S2x256x768 .fp8e4m3 := fun y =>
  if (y 0).val = 0 then cc0 v (ix3 (0 : Fin 1) (⟨(y 1).val, (y 1).isLt⟩ : Fin 256) (⟨(y 2).val, (y 2).isLt⟩ : Fin 768))
  else cc1 v (ix3 (0 : Fin 1) (⟨(y 1).val, (y 1).isLt⟩ : Fin 256) (⟨(y 2).val, (y 2).isLt⟩ : Fin 768))
/-- The column scales. -/
def csTile : IVec S2x24x256 8 := k0_pay16 (eCol v)
/-- The biased exponents of the blocks along the rows. -/
def eRow : IVec S8x1536 32 := k0_pay20 (k0_pay18 v) (k0_pay19 v) 8#32
/-- The exponents of the factors the values are scaled by. -/
def sRow : IVec S8x1536 32 := k0_pay21 (k0_pay18 v) (k0_pay19 v) 8#32
/-- The row codes. -/
def rcTile : FVec F S1536x256 .fp8e4m3 := k0_pay2 (k0_pay17 v) (sRow v) 23#32
/-- The block quantised along its rows and widened. -/
def rwTile : FVec F S1536x256 .bf16 := k0_pay3 (k0_pay17 v) (eRow v) (sRow v) 23#32
/-- The exponents as they are stored. -/
def eTile : IVec S8x1536 32 := k0_pay4 (eRow v)
/-- The exponent buffer after point `t`. -/
def eNew (t : ℕ) (e : Vec F S256x1536 .i32) : Vec F S256x1536 .i32 := fun y =>
  if h : 8 * t ≤ (y 0).val ∧ (y 0).val < 8 * t + 8 then eTile v (ix2 (⟨(y 0).val - 8 * t, by omega⟩ : Fin 8) (⟨(y 1).val, (y 1).isLt⟩ : Fin 1536))
  else e y
/-- The row scales, from the whole exponent buffer. -/
def rsTile (e : Vec F S256x1536 .i32) : IVec S1536x256 8 := k0_pay5 e

variable {v}

/-! ## Reading whole buffers -/

/-- A whole buffer read back over no stores is its contents. -/
theorem whole_readAt {S : Shape} {e : EltTy} {m : Memref sig .tc .vmem S e} (hm : m.IsWhole) (X : Vec F S e)
    {off : Fin S.rank → ℕ} (inb) (ho : ∀ a, off a = 0) :
    m.view.readAt (Elt F) (Rect.unit (s := S) off S.size inb) (hm.unread X) = X := by
  funext q
  exact (hm.readAt_unread X _ q).trans (congrArg X (funext fun a => Fin.ext ((Rect.idx_unit_val off _ inb q a).trans (by rw [ho]; exact Nat.zero_add _))))

/-- The block as the body reads it. -/
def rdIn (m : Memref sig .tc .vmem S1536x256 .bf16) (hm : m.IsWhole) (X : Vec F S1536x256 .bf16) : Vec F S1536x256 .bf16 :=
  m.view.readAt (Elt F) (Rect.unit (s := S1536x256) ![0, 0] S1536x256.size inb_S1536x256_S1536x256_0_0).toLoadRect (hm.unread X)

theorem rdIn_eq (m : Memref sig .tc .vmem S1536x256 .bf16) (hm : m.IsWhole) (X : Vec F S1536x256 .bf16) : rdIn m hm X = X :=
  whole_readAt hm X _ (fun a => by fin_cases a <;> rfl)

/-- A whole buffer stored in one piece reads back the piece. -/
theorem whole_store {S : Shape} {e : EltTy} (m : Memref sig .tc .vmem S e) (f) (off : Fin S.rank → ℕ) (inb) {w : S.Idx → Elt F e} {X : Vec F S e}
    (h : ∀ q, w q = X q) (ho : ∀ a, off a = 0 := by decide) :
    m.view.read (Elt F) (m.view.writes (Elt F) f [⟨Rect.unit (s := S) off S.size inb, w⟩]) = X := by
  funext y
  refine (View.read_writes_cons_unit_of_mem m.view f inb w [] y y rfl (fun a => ?_)).trans (h y)
  rw [ho a, Nat.zero_add]

/-! ## The pieces stored -/

/-- The column codes, as stored. -/
def ccPieces (v : Vec F S1536x256 .bf16) : List (View.Piece (Elt F) S2x256x768 .fp8e4m3) :=
  [⟨Rect.unit (s := S2x256x768) ![1, 0, 0] S1x256x768.size inb_S2x256x768_S1x256x768_1_0_0, cc1 v⟩,
   ⟨Rect.unit (s := S2x256x768) ![0, 0, 0] S1x256x768.size inb_S2x256x768_S1x256x768_0_0_0, cc0 v⟩]

theorem ccTile_at0 (v : Vec F S1536x256 .bf16) (x : S1x256x768.Idx) (y : S2x256x768.Idx) (h0 : (y 0).val = 0) (h1 : (y 1).val = (x 1).val) (h2 : (y 2).val = (x 2).val) :
    cc0 v x = ccTile v y := by
  unfold ccTile
  rw [if_pos h0]
  refine congrArg (cc0 v) (funext fun a => Fin.ext ?_)
  match a with
  | ⟨0, _⟩ => show (x 0).val = 0; have h : (x 0).val < 1 := (x 0).isLt; omega
  | ⟨1, _⟩ => show (x 1).val = (y 1).val; omega
  | ⟨2, _⟩ => show (x 2).val = (y 2).val; omega

theorem ccTile_at1 (v : Vec F S1536x256 .bf16) (x : S1x256x768.Idx) (y : S2x256x768.Idx) (h0 : (y 0).val = 1) (h1 : (y 1).val = (x 1).val) (h2 : (y 2).val = (x 2).val) :
    cc1 v x = ccTile v y := by
  unfold ccTile
  rw [if_neg (by omega)]
  refine congrArg (cc1 v) (funext fun a => Fin.ext ?_)
  match a with
  | ⟨0, _⟩ => show (x 0).val = 0; have h : (x 0).val < 1 := (x 0).isLt; omega
  | ⟨1, _⟩ => show (x 1).val = (y 1).val; omega
  | ⟨2, _⟩ => show (x 2).val = (y 2).val; omega

theorem read_ccPieces (m : Memref sig .tc .vmem S2x256x768 .fp8e4m3) (f) (v : Vec F S1536x256 .bf16) :
    m.view.read (Elt F) (m.view.writes (Elt F) f (ccPieces v)) = ccTile v := by
  funext y
  refine View.read_writes_apply_of_pieces (v := m.view) (f := f) (ccTile v) (ccPieces v) ?_ y (View.cover_of_tiledL (s := S2x256x768) (ccPieces v) S1x256x768.size (by sl_kernel_rfl) y)
  intro p hp x
  simp only [ccPieces, List.mem_cons, List.not_mem_nil, _root_.or_false] at hp
  rcases hp with rfl | rfl
  · exact ccTile_at1 v x _ (by show 1 + 1 * (x 0).val = 1; have h : (x 0).val < 1 := (x 0).isLt; omega) (by show 0 + 1 * (x 1).val = (x 1).val; omega) (by show 0 + 1 * (x 2).val = (x 2).val; omega)
  · exact ccTile_at0 v x _ (by show 0 + 1 * (x 0).val = 0; have h : (x 0).val < 1 := (x 0).isLt; omega) (by show 0 + 1 * (x 1).val = (x 1).val; omega) (by show 0 + 1 * (x 2).val = (x 2).val; omega)

/-- The exponents, as stored. -/
def ePieces (o : Fin 2 → ℕ) (h : ∀ a, o a + S8x1536.size a ≤ S256x1536.size a) (v : Vec F S1536x256 .bf16) : List (View.Piece (Elt F) S256x1536 .i32) :=
  [⟨Rect.unit (s := S256x1536) o S8x1536.size h, eTile v⟩]

theorem read_ePieces (m : Memref sig .tc .vmem S256x1536 .i32) (hm : m.IsWhole) (e : Vec F S256x1536 .i32) (v : Vec F S1536x256 .bf16)
    (t : ℕ) {o : Fin 2 → ℕ} (h) (ho : o = ![8 * t, 0]) :
    m.view.read (Elt F) (m.view.writes (Elt F) (hm.unread e) (ePieces o h v)) = eNew v t e := by
  funext y
  have hy1 : (y 1).val < 1536 := (y 1).isLt
  unfold ePieces
  by_cases hr : 8 * t ≤ (y 0).val ∧ (y 0).val < 8 * t + 8
  · refine (View.read_writes_cons_unit_of_mem m.view _ h _ [] y
      (ix2 (⟨(y 0).val - 8 * t, by omega⟩ : Fin 8) (⟨(y 1).val, hy1⟩ : Fin 1536)) ho ?_).trans ?_
    · refine Fin.forall_fin_two.mpr ⟨?_, ?_⟩
      · show (y 0).val = 8 * t + ((y 0).val - 8 * t); omega
      · show (y 1).val = 0 + (y 1).val; omega
    · unfold eNew
      rw [dif_pos hr]
  · refine (View.read_writes_cons_unit_of_not_mem m.view _ h _ [] y ho 0 ?_).trans ?_
    · show (y 0).val < 8 * t ∨ 8 * t + 8 ≤ (y 0).val
      omega
    · unfold eNew
      rw [dif_neg hr]
      exact congrFun (hm.read_unread e) y

/-- The whole exponent buffer read back over the stores. -/
theorem readAt_ePieces (m : Memref sig .tc .vmem S256x1536 .i32) (hm : m.IsWhole) (e : Vec F S256x1536 .i32) (v : Vec F S1536x256 .bf16)
    (t : ℕ) {o : Fin 2 → ℕ} (h) (ho : o = ![8 * t, 0]) :
    (m.view.readAt (Elt F) (Rect.unit (s := S256x1536) ![0, 0] S256x1536.size inb_S256x1536_S256x1536_0_0).toLoadRect
      (m.view.writes (Elt F) (hm.unread e) (ePieces o h v)) : Vec F S256x1536 .i32) = eNew v t e := by
  funext q
  refine (congrFun (read_ePieces m hm e v t h ho) _).trans (congrArg (eNew v t e) (funext fun a => Fin.ext ?_))
  match a with
  | ⟨0, _⟩ => show 0 + 1 * (q 0).val = (q 0).val; omega
  | ⟨1, _⟩ => show 0 + 1 * (q 1).val = (q 1).val; omega

end Cert.KernelXIdeal.Hand

end
-- ==== Proof.XExecA.lean ====
/- The body that quantises the first operand, at a point before the last: the run with the contents the stores leave read back as values. -/
module

public import proofs.«01_k».proof.Proof.XTiles

@[expose] public section

set_option maxRecDepth 16384

noncomputable section

namespace Cert.KernelXIdeal.Hand

open Cert.KernelXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point before the last, by what the buffers hold after it. -/
theorem exec_A (c : Dev nD) (i : grid0.Coords) (arg1 : Memref sig .tc .vmem S1536x256 .bf16) (harg1 : arg1.IsWhole) (arg2 : Memref sig .tc .vmem S1536x256 .fp8e4m3) (harg2 : arg2.IsWhole) (arg3 : Memref sig .tc .vmem S1536x256 .i8) (harg3 : arg3.IsWhole) (arg4 : Memref sig .tc .vmem S2x256x768 .fp8e4m3) (harg4 : arg4.IsWhole) (arg5 : Memref sig .tc .vmem S2x24x256 .i8) (harg5 : arg5.IsWhole) (arg6 : Memref sig .tc .vmem S1536x256 .bf16) (harg6 : arg6.IsWhole) (arg7 : Memref sig .tc .vmem S1536x256 .bf16) (harg7 : arg7.IsWhole) (arg8 : Memref sig .tc .vmem S256x1536 .i32) (harg8 : arg8.IsWhole) (hc0 : ¬cond0_0 i)
    (x0 : Vec F S1536x256 .bf16) (xs : Vec F S256x1536 .i32)
    (E : Set ℕ) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
      ∗ (iprop(owns (c : Thread nD τ) arg1 fullShare x0 ∗ owns (c : Thread nD τ) arg2 fullShare (rcTile x0) ∗ (∃ d, owns (c : Thread nD τ) arg3 fullShare d) ∗ owns (c : Thread nD τ) arg4 fullShare (ccTile x0) ∗ owns (c : Thread nD τ) arg5 fullShare (csTile x0) ∗ owns (c : Thread nD τ) arg6 fullShare (rwTile x0) ∗ owns (c : Thread nD τ) arg7 fullShare (cwTile x0) ∗ owns (c : Thread nD τ) arg8 fullShare (eNew x0 (i 0).val xs)) -∗ K ⟨⟩))
    ⊢ wp frame (wpE (defs₀ (F := F)) Variants.none c none) E (cc0_prep i arg1 harg1 arg2 harg2 arg3 harg3 arg4 harg4 arg5 harg5 arg6 harg6 arg7 harg7 arg8 harg8) K := by
  have h2 : (run_A c i arg1 harg1 arg2 harg2 arg3 harg3 arg4 harg4 arg5 harg5 arg6 harg6 arg7 harg7 arg8 harg8 hc0 x0 xs).1 = [⟨Rect.unit (s := S1536x256) ![0, 0] S1536x256.size inb_S1536x256_S1536x256_0_0, rcTile x0⟩] := by
    conv_rhs => rw [← rdIn_eq arg1 harg1 x0]
    rfl
  have h4 : (run_A c i arg1 harg1 arg2 harg2 arg3 harg3 arg4 harg4 arg5 harg5 arg6 harg6 arg7 harg7 arg8 harg8 hc0 x0 xs).2.1 = ccPieces x0 := by
    conv_rhs => rw [← rdIn_eq arg1 harg1 x0]
    rfl
  have h5 : (run_A c i arg1 harg1 arg2 harg2 arg3 harg3 arg4 harg4 arg5 harg5 arg6 harg6 arg7 harg7 arg8 harg8 hc0 x0 xs).2.2.1 = [⟨Rect.unit (s := S2x24x256) ![0, 0, 0] S2x24x256.size inb_S2x24x256_S2x24x256_0_0_0, csTile x0⟩] := by
    conv_rhs => rw [← rdIn_eq arg1 harg1 x0]
    rfl
  have h6 : (run_A c i arg1 harg1 arg2 harg2 arg3 harg3 arg4 harg4 arg5 harg5 arg6 harg6 arg7 harg7 arg8 harg8 hc0 x0 xs).2.2.2.1 = [⟨Rect.unit (s := S1536x256) ![0, 0] S1536x256.size inb_S1536x256_S1536x256_0_0, rwTile x0⟩] := by
    conv_rhs => rw [← rdIn_eq arg1 harg1 x0]
    rfl
  have h7 : (run_A c i arg1 harg1 arg2 harg2 arg3 harg3 arg4 harg4 arg5 harg5 arg6 harg6 arg7 harg7 arg8 harg8 hc0 x0 xs).2.2.2.2.1 = [⟨Rect.unit (s := S1536x256) ![0, 0] S1536x256.size inb_S1536x256_S1536x256_0_0, cwTile x0⟩] := by
    conv_rhs => rw [← rdIn_eq arg1 harg1 x0]
    rfl
  have hE : (run_A c i arg1 harg1 arg2 harg2 arg3 harg3 arg4 harg4 arg5 harg5 arg6 harg6 arg7 harg7 arg8 harg8 hc0 x0 xs).2.2.2.2.2.1 = ePieces (k0_off1 i) (k0_off1_inb i) x0 := by
    conv_rhs => rw [← rdIn_eq arg1 harg1 x0]
    rfl
  iintro ⟨H1, H2, H3, H4, H5, H6, H7, HS, Hk⟩
  iapply ((run_A c i arg1 harg1 arg2 harg2 arg3 harg3 arg4 harg4 arg5 harg5 arg6 harg6 arg7 harg7 arg8 harg8 hc0 x0 xs).2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H1, ⟨%f2, H2⟩, H3, ⟨%f4, H4⟩, ⟨%f5, H5⟩, ⟨%f6, H6⟩, ⟨%f7, H7⟩, HS⟩
  iapply Hk
  isplitl [H1]; · iexact H1
  isplitl [H2]
  · unfold owns
    iexists _; isplitr; swap; · iexact H2
    ipureintro; rw [h2]; exact whole_store _ _ _ _ (fun _ => rfl)
  isplitl [H3]; · iexact H3
  isplitl [H4]
  · unfold owns
    iexists _; isplitr; swap; · iexact H4
    ipureintro; rw [h4]; exact read_ccPieces _ _ _
  isplitl [H5]
  · unfold owns
    iexists _; isplitr; swap; · iexact H5
    ipureintro; rw [h5]; exact whole_store _ _ _ _ (fun _ => rfl)
  isplitl [H6]
  · unfold owns
    iexists _; isplitr; swap; · iexact H6
    ipureintro; rw [h6]; exact whole_store _ _ _ _ (fun _ => rfl)
  isplitl [H7]
  · unfold owns
    iexists _; isplitr; swap; · iexact H7
    ipureintro; rw [h7]; exact whole_store _ _ _ _ (fun _ => rfl)
  unfold owns
  iexists _; isplitr; swap; · iexact HS
  ipureintro; rw [hE]; exact read_ePieces arg8 harg8 xs x0 _ _ (k0_off1_eq i)

end Cert.KernelXIdeal.Hand

end
-- ==== Proof.XExecB.lean ====
/- The body that quantises the first operand, at the last point: the run with the contents the stores leave read back as values. -/
module

public import proofs.«01_k».proof.Proof.XTiles

@[expose] public section

set_option maxRecDepth 16384

noncomputable section

namespace Cert.KernelXIdeal.Hand

open Cert.KernelXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point, by what the buffers hold after it. -/
theorem exec_B (c : Dev nD) (i : grid0.Coords) (arg1 : Memref sig .tc .vmem S1536x256 .bf16) (harg1 : arg1.IsWhole) (arg2 : Memref sig .tc .vmem S1536x256 .fp8e4m3) (harg2 : arg2.IsWhole) (arg3 : Memref sig .tc .vmem S1536x256 .i8) (harg3 : arg3.IsWhole) (arg4 : Memref sig .tc .vmem S2x256x768 .fp8e4m3) (harg4 : arg4.IsWhole) (arg5 : Memref sig .tc .vmem S2x24x256 .i8) (harg5 : arg5.IsWhole) (arg6 : Memref sig .tc .vmem S1536x256 .bf16) (harg6 : arg6.IsWhole) (arg7 : Memref sig .tc .vmem S1536x256 .bf16) (harg7 : arg7.IsWhole) (arg8 : Memref sig .tc .vmem S256x1536 .i32) (harg8 : arg8.IsWhole) (hc0 : cond0_0 i)
    (x0 : Vec F S1536x256 .bf16) (xs : Vec F S256x1536 .i32)
    (E : Set ℕ) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
      ∗ (iprop(owns (c : Thread nD τ) arg1 fullShare x0 ∗ owns (c : Thread nD τ) arg2 fullShare (rcTile x0) ∗ owns (c : Thread nD τ) arg3 fullShare (rsTile (eNew x0 (i 0).val xs)) ∗ owns (c : Thread nD τ) arg4 fullShare (ccTile x0) ∗ owns (c : Thread nD τ) arg5 fullShare (csTile x0) ∗ owns (c : Thread nD τ) arg6 fullShare (rwTile x0) ∗ owns (c : Thread nD τ) arg7 fullShare (cwTile x0) ∗ owns (c : Thread nD τ) arg8 fullShare (eNew x0 (i 0).val xs)) -∗ K ⟨⟩))
    ⊢ wp frame (wpE (defs₀ (F := F)) Variants.none c none) E (cc0_prep i arg1 harg1 arg2 harg2 arg3 harg3 arg4 harg4 arg5 harg5 arg6 harg6 arg7 harg7 arg8 harg8) K := by
  have h2 : (run_B c i arg1 harg1 arg2 harg2 arg3 harg3 arg4 harg4 arg5 harg5 arg6 harg6 arg7 harg7 arg8 harg8 hc0 x0 xs).1 = [⟨Rect.unit (s := S1536x256) ![0, 0] S1536x256.size inb_S1536x256_S1536x256_0_0, rcTile x0⟩] := by
    conv_rhs => rw [← rdIn_eq arg1 harg1 x0]
    rfl
  have h4 : (run_B c i arg1 harg1 arg2 harg2 arg3 harg3 arg4 harg4 arg5 harg5 arg6 harg6 arg7 harg7 arg8 harg8 hc0 x0 xs).2.2.1 = ccPieces x0 := by
    conv_rhs => rw [← rdIn_eq arg1 harg1 x0]
    rfl
  have h5 : (run_B c i arg1 harg1 arg2 harg2 arg3 harg3 arg4 harg4 arg5 harg5 arg6 harg6 arg7 harg7 arg8 harg8 hc0 x0 xs).2.2.2.1 = [⟨Rect.unit (s := S2x24x256) ![0, 0, 0] S2x24x256.size inb_S2x24x256_S2x24x256_0_0_0, csTile x0⟩] := by
    conv_rhs => rw [← rdIn_eq arg1 harg1 x0]
    rfl
  have h6 : (run_B c i arg1 harg1 arg2 harg2 arg3 harg3 arg4 harg4 arg5 harg5 arg6 harg6 arg7 harg7 arg8 harg8 hc0 x0 xs).2.2.2.2.1 = [⟨Rect.unit (s := S1536x256) ![0, 0] S1536x256.size inb_S1536x256_S1536x256_0_0, rwTile x0⟩] := by
    conv_rhs => rw [← rdIn_eq arg1 harg1 x0]
    rfl
  have h7 : (run_B c i arg1 harg1 arg2 harg2 arg3 harg3 arg4 harg4 arg5 harg5 arg6 harg6 arg7 harg7 arg8 harg8 hc0 x0 xs).2.2.2.2.2.1 = [⟨Rect.unit (s := S1536x256) ![0, 0] S1536x256.size inb_S1536x256_S1536x256_0_0, cwTile x0⟩] := by
    conv_rhs => rw [← rdIn_eq arg1 harg1 x0]
    rfl
  have hE : (run_B c i arg1 harg1 arg2 harg2 arg3 harg3 arg4 harg4 arg5 harg5 arg6 harg6 arg7 harg7 arg8 harg8 hc0 x0 xs).2.2.2.2.2.2.1 = ePieces (k0_off1 i) (k0_off1_inb i) x0 := by
    conv_rhs => rw [← rdIn_eq arg1 harg1 x0]
    rfl
  have h3 : (run_B c i arg1 harg1 arg2 harg2 arg3 harg3 arg4 harg4 arg5 harg5 arg6 harg6 arg7 harg7 arg8 harg8 hc0 x0 xs).2.1 = [⟨Rect.unit (s := S1536x256) ![0, 0] S1536x256.size inb_S1536x256_S1536x256_0_0, rsTile (arg8.view.readAt (Elt F) (Rect.unit (s := S256x1536) ![0, 0] S256x1536.size inb_S256x1536_S256x1536_0_0).toLoadRect
      (arg8.view.writes (Elt F) (harg8.unread xs) (run_B c i arg1 harg1 arg2 harg2 arg3 harg3 arg4 harg4 arg5 harg5 arg6 harg6 arg7 harg7 arg8 harg8 hc0 x0 xs).2.2.2.2.2.2.1))⟩] := rfl
  rw [hE, readAt_ePieces arg8 harg8 xs x0 _ _ (k0_off1_eq i)] at h3
  iintro ⟨H1, H2, H3, H4, H5, H6, H7, HS, Hk⟩
  iapply ((run_B c i arg1 harg1 arg2 harg2 arg3 harg3 arg4 harg4 arg5 harg5 arg6 harg6 arg7 harg7 arg8 harg8 hc0 x0 xs).2.2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H1, ⟨%f2, H2⟩, ⟨%f3, H3⟩, ⟨%f4, H4⟩, ⟨%f5, H5⟩, ⟨%f6, H6⟩, ⟨%f7, H7⟩, HS⟩
  iapply Hk
  isplitl [H1]; · iexact H1
  isplitl [H2]
  · unfold owns
    iexists _; isplitr; swap; · iexact H2
    ipureintro; rw [h2]; exact whole_store _ _ _ _ (fun _ => rfl)
  isplitl [H3]
  · unfold owns
    iexists _; isplitr; swap; · iexact H3
    ipureintro; rw [h3]; exact whole_store _ _ _ _ (fun _ => rfl)
  isplitl [H4]
  · unfold owns
    iexists _; isplitr; swap; · iexact H4
    ipureintro; rw [h4]; exact read_ccPieces _ _ _
  isplitl [H5]
  · unfold owns
    iexists _; isplitr; swap; · iexact H5
    ipureintro; rw [h5]; exact whole_store _ _ _ _ (fun _ => rfl)
  isplitl [H6]
  · unfold owns
    iexists _; isplitr; swap; · iexact H6
    ipureintro; rw [h6]; exact whole_store _ _ _ _ (fun _ => rfl)
  isplitl [H7]
  · unfold owns
    iexists _; isplitr; swap; · iexact H7
    ipureintro; rw [h7]; exact whole_store _ _ _ _ (fun _ => rfl)
  unfold owns
  iexists _; isplitr; swap; · iexact HS
  ipureintro; rw [hE]; exact read_ePieces arg8 harg8 xs x0 _ _ (k0_off1_eq i)

end Cert.KernelXIdeal.Hand

end
-- ==== Proof.XBody.lean ====
/- The body that quantises the first operand at any point of the grid, the exponent buffer carried from one point to the next,
   and the run of the whole call. What the buffer holds is any property `R` that the steps of the body keep. -/
module

public import proofs.«01_k».proof.Proof.XExecA
public import proofs.«01_k».proof.Proof.XExecB
public import Idealize.ShloMosaic.Lib.Pipeline.ArrRel
public import Idealize.ShloMosaic.Lib.Pipeline.DatRel

@[expose] public section

set_option maxRecDepth 16384

noncomputable section

namespace Cert.KernelXIdeal.Hand

open Cert.KernelXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (R : Dev nD → ℕ → Vec F S256x1536 .i32 → Prop)

/-- The exponent buffer at the contents `e`. -/
def scr (c : Dev nD) (e : Vec F S256x1536 .i32) : sProp 𝕄 :=
  iprop(owns (c : Thread nD τ) scM0_0 fullShare e ∗ (∃ r, prngReg c r))

/-- The invariant before point `n`. -/
def PhiS (c : Dev nD) (n : ℕ) : sProp 𝕄 := iprop(∃ e, ⌜n = 0 ∨ R c n e⌝ ∗ scr c e)

/-- The windows of the results. -/
def results0 : Fin 7 → Bool := fun w => w.val == 1 || w.val == 2 || w.val == 3 || w.val == 4 || w.val == 5 || w.val == 6

/-- What the body leaves in the windows of the results. -/
def Rl (c : Dev nD) : (w : Fin cfg0.W) → Fin cfg0.N → ((cfg0.win w).block.Idx → Elt F (cfg0.win w).elt) → Prop := fun w t => match w with
  | ⟨1, _⟩ => fun X => X = rcTile (F := F) (iblk m c 0 t)
  | ⟨2, _⟩ => fun X => cond0_0 (grid0.coords t) → ∃ e, R c (t.val + 1) e ∧ X = rsTile (F := F) e
  | ⟨3, _⟩ => fun X => X = ccTile (F := F) (iblk m c 0 t)
  | ⟨4, _⟩ => fun X => X = csTile (F := F) (iblk m c 0 t)
  | ⟨5, _⟩ => fun X => X = rwTile (F := F) (iblk m c 0 t)
  | ⟨6, _⟩ => fun X => X = cwTile (F := F) (iblk m c 0 t)
  | _ => fun _ => True

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ t := PhiS R c t.val
  q _ := fullShare
  owed _ := 0

theorem A_eq (c : Dev nD) (w : Fin cfg0.W) : (dats m R 0 c).A w = V m c (Pipeline.arrRef spec0 w) := by dsimp only [dats]

theorem after0_0 (c : Dev nD) (t : Fin cfg0.N) : (dats m R 0 c).after 0 t = iblk m c 0 t := by dsimp only [dats]
theorem before0_0 (c : Dev nD) (t : Fin cfg0.N) (d) : (dats m R 0 c).before 0 t d = iblk m c 0 t :=
  before0_0_of m (dats m R 0 c) (A_eq m R c 0) (after0_0 m R c) t d

def bodyPre (c : Dev nD) (t : Fin cfg0.N) : sProp 𝕄 :=
  iprop((dats m R 0 c).Φ t.castSucc ∗ (dats m R 0 c).owesAt () t.castSucc
    ∗ (∃ d, owns (c : Thread nD τ) (ms0_0 t) fullShare ((dats m R 0 c).before 0 t d))
    ∗ (∃ Y, ⌜((dats m R 0 c).toRRel results0 (Rl m R c)).Finds 1 t Y⌝ ∗ owns (c : Thread nD τ) (ms0_1 t) fullShare Y)
    ∗ (∃ Y, ⌜((dats m R 0 c).toRRel results0 (Rl m R c)).Finds 2 t Y⌝ ∗ owns (c : Thread nD τ) (ms0_2 t) fullShare Y)
    ∗ (∃ Y, ⌜((dats m R 0 c).toRRel results0 (Rl m R c)).Finds 3 t Y⌝ ∗ owns (c : Thread nD τ) (ms0_3 t) fullShare Y)
    ∗ (∃ Y, ⌜((dats m R 0 c).toRRel results0 (Rl m R c)).Finds 4 t Y⌝ ∗ owns (c : Thread nD τ) (ms0_4 t) fullShare Y)
    ∗ (∃ Y, ⌜((dats m R 0 c).toRRel results0 (Rl m R c)).Finds 5 t Y⌝ ∗ owns (c : Thread nD τ) (ms0_5 t) fullShare Y)
    ∗ (∃ Y, ⌜((dats m R 0 c).toRRel results0 (Rl m R c)).Finds 6 t Y⌝ ∗ owns (c : Thread nD τ) (ms0_6 t) fullShare Y))

def bodyPost (c : Dev nD) (t : Fin cfg0.N) : sProp 𝕄 :=
  iprop((dats m R 0 c).Φ t.succ ∗ (dats m R 0 c).owesAt () t.succ
    ∗ owns (c : Thread nD τ) (ms0_0 t) fullShare ((dats m R 0 c).after 0 t)
    ∗ (∃ X, ⌜Rl m R c 1 t X⌝ ∗ owns (c : Thread nD τ) (ms0_1 t) fullShare X)
    ∗ (∃ X, ⌜Rl m R c 2 t X⌝ ∗ owns (c : Thread nD τ) (ms0_2 t) fullShare X)
    ∗ (∃ X, ⌜Rl m R c 3 t X⌝ ∗ owns (c : Thread nD τ) (ms0_3 t) fullShare X)
    ∗ (∃ X, ⌜Rl m R c 4 t X⌝ ∗ owns (c : Thread nD τ) (ms0_4 t) fullShare X)
    ∗ (∃ X, ⌜Rl m R c 5 t X⌝ ∗ owns (c : Thread nD τ) (ms0_5 t) fullShare X)
    ∗ (∃ X, ⌜Rl m R c 6 t X⌝ ∗ owns (c : Thread nD τ) (ms0_6 t) fullShare X))

/-- The steps of the body keep `R`. -/
def Keeps : Prop := ∀ (c : Dev nD) (t : Fin cfg0.N) (e : Vec F S256x1536 .i32), (t.val = 0 ∨ R c t.val e) →
  R c (t.val + 1) (eNew (F := F) (iblk m c 0 t) (grid0.coords t 0).val e)

theorem coords_val0 : ∀ t : Fin cfg0.N, (grid0.coords t 0).val = t.val := (by decide +kernel : ∀ t : Fin grid0.N, (grid0.coords t 0).val = t.val)

variable {m R}

set_option maxHeartbeats 1000000 in
/-- The body at a point before the last. -/
theorem sound_A (hR : Keeps m R) (c : Dev nD) (t : Fin cfg0.N) (hc0 : ¬cond0_0 (grid0.coords t)) :
    bodyPre m R c t ⊢ wp frame (wpE (defs₀ (F := F)) Variants.none c none) Set.univ (bodyAt0 t) (fun _ => bodyPost m R c t) := by
  unfold bodyPre bodyPost bodyAt0
  simp only [before0_0]
  rw [show (dats m R 0 c).owesAt () t.succ = (dats m R 0 c).owesAt () t.castSucc from rfl,
    show (dats m R 0 c).Φ t.succ = PhiS R c (t.val + 1) from rfl, show (dats m R 0 c).Φ t.castSucc = PhiS R c t.val from rfl, after0_0]
  unfold PhiS scr
  iintro ⟨⟨%e, %he, HS, Hg⟩, Ho, ⟨%d0, H0⟩, ⟨%Y1, -, H1⟩, ⟨%Y2, -, H2⟩, ⟨%Y3, -, H3⟩, ⟨%Y4, -, H4⟩, ⟨%Y5, -, H5⟩, ⟨%Y6, -, H6⟩⟩
  have hst := hR c t e he
  iapply (exec_A c (grid0.coords t) _ (hs0_0 t) _ (hs0_1 t) _ (hs0_2 t) _ (hs0_3 t) _ (hs0_4 t) _ (hs0_5 t) _ (hs0_6 t) _ (Memref.isWhole_whole _) hc0 (iblk m c 0 t) e Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [HS]; · iexact HS
  iintro ⟨H0, H1, ⟨%f2, H2⟩, H3, H4, H5, H6, HS⟩
  isplitl [HS Hg]
  · iexists _
    isplitr; swap
    · isplitl [HS]; · iexact HS
      iexact Hg
    · ipureintro; exact Or.inr hst
  isplitl [Ho]; · iexact Ho
  isplitl [H0]; · iexact H0
  isplitl [H1]
  · iexists _
    isplitr; swap
    · iexact H1
    · ipureintro; rfl
  isplitl [H2]
  · iexists _
    isplitr; swap
    · iexact H2
    · ipureintro; exact fun h => absurd h hc0
  isplitl [H3]
  · iexists _
    isplitr; swap
    · iexact H3
    · ipureintro; rfl
  isplitl [H4]
  · iexists _
    isplitr; swap
    · iexact H4
    · ipureintro; rfl
  isplitl [H5]
  · iexists _
    isplitr; swap
    · iexact H5
    · ipureintro; rfl
  iexists _
  isplitr; swap
  · iexact H6
  · ipureintro; rfl

set_option maxHeartbeats 1000000 in
/-- The body at the last point. -/
theorem sound_B (hR : Keeps m R) (c : Dev nD) (t : Fin cfg0.N) (hc0 : cond0_0 (grid0.coords t)) :
    bodyPre m R c t ⊢ wp frame (wpE (defs₀ (F := F)) Variants.none c none) Set.univ (bodyAt0 t) (fun _ => bodyPost m R c t) := by
  unfold bodyPre bodyPost bodyAt0
  simp only [before0_0]
  rw [show (dats m R 0 c).owesAt () t.succ = (dats m R 0 c).owesAt () t.castSucc from rfl,
    show (dats m R 0 c).Φ t.succ = PhiS R c (t.val + 1) from rfl, show (dats m R 0 c).Φ t.castSucc = PhiS R c t.val from rfl, after0_0]
  unfold PhiS scr
  iintro ⟨⟨%e, %he, HS, Hg⟩, Ho, ⟨%d0, H0⟩, ⟨%Y1, -, H1⟩, ⟨%Y2, -, H2⟩, ⟨%Y3, -, H3⟩, ⟨%Y4, -, H4⟩, ⟨%Y5, -, H5⟩, ⟨%Y6, -, H6⟩⟩
  have hst := hR c t e he
  iapply (exec_B c (grid0.coords t) _ (hs0_0 t) _ (hs0_1 t) _ (hs0_2 t) _ (hs0_3 t) _ (hs0_4 t) _ (hs0_5 t) _ (hs0_6 t) _ (Memref.isWhole_whole _) hc0 (iblk m c 0 t) e Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [HS]; · iexact HS
  iintro ⟨H0, H1, H2, H3, H4, H5, H6, HS⟩
  isplitl [HS Hg]
  · iexists _
    isplitr; swap
    · isplitl [HS]; · iexact HS
      iexact Hg
    · ipureintro; exact Or.inr hst
  isplitl [Ho]; · iexact Ho
  isplitl [H0]; · iexact H0
  isplitl [H1]
  · iexists _
    isplitr; swap
    · iexact H1
    · ipureintro; rfl
  isplitl [H2]
  · iexists _
    isplitr; swap
    · iexact H2
    · ipureintro; exact fun _ => ⟨_, hst, rfl⟩
  isplitl [H3]
  · iexists _
    isplitr; swap
    · iexact H3
    · ipureintro; rfl
  isplitl [H4]
  · iexists _
    isplitr; swap
    · iexact H4
    · ipureintro; rfl
  isplitl [H5]
  · iexists _
    isplitr; swap
    · iexact H5
    · ipureintro; rfl
  iexists _
  isplitr; swap
  · iexact H6
  · ipureintro; rfl

theorem sound_body (hR : Keeps m R) (c : Dev nD) (t : Fin cfg0.N) :
    bodyPre m R c t ⊢ wp frame (wpE (defs₀ (F := F)) Variants.none c none) Set.univ (bodyAt0 t) (fun _ => bodyPost m R c t) := by
  by_cases hc0 : cond0_0 (grid0.coords t)
  · exact sound_B hR c t hc0
  · exact sound_A hR c t hc0

theorem defs₀_row (t : Fin cfg0.N) : defs₀ (F := F) .tc cfg0.body (cfg0.bodyArgs t (cfg0.slots t)) = bodyAt0 t := by
  unfold defs₀; rw [Defs.onTc_tc]

/-- The body obligation, relationally. -/
theorem body_obligation (hR : Keeps m R) (c : Dev nD) :
    Pipeline.BodyObligationRel (dats (F := F) m R 0 c) (defs₀ (F := F)) Variants.none () Set.univ results0 (Rl m R c) := fun t => by
  rw [bigSep_W0, bigSep_W0, defs₀_row]
  exact triple_restated (sound_body hR c t) rfl .rfl fun _ => .rfl

theorem hin (c : Dev nD) : Pipeline.ΦA spec0 c ⊢ (dats m R 0 c).Φ 0 := by
  rw [show (dats m R 0 c).Φ 0 = PhiS R c 0 from rfl, PhiA0_eq]
  unfold PhiS scr
  iintro ⟨⟨%e, HS⟩, Hg⟩
  iexists e
  isplitr; swap
  · isplitl [HS]; · iexact HS
    iexact Hg
  · ipureintro; exact Or.inl rfl

theorem hout (c : Dev nD) : (dats m R 0 c).Φ (Fin.last cfg0.N) ⊢ Pipeline.ΦA spec0 c := by
  rw [show (dats m R 0 c).Φ (Fin.last cfg0.N) = PhiS R c cfg0.N from rfl, PhiA0_eq]
  unfold PhiS scr
  iintro ⟨%e, -, HS, Hg⟩
  isplitr [Hg]; swap
  · iexact Hg
  iexists _; iexact HS

set_option backward.isDefEq.respectTransparency.types false in
/-- The run of the call. -/
theorem run_main (hR : Keeps m R) : θ_run defs (onTc (τ := τ) (main (F := F))) (s₀ m ρ)
    (fun r => (Pipeline.RDat.FramePost (cfgs 0) (fun c => (dats m R 0 c).toRRel results0 (Rl m R c)) (V m)) r ∧ r.2.sem = fun _ => 0) :=
  Pipeline.RDat.θ_run_frame_track (Q' := _) cfgs (0 : Fin 1) launch0 defs₀ Variants.none (fun c => (dats m R 0 c).toRRel results0 (Rl m R c)) m ρ main
    (hbody := fun c => (body_obligation hR c).toRRel) (hshare := fun c => (dats m R 0 c).share_full fun _ => rfl)
    (howed := fun _ _ => rfl) (V := V m) (hmain := hmain m Variants.none) (hA := A_eq m R) (hin := hin (m := m) (R := R)) (hout := hout (m := m) (R := R))

/-- The argument after the run. -/
theorem unchanged_of {r : PUnit × MemSt nD τ sig (Elt F)}
    (h : Pipeline.RDat.FramePost (cfgs 0) (fun c => (dats m R 0 c).toRRel results0 (Rl m R c)) (V m) r) (c : Dev nD) :
    r.2.mem ((c.tc : Thread nD τ).loc main_arg0) = m ((c.tc : Thread nD τ).loc main_arg0) :=
  (Pipeline.RDat.FramePost.arr_in h c 0 rfl).trans ((A_eq m R c 0).trans (V_main_arg0 m c))

/-- The run leaves the argument and the semaphores as they were. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨unchanged_of h.1, h.2⟩) (run_main (R := fun _ _ _ => True) ρ fun _ _ _ _ => trivial)

end Cert.KernelXIdeal.Hand

end
-- ==== Proof.XVal.lean ====
/- What the body that quantises the first operand computes from a block, over the extended reals, read at an index. -/
module

public import proofs.«01_k».proof.Proof.XTiles
public import proofs.«01_k».proof.Proof.Quant
public import Idealize.ShloMosaic.Lib.Pipeline.ValueKit

@[expose] public section

set_option maxRecDepth 16384

noncomputable section

namespace Cert.KernelXIdeal.Hand

open Cert.KernelXIdeal.Gen
open Idealize.ShloMosaic Idealize.ShloMosaic.TcCoe
open Cert.Quant

/-- The values of one block along a row: row `r`, columns `32 a` to `32 a + 32`. -/
def rblk (v : FVec Ideal S1536x256 .bf16) (r : Fin 1536) (a : Fin 8) : Fin 32 → EReal := fun j => v (ix2 r (⟨a.val * 32 + j.val, by omega⟩ : Fin 256))
/-- The values of one block down a column: column `b`, rows `32 a` to `32 a + 32`. -/
def cblk (v : FVec Ideal S1536x256 .bf16) (a : Fin 48) (b : Fin 256) : Fin 32 → EReal := fun j => v (ix2 (⟨a.val * 32 + j.val, by omega⟩ : Fin 1536) b)

theorem tCol_at (v : FVec Ideal S1536x256 .bf16) (a : Fin 48) (b : Fin 256) : k0_pay6 (F := Ideal) v (ix2 a b) = amax (cblk v a b) := by
  unfold amax cblk
  rw [← bot_bf16]
  pointwise [k0_pay6]
  rfl

theorem n3_at (v : FVec Ideal S1536x256 .bf16) (q : S48x256.Idx) :
    k0_pay7 (F := Ideal) v q = bstep (k0_pay6 (F := Ideal) v q) (bstep (k0_pay6 (F := Ideal) v q) (bstep (k0_pay6 (F := Ideal) v q) 0#32 128#32) 64#32) 32#32 := by
  unfold k0_pay7
  generalize k0_pay6 (F := Ideal) v = t
  generalize (0#32 : BitVec 32) = z
  rfl

theorem eC_at (t : FVec Ideal S48x256 .f32) (n : IVec S48x256 32) (q : S48x256.Idx) :
    k0_pay10 (F := Ideal) t n (cmpf .olt t (bitcastToFloat .f32 (shli (addi n (broadcast S48x256 16#32)) (broadcast S48x256 23#32)))) (broadcast S48x256 16#32) q
      = expOf (bstep (t q) (bstep (t q) (bstep (t q) (bstep (t q) (bstep (t q) (n q) 16#32) 8#32) 4#32) 2#32) 1#32) := rfl

theorem eCol_at (v : FVec Ideal S1536x256 .bf16) (a : Fin 48) (b : Fin 256) : eCol (F := Ideal) v (ix2 a b) = kerE (amax (cblk v a b)) := by
  rw [← tCol_at]
  unfold eCol k0_pay8 k0_pay9
  refine (eC_at _ _ _).trans ?_
  rw [n3_at]
  unfold kerE field field5 field2
  rfl

theorem code_at (v : FVec Ideal S1536x256 .bf16) (E : IVec S48x256 32) (k : Fin 1536) (b : Fin 256) :
    k0_pay11 (F := Ideal) v E 254#32 (ix2 k b) = clip (v (ix2 k b) * pw (IntOp.subi 254#32 (E (ix2 (⟨k.val / 32, by omega⟩ : Fin 48) b)))) := by
  pointwise [k0_pay11, clip, pw]

theorem colCode_at (v : FVec Ideal S1536x256 .bf16) (k : Fin 1536) (b : Fin 256) (h : Small (cblk v ⟨k.val / 32, by omega⟩ b)) :
    k0_pay11 (F := Ideal) v (eCol (F := Ideal) v) 254#32 (ix2 k b) = qcode (cblk v ⟨k.val / 32, by omega⟩ b) (v (ix2 k b)) := by
  rw [code_at, eCol_at, (block_eq h).2.1]

theorem cw_at (v : FVec Ideal S1536x256 .bf16) (E : IVec S48x256 32) (k : Fin 1536) (b : Fin 256) :
    k0_pay12 (F := Ideal) v E 254#32 (ix2 k b) = k0_pay11 (F := Ideal) v E 254#32 (ix2 k b) * pw (E (ix2 (⟨k.val / 32, by omega⟩ : Fin 48) b)) := by
  pointwise [k0_pay12, pw]

theorem cc0_at (v : FVec Ideal S1536x256 .bf16) (E : IVec S48x256 32) (z : Fin 1) (b : Fin 256) (r : Fin 768) :
    k0_pay14 (F := Ideal) v E 254#32 (ix3 z b r) = k0_pay11 (F := Ideal) v E 254#32 (ix2 (⟨r.val, by omega⟩ : Fin 1536) b) := by
  pointwise [k0_pay14, k0_pay13]

theorem cc1_at (v : FVec Ideal S1536x256 .bf16) (E : IVec S48x256 32) (z : Fin 1) (b : Fin 256) (r : Fin 768) :
    k0_pay15 (F := Ideal) v E 254#32 (ix3 z b r) = k0_pay11 (F := Ideal) v E 254#32 (ix2 (⟨768 + r.val, by omega⟩ : Fin 1536) b) := by
  pointwise [k0_pay15, k0_pay13]

theorem cs_at (E : IVec S48x256 32) (b : Fin 2) (a : Fin 24) (n : Fin 256) :
    k0_pay16 E (ix3 b a n) = (E (ix2 (⟨b.val * 24 + a.val, by omega⟩ : Fin 48) n)).setWidth 8 := by
  pointwise [k0_pay16]

theorem tRow_at (v : FVec Ideal S1536x256 .bf16) (a : Fin 8) (r : Fin 1536) : k0_pay18 (F := Ideal) v (ix2 a r) = amax (rblk v r a) := by
  unfold amax rblk
  rw [← bot_bf16]
  pointwise [k0_pay18, k0_pay17]
  rfl

theorem n8_at (v : FVec Ideal S1536x256 .bf16) (q : S8x1536.Idx) :
    k0_pay19 (F := Ideal) v q = bstep (k0_pay18 (F := Ideal) v q) (bstep (k0_pay18 (F := Ideal) v q) (bstep (k0_pay18 (F := Ideal) v q) (bstep (k0_pay18 (F := Ideal) v q) 0#32 128#32) 64#32) 32#32) 16#32 := by
  unfold k0_pay19
  generalize k0_pay18 (F := Ideal) v = t
  generalize (0#32 : BitVec 32) = z
  rfl

theorem e8_at (t : FVec Ideal S8x1536 .f32) (n : IVec S8x1536 32) (q : S8x1536.Idx) :
    k0_pay20 (F := Ideal) t n 8#32 q = expOf (bstep (t q) (bstep (t q) (bstep (t q) (bstep (t q) (n q) 8#32) 4#32) 2#32) 1#32) := rfl

theorem eRow_at (v : FVec Ideal S1536x256 .bf16) (a : Fin 8) (r : Fin 1536) : eRow (F := Ideal) v (ix2 a r) = kerE (amax (rblk v r a)) := by
  rw [← tRow_at]
  unfold eRow
  refine (e8_at _ _ _).trans ?_
  rw [n8_at]
  unfold kerE field field5 field2
  rfl

theorem sRow_at (v : FVec Ideal S1536x256 .bf16) (q : S8x1536.Idx) : sRow (F := Ideal) v q = IntOp.subi 254#32 (eRow (F := Ideal) v q) := by
  unfold sRow eRow k0_pay21
  generalize k0_pay20 (F := Ideal) (k0_pay18 (F := Ideal) v) (k0_pay19 (F := Ideal) v) 8#32 = E
  rfl

theorem rcT_at (v : FVec Ideal S1536x256 .bf16) (S : IVec S8x1536 32) (j : Fin 256) (r : Fin 1536) :
    k0_pay1 (F := Ideal) (k0_pay17 (F := Ideal) v) S 23#32 (ix2 j r) = clip (v (ix2 r j) * pw (S (ix2 (⟨j.val / 32, by omega⟩ : Fin 8) r))) := by
  pointwise [k0_pay1, k0_pay17, clip, pw]

theorem rc_at (w : FVec Ideal S256x1536 .bf16) (S : IVec S8x1536 32) (r : Fin 1536) (j : Fin 256) :
    k0_pay2 (F := Ideal) w S 23#32 (ix2 r j) = k0_pay1 (F := Ideal) w S 23#32 (ix2 j r) := by
  pointwise [k0_pay2]

theorem rw_at (w : FVec Ideal S256x1536 .bf16) (E S : IVec S8x1536 32) (r : Fin 1536) (j : Fin 256) :
    k0_pay3 (F := Ideal) w E S 23#32 (ix2 r j) = k0_pay1 (F := Ideal) w S 23#32 (ix2 j r) * pw (E (ix2 (⟨j.val / 32, by omega⟩ : Fin 8) r)) := by
  pointwise [k0_pay3, pw]

theorem e_at (E : IVec S8x1536 32) (a : Fin 8) (r : Fin 1536) : k0_pay4 E (ix2 a r) = E (ix2 a r) := by
  pointwise [k0_pay4]

/-! ## The tiles -/

theorem rcTile_val (v : FVec Ideal S1536x256 .bf16) (r : Fin 1536) (j : Fin 256) (h : Small (rblk v r ⟨j.val / 32, by omega⟩)) :
    rcTile (F := Ideal) v (ix2 r j) = qcode (rblk v r ⟨j.val / 32, by omega⟩) (v (ix2 r j)) := by
  unfold rcTile
  rw [rc_at, rcT_at, sRow_at, eRow_at, (block_eq h).2.1]

theorem rwTile_val (v : FVec Ideal S1536x256 .bf16) (r : Fin 1536) (j : Fin 256) (h : Small (rblk v r ⟨j.val / 32, by omega⟩)) :
    rwTile (F := Ideal) v (ix2 r j) = qcode (rblk v r ⟨j.val / 32, by omega⟩) (v (ix2 r j)) * qscale (rblk v r ⟨j.val / 32, by omega⟩) := by
  unfold rwTile
  rw [rw_at, rcT_at, sRow_at, eRow_at, (block_eq h).2.1, (block_eq h).2.2]

theorem eTile_val (v : FVec Ideal S1536x256 .bf16) (a : Fin 8) (r : Fin 1536) (h : Small (rblk v r a)) : eTile (F := Ideal) v (ix2 a r) = qexp (rblk v r a) := by
  unfold eTile
  rw [e_at, eRow_at, (block_eq h).1]

theorem ccTile_val (v : FVec Ideal S1536x256 .bf16) (b : Fin 2) (n : Fin 256) (r : Fin 768) (K : Fin 1536) (hK : K.val = 768 * b.val + r.val) (h : Small (cblk v ⟨K.val / 32, by omega⟩ n)) :
    ccTile (F := Ideal) v (ix3 b n r) = qcode (cblk v ⟨K.val / 32, by omega⟩ n) (v (ix2 K n)) := by
  rw [← colCode_at v K n h]
  by_cases hb : b.val = 0
  · refine (if_pos (show ((ix3 b n r : S2x256x768.Idx) 0).val = 0 from hb)).trans ?_
    refine (cc0_at v _ 0 n r).trans ?_
    rw [show (⟨r.val, by omega⟩ : Fin 1536) = K from Fin.ext (by show r.val = K.val; omega)]
  · refine (if_neg (show ¬((ix3 b n r : S2x256x768.Idx) 0).val = 0 from hb)).trans ?_
    refine (cc1_at v _ 0 n r).trans ?_
    rw [show (⟨768 + r.val, by omega⟩ : Fin 1536) = K from Fin.ext (by show 768 + r.val = K.val; omega)]

theorem csTile_val (v : FVec Ideal S1536x256 .bf16) (b : Fin 2) (a : Fin 24) (n : Fin 256) (h : Small (cblk v ⟨b.val * 24 + a.val, by omega⟩ n)) :
    csTile (F := Ideal) v (ix3 b a n) = (qexp (cblk v ⟨b.val * 24 + a.val, by omega⟩ n)).setWidth 8 := by
  unfold csTile
  rw [cs_at, eCol_at, (block_eq h).1]

theorem cwTile_val (v : FVec Ideal S1536x256 .bf16) (k : Fin 1536) (n : Fin 256) (h : Small (cblk v ⟨k.val / 32, by omega⟩ n)) :
    cwTile (F := Ideal) v (ix2 k n) = qcode (cblk v ⟨k.val / 32, by omega⟩ n) (v (ix2 k n)) * qscale (cblk v ⟨k.val / 32, by omega⟩ n) := by
  unfold cwTile
  rw [cw_at, colCode_at v k n h, eCol_at, (block_eq h).2.2]

theorem rsTile_val (e : IVec S256x1536 32) (r : Fin 1536) (q : Fin 256) : rsTile (F := Ideal) e (ix2 r q) = (e (ix2 q r)).setWidth 8 := by
  unfold rsTile
  pointwise [k0_pay5]

end Cert.KernelXIdeal.Hand

end
-- ==== Proof.XRef.lean ====
/- The results of the reference that quantises the first operand, over the extended reals, read at an index. -/
module

public import proofs.«01_k».proof.Proof.Gen.RefXIdeal.Value
public import proofs.«01_k».proof.Proof.Quant
public import Idealize.ShloMosaic.Lib.Pipeline.ValueKit

@[expose] public section

set_option maxRecDepth 16384

noncomputable section

namespace Cert.RefXIdeal.Hand

open Cert.RefXIdeal.Gen
open Idealize.ShloMosaic Idealize.ShloMosaic.TcCoe
open Cert.Quant

/-- The values of one block along a row: row `r`, columns `32 a` to `32 a + 32`. -/
def rb (W : FVec Ideal S1536x8192 .bf16) (r : Fin 1536) (a : Fin 256) : Fin 32 → EReal := fun j => W (ix2 r (⟨a.val * 32 + j.val, by omega⟩ : Fin 8192))
/-- The values of one block down a column: column `n`, rows `32 a` to `32 a + 32`. -/
def cb (W : FVec Ideal S1536x8192 .bf16) (a : Fin 48) (n : Fin 8192) : Fin 32 → EReal := fun j => W (ix2 (⟨a.val * 32 + j.val, by omega⟩ : Fin 1536) n)

theorem row_step (t : FVec Ideal S1536x256x1 .f32) (q : S1536x256x1.Idx) :
    select (cmpf .olt t (broadcast S1536x256x1 (Scalar.ofBits (F := Ideal) .f32 0x00800000#32))) (broadcast S1536x256x1 0#32)
      (addi (fptosi 32 (floor (divf (log t) (broadcast S1536x256x1 (Scalar.log (Scalar.ofBits (F := Ideal) .f32 0x40000000#32)))))) (broadcast S1536x256x1 1#32)) q
      = refE (t q) := by
  unfold refE
  pointwise
  rw [fptosi_eq, scalar_log_eq]

theorem row_red (v : FVec Ideal S1536x256x32 .f32) (r : Fin 1536) (a : Fin 256) :
    multiReduction .maximumf [2] S1536x256 v 0xFF800000#32 reduces_S1536x256x32_S1536x256 (.inl rfl) rfl (ix2 r a)
      = Finset.univ.fold max (Ideal.ofBits .f32 0xFF800000#32) fun j : Fin 32 => v (ix3 r a j) := by
  pointwise

theorem row_scaled (u : FVec Ideal S1536x256 .f32) (r : Fin 1536) (a : Fin 256) (z : Fin 1) :
    mulf (shapeCast S1536x256x1 u shapeCasts_S1536x256_S1536x256x1) (broadcast S1536x256x1 (Scalar.ofBits (F := Ideal) .f32 0x3B124925#32)) (ix3 r a z)
      = u (ix2 r a) * Ideal.ofBits .f32 0x3B124925#32 := by
  pointwise

theorem row_abs (W : FVec Ideal S1536x8192 .bf16) (r : Fin 1536) (a : Fin 256) (j : Fin 32) :
    absf (k0_pay7 (F := Ideal) W) (ix3 r a j) = max (rb W r a j) (-(rb W r a j)) := by
  unfold rb
  pointwise [k0_pay7]
  rw [absf_eq]

theorem row_exp (W : FVec Ideal S1536x8192 .bf16) (r : Fin 1536) (a : Fin 256) (z : Fin 1) : k0_pay8 (F := Ideal) W (ix3 r a z) = refE (amax (rb W r a)) := by
  unfold k0_pay8
  refine (row_step _ _).trans ?_
  rw [row_scaled, row_red, bot_f32]
  unfold amax
  rw [show (fun j : Fin 32 => absf (k0_pay7 (F := Ideal) W) (ix3 r a j)) = fun j => max (rb W r a j) (-(rb W r a j)) from funext fun j => row_abs W r a j]

theorem col_step (t : FVec Ideal S8192x48x1 .f32) (q : S8192x48x1.Idx) :
    select (cmpf .olt t (broadcast S8192x48x1 (Scalar.ofBits (F := Ideal) .f32 0x00800000#32))) (broadcast S8192x48x1 0#32)
      (addi (fptosi 32 (floor (divf (log t) (broadcast S8192x48x1 (Scalar.log (Scalar.ofBits (F := Ideal) .f32 0x40000000#32)))))) (broadcast S8192x48x1 1#32)) q
      = refE (t q) := by
  unfold refE
  pointwise
  rw [fptosi_eq, scalar_log_eq]

theorem col_red (v : FVec Ideal S8192x48x32 .f32) (n : Fin 8192) (a : Fin 48) :
    multiReduction .maximumf [2] S8192x48 v 0xFF800000#32 reduces_S8192x48x32_S8192x48 (.inl rfl) rfl (ix2 n a)
      = Finset.univ.fold max (Ideal.ofBits .f32 0xFF800000#32) fun j : Fin 32 => v (ix3 n a j) := by
  pointwise

theorem col_scaled (u : FVec Ideal S8192x48 .f32) (n : Fin 8192) (a : Fin 48) (z : Fin 1) :
    mulf (shapeCast S8192x48x1 u shapeCasts_S8192x48_S8192x48x1) (broadcast S8192x48x1 (Scalar.ofBits (F := Ideal) .f32 0x3B124925#32)) (ix3 n a z)
      = u (ix2 n a) * Ideal.ofBits .f32 0x3B124925#32 := by
  pointwise

theorem col_abs (W : FVec Ideal S1536x8192 .bf16) (n : Fin 8192) (a : Fin 48) (j : Fin 32) :
    absf (k0_pay13 (F := Ideal) W) (ix3 n a j) = max (cb W a n j) (-(cb W a n j)) := by
  unfold cb
  pointwise [k0_pay13]
  rw [absf_eq]

theorem col_exp (W : FVec Ideal S1536x8192 .bf16) (n : Fin 8192) (a : Fin 48) (z : Fin 1) : k0_pay14 (F := Ideal) W (ix3 n a z) = refE (amax (cb W a n)) := by
  unfold k0_pay14
  refine (col_step _ _).trans ?_
  rw [col_scaled, col_red, bot_f32]
  unfold amax
  rw [show (fun j : Fin 32 => absf (k0_pay13 (F := Ideal) W) (ix3 n a j)) = fun j => max (cb W a n j) (-(cb W a n j)) from funext fun j => col_abs W n a j]

/-- The row codes. -/
theorem rc_at (W : FVec Ideal S1536x8192 .bf16) (r : Fin 1536) (k : Fin 8192) : k0_pay9 (F := Ideal) W (ix2 r k) = qcode (rb W r ⟨k.val / 32, by omega⟩) (W (ix2 r k)) := by
  unfold qcode clip
  rw [← row_exp W r ⟨k.val / 32, by omega⟩ 0]
  pointwise [k0_pay9, k0_pay7]
  rw [exp2_eq, sitofp_eq]

/-- The row scales. -/
theorem rs_at (W : FVec Ideal S1536x8192 .bf16) (r : Fin 1536) (a : Fin 256) : k0_pay10 (F := Ideal) W (ix2 r a) = (qexp (rb W r a)).setWidth 8 := by
  unfold qexp
  rw [← row_exp W r a 0]
  pointwise [k0_pay10]

/-- The rows quantised and widened. -/
theorem rw_at (W : FVec Ideal S1536x8192 .bf16) (r : Fin 1536) (k : Fin 8192) :
    k0_pay12 (F := Ideal) (k0_pay9 W) (k0_pay11 (F := Ideal) W) (ix2 r k)
      = qcode (rb W r ⟨k.val / 32, by omega⟩) (W (ix2 r k)) * qscale (rb W r ⟨k.val / 32, by omega⟩) := by
  unfold qscale
  rw [← rc_at, ← rs_at]
  generalize k0_pay9 (F := Ideal) W = C
  pointwise [k0_pay12, k0_pay11]
  rw [exp2_eq, sitofp_eq]

/-- The column codes, before they are put where they go. -/
theorem code_at (W : FVec Ideal S1536x8192 .bf16) (n : Fin 8192) (k : Fin 1536) : k0_pay15 (F := Ideal) W (ix2 n k) = qcode (cb W ⟨k.val / 32, by omega⟩ n) (W (ix2 k n)) := by
  unfold qcode clip
  rw [← col_exp W n ⟨k.val / 32, by omega⟩ 0]
  pointwise [k0_pay15, k0_pay13]
  rw [exp2_eq, sitofp_eq]

/-- The columns' biased exponents. -/
theorem exp_at (W : FVec Ideal S1536x8192 .bf16) (n : Fin 8192) (a : Fin 48) : k0_pay16 (F := Ideal) W (ix2 n a) = qexp (cb W a n) := by
  unfold qexp
  rw [← col_exp W n a 0]
  pointwise [k0_pay16]

/-- The columns quantised and widened. -/
theorem cw_at (W : FVec Ideal S1536x8192 .bf16) (n : Fin 8192) (k : Fin 1536) :
    k0_pay2 (F := Ideal) (k0_pay15 W) (k0_pay16 (F := Ideal) W) (ix2 k n)
      = qcode (cb W ⟨k.val / 32, by omega⟩ n) (W (ix2 k n)) * qscale (cb W ⟨k.val / 32, by omega⟩ n) := by
  unfold qscale
  rw [← code_at, ← exp_at]
  generalize k0_pay15 (F := Ideal) W = C
  generalize k0_pay16 (F := Ideal) W = E
  pointwise [k0_pay2, k0_pay1]
  rw [exp2_eq, sitofp_eq]

theorem cc0_at (C : FVec Ideal S8192x1536 .fp8e4m3) (z : Fin 1) (n : Fin 8192) (r : Fin 768) : k0_pay3 (F := Ideal) C (ix3 z n r) = C (ix2 n (⟨r.val, by omega⟩ : Fin 1536)) := by
  pointwise [k0_pay3]
theorem cc1_at (C : FVec Ideal S8192x1536 .fp8e4m3) (z : Fin 1) (n : Fin 8192) (r : Fin 768) : k0_pay5 (F := Ideal) C (ix3 z n r) = C (ix2 n (⟨768 + r.val, by omega⟩ : Fin 1536)) := by
  pointwise [k0_pay5]
theorem cs0_at (E : IVec S8192x48 32) (z : Fin 1) (a : Fin 24) (n : Fin 8192) : k0_pay4 E (ix3 z a n) = (E (ix2 n (⟨a.val, by omega⟩ : Fin 48))).setWidth 8 := by
  pointwise [k0_pay4, k0_pay1]
theorem cs1_at (E : IVec S8192x48 32) (z : Fin 1) (a : Fin 24) (n : Fin 8192) : k0_pay6 E (ix3 z a n) = (E (ix2 n (⟨24 + a.val, by omega⟩ : Fin 48))).setWidth 8 := by
  pointwise [k0_pay6, k0_pay1]

/-- Two pieces of one batch each, read at an index. -/
theorem cc_pieces (p0 p1 : Vec Ideal S1x8192x768 .fp8e4m3) (b : Fin 2) (n : Fin 8192) (r : Fin 768) :
    View.canon (Val := Elt Ideal) [⟨r0_4, p1⟩, ⟨r0_2, p0⟩] (ix3 b n r) = if b.val = 0 then p0 (ix3 (0 : Fin 1) n r) else p1 (ix3 (0 : Fin 1) n r) := by
  refine View.canon_apply_of_pieces (Val := Elt Ideal) (fun y : S2x8192x768.Idx => if (y 0).val = 0 then p0 (ix3 (0 : Fin 1) (y 1) (y 2)) else p1 (ix3 (0 : Fin 1) (y 1) (y 2))) _ ?_ (ix3 b n r) (cover0_3 _ _ _)
  intro pc hpc
  simp only [List.mem_cons, List.not_mem_nil, _root_.or_false] at hpc
  rcases hpc with rfl | rfl
  · intro x
    refine Eq.trans (congrArg p1 (funext fun a => Fin.ext ?_)) (if_neg (show ¬(1 + 1 * (x 0).val = 0) by omega)).symm
    have h : (x 0).val < 1 := (x 0).isLt
    match a with
    | ⟨0, _⟩ => show (x 0).val = 0; omega
    | ⟨1, _⟩ => show (x 1).val = 0 + 1 * (x 1).val; omega
    | ⟨2, _⟩ => show (x 2).val = 0 + 1 * (x 2).val; omega
  · intro x
    have h : (x 0).val < 1 := (x 0).isLt
    refine Eq.trans (congrArg p0 (funext fun a => Fin.ext ?_)) (if_pos (show 0 + 1 * (x 0).val = 0 by omega)).symm
    match a with
    | ⟨0, _⟩ => show (x 0).val = 0; omega
    | ⟨1, _⟩ => show (x 1).val = 0 + 1 * (x 1).val; omega
    | ⟨2, _⟩ => show (x 2).val = 0 + 1 * (x 2).val; omega

theorem cs_pieces (p0 p1 : Vec Ideal S1x24x8192 .i8) (b : Fin 2) (a : Fin 24) (n : Fin 8192) :
    View.canon (Val := Elt Ideal) [⟨r0_5, p1⟩, ⟨r0_3, p0⟩] (ix3 b a n) = if b.val = 0 then p0 (ix3 (0 : Fin 1) a n) else p1 (ix3 (0 : Fin 1) a n) := by
  refine View.canon_apply_of_pieces (Val := Elt Ideal) (fun y : S2x24x8192.Idx => if (y 0).val = 0 then p0 (ix3 (0 : Fin 1) (y 1) (y 2)) else p1 (ix3 (0 : Fin 1) (y 1) (y 2))) _ ?_ (ix3 b a n) (cover0_4 _ _ _)
  intro pc hpc
  simp only [List.mem_cons, List.not_mem_nil, _root_.or_false] at hpc
  rcases hpc with rfl | rfl
  · intro x
    refine Eq.trans (congrArg p1 (funext fun a => Fin.ext ?_)) (if_neg (show ¬(1 + 1 * (x 0).val = 0) by omega)).symm
    have h : (x 0).val < 1 := (x 0).isLt
    match a with
    | ⟨0, _⟩ => show (x 0).val = 0; omega
    | ⟨1, _⟩ => show (x 1).val = 0 + 1 * (x 1).val; omega
    | ⟨2, _⟩ => show (x 2).val = 0 + 1 * (x 2).val; omega
  · intro x
    have h : (x 0).val < 1 := (x 0).isLt
    refine Eq.trans (congrArg p0 (funext fun a => Fin.ext ?_)) (if_pos (show 0 + 1 * (x 0).val = 0 by omega)).symm
    match a with
    | ⟨0, _⟩ => show (x 0).val = 0; omega
    | ⟨1, _⟩ => show (x 1).val = 0 + 1 * (x 1).val; omega
    | ⟨2, _⟩ => show (x 2).val = 0 + 1 * (x 2).val; omega

theorem ld_eq (W : Vec Ideal S1536x8192 .bf16) : View.ld (Val := Elt Ideal) (e' := .bf16) W r0_0 = W := View.ld_unit_zero (S := S1536x8192) Cert.RefXIdeal.Value.hz0 _ W

/-- The column codes. -/
theorem cc_at (W : FVec Ideal S1536x8192 .bf16) (b : Fin 2) (n : Fin 8192) (r : Fin 768) (K : Fin 1536) (hK : K.val = 768 * b.val + r.val) :
    Cert.RefXIdeal.Value.G3 (F := Ideal) W (ix3 b n r) = qcode (cb W ⟨K.val / 32, by omega⟩ n) (W (ix2 K n)) := by
  unfold Cert.RefXIdeal.Value.G3 k0_pay17
  rw [ld_eq]
  refine (cc_pieces _ _ b n r).trans ?_
  rw [← code_at, cc0_at, cc1_at]
  by_cases hb : b.val = 0
  · rw [if_pos hb, show (⟨r.val, by omega⟩ : Fin 1536) = K from Fin.ext (by show r.val = K.val; omega)]
  · rw [if_neg hb, show (⟨768 + r.val, by omega⟩ : Fin 1536) = K from Fin.ext (by show 768 + r.val = K.val; omega)]

/-- The column scales. -/
theorem cs_at (W : FVec Ideal S1536x8192 .bf16) (b : Fin 2) (a : Fin 24) (n : Fin 8192) :
    Cert.RefXIdeal.Value.G4 (F := Ideal) W (ix3 b a n) = (qexp (cb W ⟨b.val * 24 + a.val, by omega⟩ n)).setWidth 8 := by
  unfold Cert.RefXIdeal.Value.G4 k0_pay18
  rw [ld_eq]
  refine (cs_pieces _ _ b a n).trans ?_
  rw [cs0_at, cs1_at]
  by_cases hb : b.val = 0
  · rw [if_pos hb, exp_at, show (⟨a.val, by omega⟩ : Fin 48) = ⟨b.val * 24 + a.val, by omega⟩ from Fin.ext (by show a.val = b.val * 24 + a.val; omega)]
  · rw [if_neg hb, exp_at, show (⟨24 + a.val, by omega⟩ : Fin 48) = ⟨b.val * 24 + a.val, by omega⟩ from Fin.ext (by show 24 + a.val = b.val * 24 + a.val; omega)]

/-- The columns quantised and widened, as the call leaves them. -/
theorem cwG_at (W : FVec Ideal S1536x8192 .bf16) (n : Fin 8192) (k : Fin 1536) :
    Cert.RefXIdeal.Value.G6 (F := Ideal) W (ix2 k n)
      = qcode (cb W ⟨k.val / 32, by omega⟩ n) (W (ix2 k n)) * qscale (cb W ⟨k.val / 32, by omega⟩ n) := by
  unfold Cert.RefXIdeal.Value.G6 k0_pay17 k0_pay18
  rw [ld_eq]
  exact cw_at W n k

end Cert.RefXIdeal.Hand

end
-- ==== Proof.XInv.lean ====
/- What the exponent buffer of the body that quantises the first operand holds between two points of the grid, over the
   extended reals: the biased exponents of the row blocks met so far. -/
module

public import proofs.«01_k».proof.Proof.XBody
public import proofs.«01_k».proof.Proof.XVal
public import proofs.«01_k».proof.Proof.XRef

@[expose] public section

set_option maxRecDepth 16384

noncomputable section

namespace Cert.KernelXIdeal.Hand

open Cert.KernelXIdeal.Gen
open Idealize.ShloMosaic Idealize.ShloMosaic.TcCoe Idealize.SL.Sem
open Idealize.ShloMosaic.Pipeline (Dat)
open Cert.Quant
open Cert.RefXIdeal.Hand (rb cb)

variable (m : (ℓ : Loc nD τ sig) → Buf (Elt Ideal) ℓ)

/-- The argument. -/
abbrev arg (c : Dev nD) : FVec Ideal S1536x8192 .bf16 := m ((c : Thread nD τ).loc main_arg0)

/-- The argument's values are at most bf16's largest finite magnitude. -/
def Fine (c : Dev nD) : Prop := ∀ (r : Fin 1536) (k : Fin 8192), max (arg m c (ix2 r k)) (-(arg m c (ix2 r k))) ≤ Ideal.ofBits .bf16 0x7F7F#16

theorem small_row {c : Dev nD} (hf : Fine m c) (r : Fin 1536) (a : Fin 256) : Small (rb (arg m c) r a) := fun j => hf r _
theorem small_col {c : Dev nD} (hf : Fine m c) (a : Fin 48) (n : Fin 8192) : Small (cb (arg m c) a n) := fun j => hf _ n

/-- The windows' blocks at a point. -/
theorem idx : ∀ t : Fin cfg0.N, win0_0.index t = ![0, t.val] ∧ win0_1.index t = ![0, t.val] ∧ win0_2.index t = ![0, 0]
    ∧ win0_3.index t = ![0, t.val, 0] ∧ win0_4.index t = ![0, 0, t.val] ∧ win0_5.index t = ![0, t.val] ∧ win0_6.index t = ![0, t.val] :=
  (by decide +kernel : ∀ t : Fin grid0.N, _)

theorem points (t : Fin cfg0.N) : t.val < 32 := lt_of_lt_of_eq t.isLt (show cfg0.N = 32 from N_0)

theorem x_at (c : Dev nD) (t : Fin cfg0.N) (r : Fin 1536) (k : Fin 256) (K : Fin 8192) (hK : K.val = 256 * t.val + k.val) :
    iblk m c 0 t (ix2 r k) = arg m c (ix2 r K) := by
  have hT := points t
  have e : K = ⟨t.val * 256 + k.val, by omega⟩ := Fin.ext (hK.trans (by rw [Nat.mul_comm]))
  rw [e]
  blk_ext [iblk, V, idx t]

theorem rblk_at (c : Dev nD) (t : Fin cfg0.N) (r : Fin 1536) (a : Fin 8) (A : Fin 256) (hA : A.val = 8 * t.val + a.val) :
    rblk (iblk m c 0 t) r a = rb (arg m c) r A := by
  funext j
  unfold rblk rb
  exact x_at m c t r _ _ (by show A.val * 32 + j.val = 256 * t.val + (a.val * 32 + j.val); omega)

theorem cblk_at (c : Dev nD) (t : Fin cfg0.N) (a : Fin 48) (b : Fin 256) (n : Fin 8192) (hn : n.val = 256 * t.val + b.val) :
    cblk (iblk m c 0 t) a b = cb (arg m c) a n := by
  funext j
  unfold cblk cb
  exact x_at m c t _ b n hn

/-- The exponents met before point `n`, given an argument without infinities. -/
def R : Dev nD → ℕ → IVec S256x1536 32 → Prop := fun c n e =>
  Fine m c → ∀ (q : Fin 256) (r : Fin 1536), q.val < 8 * n → e (ix2 q r) = qexp (rb (arg m c) r q)

theorem keeps : Keeps m (R m) := by
  intro c t e he hf q r hq
  rw [coords_val0 t]
  by_cases h : 8 * t.val ≤ q.val
  · have hb := rblk_at m c t r ⟨q.val - 8 * t.val, by omega⟩ q (by show q.val = 8 * t.val + (q.val - 8 * t.val); omega)
    refine (dif_pos (show 8 * t.val ≤ q.val ∧ q.val < 8 * t.val + 8 from ⟨h, by omega⟩)).trans ?_
    refine (eTile_val (iblk m c 0 t) ⟨q.val - 8 * t.val, by omega⟩ r (by rw [hb]; exact small_row m hf _ _)).trans ?_
    rw [hb]
  · refine (dif_neg (show ¬(8 * t.val ≤ q.val ∧ q.val < 8 * t.val + 8) from fun h' => h h'.1)).trans ?_
    exact (he.resolve_left (by omega)) hf q r (by omega)

end Cert.KernelXIdeal.Hand

end
-- ==== Proof.XValue.lean ====
/- The six results of the call that quantises the first operand, over the extended reals: they are the reference's. -/
module

public import proofs.«01_k».proof.Proof.XInv

@[expose] public section

set_option maxRecDepth 16384

noncomputable section

namespace Cert.KernelXIdeal.Hand

open Cert.KernelXIdeal.Gen
open Idealize.ShloMosaic Idealize.ShloMosaic.TcCoe Idealize.SL.Sem
open Idealize.ShloMosaic.Pipeline (Dat)
open Cert.Quant
open Cert.RefXIdeal.Hand (rb cb)

variable (m : (ℓ : Loc nD τ sig) → Buf (Elt Ideal) ℓ) (ρ : Dev nD → PrngReg)

/-- The row codes. -/
abbrev ref1 (c : Dev nD) : FVec Ideal S1536x8192 .fp8e4m3 := Cert.RefXIdeal.Value.G1 (F := Ideal) (arg m c)
/-- The row scales. -/
abbrev ref2 (c : Dev nD) : IVec S1536x256 8 := Cert.RefXIdeal.Value.G2 (F := Ideal) (arg m c)
/-- The column codes. -/
abbrev ref3 (c : Dev nD) : FVec Ideal S2x8192x768 .fp8e4m3 := Cert.RefXIdeal.Value.G3 (F := Ideal) (arg m c)
/-- The column scales. -/
abbrev ref4 (c : Dev nD) : IVec S2x24x8192 8 := Cert.RefXIdeal.Value.G4 (F := Ideal) (arg m c)
/-- The rows quantised and widened. -/
abbrev ref5 (c : Dev nD) : FVec Ideal S1536x8192 .bf16 := Cert.RefXIdeal.Value.G5 (F := Ideal) (arg m c)
/-- The columns quantised and widened. -/
abbrev ref6 (c : Dev nD) : FVec Ideal S1536x8192 .bf16 := Cert.RefXIdeal.Value.G6 (F := Ideal) (arg m c)

theorem rc_point (c : Dev nD) (hf : Fine m c) (t : Fin cfg0.N) (r : Fin 1536) (k : Fin 256) (K : Fin 8192) (hK : K.val = 256 * t.val + k.val) :
    rcTile (F := Ideal) (iblk m c 0 t) (ix2 r k) = ref1 m c (ix2 r K) := by
  have hb := rblk_at m c t r ⟨k.val / 32, by omega⟩ ⟨K.val / 32, by omega⟩ (by show K.val / 32 = 8 * t.val + k.val / 32; omega)
  rw [rcTile_val _ r k (by rw [hb]; exact small_row m hf _ _), hb, x_at m c t r k K hK]
  exact (Cert.RefXIdeal.Hand.rc_at (arg m c) r K).symm

theorem rw_point (c : Dev nD) (hf : Fine m c) (t : Fin cfg0.N) (r : Fin 1536) (k : Fin 256) (K : Fin 8192) (hK : K.val = 256 * t.val + k.val) :
    rwTile (F := Ideal) (iblk m c 0 t) (ix2 r k) = ref5 m c (ix2 r K) := by
  have hb := rblk_at m c t r ⟨k.val / 32, by omega⟩ ⟨K.val / 32, by omega⟩ (by show K.val / 32 = 8 * t.val + k.val / 32; omega)
  rw [rwTile_val _ r k (by rw [hb]; exact small_row m hf _ _), hb, x_at m c t r k K hK]
  exact (Cert.RefXIdeal.Hand.rw_at (arg m c) r K).symm

theorem cc_point (c : Dev nD) (hf : Fine m c) (t : Fin cfg0.N) (b : Fin 2) (n : Fin 256) (r : Fin 768) (N : Fin 8192) (hN : N.val = 256 * t.val + n.val) :
    ccTile (F := Ideal) (iblk m c 0 t) (ix3 b n r) = ref3 m c (ix3 b N r) := by
  have hb := cblk_at m c t ⟨(768 * b.val + r.val) / 32, by omega⟩ n N hN
  refine (ccTile_val _ b n r ⟨768 * b.val + r.val, by omega⟩ rfl (by rw [hb]; exact small_col m hf _ _)).trans ?_
  rw [hb, x_at m c t _ n N hN]
  exact (Cert.RefXIdeal.Hand.cc_at (arg m c) b N r ⟨768 * b.val + r.val, by omega⟩ rfl).symm

theorem cs_point (c : Dev nD) (hf : Fine m c) (t : Fin cfg0.N) (b : Fin 2) (a : Fin 24) (n : Fin 256) (N : Fin 8192) (hN : N.val = 256 * t.val + n.val) :
    csTile (F := Ideal) (iblk m c 0 t) (ix3 b a n) = ref4 m c (ix3 b a N) := by
  have hb := cblk_at m c t ⟨b.val * 24 + a.val, by omega⟩ n N hN
  rw [csTile_val _ b a n (by rw [hb]; exact small_col m hf _ _), hb]
  exact (Cert.RefXIdeal.Hand.cs_at (arg m c) b a N).symm

theorem cw_point (c : Dev nD) (hf : Fine m c) (t : Fin cfg0.N) (k : Fin 1536) (n : Fin 256) (N : Fin 8192) (hN : N.val = 256 * t.val + n.val) :
    cwTile (F := Ideal) (iblk m c 0 t) (ix2 k n) = ref6 m c (ix2 k N) := by
  have hb := cblk_at m c t ⟨k.val / 32, by omega⟩ n N hN
  rw [cwTile_val _ k n (by rw [hb]; exact small_col m hf _ _), hb, x_at m c t k n N hN]
  exact (Cert.RefXIdeal.Hand.cwG_at (arg m c) N k).symm

theorem flush2 : ∀ t : Fin cfg0.N, (cfg0.win 2).flush t = true → t.val = 31 ∧ cond0_0 (grid0.coords t) :=
  (by decide +kernel : ∀ t : Fin grid0.N, (cfg0.win 2).flush t = true → t.val = 31 ∧ cond0_0 (grid0.coords t))

theorem rs_point (c : Dev nD) (hf : Fine m c) (t : Fin cfg0.N) (ht : t.val = 31) (e : IVec S256x1536 32) (he : R m c (t.val + 1) e) (r : Fin 1536) (q : Fin 256) :
    rsTile (F := Ideal) e (ix2 r q) = ref2 m c (ix2 r q) := by
  rw [rsTile_val, he hf q r (by omega)]
  exact (Cert.RefXIdeal.Hand.rs_at (arg m c) r q).symm

theorem emb1 (G : FVec Ideal S1536x8192 .fp8e4m3) (t : Fin cfg0.N) (k : Fin 256) (K : Fin 8192) (hK : K.val = 256 * t.val + k.val) (r : Fin 1536) :
    G (((cfg0.win 1).blk t).view.emb (ix2 r k)) = G (ix2 r K) := by
  have hT := points t
  have e : K = ⟨t.val * 256 + k.val, by omega⟩ := Fin.ext (hK.trans (by rw [Nat.mul_comm]))
  rw [e]
  blk_ext [idx t]

theorem emb3 (G : FVec Ideal S2x8192x768 .fp8e4m3) (t : Fin cfg0.N) (k : Fin 256) (K : Fin 8192) (hK : K.val = 256 * t.val + k.val) (b : Fin 2) (r : Fin 768) :
    G (((cfg0.win 3).blk t).view.emb (ix3 b k r)) = G (ix3 b K r) := by
  have hT := points t
  have e : K = ⟨t.val * 256 + k.val, by omega⟩ := Fin.ext (hK.trans (by rw [Nat.mul_comm]))
  rw [e]
  blk_ext [idx t]

theorem emb4 (G : IVec S2x24x8192 8) (t : Fin cfg0.N) (k : Fin 256) (K : Fin 8192) (hK : K.val = 256 * t.val + k.val) (b : Fin 2) (a : Fin 24) :
    G (((cfg0.win 4).blk t).view.emb (ix3 b a k)) = G (ix3 b a K) := by
  have hT := points t
  have e : K = ⟨t.val * 256 + k.val, by omega⟩ := Fin.ext (hK.trans (by rw [Nat.mul_comm]))
  rw [e]
  blk_ext [idx t]

theorem emb5 (G : FVec Ideal S1536x8192 .bf16) (t : Fin cfg0.N) (k : Fin 256) (K : Fin 8192) (hK : K.val = 256 * t.val + k.val) (r : Fin 1536) :
    G (((cfg0.win 5).blk t).view.emb (ix2 r k)) = G (ix2 r K) := by
  have hT := points t
  have e : K = ⟨t.val * 256 + k.val, by omega⟩ := Fin.ext (hK.trans (by rw [Nat.mul_comm]))
  rw [e]
  blk_ext [idx t]

theorem emb6 (G : FVec Ideal S1536x8192 .bf16) (t : Fin cfg0.N) (k : Fin 256) (K : Fin 8192) (hK : K.val = 256 * t.val + k.val) (r : Fin 1536) :
    G (((cfg0.win 6).blk t).view.emb (ix2 r k)) = G (ix2 r K) := by
  have hT := points t
  have e : K = ⟨t.val * 256 + k.val, by omega⟩ := Fin.ext (hK.trans (by rw [Nat.mul_comm]))
  rw [e]
  blk_ext [idx t]

theorem emb2 (G : IVec S1536x256 8) (t : Fin cfg0.N) (r : Fin 1536) (q : Fin 256) : G (((cfg0.win 2).blk t).view.emb (ix2 r q)) = G (ix2 r q) := by
  blk_ext [idx t]

/-- The results after the run. -/
theorem results_of {r : PUnit × MemSt nD τ sig (Elt Ideal)}
    (h : Pipeline.RDat.FramePost (cfgs 0) (fun c => (dats m (R m) 0 c).toRRel results0 (Rl m (R m) c)) (V m) r) (c : Dev nD) (hf : Fine m c) :
    r.2.mem ((c.tc : Thread nD τ).loc main_v0_0) = ref1 m c
      ∧ r.2.mem ((c.tc : Thread nD τ).loc main_v0_1) = ref2 m c
      ∧ r.2.mem ((c.tc : Thread nD τ).loc main_v0_2) = ref3 m c
      ∧ r.2.mem ((c.tc : Thread nD τ).loc main_v0_3) = ref4 m c
      ∧ r.2.mem ((c.tc : Thread nD τ).loc main_v0_4) = ref5 m c
      ∧ r.2.mem ((c.tc : Thread nD τ).loc main_v0_5) = ref6 m c := by
  obtain ⟨after, hL, hA⟩ := Pipeline.RDat.FramePost.exists_exact h c
  refine ⟨(hA 1).trans ?_, (hA 2).trans ?_, (hA 3).trans ?_, (hA 4).trans ?_, (hA 5).trans ?_, (hA 6).trans ?_⟩
  · refine Dat.arrAt_eq_of_covers _ 1 _ (by decide +kernel) fun t ht y => ?_
    have hT := points t
    have hX := Pipeline.Dat.toRRel_leaves (dats m (R m) 0 c) rfl (hL 1 t ht)
    obtain ⟨r, k, rfl⟩ : ∃ (r : Fin 1536) (k : Fin 256), y = ix2 r k := ⟨y 0, y 1, eq_ix2 y⟩
    blk_simp
    rw [Pipeline.RDat.withAfter_after, show after 1 t = rcTile (F := Ideal) (iblk m c 0 t) from hX]
    exact (rc_point m c hf t r k ⟨256 * t.val + k.val, by omega⟩ rfl).trans (emb1 (ref1 m c) t k _ rfl r).symm
  · refine Dat.arrAt_eq_of_covers _ 2 _ (by decide +kernel) fun t ht y => ?_
    have hT := points t
    obtain ⟨h7, h5⟩ := flush2 t ht
    obtain ⟨e, he, hX⟩ := (Pipeline.Dat.toRRel_leaves (dats m (R m) 0 c) rfl (hL 2 t ht)) h5
    obtain ⟨r, q, rfl⟩ : ∃ (r : Fin 1536) (q : Fin 256), y = ix2 r q := ⟨y 0, y 1, eq_ix2 y⟩
    blk_simp
    rw [Pipeline.RDat.withAfter_after, hX]
    exact (rs_point m c hf t h7 e he r q).trans (emb2 (ref2 m c) t r q).symm
  · refine Dat.arrAt_eq_of_covers _ 3 _ (by decide +kernel) fun t ht y => ?_
    have hT := points t
    have hX := Pipeline.Dat.toRRel_leaves (dats m (R m) 0 c) rfl (hL 3 t ht)
    obtain ⟨b, k, r, rfl⟩ : ∃ (b : Fin 2) (k : Fin 256) (r : Fin 768), y = ix3 b k r := ⟨y 0, y 1, y 2, eq_ix3 y⟩
    blk_simp
    rw [Pipeline.RDat.withAfter_after, show after 3 t = ccTile (F := Ideal) (iblk m c 0 t) from hX]
    exact (cc_point m c hf t b k r ⟨256 * t.val + k.val, by omega⟩ rfl).trans (emb3 (ref3 m c) t k _ rfl b r).symm
  · refine Dat.arrAt_eq_of_covers _ 4 _ (by decide +kernel) fun t ht y => ?_
    have hT := points t
    have hX := Pipeline.Dat.toRRel_leaves (dats m (R m) 0 c) rfl (hL 4 t ht)
    obtain ⟨b, a, k, rfl⟩ : ∃ (b : Fin 2) (a : Fin 24) (k : Fin 256), y = ix3 b a k := ⟨y 0, y 1, y 2, eq_ix3 y⟩
    blk_simp
    rw [Pipeline.RDat.withAfter_after, show after 4 t = csTile (F := Ideal) (iblk m c 0 t) from hX]
    exact (cs_point m c hf t b a k ⟨256 * t.val + k.val, by omega⟩ rfl).trans (emb4 (ref4 m c) t k _ rfl b a).symm
  · refine Dat.arrAt_eq_of_covers _ 5 _ (by decide +kernel) fun t ht y => ?_
    have hT := points t
    have hX := Pipeline.Dat.toRRel_leaves (dats m (R m) 0 c) rfl (hL 5 t ht)
    obtain ⟨r, k, rfl⟩ : ∃ (r : Fin 1536) (k : Fin 256), y = ix2 r k := ⟨y 0, y 1, eq_ix2 y⟩
    blk_simp
    rw [Pipeline.RDat.withAfter_after, show after 5 t = rwTile (F := Ideal) (iblk m c 0 t) from hX]
    exact (rw_point m c hf t r k ⟨256 * t.val + k.val, by omega⟩ rfl).trans (emb5 (ref5 m c) t k _ rfl r).symm
  · refine Dat.arrAt_eq_of_covers _ 6 _ (by decide +kernel) fun t ht y => ?_
    have hT := points t
    have hX := Pipeline.Dat.toRRel_leaves (dats m (R m) 0 c) rfl (hL 6 t ht)
    obtain ⟨r, k, rfl⟩ : ∃ (r : Fin 1536) (k : Fin 256), y = ix2 r k := ⟨y 0, y 1, eq_ix2 y⟩
    blk_simp
    rw [Pipeline.RDat.withAfter_after, show after 6 t = cwTile (F := Ideal) (iblk m c 0 t) from hX]
    exact (cw_point m c hf t r k ⟨256 * t.val + k.val, by omega⟩ rfl).trans (emb6 (ref6 m c) t k _ rfl r).symm

/-- The run of the call, with its results. -/
theorem run_value (hf : ∀ c, Fine m c) : θ_run defs (onTc (τ := τ) (main (F := Ideal))) ⟨m, fun _ => 0, ρ⟩ (fun r => ∀ c : Dev nD,
    r.2.mem ((c.tc : Thread nD τ).loc main_v0_0) = ref1 m c
      ∧ r.2.mem ((c.tc : Thread nD τ).loc main_v0_1) = ref2 m c
      ∧ r.2.mem ((c.tc : Thread nD τ).loc main_v0_2) = ref3 m c
      ∧ r.2.mem ((c.tc : Thread nD τ).loc main_v0_3) = ref4 m c
      ∧ r.2.mem ((c.tc : Thread nD τ).loc main_v0_4) = ref5 m c
      ∧ r.2.mem ((c.tc : Thread nD τ).loc main_v0_5) = ref6 m c
      ∧ r.2.mem ((c.tc : Thread nD τ).loc main_arg0) = m ((c.tc : Thread nD τ).loc main_arg0)) :=
  (θ_run defs _ _).mono (fun _ h c => by
      obtain ⟨h1, h2, h3, h4, h5, h6⟩ := results_of m h.1 c (hf c)
      exact ⟨h1, h2, h3, h4, h5, h6, unchanged_of h.1 c⟩)
    (run_main (R := R m) ρ (keeps m))

end Cert.KernelXIdeal.Hand

end
-- ==== Proof.XPre.lean ====
/- The precondition of the value claim of the call that quantises the first operand, read at an index: the argument holds no
   infinity. -/
module

public import proofs.«01_k».proof.Proof.XValue
public import proofs.«01_k».proof.Proof.Gen.Pre_finite_x

@[expose] public section

set_option maxRecDepth 16384

noncomputable section

namespace Cert.KernelXIdeal.Hand

open Cert.KernelXIdeal.Gen
open Idealize.ShloMosaic Idealize.ShloMosaic.TcCoe Idealize.SL.Sem
open Idealize.ShloMosaic.Pipeline (Dat)
open Cert.Quant
open Cert.RefXIdeal.Hand (rb cb)

variable (m : (ℓ : Loc nD τ sig) → Buf (Elt Ideal) ℓ)

theorem le_of_pre (W : FVec Ideal S1536x8192 .bf16) (h : Cert.Pre_finite_x.fn (F := Ideal) W = fun _ => 1#1) (r : Fin 1536) (k : Fin 8192) :
    max (W (ix2 r k)) (-(W (ix2 r k))) ≤ Ideal.ofBits .bf16 0x7F7F#16 := by
  have h' := congrFun h (ix2 r k)
  revert h'
  pointwise [Cert.Pre_finite_x.fn]
  rw [absf_eq]
  intro h'
  by_contra hn
  rw [decide_eq_false hn] at h'
  exact absurd h' (by decide)

/-- The precondition bounds every value. -/
theorem fine_of_pre (c : Dev nD) (h : Cert.Pre_finite_x.fn (F := Ideal) (arg m c) = fun _ => 1#1) : Fine m c :=
  fun r k => le_of_pre _ h r k

end Cert.KernelXIdeal.Hand

end
-- ==== Proof.DySetup.lean ====
/- What the runs of the body that quantises the gradient share: its branch condition over the grid points, the staging
   buffers and the exponent buffer by name. -/
module

public import proofs.«01_k».proof.Proof.Gen.KernelDyIdeal.Launch
public import proofs.«01_k».proof.Proof.Gen.KernelDyIdeal.Skeleton
public import proofs.«01_k».proof.Proof.Gen.KernelDyIdeal.Points
public import proofs.«01_k».proof.Proof.Gen.KernelDyIdeal.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelDyIdeal.Hand

open Cert.KernelDyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's branch: the last point of the grid. -/
abbrev cond0_0 (i : grid0.Coords) : Prop := k0_cond1 i = 1#1
/-- It holds at the last point only — decided over the grid. -/
theorem hcond0_0 : ∀ t : Fin cfg0.N, cond0_0 (grid0.coords t) ↔ t.val = 39 :=
  (by decide +kernel : ∀ t : Fin grid0.N, cond0_0 (grid0.coords t) ↔ t.val = 39)

/-- The rows of the exponent buffer that the point's exponents are stored at. -/
theorem k0_off1_eq : ∀ i : grid0.Coords, k0_off1 i = ![8 * (i 0).val, 0] := by decide +kernel
instance closedOff_k0_off1 (i : grid0.Coords) : ClosedOff (k0_off1 i) := ⟨![8 * (i 0).val, 0], k0_off1_eq i⟩

/-! ## The buffers by name -/

/-- Each window's current staging memref at point `t`, spelled as the pipeline passes it (`bodyAt0`), and its wholeness. -/
abbrev ms0_0 (t : Fin cfg0.N) : Memref sig .tc .vmem S1536x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x320x768 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x256x768 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x24x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1536 .bf16 := win0_6.stage (cfg0.slots t 6)
abbrev hs0_6 (t : Fin cfg0.N) : (ms0_6 t).IsWhole := hstage0_6 ((cfg0.slots t 6).cast nbuf0_6)
/-- The exponent buffer: a whole scoped buffer of the kernel's own, passed beside the windows. -/
abbrev scM0_0 : Memref sig .tc .vmem S320x1536 .i32 := Memref.whole cc0_scratch0

/-- The frame kit's invariant with the exponent buffer as a memref owned at some contents. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

end Cert.KernelDyIdeal.Hand

end
-- ==== Proof.DyRunA.lean ====
/- The run of the body that quantises the gradient, at a point before the last. -/
module

public import proofs.«01_k».proof.Proof.DySetup

@[expose] public section

set_option maxRecDepth 16384

noncomputable section

namespace Cert.KernelDyIdeal.Hand

open Cert.KernelDyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the buffers at a point before the last: the written pieces of every buffer (last first), with
    the proof that the body runs from the buffers at the named contents to those pieces written. -/
noncomputable def run_A (c : Dev nD) (i : grid0.Coords) (arg1 : Memref sig .tc .vmem S1536x256 .bf16) (harg1 : arg1.IsWhole) (arg2 : Memref sig .tc .vmem S1536x256 .fp8e4m3) (harg2 : arg2.IsWhole) (arg3 : Memref sig .tc .vmem S2x320x768 .i8) (harg3 : arg3.IsWhole) (arg4 : Memref sig .tc .vmem S2x256x768 .fp8e4m3) (harg4 : arg4.IsWhole) (arg5 : Memref sig .tc .vmem S2x24x256 .i8) (harg5 : arg5.IsWhole) (arg6 : Memref sig .tc .vmem S1536x256 .bf16) (harg6 : arg6.IsWhole) (arg7 : Memref sig .tc .vmem S256x1536 .bf16) (harg7 : arg7.IsWhole) (arg8 : Memref sig .tc .vmem S320x1536 .i32) (harg8 : arg8.IsWhole) (hc0 : ¬cond0_0 i)
    (x0 : Vec F S1536x256 .bf16) (xs : Vec F S320x1536 .i32) :
    Σ' (L2 : List (View.Piece (Elt F) S1536x256 .fp8e4m3)), Σ' (L4 : List (View.Piece (Elt F) S2x256x768 .fp8e4m3)), Σ' (L5 : List (View.Piece (Elt F) S2x24x256 .i8)), Σ' (L6 : List (View.Piece (Elt F) S1536x256 .bf16)), Σ' (L7 : List (View.Piece (Elt F) S256x1536 .bf16)), { LE : List (View.Piece (Elt F) S320x1536 .i32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
            ∗ (iprop(owns (c : Thread nD τ) arg1 fullShare x0 ∗ (∃ f, arg2.view.loc (c : Thread nD τ) ↦[arg2.view.set]{fullShare} arg2.view.writes (Elt F) f L2) ∗ (∃ d, owns (c : Thread nD τ) arg3 fullShare d) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ arg8.view.loc (c : Thread nD τ) ↦[arg8.view.set]{fullShare} arg8.view.writes (Elt F) (harg8.unread xs) LE) -∗ K ⟨⟩))
          ⊢ wp frame (wpE (defs₀ (F := F)) Variants.none c none) E (cc0_prep i arg1 harg1 arg2 harg2 arg3 harg3 arg4 harg4 arg5 harg5 arg6 harg6 arg7 harg7 arg8 harg8) K } := by
  refine ⟨?_, ?_, ?_, ?_, ?_, ?_, fun E K => ?run⟩
  case run =>
    simp only [cc0_prep_eq_skeleton]; unfold cc0_prep_skel
    simp only [k0_part6_eq_skeleton]; unfold k0_part6_skel
    simp only [k0_part1_eq_skeleton, k0_part2_eq_skeleton, k0_part3_eq_skeleton, k0_part4_eq_skeleton, k0_part5_eq_skeleton]
    unfold owns
    iintro ⟨⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%fs, %hfs, HS⟩, Hk⟩
    obtain rfl := harg1.eq_unread hf1; obtain rfl := harg8.eq_unread hfs
    sl_exec (disch := first | sl_exact hc0)
    sl_step
    iapply Hk
    isplitl [H1]
    · iexists _; isplitr; · ipureintro; exact harg1.read_unread _
      iexact H1
    isplitl [H2]; · iexists _; iexact H2
    isplitl [H3]
    · iexists _, _; isplitr; swap; · iexact H3
      ipureintro; rfl
    isplitl [H4]; · iexists _; iexact H4
    isplitl [H5]; · iexists _; iexact H5
    isplitl [H6]; · iexists _; iexact H6
    isplitl [H7]; · iexists _; iexact H7
    iexact HS

end Cert.KernelDyIdeal.Hand

end
-- ==== Proof.DyRunB.lean ====
/- The run of the body that quantises the gradient, at the last point, where the row scales are stored. -/
module

public import proofs.«01_k».proof.Proof.DySetup

@[expose] public section

set_option maxRecDepth 16384

noncomputable section

namespace Cert.KernelDyIdeal.Hand

open Cert.KernelDyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the buffers at the last point, where the row scales are stored: the written pieces of every buffer (last first), with
    the proof that the body runs from the buffers at the named contents to those pieces written. -/
noncomputable def run_B (c : Dev nD) (i : grid0.Coords) (arg1 : Memref sig .tc .vmem S1536x256 .bf16) (harg1 : arg1.IsWhole) (arg2 : Memref sig .tc .vmem S1536x256 .fp8e4m3) (harg2 : arg2.IsWhole) (arg3 : Memref sig .tc .vmem S2x320x768 .i8) (harg3 : arg3.IsWhole) (arg4 : Memref sig .tc .vmem S2x256x768 .fp8e4m3) (harg4 : arg4.IsWhole) (arg5 : Memref sig .tc .vmem S2x24x256 .i8) (harg5 : arg5.IsWhole) (arg6 : Memref sig .tc .vmem S1536x256 .bf16) (harg6 : arg6.IsWhole) (arg7 : Memref sig .tc .vmem S256x1536 .bf16) (harg7 : arg7.IsWhole) (arg8 : Memref sig .tc .vmem S320x1536 .i32) (harg8 : arg8.IsWhole) (hc0 : cond0_0 i)
    (x0 : Vec F S1536x256 .bf16) (xs : Vec F S320x1536 .i32) :
    Σ' (L2 : List (View.Piece (Elt F) S1536x256 .fp8e4m3)), Σ' (L3 : List (View.Piece (Elt F) S2x320x768 .i8)), Σ' (L4 : List (View.Piece (Elt F) S2x256x768 .fp8e4m3)), Σ' (L5 : List (View.Piece (Elt F) S2x24x256 .i8)), Σ' (L6 : List (View.Piece (Elt F) S1536x256 .bf16)), Σ' (L7 : List (View.Piece (Elt F) S256x1536 .bf16)), { LE : List (View.Piece (Elt F) S320x1536 .i32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
            ∗ (iprop(owns (c : Thread nD τ) arg1 fullShare x0 ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ arg8.view.loc (c : Thread nD τ) ↦[arg8.view.set]{fullShare} arg8.view.writes (Elt F) (harg8.unread xs) LE) -∗ K ⟨⟩))
          ⊢ wp frame (wpE (defs₀ (F := F)) Variants.none c none) E (cc0_prep i arg1 harg1 arg2 harg2 arg3 harg3 arg4 harg4 arg5 harg5 arg6 harg6 arg7 harg7 arg8 harg8) K } := by
  refine ⟨?_, ?_, ?_, ?_, ?_, ?_, ?_, fun E K => ?run⟩
  case run =>
    simp only [cc0_prep_eq_skeleton]; unfold cc0_prep_skel
    simp only [k0_part6_eq_skeleton]; unfold k0_part6_skel
    simp only [k0_part1_eq_skeleton, k0_part2_eq_skeleton, k0_part3_eq_skeleton, k0_part4_eq_skeleton, k0_part5_eq_skeleton]
    unfold owns
    iintro ⟨⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%fs, %hfs, HS⟩, Hk⟩
    obtain rfl := harg1.eq_unread hf1; obtain rfl := harg8.eq_unread hfs
    sl_exec (disch := first | sl_exact hc0)
    sl_step
    iapply Hk
    isplitl [H1]
    · iexists _; isplitr; · ipureintro; exact harg1.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexact HS

end Cert.KernelDyIdeal.Hand

end
-- ==== Proof.DyTiles.lean ====
/- What the body that quantises the gradient computes from a block, and what its stores leave in the buffers. -/
module

public import proofs.«01_k».proof.Proof.DyRunA
public import proofs.«01_k».proof.Proof.DyRunB
public import Idealize.ShloMosaic.Lib.Pipeline.ValueKit
public import Idealize.ShloMosaic.Lib.WholeRead
public import Idealize.ShloMosaic.Lib.WritesUnit

@[expose] public section

set_option maxRecDepth 16384

noncomputable section

namespace Cert.KernelDyIdeal.Hand

open Cert.KernelDyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes from a block -/

variable (v : Vec F S1536x256 .bf16)

/-- The biased exponents of the blocks down the columns. -/
def eCol : IVec S48x256 32 := k0_pay5 (k0_pay1 v) (k0_pay2 v) (k0_pay3 v) k0_pay4
/-- The block quantised down its columns and widened. -/
def cwTile : FVec F S256x1536 .bf16 := k0_pay11 v (eCol v) 254#32
/-- The column codes of the first batch. -/
def cc0 : FVec F S1x256x768 .fp8e4m3 := k0_pay8 v (eCol v) 254#32
/-- The column codes of the second batch. -/
def cc1 : FVec F S1x256x768 .fp8e4m3 := k0_pay9 v (eCol v) 254#32
/-- The column codes. -/
def ccTile : Vec F S2x256x768 .fp8e4m3 := fun y =>
  if (y 0).val = 0 then cc0 v (ix3 (0 : Fin 1) (⟨(y 1).val, (y 1).isLt⟩ : Fin 256) (⟨(y 2).val, (y 2).isLt⟩ : Fin 768))
  else cc1 v (ix3 (0 : Fin 1) (⟨(y 1).val, (y 1).isLt⟩ : Fin 256) (⟨(y 2).val, (y 2).isLt⟩ : Fin 768))
/-- The column scales. -/
def csTile : IVec S2x24x256 8 := k0_pay10 (eCol v)
/-- The biased exponents of the blocks along the rows. -/
def eRow : IVec S8x1536 32 := k0_pay15 (k0_pay13 v) (k0_pay14 v)
/-- The exponents of the factors the values are scaled by. -/
def sRow : IVec S8x1536 32 := k0_pay16 (k0_pay13 v) (k0_pay14 v)
/-- The row codes. -/
def rcTile : FVec F S1536x256 .fp8e4m3 := k0_pay18 (k0_pay12 v) (sRow v)
/-- The block quantised along its rows and widened. -/
def rwTile : FVec F S1536x256 .bf16 := k0_pay19 (k0_pay12 v) (eRow v) (sRow v)
/-- The exponents as they are stored. -/
def eTile : IVec S8x1536 32 := k0_pay20 (eRow v)
/-- The exponent buffer after point `t`. -/
def eNew (t : ℕ) (e : Vec F S320x1536 .i32) : Vec F S320x1536 .i32 := fun y =>
  if h : 8 * t ≤ (y 0).val ∧ (y 0).val < 8 * t + 8 then eTile v (ix2 (⟨(y 0).val - 8 * t, by omega⟩ : Fin 8) (⟨(y 1).val, (y 1).isLt⟩ : Fin 1536))
  else e y
/-- The columns of the exponent buffer that are batch `b`. -/
def eHalf (b : Fin 2) (e : Vec F S320x1536 .i32) : Vec F S320x768 .i32 :=
  fun q => e (ix2 (⟨(q 0).val, (q 0).isLt⟩ : Fin 320) (⟨768 * b.val + (q 1).val, by have h : (q 1).val < 768 := (q 1).isLt; omega⟩ : Fin 1536))
/-- The row scales, from the whole exponent buffer. -/
def rsTile (e : Vec F S320x1536 .i32) : Vec F S2x320x768 .i8 := fun y =>
  if (y 0).val = 0 then k0_pay21 (F := F) (eHalf 0 e) (ix3 (0 : Fin 1) (⟨(y 1).val, (y 1).isLt⟩ : Fin 320) (⟨(y 2).val, (y 2).isLt⟩ : Fin 768))
  else k0_pay22 (F := F) (eHalf 1 e) (ix3 (0 : Fin 1) (⟨(y 1).val, (y 1).isLt⟩ : Fin 320) (⟨(y 2).val, (y 2).isLt⟩ : Fin 768))

variable {v}

/-! ## Reading whole buffers -/

/-- A whole buffer read back over no stores is its contents. -/
theorem whole_readAt {S : Shape} {e : EltTy} {m : Memref sig .tc .vmem S e} (hm : m.IsWhole) (X : Vec F S e)
    {off : Fin S.rank → ℕ} (inb) (ho : ∀ a, off a = 0) :
    m.view.readAt (Elt F) (Rect.unit (s := S) off S.size inb) (hm.unread X) = X := by
  funext q
  exact (hm.readAt_unread X _ q).trans (congrArg X (funext fun a => Fin.ext ((Rect.idx_unit_val off _ inb q a).trans (by rw [ho]; exact Nat.zero_add _))))

/-- The block as the body reads it. -/
def rdIn (m : Memref sig .tc .vmem S1536x256 .bf16) (hm : m.IsWhole) (X : Vec F S1536x256 .bf16) : Vec F S1536x256 .bf16 :=
  m.view.readAt (Elt F) (Rect.unit (s := S1536x256) ![0, 0] S1536x256.size inb_S1536x256_S1536x256_0_0).toLoadRect (hm.unread X)

theorem rdIn_eq (m : Memref sig .tc .vmem S1536x256 .bf16) (hm : m.IsWhole) (X : Vec F S1536x256 .bf16) : rdIn m hm X = X :=
  whole_readAt hm X _ (fun a => by fin_cases a <;> rfl)

/-- A whole buffer stored in one piece reads back the piece. -/
theorem whole_store {S : Shape} {e : EltTy} (m : Memref sig .tc .vmem S e) (f) (off : Fin S.rank → ℕ) (inb) {w : S.Idx → Elt F e} {X : Vec F S e}
    (h : ∀ q, w q = X q) (ho : ∀ a, off a = 0 := by decide) :
    m.view.read (Elt F) (m.view.writes (Elt F) f [⟨Rect.unit (s := S) off S.size inb, w⟩]) = X := by
  funext y
  refine (View.read_writes_cons_unit_of_mem m.view f inb w [] y y rfl (fun a => ?_)).trans (h y)
  rw [ho a, Nat.zero_add]

/-! ## The pieces stored -/

/-- The column codes, as stored. -/
def ccPieces (v : Vec F S1536x256 .bf16) : List (View.Piece (Elt F) S2x256x768 .fp8e4m3) :=
  [⟨Rect.unit (s := S2x256x768) ![1, 0, 0] S1x256x768.size inb_S2x256x768_S1x256x768_1_0_0, cc1 v⟩,
   ⟨Rect.unit (s := S2x256x768) ![0, 0, 0] S1x256x768.size inb_S2x256x768_S1x256x768_0_0_0, cc0 v⟩]

theorem ccTile_at0 (v : Vec F S1536x256 .bf16) (x : S1x256x768.Idx) (y : S2x256x768.Idx) (h0 : (y 0).val = 0) (h1 : (y 1).val = (x 1).val) (h2 : (y 2).val = (x 2).val) :
    cc0 v x = ccTile v y := by
  unfold ccTile
  rw [if_pos h0]
  refine congrArg (cc0 v) (funext fun a => Fin.ext ?_)
  match a with
  | ⟨0, _⟩ => show (x 0).val = 0; have h : (x 0).val < 1 := (x 0).isLt; omega
  | ⟨1, _⟩ => show (x 1).val = (y 1).val; omega
  | ⟨2, _⟩ => show (x 2).val = (y 2).val; omega

theorem ccTile_at1 (v : Vec F S1536x256 .bf16) (x : S1x256x768.Idx) (y : S2x256x768.Idx) (h0 : (y 0).val = 1) (h1 : (y 1).val = (x 1).val) (h2 : (y 2).val = (x 2).val) :
    cc1 v x = ccTile v y := by
  unfold ccTile
  rw [if_neg (by omega)]
  refine congrArg (cc1 v) (funext fun a => Fin.ext ?_)
  match a with
  | ⟨0, _⟩ => show (x 0).val = 0; have h : (x 0).val < 1 := (x 0).isLt; omega
  | ⟨1, _⟩ => show (x 1).val = (y 1).val; omega
  | ⟨2, _⟩ => show (x 2).val = (y 2).val; omega

theorem read_ccPieces (m : Memref sig .tc .vmem S2x256x768 .fp8e4m3) (f) (v : Vec F S1536x256 .bf16) :
    m.view.read (Elt F) (m.view.writes (Elt F) f (ccPieces v)) = ccTile v := by
  funext y
  refine View.read_writes_apply_of_pieces (v := m.view) (f := f) (ccTile v) (ccPieces v) ?_ y (View.cover_of_tiledL (s := S2x256x768) (ccPieces v) S1x256x768.size (by sl_kernel_rfl) y)
  intro p hp x
  simp only [ccPieces, List.mem_cons, List.not_mem_nil, _root_.or_false] at hp
  rcases hp with rfl | rfl
  · exact ccTile_at1 v x _ (by show 1 + 1 * (x 0).val = 1; have h : (x 0).val < 1 := (x 0).isLt; omega) (by show 0 + 1 * (x 1).val = (x 1).val; omega) (by show 0 + 1 * (x 2).val = (x 2).val; omega)
  · exact ccTile_at0 v x _ (by show 0 + 1 * (x 0).val = 0; have h : (x 0).val < 1 := (x 0).isLt; omega) (by show 0 + 1 * (x 1).val = (x 1).val; omega) (by show 0 + 1 * (x 2).val = (x 2).val; omega)

/-- The exponents, as stored. -/
def ePieces (o : Fin 2 → ℕ) (h : ∀ a, o a + S8x1536.size a ≤ S320x1536.size a) (v : Vec F S1536x256 .bf16) : List (View.Piece (Elt F) S320x1536 .i32) :=
  [⟨Rect.unit (s := S320x1536) o S8x1536.size h, eTile v⟩]

theorem read_ePieces (m : Memref sig .tc .vmem S320x1536 .i32) (hm : m.IsWhole) (e : Vec F S320x1536 .i32) (v : Vec F S1536x256 .bf16)
    (t : ℕ) {o : Fin 2 → ℕ} (h) (ho : o = ![8 * t, 0]) :
    m.view.read (Elt F) (m.view.writes (Elt F) (hm.unread e) (ePieces o h v)) = eNew v t e := by
  funext y
  have hy1 : (y 1).val < 1536 := (y 1).isLt
  unfold ePieces
  by_cases hr : 8 * t ≤ (y 0).val ∧ (y 0).val < 8 * t + 8
  · refine (View.read_writes_cons_unit_of_mem m.view _ h _ [] y
      (ix2 (⟨(y 0).val - 8 * t, by omega⟩ : Fin 8) (⟨(y 1).val, hy1⟩ : Fin 1536)) ho ?_).trans ?_
    · refine Fin.forall_fin_two.mpr ⟨?_, ?_⟩
      · show (y 0).val = 8 * t + ((y 0).val - 8 * t); omega
      · show (y 1).val = 0 + (y 1).val; omega
    · unfold eNew
      rw [dif_pos hr]
  · refine (View.read_writes_cons_unit_of_not_mem m.view _ h _ [] y ho 0 ?_).trans ?_
    · show (y 0).val < 8 * t ∨ 8 * t + 8 ≤ (y 0).val
      omega
    · unfold eNew
      rw [dif_neg hr]
      exact congrFun (hm.read_unread e) y

/-- Batch 0 of the exponent buffer read back over the stores. -/
theorem readAt_ePieces0 (m : Memref sig .tc .vmem S320x1536 .i32) (hm : m.IsWhole) (e : Vec F S320x1536 .i32) (v : Vec F S1536x256 .bf16)
    (t : ℕ) {o : Fin 2 → ℕ} (h) (ho : o = ![8 * t, 0]) :
    (m.view.readAt (Elt F) (Rect.unit (s := S320x1536) ![0, 0] S320x768.size inb_S320x1536_S320x768_0_0).toLoadRect
      (m.view.writes (Elt F) (hm.unread e) (ePieces o h v)) : Vec F S320x768 .i32) = eHalf 0 (eNew v t e) := by
  funext q
  refine (congrFun (read_ePieces m hm e v t h ho) _).trans (congrArg (eNew v t e) (funext fun a => Fin.ext ?_))
  match a with
  | ⟨0, _⟩ => show 0 + 1 * (q 0).val = (q 0).val; omega
  | ⟨1, _⟩ => show 0 + 1 * (q 1).val = 768 * 0 + (q 1).val; omega

theorem rsTile_at0 (e : Vec F S320x1536 .i32) (x : S1x320x768.Idx) (y : S2x320x768.Idx) (h0 : (y 0).val = 0) (h1 : (y 1).val = (x 1).val) (h2 : (y 2).val = (x 2).val) :
    k0_pay21 (F := F) (eHalf 0 e) x = rsTile e y := by
  unfold rsTile
  rw [if_pos h0]
  refine congrArg (k0_pay21 (F := F) (eHalf 0 e)) (funext fun a => Fin.ext ?_)
  match a with
  | ⟨0, _⟩ => show (x 0).val = 0; have h : (x 0).val < 1 := (x 0).isLt; omega
  | ⟨1, _⟩ => show (x 1).val = (y 1).val; omega
  | ⟨2, _⟩ => show (x 2).val = (y 2).val; omega

/-- Batch 1 of the exponent buffer read back over the stores. -/
theorem readAt_ePieces1 (m : Memref sig .tc .vmem S320x1536 .i32) (hm : m.IsWhole) (e : Vec F S320x1536 .i32) (v : Vec F S1536x256 .bf16)
    (t : ℕ) {o : Fin 2 → ℕ} (h) (ho : o = ![8 * t, 0]) :
    (m.view.readAt (Elt F) (Rect.unit (s := S320x1536) ![0, 768] S320x768.size inb_S320x1536_S320x768_0_768).toLoadRect
      (m.view.writes (Elt F) (hm.unread e) (ePieces o h v)) : Vec F S320x768 .i32) = eHalf 1 (eNew v t e) := by
  funext q
  refine (congrFun (read_ePieces m hm e v t h ho) _).trans (congrArg (eNew v t e) (funext fun a => Fin.ext ?_))
  match a with
  | ⟨0, _⟩ => show 0 + 1 * (q 0).val = (q 0).val; omega
  | ⟨1, _⟩ => show 768 + 1 * (q 1).val = 768 * 1 + (q 1).val; omega

theorem rsTile_at1 (e : Vec F S320x1536 .i32) (x : S1x320x768.Idx) (y : S2x320x768.Idx) (h0 : (y 0).val = 1) (h1 : (y 1).val = (x 1).val) (h2 : (y 2).val = (x 2).val) :
    k0_pay22 (F := F) (eHalf 1 e) x = rsTile e y := by
  unfold rsTile
  rw [if_neg (by omega)]
  refine congrArg (k0_pay22 (F := F) (eHalf 1 e)) (funext fun a => Fin.ext ?_)
  match a with
  | ⟨0, _⟩ => show (x 0).val = 0; have h : (x 0).val < 1 := (x 0).isLt; omega
  | ⟨1, _⟩ => show (x 1).val = (y 1).val; omega
  | ⟨2, _⟩ => show (x 2).val = (y 2).val; omega

/-- The row scales, as stored. -/
def rsPieces (a b : Vec F S320x768 .i32) : List (View.Piece (Elt F) S2x320x768 .i8) :=
  [⟨Rect.unit (s := S2x320x768) ![1, 0, 0] S1x320x768.size inb_S2x320x768_S1x320x768_1_0_0, k0_pay22 (F := F) b⟩,
   ⟨Rect.unit (s := S2x320x768) ![0, 0, 0] S1x320x768.size inb_S2x320x768_S1x320x768_0_0_0, k0_pay21 (F := F) a⟩]

theorem read_rsPieces (m : Memref sig .tc .vmem S2x320x768 .i8) (f) (e : Vec F S320x1536 .i32) :
    m.view.read (Elt F) (m.view.writes (Elt F) f (rsPieces (eHalf 0 e) (eHalf 1 e))) = rsTile e := by
  funext y
  refine View.read_writes_apply_of_pieces (v := m.view) (f := f) (rsTile e) (rsPieces (eHalf 0 e) (eHalf 1 e)) ?_ y (View.cover_of_tiledL (s := S2x320x768) (rsPieces (eHalf 0 e) (eHalf 1 e)) S1x320x768.size (by sl_kernel_rfl) y)
  intro p hp x
  simp only [rsPieces, List.mem_cons, List.not_mem_nil, _root_.or_false] at hp
  rcases hp with rfl | rfl
  · exact rsTile_at1 e x _ (by show 1 + 1 * (x 0).val = 1; have h : (x 0).val < 1 := (x 0).isLt; omega) (by show 0 + 1 * (x 1).val = (x 1).val; omega) (by show 0 + 1 * (x 2).val = (x 2).val; omega)
  · exact rsTile_at0 e x _ (by show 0 + 1 * (x 0).val = 0; have h : (x 0).val < 1 := (x 0).isLt; omega) (by show 0 + 1 * (x 1).val = (x 1).val; omega) (by show 0 + 1 * (x 2).val = (x 2).val; omega)

end Cert.KernelDyIdeal.Hand

end
-- ==== Proof.DyExecA.lean ====
/- The body that quantises the gradient, at a point before the last: the run with the contents the stores leave read back as values. -/
module

public import proofs.«01_k».proof.Proof.DyTiles

@[expose] public section

set_option maxRecDepth 16384

noncomputable section

namespace Cert.KernelDyIdeal.Hand

open Cert.KernelDyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point before the last, by what the buffers hold after it. -/
theorem exec_A (c : Dev nD) (i : grid0.Coords) (arg1 : Memref sig .tc .vmem S1536x256 .bf16) (harg1 : arg1.IsWhole) (arg2 : Memref sig .tc .vmem S1536x256 .fp8e4m3) (harg2 : arg2.IsWhole) (arg3 : Memref sig .tc .vmem S2x320x768 .i8) (harg3 : arg3.IsWhole) (arg4 : Memref sig .tc .vmem S2x256x768 .fp8e4m3) (harg4 : arg4.IsWhole) (arg5 : Memref sig .tc .vmem S2x24x256 .i8) (harg5 : arg5.IsWhole) (arg6 : Memref sig .tc .vmem S1536x256 .bf16) (harg6 : arg6.IsWhole) (arg7 : Memref sig .tc .vmem S256x1536 .bf16) (harg7 : arg7.IsWhole) (arg8 : Memref sig .tc .vmem S320x1536 .i32) (harg8 : arg8.IsWhole) (hc0 : ¬cond0_0 i)
    (x0 : Vec F S1536x256 .bf16) (xs : Vec F S320x1536 .i32)
    (E : Set ℕ) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
      ∗ (iprop(owns (c : Thread nD τ) arg1 fullShare x0 ∗ owns (c : Thread nD τ) arg2 fullShare (rcTile x0) ∗ (∃ d, owns (c : Thread nD τ) arg3 fullShare d) ∗ owns (c : Thread nD τ) arg4 fullShare (ccTile x0) ∗ owns (c : Thread nD τ) arg5 fullShare (csTile x0) ∗ owns (c : Thread nD τ) arg6 fullShare (rwTile x0) ∗ owns (c : Thread nD τ) arg7 fullShare (cwTile x0) ∗ owns (c : Thread nD τ) arg8 fullShare (eNew x0 (i 0).val xs)) -∗ K ⟨⟩))
    ⊢ wp frame (wpE (defs₀ (F := F)) Variants.none c none) E (cc0_prep i arg1 harg1 arg2 harg2 arg3 harg3 arg4 harg4 arg5 harg5 arg6 harg6 arg7 harg7 arg8 harg8) K := by
  have h2 : (run_A c i arg1 harg1 arg2 harg2 arg3 harg3 arg4 harg4 arg5 harg5 arg6 harg6 arg7 harg7 arg8 harg8 hc0 x0 xs).1 = [⟨Rect.unit (s := S1536x256) ![0, 0] S1536x256.size inb_S1536x256_S1536x256_0_0, rcTile x0⟩] := by
    conv_rhs => rw [← rdIn_eq arg1 harg1 x0]
    rfl
  have h4 : (run_A c i arg1 harg1 arg2 harg2 arg3 harg3 arg4 harg4 arg5 harg5 arg6 harg6 arg7 harg7 arg8 harg8 hc0 x0 xs).2.1 = ccPieces x0 := by
    conv_rhs => rw [← rdIn_eq arg1 harg1 x0]
    rfl
  have h5 : (run_A c i arg1 harg1 arg2 harg2 arg3 harg3 arg4 harg4 arg5 harg5 arg6 harg6 arg7 harg7 arg8 harg8 hc0 x0 xs).2.2.1 = [⟨Rect.unit (s := S2x24x256) ![0, 0, 0] S2x24x256.size inb_S2x24x256_S2x24x256_0_0_0, csTile x0⟩] := by
    conv_rhs => rw [← rdIn_eq arg1 harg1 x0]
    rfl
  have h6 : (run_A c i arg1 harg1 arg2 harg2 arg3 harg3 arg4 harg4 arg5 harg5 arg6 harg6 arg7 harg7 arg8 harg8 hc0 x0 xs).2.2.2.1 = [⟨Rect.unit (s := S1536x256) ![0, 0] S1536x256.size inb_S1536x256_S1536x256_0_0, rwTile x0⟩] := by
    conv_rhs => rw [← rdIn_eq arg1 harg1 x0]
    rfl
  have h7 : (run_A c i arg1 harg1 arg2 harg2 arg3 harg3 arg4 harg4 arg5 harg5 arg6 harg6 arg7 harg7 arg8 harg8 hc0 x0 xs).2.2.2.2.1 = [⟨Rect.unit (s := S256x1536) ![0, 0] S256x1536.size inb_S256x1536_S256x1536_0_0, cwTile x0⟩] := by
    conv_rhs => rw [← rdIn_eq arg1 harg1 x0]
    rfl
  have hE : (run_A c i arg1 harg1 arg2 harg2 arg3 harg3 arg4 harg4 arg5 harg5 arg6 harg6 arg7 harg7 arg8 harg8 hc0 x0 xs).2.2.2.2.2.1 = ePieces (k0_off1 i) (k0_off1_inb i) x0 := by
    conv_rhs => rw [← rdIn_eq arg1 harg1 x0]
    rfl
  iintro ⟨H1, H2, H3, H4, H5, H6, H7, HS, Hk⟩
  iapply ((run_A c i arg1 harg1 arg2 harg2 arg3 harg3 arg4 harg4 arg5 harg5 arg6 harg6 arg7 harg7 arg8 harg8 hc0 x0 xs).2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H1, ⟨%f2, H2⟩, H3, ⟨%f4, H4⟩, ⟨%f5, H5⟩, ⟨%f6, H6⟩, ⟨%f7, H7⟩, HS⟩
  iapply Hk
  isplitl [H1]; · iexact H1
  isplitl [H2]
  · unfold owns
    iexists _; isplitr; swap; · iexact H2
    ipureintro; rw [h2]; exact whole_store _ _ _ _ (fun _ => rfl)
  isplitl [H3]; · iexact H3
  isplitl [H4]
  · unfold owns
    iexists _; isplitr; swap; · iexact H4
    ipureintro; rw [h4]; exact read_ccPieces _ _ _
  isplitl [H5]
  · unfold owns
    iexists _; isplitr; swap; · iexact H5
    ipureintro; rw [h5]; exact whole_store _ _ _ _ (fun _ => rfl)
  isplitl [H6]
  · unfold owns
    iexists _; isplitr; swap; · iexact H6
    ipureintro; rw [h6]; exact whole_store _ _ _ _ (fun _ => rfl)
  isplitl [H7]
  · unfold owns
    iexists _; isplitr; swap; · iexact H7
    ipureintro; rw [h7]; exact whole_store _ _ _ _ (fun _ => rfl)
  unfold owns
  iexists _; isplitr; swap; · iexact HS
  ipureintro; rw [hE]; exact read_ePieces arg8 harg8 xs x0 _ _ (k0_off1_eq i)

end Cert.KernelDyIdeal.Hand

end
-- ==== Proof.DyExecB.lean ====
/- The body that quantises the gradient, at the last point: the run with the contents the stores leave read back as values. -/
module

public import proofs.«01_k».proof.Proof.DyTiles

@[expose] public section

set_option maxRecDepth 16384

noncomputable section

namespace Cert.KernelDyIdeal.Hand

open Cert.KernelDyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point, by what the buffers hold after it. -/
theorem exec_B (c : Dev nD) (i : grid0.Coords) (arg1 : Memref sig .tc .vmem S1536x256 .bf16) (harg1 : arg1.IsWhole) (arg2 : Memref sig .tc .vmem S1536x256 .fp8e4m3) (harg2 : arg2.IsWhole) (arg3 : Memref sig .tc .vmem S2x320x768 .i8) (harg3 : arg3.IsWhole) (arg4 : Memref sig .tc .vmem S2x256x768 .fp8e4m3) (harg4 : arg4.IsWhole) (arg5 : Memref sig .tc .vmem S2x24x256 .i8) (harg5 : arg5.IsWhole) (arg6 : Memref sig .tc .vmem S1536x256 .bf16) (harg6 : arg6.IsWhole) (arg7 : Memref sig .tc .vmem S256x1536 .bf16) (harg7 : arg7.IsWhole) (arg8 : Memref sig .tc .vmem S320x1536 .i32) (harg8 : arg8.IsWhole) (hc0 : cond0_0 i)
    (x0 : Vec F S1536x256 .bf16) (xs : Vec F S320x1536 .i32)
    (E : Set ℕ) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
      ∗ (iprop(owns (c : Thread nD τ) arg1 fullShare x0 ∗ owns (c : Thread nD τ) arg2 fullShare (rcTile x0) ∗ owns (c : Thread nD τ) arg3 fullShare (rsTile (eNew x0 (i 0).val xs)) ∗ owns (c : Thread nD τ) arg4 fullShare (ccTile x0) ∗ owns (c : Thread nD τ) arg5 fullShare (csTile x0) ∗ owns (c : Thread nD τ) arg6 fullShare (rwTile x0) ∗ owns (c : Thread nD τ) arg7 fullShare (cwTile x0) ∗ owns (c : Thread nD τ) arg8 fullShare (eNew x0 (i 0).val xs)) -∗ K ⟨⟩))
    ⊢ wp frame (wpE (defs₀ (F := F)) Variants.none c none) E (cc0_prep i arg1 harg1 arg2 harg2 arg3 harg3 arg4 harg4 arg5 harg5 arg6 harg6 arg7 harg7 arg8 harg8) K := by
  have h2 : (run_B c i arg1 harg1 arg2 harg2 arg3 harg3 arg4 harg4 arg5 harg5 arg6 harg6 arg7 harg7 arg8 harg8 hc0 x0 xs).1 = [⟨Rect.unit (s := S1536x256) ![0, 0] S1536x256.size inb_S1536x256_S1536x256_0_0, rcTile x0⟩] := by
    conv_rhs => rw [← rdIn_eq arg1 harg1 x0]
    rfl
  have h4 : (run_B c i arg1 harg1 arg2 harg2 arg3 harg3 arg4 harg4 arg5 harg5 arg6 harg6 arg7 harg7 arg8 harg8 hc0 x0 xs).2.2.1 = ccPieces x0 := by
    conv_rhs => rw [← rdIn_eq arg1 harg1 x0]
    rfl
  have h5 : (run_B c i arg1 harg1 arg2 harg2 arg3 harg3 arg4 harg4 arg5 harg5 arg6 harg6 arg7 harg7 arg8 harg8 hc0 x0 xs).2.2.2.1 = [⟨Rect.unit (s := S2x24x256) ![0, 0, 0] S2x24x256.size inb_S2x24x256_S2x24x256_0_0_0, csTile x0⟩] := by
    conv_rhs => rw [← rdIn_eq arg1 harg1 x0]
    rfl
  have h6 : (run_B c i arg1 harg1 arg2 harg2 arg3 harg3 arg4 harg4 arg5 harg5 arg6 harg6 arg7 harg7 arg8 harg8 hc0 x0 xs).2.2.2.2.1 = [⟨Rect.unit (s := S1536x256) ![0, 0] S1536x256.size inb_S1536x256_S1536x256_0_0, rwTile x0⟩] := by
    conv_rhs => rw [← rdIn_eq arg1 harg1 x0]
    rfl
  have h7 : (run_B c i arg1 harg1 arg2 harg2 arg3 harg3 arg4 harg4 arg5 harg5 arg6 harg6 arg7 harg7 arg8 harg8 hc0 x0 xs).2.2.2.2.2.1 = [⟨Rect.unit (s := S256x1536) ![0, 0] S256x1536.size inb_S256x1536_S256x1536_0_0, cwTile x0⟩] := by
    conv_rhs => rw [← rdIn_eq arg1 harg1 x0]
    rfl
  have hE : (run_B c i arg1 harg1 arg2 harg2 arg3 harg3 arg4 harg4 arg5 harg5 arg6 harg6 arg7 harg7 arg8 harg8 hc0 x0 xs).2.2.2.2.2.2.1 = ePieces (k0_off1 i) (k0_off1_inb i) x0 := by
    conv_rhs => rw [← rdIn_eq arg1 harg1 x0]
    rfl
  have h3 : (run_B c i arg1 harg1 arg2 harg2 arg3 harg3 arg4 harg4 arg5 harg5 arg6 harg6 arg7 harg7 arg8 harg8 hc0 x0 xs).2.1 = rsPieces (arg8.view.readAt (Elt F) (Rect.unit (s := S320x1536) ![0, 0] S320x768.size inb_S320x1536_S320x768_0_0).toLoadRect
      (arg8.view.writes (Elt F) (harg8.unread xs) (run_B c i arg1 harg1 arg2 harg2 arg3 harg3 arg4 harg4 arg5 harg5 arg6 harg6 arg7 harg7 arg8 harg8 hc0 x0 xs).2.2.2.2.2.2.1)) (arg8.view.readAt (Elt F) (Rect.unit (s := S320x1536) ![0, 768] S320x768.size inb_S320x1536_S320x768_0_768).toLoadRect
      (arg8.view.writes (Elt F) (harg8.unread xs) (run_B c i arg1 harg1 arg2 harg2 arg3 harg3 arg4 harg4 arg5 harg5 arg6 harg6 arg7 harg7 arg8 harg8 hc0 x0 xs).2.2.2.2.2.2.1)) := rfl
  rw [hE, readAt_ePieces0 arg8 harg8 xs x0 _ _ (k0_off1_eq i), readAt_ePieces1 arg8 harg8 xs x0 _ _ (k0_off1_eq i)] at h3
  iintro ⟨H1, H2, H3, H4, H5, H6, H7, HS, Hk⟩
  iapply ((run_B c i arg1 harg1 arg2 harg2 arg3 harg3 arg4 harg4 arg5 harg5 arg6 harg6 arg7 harg7 arg8 harg8 hc0 x0 xs).2.2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H1, ⟨%f2, H2⟩, ⟨%f3, H3⟩, ⟨%f4, H4⟩, ⟨%f5, H5⟩, ⟨%f6, H6⟩, ⟨%f7, H7⟩, HS⟩
  iapply Hk
  isplitl [H1]; · iexact H1
  isplitl [H2]
  · unfold owns
    iexists _; isplitr; swap; · iexact H2
    ipureintro; rw [h2]; exact whole_store _ _ _ _ (fun _ => rfl)
  isplitl [H3]
  · unfold owns
    iexists _; isplitr; swap; · iexact H3
    ipureintro; rw [h3]; exact read_rsPieces _ _ _
  isplitl [H4]
  · unfold owns
    iexists _; isplitr; swap; · iexact H4
    ipureintro; rw [h4]; exact read_ccPieces _ _ _
  isplitl [H5]
  · unfold owns
    iexists _; isplitr; swap; · iexact H5
    ipureintro; rw [h5]; exact whole_store _ _ _ _ (fun _ => rfl)
  isplitl [H6]
  · unfold owns
    iexists _; isplitr; swap; · iexact H6
    ipureintro; rw [h6]; exact whole_store _ _ _ _ (fun _ => rfl)
  isplitl [H7]
  · unfold owns
    iexists _; isplitr; swap; · iexact H7
    ipureintro; rw [h7]; exact whole_store _ _ _ _ (fun _ => rfl)
  unfold owns
  iexists _; isplitr; swap; · iexact HS
  ipureintro; rw [hE]; exact read_ePieces arg8 harg8 xs x0 _ _ (k0_off1_eq i)

end Cert.KernelDyIdeal.Hand

end
-- ==== Proof.DyBody.lean ====
/- The body that quantises the gradient at any point of the grid, the exponent buffer carried from one point to the next,
   and the run of the whole call. What the buffer holds is any property `R` that the steps of the body keep. -/
module

public import proofs.«01_k».proof.Proof.DyExecA
public import proofs.«01_k».proof.Proof.DyExecB
public import Idealize.ShloMosaic.Lib.Pipeline.ArrRel
public import Idealize.ShloMosaic.Lib.Pipeline.DatRel

@[expose] public section

set_option maxRecDepth 16384

noncomputable section

namespace Cert.KernelDyIdeal.Hand

open Cert.KernelDyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (R : Dev nD → ℕ → Vec F S320x1536 .i32 → Prop)

/-- The exponent buffer at the contents `e`. -/
def scr (c : Dev nD) (e : Vec F S320x1536 .i32) : sProp 𝕄 :=
  iprop(owns (c : Thread nD τ) scM0_0 fullShare e ∗ (∃ r, prngReg c r))

/-- The invariant before point `n`. -/
def PhiS (c : Dev nD) (n : ℕ) : sProp 𝕄 := iprop(∃ e, ⌜n = 0 ∨ R c n e⌝ ∗ scr c e)

/-- The windows of the results. -/
def results0 : Fin 7 → Bool := fun w => w.val == 1 || w.val == 2 || w.val == 3 || w.val == 4 || w.val == 5 || w.val == 6

/-- What the body leaves in the windows of the results. -/
def Rl (c : Dev nD) : (w : Fin cfg0.W) → Fin cfg0.N → ((cfg0.win w).block.Idx → Elt F (cfg0.win w).elt) → Prop := fun w t => match w with
  | ⟨1, _⟩ => fun X => X = rcTile (F := F) (iblk m c 0 t)
  | ⟨2, _⟩ => fun X => cond0_0 (grid0.coords t) → ∃ e, R c (t.val + 1) e ∧ X = rsTile (F := F) e
  | ⟨3, _⟩ => fun X => X = ccTile (F := F) (iblk m c 0 t)
  | ⟨4, _⟩ => fun X => X = csTile (F := F) (iblk m c 0 t)
  | ⟨5, _⟩ => fun X => X = rwTile (F := F) (iblk m c 0 t)
  | ⟨6, _⟩ => fun X => X = cwTile (F := F) (iblk m c 0 t)
  | _ => fun _ => True

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ t := PhiS R c t.val
  q _ := fullShare
  owed _ := 0

theorem A_eq (c : Dev nD) (w : Fin cfg0.W) : (dats m R 0 c).A w = V m c (Pipeline.arrRef spec0 w) := by dsimp only [dats]

theorem after0_0 (c : Dev nD) (t : Fin cfg0.N) : (dats m R 0 c).after 0 t = iblk m c 0 t := by dsimp only [dats]
theorem before0_0 (c : Dev nD) (t : Fin cfg0.N) (d) : (dats m R 0 c).before 0 t d = iblk m c 0 t :=
  before0_0_of m (dats m R 0 c) (A_eq m R c 0) (after0_0 m R c) t d

def bodyPre (c : Dev nD) (t : Fin cfg0.N) : sProp 𝕄 :=
  iprop((dats m R 0 c).Φ t.castSucc ∗ (dats m R 0 c).owesAt () t.castSucc
    ∗ (∃ d, owns (c : Thread nD τ) (ms0_0 t) fullShare ((dats m R 0 c).before 0 t d))
    ∗ (∃ Y, ⌜((dats m R 0 c).toRRel results0 (Rl m R c)).Finds 1 t Y⌝ ∗ owns (c : Thread nD τ) (ms0_1 t) fullShare Y)
    ∗ (∃ Y, ⌜((dats m R 0 c).toRRel results0 (Rl m R c)).Finds 2 t Y⌝ ∗ owns (c : Thread nD τ) (ms0_2 t) fullShare Y)
    ∗ (∃ Y, ⌜((dats m R 0 c).toRRel results0 (Rl m R c)).Finds 3 t Y⌝ ∗ owns (c : Thread nD τ) (ms0_3 t) fullShare Y)
    ∗ (∃ Y, ⌜((dats m R 0 c).toRRel results0 (Rl m R c)).Finds 4 t Y⌝ ∗ owns (c : Thread nD τ) (ms0_4 t) fullShare Y)
    ∗ (∃ Y, ⌜((dats m R 0 c).toRRel results0 (Rl m R c)).Finds 5 t Y⌝ ∗ owns (c : Thread nD τ) (ms0_5 t) fullShare Y)
    ∗ (∃ Y, ⌜((dats m R 0 c).toRRel results0 (Rl m R c)).Finds 6 t Y⌝ ∗ owns (c : Thread nD τ) (ms0_6 t) fullShare Y))

def bodyPost (c : Dev nD) (t : Fin cfg0.N) : sProp 𝕄 :=
  iprop((dats m R 0 c).Φ t.succ ∗ (dats m R 0 c).owesAt () t.succ
    ∗ owns (c : Thread nD τ) (ms0_0 t) fullShare ((dats m R 0 c).after 0 t)
    ∗ (∃ X, ⌜Rl m R c 1 t X⌝ ∗ owns (c : Thread nD τ) (ms0_1 t) fullShare X)
    ∗ (∃ X, ⌜Rl m R c 2 t X⌝ ∗ owns (c : Thread nD τ) (ms0_2 t) fullShare X)
    ∗ (∃ X, ⌜Rl m R c 3 t X⌝ ∗ owns (c : Thread nD τ) (ms0_3 t) fullShare X)
    ∗ (∃ X, ⌜Rl m R c 4 t X⌝ ∗ owns (c : Thread nD τ) (ms0_4 t) fullShare X)
    ∗ (∃ X, ⌜Rl m R c 5 t X⌝ ∗ owns (c : Thread nD τ) (ms0_5 t) fullShare X)
    ∗ (∃ X, ⌜Rl m R c 6 t X⌝ ∗ owns (c : Thread nD τ) (ms0_6 t) fullShare X))

/-- The steps of the body keep `R`. -/
def Keeps : Prop := ∀ (c : Dev nD) (t : Fin cfg0.N) (e : Vec F S320x1536 .i32), (t.val = 0 ∨ R c t.val e) →
  R c (t.val + 1) (eNew (F := F) (iblk m c 0 t) (grid0.coords t 0).val e)

theorem coords_val0 : ∀ t : Fin cfg0.N, (grid0.coords t 0).val = t.val := (by decide +kernel : ∀ t : Fin grid0.N, (grid0.coords t 0).val = t.val)

variable {m R}

set_option maxHeartbeats 1000000 in
/-- The body at a point before the last. -/
theorem sound_A (hR : Keeps m R) (c : Dev nD) (t : Fin cfg0.N) (hc0 : ¬cond0_0 (grid0.coords t)) :
    bodyPre m R c t ⊢ wp frame (wpE (defs₀ (F := F)) Variants.none c none) Set.univ (bodyAt0 t) (fun _ => bodyPost m R c t) := by
  unfold bodyPre bodyPost bodyAt0
  simp only [before0_0]
  rw [show (dats m R 0 c).owesAt () t.succ = (dats m R 0 c).owesAt () t.castSucc from rfl,
    show (dats m R 0 c).Φ t.succ = PhiS R c (t.val + 1) from rfl, show (dats m R 0 c).Φ t.castSucc = PhiS R c t.val from rfl, after0_0]
  unfold PhiS scr
  iintro ⟨⟨%e, %he, HS, Hg⟩, Ho, ⟨%d0, H0⟩, ⟨%Y1, -, H1⟩, ⟨%Y2, -, H2⟩, ⟨%Y3, -, H3⟩, ⟨%Y4, -, H4⟩, ⟨%Y5, -, H5⟩, ⟨%Y6, -, H6⟩⟩
  have hst := hR c t e he
  iapply (exec_A c (grid0.coords t) _ (hs0_0 t) _ (hs0_1 t) _ (hs0_2 t) _ (hs0_3 t) _ (hs0_4 t) _ (hs0_5 t) _ (hs0_6 t) _ (Memref.isWhole_whole _) hc0 (iblk m c 0 t) e Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [HS]; · iexact HS
  iintro ⟨H0, H1, ⟨%f2, H2⟩, H3, H4, H5, H6, HS⟩
  isplitl [HS Hg]
  · iexists _
    isplitr; swap
    · isplitl [HS]; · iexact HS
      iexact Hg
    · ipureintro; exact Or.inr hst
  isplitl [Ho]; · iexact Ho
  isplitl [H0]; · iexact H0
  isplitl [H1]
  · iexists _
    isplitr; swap
    · iexact H1
    · ipureintro; rfl
  isplitl [H2]
  · iexists _
    isplitr; swap
    · iexact H2
    · ipureintro; exact fun h => absurd h hc0
  isplitl [H3]
  · iexists _
    isplitr; swap
    · iexact H3
    · ipureintro; rfl
  isplitl [H4]
  · iexists _
    isplitr; swap
    · iexact H4
    · ipureintro; rfl
  isplitl [H5]
  · iexists _
    isplitr; swap
    · iexact H5
    · ipureintro; rfl
  iexists _
  isplitr; swap
  · iexact H6
  · ipureintro; rfl

set_option maxHeartbeats 1000000 in
/-- The body at the last point. -/
theorem sound_B (hR : Keeps m R) (c : Dev nD) (t : Fin cfg0.N) (hc0 : cond0_0 (grid0.coords t)) :
    bodyPre m R c t ⊢ wp frame (wpE (defs₀ (F := F)) Variants.none c none) Set.univ (bodyAt0 t) (fun _ => bodyPost m R c t) := by
  unfold bodyPre bodyPost bodyAt0
  simp only [before0_0]
  rw [show (dats m R 0 c).owesAt () t.succ = (dats m R 0 c).owesAt () t.castSucc from rfl,
    show (dats m R 0 c).Φ t.succ = PhiS R c (t.val + 1) from rfl, show (dats m R 0 c).Φ t.castSucc = PhiS R c t.val from rfl, after0_0]
  unfold PhiS scr
  iintro ⟨⟨%e, %he, HS, Hg⟩, Ho, ⟨%d0, H0⟩, ⟨%Y1, -, H1⟩, ⟨%Y2, -, H2⟩, ⟨%Y3, -, H3⟩, ⟨%Y4, -, H4⟩, ⟨%Y5, -, H5⟩, ⟨%Y6, -, H6⟩⟩
  have hst := hR c t e he
  iapply (exec_B c (grid0.coords t) _ (hs0_0 t) _ (hs0_1 t) _ (hs0_2 t) _ (hs0_3 t) _ (hs0_4 t) _ (hs0_5 t) _ (hs0_6 t) _ (Memref.isWhole_whole _) hc0 (iblk m c 0 t) e Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [HS]; · iexact HS
  iintro ⟨H0, H1, H2, H3, H4, H5, H6, HS⟩
  isplitl [HS Hg]
  · iexists _
    isplitr; swap
    · isplitl [HS]; · iexact HS
      iexact Hg
    · ipureintro; exact Or.inr hst
  isplitl [Ho]; · iexact Ho
  isplitl [H0]; · iexact H0
  isplitl [H1]
  · iexists _
    isplitr; swap
    · iexact H1
    · ipureintro; rfl
  isplitl [H2]
  · iexists _
    isplitr; swap
    · iexact H2
    · ipureintro; exact fun _ => ⟨_, hst, rfl⟩
  isplitl [H3]
  · iexists _
    isplitr; swap
    · iexact H3
    · ipureintro; rfl
  isplitl [H4]
  · iexists _
    isplitr; swap
    · iexact H4
    · ipureintro; rfl
  isplitl [H5]
  · iexists _
    isplitr; swap
    · iexact H5
    · ipureintro; rfl
  iexists _
  isplitr; swap
  · iexact H6
  · ipureintro; rfl

theorem sound_body (hR : Keeps m R) (c : Dev nD) (t : Fin cfg0.N) :
    bodyPre m R c t ⊢ wp frame (wpE (defs₀ (F := F)) Variants.none c none) Set.univ (bodyAt0 t) (fun _ => bodyPost m R c t) := by
  by_cases hc0 : cond0_0 (grid0.coords t)
  · exact sound_B hR c t hc0
  · exact sound_A hR c t hc0

theorem defs₀_row (t : Fin cfg0.N) : defs₀ (F := F) .tc cfg0.body (cfg0.bodyArgs t (cfg0.slots t)) = bodyAt0 t := by
  unfold defs₀; rw [Defs.onTc_tc]

/-- The body obligation, relationally. -/
theorem body_obligation (hR : Keeps m R) (c : Dev nD) :
    Pipeline.BodyObligationRel (dats (F := F) m R 0 c) (defs₀ (F := F)) Variants.none () Set.univ results0 (Rl m R c) := fun t => by
  rw [bigSep_W0, bigSep_W0, defs₀_row]
  exact triple_restated (sound_body hR c t) rfl .rfl fun _ => .rfl

theorem hin (c : Dev nD) : Pipeline.ΦA spec0 c ⊢ (dats m R 0 c).Φ 0 := by
  rw [show (dats m R 0 c).Φ 0 = PhiS R c 0 from rfl, PhiA0_eq]
  unfold PhiS scr
  iintro ⟨⟨%e, HS⟩, Hg⟩
  iexists e
  isplitr; swap
  · isplitl [HS]; · iexact HS
    iexact Hg
  · ipureintro; exact Or.inl rfl

theorem hout (c : Dev nD) : (dats m R 0 c).Φ (Fin.last cfg0.N) ⊢ Pipeline.ΦA spec0 c := by
  rw [show (dats m R 0 c).Φ (Fin.last cfg0.N) = PhiS R c cfg0.N from rfl, PhiA0_eq]
  unfold PhiS scr
  iintro ⟨%e, -, HS, Hg⟩
  isplitr [Hg]; swap
  · iexact Hg
  iexists _; iexact HS

set_option backward.isDefEq.respectTransparency.types false in
/-- The run of the call. -/
theorem run_main (hR : Keeps m R) : θ_run defs (onTc (τ := τ) (main (F := F))) (s₀ m ρ)
    (fun r => (Pipeline.RDat.FramePost (cfgs 0) (fun c => (dats m R 0 c).toRRel results0 (Rl m R c)) (V m)) r ∧ r.2.sem = fun _ => 0) :=
  Pipeline.RDat.θ_run_frame_track (Q' := _) cfgs (0 : Fin 1) launch0 defs₀ Variants.none (fun c => (dats m R 0 c).toRRel results0 (Rl m R c)) m ρ main
    (hbody := fun c => (body_obligation hR c).toRRel) (hshare := fun c => (dats m R 0 c).share_full fun _ => rfl)
    (howed := fun _ _ => rfl) (V := V m) (hmain := hmain m Variants.none) (hA := A_eq m R) (hin := hin (m := m) (R := R)) (hout := hout (m := m) (R := R))

/-- The argument after the run. -/
theorem unchanged_of {r : PUnit × MemSt nD τ sig (Elt F)}
    (h : Pipeline.RDat.FramePost (cfgs 0) (fun c => (dats m R 0 c).toRRel results0 (Rl m R c)) (V m) r) (c : Dev nD) :
    r.2.mem ((c.tc : Thread nD τ).loc main_arg0) = m ((c.tc : Thread nD τ).loc main_arg0) :=
  (Pipeline.RDat.FramePost.arr_in h c 0 rfl).trans ((A_eq m R c 0).trans (V_main_arg0 m c))

/-- The run leaves the argument and the semaphores as they were. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨unchanged_of h.1, h.2⟩) (run_main (R := fun _ _ _ => True) ρ fun _ _ _ _ => trivial)

end Cert.KernelDyIdeal.Hand

end
-- ==== Proof.DyVal.lean ====
/- What the body that quantises the gradient computes from a block, over the extended reals, read at an index. -/
module

public import proofs.«01_k».proof.Proof.DyTiles
public import proofs.«01_k».proof.Proof.Quant
public import Idealize.ShloMosaic.Lib.Pipeline.ValueKit

@[expose] public section

set_option maxRecDepth 16384

noncomputable section

namespace Cert.KernelDyIdeal.Hand

open Cert.KernelDyIdeal.Gen
open Idealize.ShloMosaic Idealize.ShloMosaic.TcCoe
open Cert.Quant

/-- The values of one block along a row: row `r`, columns `32 a` to `32 a + 32`. -/
def rblk (v : FVec Ideal S1536x256 .bf16) (r : Fin 1536) (a : Fin 8) : Fin 32 → EReal := fun j => v (ix2 r (⟨a.val * 32 + j.val, by omega⟩ : Fin 256))
/-- The values of one block down a column: column `b`, rows `32 a` to `32 a + 32`. -/
def cblk (v : FVec Ideal S1536x256 .bf16) (a : Fin 48) (b : Fin 256) : Fin 32 → EReal := fun j => v (ix2 (⟨a.val * 32 + j.val, by omega⟩ : Fin 1536) b)

theorem tCol_at (v : FVec Ideal S1536x256 .bf16) (a : Fin 48) (b : Fin 256) : k0_pay1 (F := Ideal) v (ix2 a b) = amax (cblk v a b) := by
  unfold amax cblk
  rw [← bot_bf16]
  pointwise [k0_pay1]
  rfl

theorem n3_at (v : FVec Ideal S1536x256 .bf16) (q : S48x256.Idx) :
    k0_pay2 (F := Ideal) v q = bstep (k0_pay1 (F := Ideal) v q) (bstep (k0_pay1 (F := Ideal) v q) (bstep (k0_pay1 (F := Ideal) v q) 0#32 128#32) 64#32) 32#32 := by
  unfold k0_pay2
  generalize k0_pay1 (F := Ideal) v = t
  generalize (0#32 : BitVec 32) = z
  rfl

theorem eC_at (t : FVec Ideal S48x256 .f32) (n : IVec S48x256 32) (q : S48x256.Idx) :
    k0_pay5 (F := Ideal) t n (cmpf .olt t (bitcastToFloat .f32 (shli (addi n (broadcast S48x256 16#32)) (broadcast S48x256 23#32)))) (broadcast S48x256 16#32) q
      = expOf (bstep (t q) (bstep (t q) (bstep (t q) (bstep (t q) (bstep (t q) (n q) 16#32) 8#32) 4#32) 2#32) 1#32) := rfl

theorem eCol_at (v : FVec Ideal S1536x256 .bf16) (a : Fin 48) (b : Fin 256) : eCol (F := Ideal) v (ix2 a b) = kerE (amax (cblk v a b)) := by
  rw [← tCol_at]
  unfold eCol k0_pay3 k0_pay4
  refine (eC_at _ _ _).trans ?_
  rw [n3_at]
  unfold kerE field field5 field2
  rfl

theorem code_at (v : FVec Ideal S1536x256 .bf16) (E : IVec S48x256 32) (k : Fin 1536) (b : Fin 256) :
    k0_pay6 (F := Ideal) v E 254#32 (ix2 k b) = clip (v (ix2 k b) * pw (IntOp.subi 254#32 (E (ix2 (⟨k.val / 32, by omega⟩ : Fin 48) b)))) := by
  pointwise [k0_pay6, clip, pw]

theorem colCode_at (v : FVec Ideal S1536x256 .bf16) (k : Fin 1536) (b : Fin 256) (h : Small (cblk v ⟨k.val / 32, by omega⟩ b)) :
    k0_pay6 (F := Ideal) v (eCol (F := Ideal) v) 254#32 (ix2 k b) = qcode (cblk v ⟨k.val / 32, by omega⟩ b) (v (ix2 k b)) := by
  rw [code_at, eCol_at, (block_eq h).2.1]

theorem cw_at (v : FVec Ideal S1536x256 .bf16) (E : IVec S48x256 32) (k : Fin 1536) (b : Fin 256) :
    k0_pay11 (F := Ideal) v E 254#32 (ix2 b k) = k0_pay6 (F := Ideal) v E 254#32 (ix2 k b) * pw (E (ix2 (⟨k.val / 32, by omega⟩ : Fin 48) b)) := by
  pointwise [k0_pay11, pw]

theorem cc0_at (v : FVec Ideal S1536x256 .bf16) (E : IVec S48x256 32) (z : Fin 1) (b : Fin 256) (r : Fin 768) :
    k0_pay8 (F := Ideal) v E 254#32 (ix3 z b r) = k0_pay6 (F := Ideal) v E 254#32 (ix2 (⟨r.val, by omega⟩ : Fin 1536) b) := by
  pointwise [k0_pay8, k0_pay7]

theorem cc1_at (v : FVec Ideal S1536x256 .bf16) (E : IVec S48x256 32) (z : Fin 1) (b : Fin 256) (r : Fin 768) :
    k0_pay9 (F := Ideal) v E 254#32 (ix3 z b r) = k0_pay6 (F := Ideal) v E 254#32 (ix2 (⟨768 + r.val, by omega⟩ : Fin 1536) b) := by
  pointwise [k0_pay9, k0_pay7]

theorem cs_at (E : IVec S48x256 32) (b : Fin 2) (a : Fin 24) (n : Fin 256) :
    k0_pay10 E (ix3 b a n) = (E (ix2 (⟨b.val * 24 + a.val, by omega⟩ : Fin 48) n)).setWidth 8 := by
  pointwise [k0_pay10]

theorem tRow_at (v : FVec Ideal S1536x256 .bf16) (a : Fin 8) (r : Fin 1536) : k0_pay13 (F := Ideal) v (ix2 a r) = amax (rblk v r a) := by
  unfold amax rblk
  rw [← bot_bf16]
  pointwise [k0_pay13, k0_pay12]
  rfl

theorem n8_at (v : FVec Ideal S1536x256 .bf16) (q : S8x1536.Idx) :
    k0_pay14 (F := Ideal) v q = bstep (k0_pay13 (F := Ideal) v q) (bstep (k0_pay13 (F := Ideal) v q) (bstep (k0_pay13 (F := Ideal) v q) (bstep (k0_pay13 (F := Ideal) v q) 0#32 128#32) 64#32) 32#32) 16#32 := by
  unfold k0_pay14
  generalize k0_pay13 (F := Ideal) v = t
  generalize (0#32 : BitVec 32) = z
  rfl

theorem e8_at (t : FVec Ideal S8x1536 .f32) (n : IVec S8x1536 32) (q : S8x1536.Idx) :
    k0_pay15 (F := Ideal) t n q = expOf (bstep (t q) (bstep (t q) (bstep (t q) (bstep (t q) (n q) 8#32) 4#32) 2#32) 1#32) := rfl

theorem eRow_at (v : FVec Ideal S1536x256 .bf16) (a : Fin 8) (r : Fin 1536) : eRow (F := Ideal) v (ix2 a r) = kerE (amax (rblk v r a)) := by
  rw [← tRow_at]
  unfold eRow
  refine (e8_at _ _ _).trans ?_
  rw [n8_at]
  unfold kerE field field5 field2
  rfl

theorem sRow_at (v : FVec Ideal S1536x256 .bf16) (q : S8x1536.Idx) : sRow (F := Ideal) v q = IntOp.subi 254#32 (eRow (F := Ideal) v q) := by
  unfold sRow eRow k0_pay16
  generalize k0_pay15 (F := Ideal) (k0_pay13 (F := Ideal) v) (k0_pay14 (F := Ideal) v) = E
  rfl

theorem rcT_at (v : FVec Ideal S1536x256 .bf16) (S : IVec S8x1536 32) (j : Fin 256) (r : Fin 1536) :
    k0_pay17 (F := Ideal) (k0_pay12 (F := Ideal) v) S (ix2 j r) = clip (v (ix2 r j) * pw (S (ix2 (⟨j.val / 32, by omega⟩ : Fin 8) r))) := by
  pointwise [k0_pay17, k0_pay12, clip, pw]

theorem rc_at (w : FVec Ideal S256x1536 .bf16) (S : IVec S8x1536 32) (r : Fin 1536) (j : Fin 256) :
    k0_pay18 (F := Ideal) w S (ix2 r j) = k0_pay17 (F := Ideal) w S (ix2 j r) := by
  pointwise [k0_pay18]

theorem rw_at (w : FVec Ideal S256x1536 .bf16) (E S : IVec S8x1536 32) (r : Fin 1536) (j : Fin 256) :
    k0_pay19 (F := Ideal) w E S (ix2 r j) = k0_pay17 (F := Ideal) w S (ix2 j r) * pw (E (ix2 (⟨j.val / 32, by omega⟩ : Fin 8) r)) := by
  pointwise [k0_pay19, pw]

theorem e_at (E : IVec S8x1536 32) (a : Fin 8) (r : Fin 1536) : k0_pay20 E (ix2 a r) = E (ix2 a r) := by
  pointwise [k0_pay20]

/-! ## The tiles -/

theorem rcTile_val (v : FVec Ideal S1536x256 .bf16) (r : Fin 1536) (j : Fin 256) (h : Small (rblk v r ⟨j.val / 32, by omega⟩)) :
    rcTile (F := Ideal) v (ix2 r j) = qcode (rblk v r ⟨j.val / 32, by omega⟩) (v (ix2 r j)) := by
  unfold rcTile
  rw [rc_at, rcT_at, sRow_at, eRow_at, (block_eq h).2.1]

theorem rwTile_val (v : FVec Ideal S1536x256 .bf16) (r : Fin 1536) (j : Fin 256) (h : Small (rblk v r ⟨j.val / 32, by omega⟩)) :
    rwTile (F := Ideal) v (ix2 r j) = qcode (rblk v r ⟨j.val / 32, by omega⟩) (v (ix2 r j)) * qscale (rblk v r ⟨j.val / 32, by omega⟩) := by
  unfold rwTile
  rw [rw_at, rcT_at, sRow_at, eRow_at, (block_eq h).2.1, (block_eq h).2.2]

theorem eTile_val (v : FVec Ideal S1536x256 .bf16) (a : Fin 8) (r : Fin 1536) (h : Small (rblk v r a)) : eTile (F := Ideal) v (ix2 a r) = qexp (rblk v r a) := by
  unfold eTile
  rw [e_at, eRow_at, (block_eq h).1]

theorem ccTile_val (v : FVec Ideal S1536x256 .bf16) (b : Fin 2) (n : Fin 256) (r : Fin 768) (K : Fin 1536) (hK : K.val = 768 * b.val + r.val) (h : Small (cblk v ⟨K.val / 32, by omega⟩ n)) :
    ccTile (F := Ideal) v (ix3 b n r) = qcode (cblk v ⟨K.val / 32, by omega⟩ n) (v (ix2 K n)) := by
  rw [← colCode_at v K n h]
  by_cases hb : b.val = 0
  · refine (if_pos (show ((ix3 b n r : S2x256x768.Idx) 0).val = 0 from hb)).trans ?_
    refine (cc0_at v _ 0 n r).trans ?_
    rw [show (⟨r.val, by omega⟩ : Fin 1536) = K from Fin.ext (by show r.val = K.val; omega)]
  · refine (if_neg (show ¬((ix3 b n r : S2x256x768.Idx) 0).val = 0 from hb)).trans ?_
    refine (cc1_at v _ 0 n r).trans ?_
    rw [show (⟨768 + r.val, by omega⟩ : Fin 1536) = K from Fin.ext (by show 768 + r.val = K.val; omega)]

theorem csTile_val (v : FVec Ideal S1536x256 .bf16) (b : Fin 2) (a : Fin 24) (n : Fin 256) (h : Small (cblk v ⟨b.val * 24 + a.val, by omega⟩ n)) :
    csTile (F := Ideal) v (ix3 b a n) = (qexp (cblk v ⟨b.val * 24 + a.val, by omega⟩ n)).setWidth 8 := by
  unfold csTile
  rw [cs_at, eCol_at, (block_eq h).1]

theorem cwTile_val (v : FVec Ideal S1536x256 .bf16) (k : Fin 1536) (n : Fin 256) (h : Small (cblk v ⟨k.val / 32, by omega⟩ n)) :
    cwTile (F := Ideal) v (ix2 n k) = qcode (cblk v ⟨k.val / 32, by omega⟩ n) (v (ix2 k n)) * qscale (cblk v ⟨k.val / 32, by omega⟩ n) := by
  unfold cwTile
  rw [cw_at, colCode_at v k n h, eCol_at, (block_eq h).2.2]

theorem rs0_at (e : IVec S320x768 32) (z : Fin 1) (q : Fin 320) (r : Fin 768) : k0_pay21 (F := Ideal) e (ix3 z q r) = (e (ix2 q r)).setWidth 8 := by
  pointwise [k0_pay21]

theorem rs1_at (e : IVec S320x768 32) (z : Fin 1) (q : Fin 320) (r : Fin 768) : k0_pay22 (F := Ideal) e (ix3 z q r) = (e (ix2 q r)).setWidth 8 := by
  pointwise [k0_pay22]

theorem rsTile_val (e : IVec S320x1536 32) (b : Fin 2) (q : Fin 320) (r : Fin 768) (R : Fin 1536) (hR : R.val = 768 * b.val + r.val) :
    rsTile (F := Ideal) e (ix3 b q r) = (e (ix2 q R)).setWidth 8 := by
  by_cases hb : b.val = 0
  · refine (if_pos (show ((ix3 b q r : S2x320x768.Idx) 0).val = 0 from hb)).trans ?_
    refine (rs0_at _ 0 q r).trans ?_
    unfold eHalf
    refine congrArg (fun i => (e i).setWidth 8) (funext fun a => Fin.ext ?_)
    match a with
    | ⟨0, _⟩ => rfl
    | ⟨1, _⟩ => show 768 * 0 + r.val = R.val; omega
  · refine (if_neg (show ¬((ix3 b q r : S2x320x768.Idx) 0).val = 0 from hb)).trans ?_
    refine (rs1_at _ 0 q r).trans ?_
    unfold eHalf
    refine congrArg (fun i => (e i).setWidth 8) (funext fun a => Fin.ext ?_)
    match a with
    | ⟨0, _⟩ => rfl
    | ⟨1, _⟩ => show 768 * 1 + r.val = R.val; omega

end Cert.KernelDyIdeal.Hand

end
-- ==== Proof.DyRef.lean ====
/- The results of the reference that quantises the gradient, over the extended reals, read at an index. -/
module

public import proofs.«01_k».proof.Proof.Gen.RefDyIdeal.Value
public import proofs.«01_k».proof.Proof.Quant
public import Idealize.ShloMosaic.Lib.Pipeline.ValueKit

@[expose] public section

set_option maxRecDepth 16384

noncomputable section

namespace Cert.RefDyIdeal.Hand

open Cert.RefDyIdeal.Gen
open Idealize.ShloMosaic Idealize.ShloMosaic.TcCoe
open Cert.Quant

/-- The values of one block along a row: row `r`, columns `32 a` to `32 a + 32`. -/
def rb (W : FVec Ideal S1536x10240 .bf16) (r : Fin 1536) (a : Fin 320) : Fin 32 → EReal := fun j => W (ix2 r (⟨a.val * 32 + j.val, by omega⟩ : Fin 10240))
/-- The values of one block down a column: column `n`, rows `32 a` to `32 a + 32`. -/
def cb (W : FVec Ideal S1536x10240 .bf16) (a : Fin 48) (n : Fin 10240) : Fin 32 → EReal := fun j => W (ix2 (⟨a.val * 32 + j.val, by omega⟩ : Fin 1536) n)

theorem row_step (t : FVec Ideal S2x768x320x1 .f32) (q : S2x768x320x1.Idx) :
    select (cmpf .olt t (broadcast S2x768x320x1 (Scalar.ofBits (F := Ideal) .f32 0x00800000#32))) (broadcast S2x768x320x1 0#32)
      (addi (fptosi 32 (floor (divf (log t) (broadcast S2x768x320x1 (Scalar.log (Scalar.ofBits (F := Ideal) .f32 0x40000000#32)))))) (broadcast S2x768x320x1 1#32)) q
      = refE (t q) := by
  unfold refE
  pointwise
  rw [fptosi_eq, scalar_log_eq]

theorem row_red (v : FVec Ideal S2x768x320x32 .f32) (b : Fin 2) (s : Fin 768) (a : Fin 320) :
    multiReduction .maximumf [3] S2x768x320 v 0xFF800000#32 reduces_S2x768x320x32_S2x768x320 (.inl rfl) rfl (ix3 b s a)
      = Finset.univ.fold max (Ideal.ofBits .f32 0xFF800000#32) fun j : Fin 32 => v (ix4 b s a j) := by
  pointwise

theorem row_scaled (u : FVec Ideal S2x768x320 .f32) (b : Fin 2) (s : Fin 768) (a : Fin 320) (z : Fin 1) :
    mulf (shapeCast S2x768x320x1 u shapeCasts_S2x768x320_S2x768x320x1) (broadcast S2x768x320x1 (Scalar.ofBits (F := Ideal) .f32 0x3B124925#32)) (ix4 b s a z)
      = u (ix3 b s a) * Ideal.ofBits .f32 0x3B124925#32 := by
  pointwise

theorem row_abs (W : FVec Ideal S1536x10240 .bf16) (b : Fin 2) (s : Fin 768) (a : Fin 320) (j : Fin 32) :
    absf (k0_pay8 (F := Ideal) W) (ix4 b s a j) = max (rb W (⟨b.val * 768 + s.val, by omega⟩ : Fin 1536) a j) (-(rb W (⟨b.val * 768 + s.val, by omega⟩ : Fin 1536) a j)) := by
  unfold rb
  pointwise [k0_pay8]
  rw [absf_eq]

theorem row_exp (W : FVec Ideal S1536x10240 .bf16) (b : Fin 2) (s : Fin 768) (a : Fin 320) (z : Fin 1) : k0_pay9 (F := Ideal) W (ix4 b s a z) = refE (amax (rb W (⟨b.val * 768 + s.val, by omega⟩ : Fin 1536) a)) := by
  unfold k0_pay9
  refine (row_step _ _).trans ?_
  rw [row_scaled, row_red, bot_f32]
  unfold amax
  rw [show (fun j : Fin 32 => absf (k0_pay8 (F := Ideal) W) (ix4 b s a j)) = fun j => max (rb W (⟨b.val * 768 + s.val, by omega⟩ : Fin 1536) a j) (-(rb W (⟨b.val * 768 + s.val, by omega⟩ : Fin 1536) a j)) from funext fun j => row_abs W b s a j]

theorem col_step (t : FVec Ideal S10240x48x1 .f32) (q : S10240x48x1.Idx) :
    select (cmpf .olt t (broadcast S10240x48x1 (Scalar.ofBits (F := Ideal) .f32 0x00800000#32))) (broadcast S10240x48x1 0#32)
      (addi (fptosi 32 (floor (divf (log t) (broadcast S10240x48x1 (Scalar.log (Scalar.ofBits (F := Ideal) .f32 0x40000000#32)))))) (broadcast S10240x48x1 1#32)) q
      = refE (t q) := by
  unfold refE
  pointwise
  rw [fptosi_eq, scalar_log_eq]

theorem col_red (v : FVec Ideal S10240x48x32 .f32) (n : Fin 10240) (a : Fin 48) :
    multiReduction .maximumf [2] S10240x48 v 0xFF800000#32 reduces_S10240x48x32_S10240x48 (.inl rfl) rfl (ix2 n a)
      = Finset.univ.fold max (Ideal.ofBits .f32 0xFF800000#32) fun j : Fin 32 => v (ix3 n a j) := by
  pointwise

theorem col_scaled (u : FVec Ideal S10240x48 .f32) (n : Fin 10240) (a : Fin 48) (z : Fin 1) :
    mulf (shapeCast S10240x48x1 u shapeCasts_S10240x48_S10240x48x1) (broadcast S10240x48x1 (Scalar.ofBits (F := Ideal) .f32 0x3B124925#32)) (ix3 n a z)
      = u (ix2 n a) * Ideal.ofBits .f32 0x3B124925#32 := by
  pointwise

theorem col_abs (W : FVec Ideal S1536x10240 .bf16) (n : Fin 10240) (a : Fin 48) (j : Fin 32) :
    absf (k0_pay15 (F := Ideal) W) (ix3 n a j) = max (cb W a n j) (-(cb W a n j)) := by
  unfold cb
  pointwise [k0_pay15]
  rw [absf_eq]

theorem col_exp (W : FVec Ideal S1536x10240 .bf16) (n : Fin 10240) (a : Fin 48) (z : Fin 1) : k0_pay16 (F := Ideal) W (ix3 n a z) = refE (amax (cb W a n)) := by
  unfold k0_pay16
  refine (col_step _ _).trans ?_
  rw [col_scaled, col_red, bot_f32]
  unfold amax
  rw [show (fun j : Fin 32 => absf (k0_pay15 (F := Ideal) W) (ix3 n a j)) = fun j => max (cb W a n j) (-(cb W a n j)) from funext fun j => col_abs W n a j]

/-- A row is the row of its batch. -/
theorem row_of (r : Fin 1536) : (⟨(⟨r.val / 768, by omega⟩ : Fin 2).val * 768 + (⟨r.val % 768, Nat.mod_lt _ (by decide)⟩ : Fin 768).val, by show r.val / 768 * 768 + r.val % 768 < 1536; omega⟩ : Fin 1536) = r :=
  Fin.ext (by show r.val / 768 * 768 + r.val % 768 = r.val; omega)

/-- The row codes, by batches. -/
theorem rc3_at (W : FVec Ideal S1536x10240 .bf16) (b : Fin 2) (s : Fin 768) (k : Fin 10240) :
    k0_pay10 (F := Ideal) W (ix3 b s k) = qcode (rb W (⟨b.val * 768 + s.val, by omega⟩ : Fin 1536) ⟨k.val / 32, by omega⟩) (W (ix2 (⟨b.val * 768 + s.val, by omega⟩ : Fin 1536) k)) := by
  unfold qcode clip
  rw [← row_exp W b s ⟨k.val / 32, by omega⟩ 0]
  pointwise [k0_pay10, k0_pay8]
  rw [exp2_eq, sitofp_eq]

theorem rc_cast (C : FVec Ideal S2x768x10240 .fp8e4m3) (r : Fin 1536) (k : Fin 10240) :
    shapeCast S1536x10240 C shapeCasts_S2x768x10240_S1536x10240 (ix2 r k) = C (ix3 (⟨r.val / 768, by omega⟩ : Fin 2) (⟨r.val % 768, Nat.mod_lt _ (by decide)⟩ : Fin 768) k) := by
  pointwise

/-- The row codes. -/
theorem rc_at (W : FVec Ideal S1536x10240 .bf16) (r : Fin 1536) (k : Fin 10240) : k0_pay12 (F := Ideal) W (ix2 r k) = qcode (rb W r ⟨k.val / 32, by omega⟩) (W (ix2 r k)) := by
  unfold k0_pay12
  refine (rc_cast _ r k).trans ?_
  rw [rc3_at, row_of]

/-- The row scales, before they are turned. -/
theorem rs3_at (W : FVec Ideal S1536x10240 .bf16) (b : Fin 2) (s : Fin 768) (a : Fin 320) :
    k0_pay11 (F := Ideal) W (ix3 b s a) = (qexp (rb W (⟨b.val * 768 + s.val, by omega⟩ : Fin 1536) a)).setWidth 8 := by
  unfold qexp
  rw [← row_exp W b s a 0]
  pointwise [k0_pay11]

/-- The row scales. -/
theorem rs_at (W : FVec Ideal S1536x10240 .bf16) (b : Fin 2) (s : Fin 768) (a : Fin 320) :
    k0_pay13 (F := Ideal) W (ix3 b a s) = (qexp (rb W (⟨b.val * 768 + s.val, by omega⟩ : Fin 1536) a)).setWidth 8 := by
  rw [← rs3_at]
  pointwise [k0_pay13]

theorem rw3_at (C : FVec Ideal S2x768x10240 .fp8e4m3) (S : IVec S2x768x320 8) (r : Fin 1536) (k : Fin 10240) :
    k0_pay14 (F := Ideal) C S (ix2 r k) = C (ix3 (⟨r.val / 768, by omega⟩ : Fin 2) (⟨r.val % 768, Nat.mod_lt _ (by decide)⟩ : Fin 768) k)
      * Ideal.exp2 (((IntOp.subi ((S (ix3 (⟨r.val / 768, by omega⟩ : Fin 2) (⟨r.val % 768, Nat.mod_lt _ (by decide)⟩ : Fin 768) (⟨k.val / 32, by omega⟩ : Fin 320))).setWidth 32) 127#32).toInt : ℝ) : EReal) := by
  pointwise [k0_pay14]
  rw [exp2_eq, sitofp_eq]

/-- The rows quantised and widened. -/
theorem rw_at (W : FVec Ideal S1536x10240 .bf16) (r : Fin 1536) (k : Fin 10240) :
    k0_pay14 (F := Ideal) (k0_pay10 W) (k0_pay11 (F := Ideal) W) (ix2 r k)
      = qcode (rb W r ⟨k.val / 32, by omega⟩) (W (ix2 r k)) * qscale (rb W r ⟨k.val / 32, by omega⟩) := by
  unfold qscale
  rw [rw3_at, rc3_at, rs3_at, row_of]

/-- The column codes, before they are put where they go. -/
theorem code_at (W : FVec Ideal S1536x10240 .bf16) (n : Fin 10240) (k : Fin 1536) : k0_pay1 (F := Ideal) (k0_pay17 W) (ix2 n k) = qcode (cb W ⟨k.val / 32, by omega⟩ n) (W (ix2 k n)) := by
  unfold qcode clip
  rw [← col_exp W n ⟨k.val / 32, by omega⟩ 0]
  pointwise [k0_pay1, k0_pay17, k0_pay15]
  rw [exp2_eq, sitofp_eq]

/-- The columns' scales. -/
theorem exp_at (W : FVec Ideal S1536x10240 .bf16) (n : Fin 10240) (a : Fin 48) : k0_pay2 (k0_pay16 (F := Ideal) W) (ix2 n a) = (qexp (cb W a n)).setWidth 8 := by
  unfold qexp
  rw [← col_exp W n a 0]
  pointwise [k0_pay2]

theorem cw2_at (T : IVec S10240x48x1 32) (C : FVec Ideal S10240x48x32 .fp8e4m3) (n : Fin 10240) (k : Fin 1536) :
    k0_pay3 (F := Ideal) T C (ix2 n k) = k0_pay1 (F := Ideal) C (ix2 n k)
      * Ideal.exp2 (((IntOp.subi ((k0_pay2 T (ix2 n (⟨k.val / 32, by omega⟩ : Fin 48))).setWidth 32) 127#32).toInt : ℝ) : EReal) := by
  pointwise [k0_pay3]
  rw [exp2_eq, sitofp_eq]

/-- The columns quantised and widened. -/
theorem cw_at (W : FVec Ideal S1536x10240 .bf16) (n : Fin 10240) (k : Fin 1536) :
    k0_pay3 (F := Ideal) (k0_pay16 (F := Ideal) W) (k0_pay17 (F := Ideal) W) (ix2 n k)
      = qcode (cb W ⟨k.val / 32, by omega⟩ n) (W (ix2 k n)) * qscale (cb W ⟨k.val / 32, by omega⟩ n) := by
  unfold qscale
  rw [cw2_at, code_at, exp_at]

theorem cc0_at (C : FVec Ideal S10240x48x32 .fp8e4m3) (z : Fin 1) (n : Fin 10240) (r : Fin 768) : k0_pay4 (F := Ideal) C (ix3 z n r) = k0_pay1 (F := Ideal) C (ix2 n (⟨r.val, by omega⟩ : Fin 1536)) := by
  pointwise [k0_pay4]
theorem cc1_at (C : FVec Ideal S10240x48x32 .fp8e4m3) (z : Fin 1) (n : Fin 10240) (r : Fin 768) : k0_pay6 (F := Ideal) C (ix3 z n r) = k0_pay1 (F := Ideal) C (ix2 n (⟨768 + r.val, by omega⟩ : Fin 1536)) := by
  pointwise [k0_pay6]
theorem cs0_at (T : IVec S10240x48x1 32) (z : Fin 1) (a : Fin 24) (n : Fin 10240) : k0_pay5 T (ix3 z a n) = k0_pay2 T (ix2 n (⟨a.val, by omega⟩ : Fin 48)) := by
  pointwise [k0_pay5]
theorem cs1_at (T : IVec S10240x48x1 32) (z : Fin 1) (a : Fin 24) (n : Fin 10240) : k0_pay7 T (ix3 z a n) = k0_pay2 T (ix2 n (⟨24 + a.val, by omega⟩ : Fin 48)) := by
  pointwise [k0_pay7]

/-- Two pieces of one batch each, read at an index. -/
theorem cc_pieces (p0 p1 : Vec Ideal S1x10240x768 .fp8e4m3) (b : Fin 2) (n : Fin 10240) (r : Fin 768) :
    View.canon (Val := Elt Ideal) [⟨r0_5, p1⟩, ⟨r0_3, p0⟩] (ix3 b n r) = if b.val = 0 then p0 (ix3 (0 : Fin 1) n r) else p1 (ix3 (0 : Fin 1) n r) := by
  refine View.canon_apply_of_pieces (Val := Elt Ideal) (fun y : S2x10240x768.Idx => if (y 0).val = 0 then p0 (ix3 (0 : Fin 1) (y 1) (y 2)) else p1 (ix3 (0 : Fin 1) (y 1) (y 2))) _ ?_ (ix3 b n r) (cover0_3 _ _ _)
  intro pc hpc
  simp only [List.mem_cons, List.not_mem_nil, _root_.or_false] at hpc
  rcases hpc with rfl | rfl
  · intro x
    refine Eq.trans (congrArg p1 (funext fun a => Fin.ext ?_)) (if_neg (show ¬(1 + 1 * (x 0).val = 0) by omega)).symm
    have h : (x 0).val < 1 := (x 0).isLt
    match a with
    | ⟨0, _⟩ => show (x 0).val = 0; omega
    | ⟨1, _⟩ => show (x 1).val = 0 + 1 * (x 1).val; omega
    | ⟨2, _⟩ => show (x 2).val = 0 + 1 * (x 2).val; omega
  · intro x
    have h : (x 0).val < 1 := (x 0).isLt
    refine Eq.trans (congrArg p0 (funext fun a => Fin.ext ?_)) (if_pos (show 0 + 1 * (x 0).val = 0 by omega)).symm
    match a with
    | ⟨0, _⟩ => show (x 0).val = 0; omega
    | ⟨1, _⟩ => show (x 1).val = 0 + 1 * (x 1).val; omega
    | ⟨2, _⟩ => show (x 2).val = 0 + 1 * (x 2).val; omega

theorem cs_pieces (p0 p1 : Vec Ideal S1x24x10240 .i8) (b : Fin 2) (a : Fin 24) (n : Fin 10240) :
    View.canon (Val := Elt Ideal) [⟨r0_6, p1⟩, ⟨r0_4, p0⟩] (ix3 b a n) = if b.val = 0 then p0 (ix3 (0 : Fin 1) a n) else p1 (ix3 (0 : Fin 1) a n) := by
  refine View.canon_apply_of_pieces (Val := Elt Ideal) (fun y : S2x24x10240.Idx => if (y 0).val = 0 then p0 (ix3 (0 : Fin 1) (y 1) (y 2)) else p1 (ix3 (0 : Fin 1) (y 1) (y 2))) _ ?_ (ix3 b a n) (cover0_4 _ _ _)
  intro pc hpc
  simp only [List.mem_cons, List.not_mem_nil, _root_.or_false] at hpc
  rcases hpc with rfl | rfl
  · intro x
    refine Eq.trans (congrArg p1 (funext fun a => Fin.ext ?_)) (if_neg (show ¬(1 + 1 * (x 0).val = 0) by omega)).symm
    have h : (x 0).val < 1 := (x 0).isLt
    match a with
    | ⟨0, _⟩ => show (x 0).val = 0; omega
    | ⟨1, _⟩ => show (x 1).val = 0 + 1 * (x 1).val; omega
    | ⟨2, _⟩ => show (x 2).val = 0 + 1 * (x 2).val; omega
  · intro x
    have h : (x 0).val < 1 := (x 0).isLt
    refine Eq.trans (congrArg p0 (funext fun a => Fin.ext ?_)) (if_pos (show 0 + 1 * (x 0).val = 0 by omega)).symm
    match a with
    | ⟨0, _⟩ => show (x 0).val = 0; omega
    | ⟨1, _⟩ => show (x 1).val = 0 + 1 * (x 1).val; omega
    | ⟨2, _⟩ => show (x 2).val = 0 + 1 * (x 2).val; omega

theorem ld_eq (W : Vec Ideal S1536x10240 .bf16) : View.ld (Val := Elt Ideal) (e' := .bf16) W r0_0 = W := View.ld_unit_zero (S := S1536x10240) Cert.RefDyIdeal.Value.hz0 _ W

/-- The column codes. -/
theorem cc_at (W : FVec Ideal S1536x10240 .bf16) (b : Fin 2) (n : Fin 10240) (r : Fin 768) (K : Fin 1536) (hK : K.val = 768 * b.val + r.val) :
    Cert.RefDyIdeal.Value.G3 (F := Ideal) W (ix3 b n r) = qcode (cb W ⟨K.val / 32, by omega⟩ n) (W (ix2 K n)) := by
  unfold Cert.RefDyIdeal.Value.G3 k0_pay19
  rw [ld_eq]
  refine (cc_pieces _ _ b n r).trans ?_
  rw [← code_at, cc0_at, cc1_at]
  by_cases hb : b.val = 0
  · rw [if_pos hb, show (⟨r.val, by omega⟩ : Fin 1536) = K from Fin.ext (by show r.val = K.val; omega)]
  · rw [if_neg hb, show (⟨768 + r.val, by omega⟩ : Fin 1536) = K from Fin.ext (by show 768 + r.val = K.val; omega)]

/-- The column scales. -/
theorem cs_at (W : FVec Ideal S1536x10240 .bf16) (b : Fin 2) (a : Fin 24) (n : Fin 10240) :
    Cert.RefDyIdeal.Value.G4 (F := Ideal) W (ix3 b a n) = (qexp (cb W ⟨b.val * 24 + a.val, by omega⟩ n)).setWidth 8 := by
  unfold Cert.RefDyIdeal.Value.G4 k0_pay18
  rw [ld_eq]
  refine (cs_pieces _ _ b a n).trans ?_
  rw [cs0_at, cs1_at]
  by_cases hb : b.val = 0
  · rw [if_pos hb, exp_at, show (⟨a.val, by omega⟩ : Fin 48) = ⟨b.val * 24 + a.val, by omega⟩ from Fin.ext (by show a.val = b.val * 24 + a.val; omega)]
  · rw [if_neg hb, exp_at, show (⟨24 + a.val, by omega⟩ : Fin 48) = ⟨b.val * 24 + a.val, by omega⟩ from Fin.ext (by show 24 + a.val = b.val * 24 + a.val; omega)]

/-- The columns quantised and widened, as the call leaves them. -/
theorem cwG_at (W : FVec Ideal S1536x10240 .bf16) (n : Fin 10240) (k : Fin 1536) :
    Cert.RefDyIdeal.Value.G6 (F := Ideal) W (ix2 n k)
      = qcode (cb W ⟨k.val / 32, by omega⟩ n) (W (ix2 k n)) * qscale (cb W ⟨k.val / 32, by omega⟩ n) := by
  unfold Cert.RefDyIdeal.Value.G6 k0_pay19 k0_pay18
  rw [ld_eq]
  exact cw_at W n k

end Cert.RefDyIdeal.Hand

end
-- ==== Proof.DyInv.lean ====
/- What the exponent buffer of the body that quantises the gradient holds between two points of the grid, over the
   extended reals: the biased exponents of the row blocks met so far. -/
module

public import proofs.«01_k».proof.Proof.DyBody
public import proofs.«01_k».proof.Proof.DyVal
public import proofs.«01_k».proof.Proof.DyRef

@[expose] public section

set_option maxRecDepth 16384

noncomputable section

namespace Cert.KernelDyIdeal.Hand

open Cert.KernelDyIdeal.Gen
open Idealize.ShloMosaic Idealize.ShloMosaic.TcCoe Idealize.SL.Sem
open Idealize.ShloMosaic.Pipeline (Dat)
open Cert.Quant
open Cert.RefDyIdeal.Hand (rb cb)

variable (m : (ℓ : Loc nD τ sig) → Buf (Elt Ideal) ℓ)

/-- The argument. -/
abbrev arg (c : Dev nD) : FVec Ideal S1536x10240 .bf16 := m ((c : Thread nD τ).loc main_arg0)

/-- The argument's values are at most bf16's largest finite magnitude. -/
def Fine (c : Dev nD) : Prop := ∀ (r : Fin 1536) (k : Fin 10240), max (arg m c (ix2 r k)) (-(arg m c (ix2 r k))) ≤ Ideal.ofBits .bf16 0x7F7F#16

theorem small_row {c : Dev nD} (hf : Fine m c) (r : Fin 1536) (a : Fin 320) : Small (rb (arg m c) r a) := fun j => hf r _
theorem small_col {c : Dev nD} (hf : Fine m c) (a : Fin 48) (n : Fin 10240) : Small (cb (arg m c) a n) := fun j => hf _ n

/-- The windows' blocks at a point. -/
theorem idx : ∀ t : Fin cfg0.N, win0_0.index t = ![0, t.val] ∧ win0_1.index t = ![0, t.val] ∧ win0_2.index t = ![0, 0, 0]
    ∧ win0_3.index t = ![0, t.val, 0] ∧ win0_4.index t = ![0, 0, t.val] ∧ win0_5.index t = ![0, t.val] ∧ win0_6.index t = ![t.val, 0] :=
  (by decide +kernel : ∀ t : Fin grid0.N, _)

theorem points (t : Fin cfg0.N) : t.val < 40 := lt_of_lt_of_eq t.isLt (show cfg0.N = 40 from N_0)

theorem x_at (c : Dev nD) (t : Fin cfg0.N) (r : Fin 1536) (k : Fin 256) (K : Fin 10240) (hK : K.val = 256 * t.val + k.val) :
    iblk m c 0 t (ix2 r k) = arg m c (ix2 r K) := by
  have hT := points t
  have e : K = ⟨t.val * 256 + k.val, by omega⟩ := Fin.ext (hK.trans (by rw [Nat.mul_comm]))
  rw [e]
  blk_ext [iblk, V, idx t]

theorem rblk_at (c : Dev nD) (t : Fin cfg0.N) (r : Fin 1536) (a : Fin 8) (A : Fin 320) (hA : A.val = 8 * t.val + a.val) :
    rblk (iblk m c 0 t) r a = rb (arg m c) r A := by
  funext j
  unfold rblk rb
  exact x_at m c t r _ _ (by show A.val * 32 + j.val = 256 * t.val + (a.val * 32 + j.val); omega)

theorem cblk_at (c : Dev nD) (t : Fin cfg0.N) (a : Fin 48) (b : Fin 256) (n : Fin 10240) (hn : n.val = 256 * t.val + b.val) :
    cblk (iblk m c 0 t) a b = cb (arg m c) a n := by
  funext j
  unfold cblk cb
  exact x_at m c t _ b n hn

/-- The exponents met before point `n`, given an argument without infinities. -/
def R : Dev nD → ℕ → IVec S320x1536 32 → Prop := fun c n e =>
  Fine m c → ∀ (q : Fin 320) (r : Fin 1536), q.val < 8 * n → e (ix2 q r) = qexp (rb (arg m c) r q)

theorem keeps : Keeps m (R m) := by
  intro c t e he hf q r hq
  rw [coords_val0 t]
  by_cases h : 8 * t.val ≤ q.val
  · have hb := rblk_at m c t r ⟨q.val - 8 * t.val, by omega⟩ q (by show q.val = 8 * t.val + (q.val - 8 * t.val); omega)
    refine (dif_pos (show 8 * t.val ≤ q.val ∧ q.val < 8 * t.val + 8 from ⟨h, by omega⟩)).trans ?_
    refine (eTile_val (iblk m c 0 t) ⟨q.val - 8 * t.val, by omega⟩ r (by rw [hb]; exact small_row m hf _ _)).trans ?_
    rw [hb]
  · refine (dif_neg (show ¬(8 * t.val ≤ q.val ∧ q.val < 8 * t.val + 8) from fun h' => h h'.1)).trans ?_
    exact (he.resolve_left (by omega)) hf q r (by omega)

end Cert.KernelDyIdeal.Hand

end
-- ==== Proof.DyValue.lean ====
/- The six results of the call that quantises the gradient, over the extended reals: they are the reference's. -/
module

public import proofs.«01_k».proof.Proof.DyInv

@[expose] public section

set_option maxRecDepth 16384

noncomputable section

namespace Cert.KernelDyIdeal.Hand

open Cert.KernelDyIdeal.Gen
open Idealize.ShloMosaic Idealize.ShloMosaic.TcCoe Idealize.SL.Sem
open Idealize.ShloMosaic.Pipeline (Dat)
open Cert.Quant
open Cert.RefDyIdeal.Hand (rb cb)

variable (m : (ℓ : Loc nD τ sig) → Buf (Elt Ideal) ℓ) (ρ : Dev nD → PrngReg)

/-- The row codes. -/
abbrev ref1 (c : Dev nD) : FVec Ideal S1536x10240 .fp8e4m3 := Cert.RefDyIdeal.Value.G1 (F := Ideal) (arg m c)
/-- The row scales. -/
abbrev ref2 (c : Dev nD) : IVec S2x320x768 8 := Cert.RefDyIdeal.Value.G2 (F := Ideal) (arg m c)
/-- The column codes. -/
abbrev ref3 (c : Dev nD) : FVec Ideal S2x10240x768 .fp8e4m3 := Cert.RefDyIdeal.Value.G3 (F := Ideal) (arg m c)
/-- The column scales. -/
abbrev ref4 (c : Dev nD) : IVec S2x24x10240 8 := Cert.RefDyIdeal.Value.G4 (F := Ideal) (arg m c)
/-- The rows quantised and widened. -/
abbrev ref5 (c : Dev nD) : FVec Ideal S1536x10240 .bf16 := Cert.RefDyIdeal.Value.G5 (F := Ideal) (arg m c)
/-- The columns quantised and widened. -/
abbrev ref6 (c : Dev nD) : FVec Ideal S10240x1536 .bf16 := Cert.RefDyIdeal.Value.G6 (F := Ideal) (arg m c)

theorem rc_point (c : Dev nD) (hf : Fine m c) (t : Fin cfg0.N) (r : Fin 1536) (k : Fin 256) (K : Fin 10240) (hK : K.val = 256 * t.val + k.val) :
    rcTile (F := Ideal) (iblk m c 0 t) (ix2 r k) = ref1 m c (ix2 r K) := by
  have hb := rblk_at m c t r ⟨k.val / 32, by omega⟩ ⟨K.val / 32, by omega⟩ (by show K.val / 32 = 8 * t.val + k.val / 32; omega)
  rw [rcTile_val _ r k (by rw [hb]; exact small_row m hf _ _), hb, x_at m c t r k K hK]
  exact (Cert.RefDyIdeal.Hand.rc_at (arg m c) r K).symm

theorem rw_point (c : Dev nD) (hf : Fine m c) (t : Fin cfg0.N) (r : Fin 1536) (k : Fin 256) (K : Fin 10240) (hK : K.val = 256 * t.val + k.val) :
    rwTile (F := Ideal) (iblk m c 0 t) (ix2 r k) = ref5 m c (ix2 r K) := by
  have hb := rblk_at m c t r ⟨k.val / 32, by omega⟩ ⟨K.val / 32, by omega⟩ (by show K.val / 32 = 8 * t.val + k.val / 32; omega)
  rw [rwTile_val _ r k (by rw [hb]; exact small_row m hf _ _), hb, x_at m c t r k K hK]
  exact (Cert.RefDyIdeal.Hand.rw_at (arg m c) r K).symm

theorem cc_point (c : Dev nD) (hf : Fine m c) (t : Fin cfg0.N) (b : Fin 2) (n : Fin 256) (r : Fin 768) (N : Fin 10240) (hN : N.val = 256 * t.val + n.val) :
    ccTile (F := Ideal) (iblk m c 0 t) (ix3 b n r) = ref3 m c (ix3 b N r) := by
  have hb := cblk_at m c t ⟨(768 * b.val + r.val) / 32, by omega⟩ n N hN
  refine (ccTile_val _ b n r ⟨768 * b.val + r.val, by omega⟩ rfl (by rw [hb]; exact small_col m hf _ _)).trans ?_
  rw [hb, x_at m c t _ n N hN]
  exact (Cert.RefDyIdeal.Hand.cc_at (arg m c) b N r ⟨768 * b.val + r.val, by omega⟩ rfl).symm

theorem cs_point (c : Dev nD) (hf : Fine m c) (t : Fin cfg0.N) (b : Fin 2) (a : Fin 24) (n : Fin 256) (N : Fin 10240) (hN : N.val = 256 * t.val + n.val) :
    csTile (F := Ideal) (iblk m c 0 t) (ix3 b a n) = ref4 m c (ix3 b a N) := by
  have hb := cblk_at m c t ⟨b.val * 24 + a.val, by omega⟩ n N hN
  rw [csTile_val _ b a n (by rw [hb]; exact small_col m hf _ _), hb]
  exact (Cert.RefDyIdeal.Hand.cs_at (arg m c) b a N).symm

theorem cw_point (c : Dev nD) (hf : Fine m c) (t : Fin cfg0.N) (k : Fin 1536) (n : Fin 256) (N : Fin 10240) (hN : N.val = 256 * t.val + n.val) :
    cwTile (F := Ideal) (iblk m c 0 t) (ix2 n k) = ref6 m c (ix2 N k) := by
  have hb := cblk_at m c t ⟨k.val / 32, by omega⟩ n N hN
  rw [cwTile_val _ k n (by rw [hb]; exact small_col m hf _ _), hb, x_at m c t k n N hN]
  exact (Cert.RefDyIdeal.Hand.cwG_at (arg m c) N k).symm

theorem flush2 : ∀ t : Fin cfg0.N, (cfg0.win 2).flush t = true → t.val = 39 ∧ cond0_0 (grid0.coords t) :=
  (by decide +kernel : ∀ t : Fin grid0.N, (cfg0.win 2).flush t = true → t.val = 39 ∧ cond0_0 (grid0.coords t))

theorem rs_point (c : Dev nD) (hf : Fine m c) (t : Fin cfg0.N) (ht : t.val = 39) (e : IVec S320x1536 32) (he : R m c (t.val + 1) e) (b : Fin 2) (q : Fin 320) (r : Fin 768) :
    rsTile (F := Ideal) e (ix3 b q r) = ref2 m c (ix3 b q r) := by
  rw [rsTile_val e b q r ⟨b.val * 768 + r.val, by omega⟩ (by show b.val * 768 + r.val = 768 * b.val + r.val; omega), he hf q _ (by omega)]
  exact (Cert.RefDyIdeal.Hand.rs_at (arg m c) b r q).symm

theorem emb1 (G : FVec Ideal S1536x10240 .fp8e4m3) (t : Fin cfg0.N) (k : Fin 256) (K : Fin 10240) (hK : K.val = 256 * t.val + k.val) (r : Fin 1536) :
    G (((cfg0.win 1).blk t).view.emb (ix2 r k)) = G (ix2 r K) := by
  have hT := points t
  have e : K = ⟨t.val * 256 + k.val, by omega⟩ := Fin.ext (hK.trans (by rw [Nat.mul_comm]))
  rw [e]
  blk_ext [idx t]

theorem emb3 (G : FVec Ideal S2x10240x768 .fp8e4m3) (t : Fin cfg0.N) (k : Fin 256) (K : Fin 10240) (hK : K.val = 256 * t.val + k.val) (b : Fin 2) (r : Fin 768) :
    G (((cfg0.win 3).blk t).view.emb (ix3 b k r)) = G (ix3 b K r) := by
  have hT := points t
  have e : K = ⟨t.val * 256 + k.val, by omega⟩ := Fin.ext (hK.trans (by rw [Nat.mul_comm]))
  rw [e]
  blk_ext [idx t]

theorem emb4 (G : IVec S2x24x10240 8) (t : Fin cfg0.N) (k : Fin 256) (K : Fin 10240) (hK : K.val = 256 * t.val + k.val) (b : Fin 2) (a : Fin 24) :
    G (((cfg0.win 4).blk t).view.emb (ix3 b a k)) = G (ix3 b a K) := by
  have hT := points t
  have e : K = ⟨t.val * 256 + k.val, by omega⟩ := Fin.ext (hK.trans (by rw [Nat.mul_comm]))
  rw [e]
  blk_ext [idx t]

theorem emb5 (G : FVec Ideal S1536x10240 .bf16) (t : Fin cfg0.N) (k : Fin 256) (K : Fin 10240) (hK : K.val = 256 * t.val + k.val) (r : Fin 1536) :
    G (((cfg0.win 5).blk t).view.emb (ix2 r k)) = G (ix2 r K) := by
  have hT := points t
  have e : K = ⟨t.val * 256 + k.val, by omega⟩ := Fin.ext (hK.trans (by rw [Nat.mul_comm]))
  rw [e]
  blk_ext [idx t]

theorem emb6 (G : FVec Ideal S10240x1536 .bf16) (t : Fin cfg0.N) (k : Fin 256) (K : Fin 10240) (hK : K.val = 256 * t.val + k.val) (r : Fin 1536) :
    G (((cfg0.win 6).blk t).view.emb (ix2 k r)) = G (ix2 K r) := by
  have hT := points t
  have e : K = ⟨t.val * 256 + k.val, by omega⟩ := Fin.ext (hK.trans (by rw [Nat.mul_comm]))
  rw [e]
  blk_ext [idx t]

theorem emb2 (G : IVec S2x320x768 8) (t : Fin cfg0.N) (b : Fin 2) (q : Fin 320) (r : Fin 768) : G (((cfg0.win 2).blk t).view.emb (ix3 b q r)) = G (ix3 b q r) := by
  blk_ext [idx t]

/-- The results after the run. -/
theorem results_of {r : PUnit × MemSt nD τ sig (Elt Ideal)}
    (h : Pipeline.RDat.FramePost (cfgs 0) (fun c => (dats m (R m) 0 c).toRRel results0 (Rl m (R m) c)) (V m) r) (c : Dev nD) (hf : Fine m c) :
    r.2.mem ((c.tc : Thread nD τ).loc main_v0_0) = ref1 m c
      ∧ r.2.mem ((c.tc : Thread nD τ).loc main_v0_1) = ref2 m c
      ∧ r.2.mem ((c.tc : Thread nD τ).loc main_v0_2) = ref3 m c
      ∧ r.2.mem ((c.tc : Thread nD τ).loc main_v0_3) = ref4 m c
      ∧ r.2.mem ((c.tc : Thread nD τ).loc main_v0_4) = ref5 m c
      ∧ r.2.mem ((c.tc : Thread nD τ).loc main_v0_5) = ref6 m c := by
  obtain ⟨after, hL, hA⟩ := Pipeline.RDat.FramePost.exists_exact h c
  refine ⟨(hA 1).trans ?_, (hA 2).trans ?_, (hA 3).trans ?_, (hA 4).trans ?_, (hA 5).trans ?_, (hA 6).trans ?_⟩
  · refine Dat.arrAt_eq_of_covers _ 1 _ (by decide +kernel) fun t ht y => ?_
    have hT := points t
    have hX := Pipeline.Dat.toRRel_leaves (dats m (R m) 0 c) rfl (hL 1 t ht)
    obtain ⟨r, k, rfl⟩ : ∃ (r : Fin 1536) (k : Fin 256), y = ix2 r k := ⟨y 0, y 1, eq_ix2 y⟩
    blk_simp
    rw [Pipeline.RDat.withAfter_after, show after 1 t = rcTile (F := Ideal) (iblk m c 0 t) from hX]
    exact (rc_point m c hf t r k ⟨256 * t.val + k.val, by omega⟩ rfl).trans (emb1 (ref1 m c) t k _ rfl r).symm
  · refine Dat.arrAt_eq_of_covers _ 2 _ (by decide +kernel) fun t ht y => ?_
    have hT := points t
    obtain ⟨h7, h5⟩ := flush2 t ht
    obtain ⟨e, he, hX⟩ := (Pipeline.Dat.toRRel_leaves (dats m (R m) 0 c) rfl (hL 2 t ht)) h5
    obtain ⟨b, q, r, rfl⟩ : ∃ (b : Fin 2) (q : Fin 320) (r : Fin 768), y = ix3 b q r := ⟨y 0, y 1, y 2, eq_ix3 y⟩
    blk_simp
    rw [Pipeline.RDat.withAfter_after, hX]
    exact (rs_point m c hf t h7 e he b q r).trans (emb2 (ref2 m c) t b q r).symm
  · refine Dat.arrAt_eq_of_covers _ 3 _ (by decide +kernel) fun t ht y => ?_
    have hT := points t
    have hX := Pipeline.Dat.toRRel_leaves (dats m (R m) 0 c) rfl (hL 3 t ht)
    obtain ⟨b, k, r, rfl⟩ : ∃ (b : Fin 2) (k : Fin 256) (r : Fin 768), y = ix3 b k r := ⟨y 0, y 1, y 2, eq_ix3 y⟩
    blk_simp
    rw [Pipeline.RDat.withAfter_after, show after 3 t = ccTile (F := Ideal) (iblk m c 0 t) from hX]
    exact (cc_point m c hf t b k r ⟨256 * t.val + k.val, by omega⟩ rfl).trans (emb3 (ref3 m c) t k _ rfl b r).symm
  · refine Dat.arrAt_eq_of_covers _ 4 _ (by decide +kernel) fun t ht y => ?_
    have hT := points t
    have hX := Pipeline.Dat.toRRel_leaves (dats m (R m) 0 c) rfl (hL 4 t ht)
    obtain ⟨b, a, k, rfl⟩ : ∃ (b : Fin 2) (a : Fin 24) (k : Fin 256), y = ix3 b a k := ⟨y 0, y 1, y 2, eq_ix3 y⟩
    blk_simp
    rw [Pipeline.RDat.withAfter_after, show after 4 t = csTile (F := Ideal) (iblk m c 0 t) from hX]
    exact (cs_point m c hf t b a k ⟨256 * t.val + k.val, by omega⟩ rfl).trans (emb4 (ref4 m c) t k _ rfl b a).symm
  · refine Dat.arrAt_eq_of_covers _ 5 _ (by decide +kernel) fun t ht y => ?_
    have hT := points t
    have hX := Pipeline.Dat.toRRel_leaves (dats m (R m) 0 c) rfl (hL 5 t ht)
    obtain ⟨r, k, rfl⟩ : ∃ (r : Fin 1536) (k : Fin 256), y = ix2 r k := ⟨y 0, y 1, eq_ix2 y⟩
    blk_simp
    rw [Pipeline.RDat.withAfter_after, show after 5 t = rwTile (F := Ideal) (iblk m c 0 t) from hX]
    exact (rw_point m c hf t r k ⟨256 * t.val + k.val, by omega⟩ rfl).trans (emb5 (ref5 m c) t k _ rfl r).symm
  · refine Dat.arrAt_eq_of_covers _ 6 _ (by decide +kernel) fun t ht y => ?_
    have hT := points t
    have hX := Pipeline.Dat.toRRel_leaves (dats m (R m) 0 c) rfl (hL 6 t ht)
    obtain ⟨k, r, rfl⟩ : ∃ (k : Fin 256) (r : Fin 1536), y = ix2 k r := ⟨y 0, y 1, eq_ix2 y⟩
    blk_simp
    rw [Pipeline.RDat.withAfter_after, show after 6 t = cwTile (F := Ideal) (iblk m c 0 t) from hX]
    exact (cw_point m c hf t r k ⟨256 * t.val + k.val, by omega⟩ rfl).trans (emb6 (ref6 m c) t k _ rfl r).symm

/-- The run of the call, with its results. -/
theorem run_value (hf : ∀ c, Fine m c) : θ_run defs (onTc (τ := τ) (main (F := Ideal))) ⟨m, fun _ => 0, ρ⟩ (fun r => ∀ c : Dev nD,
    r.2.mem ((c.tc : Thread nD τ).loc main_v0_0) = ref1 m c
      ∧ r.2.mem ((c.tc : Thread nD τ).loc main_v0_1) = ref2 m c
      ∧ r.2.mem ((c.tc : Thread nD τ).loc main_v0_2) = ref3 m c
      ∧ r.2.mem ((c.tc : Thread nD τ).loc main_v0_3) = ref4 m c
      ∧ r.2.mem ((c.tc : Thread nD τ).loc main_v0_4) = ref5 m c
      ∧ r.2.mem ((c.tc : Thread nD τ).loc main_v0_5) = ref6 m c
      ∧ r.2.mem ((c.tc : Thread nD τ).loc main_arg0) = m ((c.tc : Thread nD τ).loc main_arg0)) :=
  (θ_run defs _ _).mono (fun _ h c => by
      obtain ⟨h1, h2, h3, h4, h5, h6⟩ := results_of m h.1 c (hf c)
      exact ⟨h1, h2, h3, h4, h5, h6, unchanged_of h.1 c⟩)
    (run_main (R := R m) ρ (keeps m))

end Cert.KernelDyIdeal.Hand

end
-- ==== Proof.DyPre.lean ====
/- The precondition of the value claim of the call that quantises the gradient, read at an index: the argument holds no
   infinity. -/
module

public import proofs.«01_k».proof.Proof.DyValue
public import proofs.«01_k».proof.Proof.Gen.Pre_finite_dy

@[expose] public section

set_option maxRecDepth 16384

noncomputable section

namespace Cert.KernelDyIdeal.Hand

open Cert.KernelDyIdeal.Gen
open Idealize.ShloMosaic Idealize.ShloMosaic.TcCoe Idealize.SL.Sem
open Idealize.ShloMosaic.Pipeline (Dat)
open Cert.Quant
open Cert.RefDyIdeal.Hand (rb cb)

variable (m : (ℓ : Loc nD τ sig) → Buf (Elt Ideal) ℓ)

theorem le_of_pre (W : FVec Ideal S1536x10240 .bf16) (h : Cert.Pre_finite_dy.fn (F := Ideal) W = fun _ => 1#1) (r : Fin 1536) (k : Fin 10240) :
    max (W (ix2 r k)) (-(W (ix2 r k))) ≤ Ideal.ofBits .bf16 0x7F7F#16 := by
  have h' := congrFun h (ix2 r k)
  revert h'
  pointwise [Cert.Pre_finite_dy.fn]
  rw [absf_eq]
  intro h'
  by_contra hn
  rw [decide_eq_false hn] at h'
  exact absurd h' (by decide)

/-- The precondition bounds every value. -/
theorem fine_of_pre (c : Dev nD) (h : Cert.Pre_finite_dy.fn (F := Ideal) (arg m c) = fun _ => 1#1) : Fine m c :=
  fun r k => le_of_pre _ h r k

end Cert.KernelDyIdeal.Hand

end
-- ==== Proof.lean ====
module

public import proofs.«01_k».proof.Defs
public import proofs.«01_k».proof.Proof.Gen.KernelY
public import proofs.«01_k».proof.Proof.Gen.KernelY.Skeleton
public import proofs.«01_k».proof.Proof.Gen.KernelY.Launch
public import proofs.«01_k».proof.Proof.Gen.KernelY.Points
public import proofs.«01_k».proof.Proof.Gen.KernelY.Frame
public import proofs.«01_k».proof.Proof.Gen.KernelYIdeal
public import proofs.«01_k».proof.Proof.Gen.KernelYIdeal.Skeleton
public import proofs.«01_k».proof.Proof.Gen.KernelYIdeal.Launch
public import proofs.«01_k».proof.Proof.Gen.KernelYIdeal.Points
public import proofs.«01_k».proof.Proof.Gen.KernelYIdeal.Frame
public import proofs.«01_k».proof.Proof.Gen.RefYIdeal
public import proofs.«01_k».proof.Proof.Gen.RefYIdeal.Skeleton
public import proofs.«01_k».proof.Proof.Gen.RefYIdeal.Launch
public import proofs.«01_k».proof.Proof.Gen.RefYIdeal.Points
public import proofs.«01_k».proof.Proof.Gen.RefYIdeal.Frame
public import proofs.«01_k».proof.Proof.Gen.RefYIdeal.Value
public import proofs.«01_k».proof.Proof.Gen.KernelDx
public import proofs.«01_k».proof.Proof.Gen.KernelDx.Skeleton
public import proofs.«01_k».proof.Proof.Gen.KernelDx.Launch
public import proofs.«01_k».proof.Proof.Gen.KernelDx.Points
public import proofs.«01_k».proof.Proof.Gen.KernelDx.Frame
public import proofs.«01_k».proof.Proof.Gen.KernelDxIdeal
public import proofs.«01_k».proof.Proof.Gen.KernelDxIdeal.Skeleton
public import proofs.«01_k».proof.Proof.Gen.KernelDxIdeal.Launch
public import proofs.«01_k».proof.Proof.Gen.KernelDxIdeal.Points
public import proofs.«01_k».proof.Proof.Gen.KernelDxIdeal.Frame
public import proofs.«01_k».proof.Proof.Gen.RefDxIdeal
public import proofs.«01_k».proof.Proof.Gen.RefDxIdeal.Skeleton
public import proofs.«01_k».proof.Proof.Gen.RefDxIdeal.Launch
public import proofs.«01_k».proof.Proof.Gen.RefDxIdeal.Points
public import proofs.«01_k».proof.Proof.Gen.RefDxIdeal.Frame
public import proofs.«01_k».proof.Proof.Gen.RefDxIdeal.Value
public import proofs.«01_k».proof.Proof.Gen.KernelDw
public import proofs.«01_k».proof.Proof.Gen.KernelDw.Skeleton
public import proofs.«01_k».proof.Proof.Gen.KernelDw.Launch
public import proofs.«01_k».proof.Proof.Gen.KernelDw.Points
public import proofs.«01_k».proof.Proof.Gen.KernelDw.Frame
public import proofs.«01_k».proof.Proof.Gen.KernelDwIdeal
public import proofs.«01_k».proof.Proof.Gen.KernelDwIdeal.Skeleton
public import proofs.«01_k».proof.Proof.Gen.KernelDwIdeal.Launch
public import proofs.«01_k».proof.Proof.Gen.KernelDwIdeal.Points
public import proofs.«01_k».proof.Proof.Gen.KernelDwIdeal.Frame
public import proofs.«01_k».proof.Proof.Gen.RefDwIdeal
public import proofs.«01_k».proof.Proof.Gen.RefDwIdeal.Run
public import proofs.«01_k».proof.Proof.Gen.RefDwIdeal.Read
public import proofs.«01_k».proof.Proof.Gen.KernelX
public import proofs.«01_k».proof.Proof.Gen.KernelX.Skeleton
public import proofs.«01_k».proof.Proof.Gen.KernelX.Launch
public import proofs.«01_k».proof.Proof.Gen.KernelX.Points
public import proofs.«01_k».proof.Proof.Gen.KernelX.Frame
public import proofs.«01_k».proof.Proof.Gen.KernelXIdeal
public import proofs.«01_k».proof.Proof.Gen.KernelXIdeal.Skeleton
public import proofs.«01_k».proof.Proof.Gen.KernelXIdeal.Launch
public import proofs.«01_k».proof.Proof.Gen.KernelXIdeal.Points
public import proofs.«01_k».proof.Proof.Gen.KernelXIdeal.Frame
public import proofs.«01_k».proof.Proof.Gen.RefXIdeal
public import proofs.«01_k».proof.Proof.Gen.RefXIdeal.Skeleton
public import proofs.«01_k».proof.Proof.Gen.RefXIdeal.Launch
public import proofs.«01_k».proof.Proof.Gen.RefXIdeal.Points
public import proofs.«01_k».proof.Proof.Gen.RefXIdeal.Frame
public import proofs.«01_k».proof.Proof.Gen.RefXIdeal.Value
public import proofs.«01_k».proof.Proof.Gen.KernelDy
public import proofs.«01_k».proof.Proof.Gen.KernelDy.Skeleton
public import proofs.«01_k».proof.Proof.Gen.KernelDy.Launch
public import proofs.«01_k».proof.Proof.Gen.KernelDy.Points
public import proofs.«01_k».proof.Proof.Gen.KernelDy.Frame
public import proofs.«01_k».proof.Proof.Gen.KernelDyIdeal
public import proofs.«01_k».proof.Proof.Gen.KernelDyIdeal.Skeleton
public import proofs.«01_k».proof.Proof.Gen.KernelDyIdeal.Launch
public import proofs.«01_k».proof.Proof.Gen.KernelDyIdeal.Points
public import proofs.«01_k».proof.Proof.Gen.KernelDyIdeal.Frame
public import proofs.«01_k».proof.Proof.Gen.RefDyIdeal
public import proofs.«01_k».proof.Proof.Gen.RefDyIdeal.Skeleton
public import proofs.«01_k».proof.Proof.Gen.RefDyIdeal.Launch
public import proofs.«01_k».proof.Proof.Gen.RefDyIdeal.Points
public import proofs.«01_k».proof.Proof.Gen.RefDyIdeal.Frame
public import proofs.«01_k».proof.Proof.Gen.RefDyIdeal.Value
public import proofs.«01_k».proof.Proof.Gen.Pre_finite_y
public import proofs.«01_k».proof.Proof.Gen.Pre_finite_dx
public import proofs.«01_k».proof.Proof.Gen.Pre_finite_x
public import proofs.«01_k».proof.Proof.Gen.Pre_finite_dy
public import proofs.«01_k».proof.Proof.YPre
public import proofs.«01_k».proof.Proof.DxPre
public import proofs.«01_k».proof.Proof.DwValue
public import proofs.«01_k».proof.Proof.XPre
public import proofs.«01_k».proof.Proof.DyPre
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem

/-- The idealized program of the `y` call is the program itself, printed under a second name: nothing was rewritten. -/
theorem same_y : Cert.KernelY.defs (F := Bits) = Cert.KernelYIdeal.defs (F := Bits) := by sl_kernel_rfl

/-- So the frame, proved over any float semantics of the second, is the first's. -/
theorem frame_y : quiescent_KernelY := by
  intro m ρ _
  rw [same_y]
  exact Cert.KernelYIdeal.Hand.frame (F := Bits) m ρ

/-- The idealized program of the `dx` call is the program itself, printed under a second name: nothing was rewritten. -/
theorem same_dx : Cert.KernelDx.defs (F := Bits) = Cert.KernelDxIdeal.defs (F := Bits) := by sl_kernel_rfl

/-- So the frame, proved over any float semantics of the second, is the first's. -/
theorem frame_dx : quiescent_KernelDx := by
  intro m ρ _
  rw [same_dx]
  exact Cert.KernelDxIdeal.Hand.frame (F := Bits) m ρ

/-- The idealized program of the `x` call is the program itself, printed under a second name: nothing was rewritten. -/
theorem same_x : Cert.KernelX.defs (F := Bits) = Cert.KernelXIdeal.defs (F := Bits) := by sl_kernel_rfl

/-- So the frame, proved over any float semantics of the second, is the first's. -/
theorem frame_x : quiescent_KernelX := by
  intro m ρ _
  rw [same_x]
  exact Cert.KernelXIdeal.Hand.frame (F := Bits) m ρ

/-- The idealized program of the `dy` call is the program itself, printed under a second name: nothing was rewritten. -/
theorem same_dy : Cert.KernelDy.defs (F := Bits) = Cert.KernelDyIdeal.defs (F := Bits) := by sl_kernel_rfl

/-- So the frame, proved over any float semantics of the second, is the first's. -/
theorem frame_dy : quiescent_KernelDy := by
  intro m ρ _
  rw [same_dy]
  exact Cert.KernelDyIdeal.Hand.frame (F := Bits) m ρ

/-- The `y` call and its reference leave the same results. -/
theorem algebraic_y : algebraic_KernelYIdeal_RefYIdeal_pre_finite_y := by
  intro m g m' g' hpre hargs
  refine ⟨fun c => Cert.KernelYIdeal.Hand.refOut m c, fun c => Cert.KernelYIdeal.Hand.refCodes m c, fun c => Cert.KernelYIdeal.Hand.refScales m c,
    Cert.KernelYIdeal.Hand.run_value m g fun c => Cert.KernelYIdeal.Hand.fine_of_pre m c (hpre c), ?_⟩
  refine (θ_run _ _ _).mono (fun r h c => ?_) (Cert.RefYIdeal.Value.run (F := Ideal) m' g')
  obtain ⟨h0, h1, h2, h3, h4⟩ := h c
  refine ⟨h0.trans ?_, h1.trans ?_, h2.trans ?_, h3, h4⟩
  · rw [(hargs c).1, (hargs c).2]
  · rw [(hargs c).1, (hargs c).2]
  · rw [(hargs c).1, (hargs c).2]

/-- The `dx` call and its reference leave the same results. -/
theorem algebraic_dx : algebraic_KernelDxIdeal_RefDxIdeal_pre_finite_dx := by
  intro m g m' g' hpre hargs
  refine ⟨fun c => Cert.KernelDxIdeal.Hand.refOut m c, fun c => Cert.KernelDxIdeal.Hand.refCodes m c, fun c => Cert.KernelDxIdeal.Hand.refScales m c,
    Cert.KernelDxIdeal.Hand.run_value m g fun c => Cert.KernelDxIdeal.Hand.fine_of_pre m c (hpre c), ?_⟩
  refine (θ_run _ _ _).mono (fun r h c => ?_) (Cert.RefDxIdeal.Value.run (F := Ideal) m' g')
  obtain ⟨h0, h1, h2, h3, h4⟩ := h c
  refine ⟨h0.trans ?_, h1.trans ?_, h2.trans ?_, h3, h4⟩
  · rw [(hargs c).1, (hargs c).2]
  · rw [(hargs c).1, (hargs c).2]
  · rw [(hargs c).1, (hargs c).2]

/-- The call that quantises `x` and its reference leave the same results. -/
theorem algebraic_x : algebraic_KernelXIdeal_RefXIdeal_pre_finite_x := by
  intro m g m' g' hpre hargs
  refine ⟨fun c => Cert.KernelXIdeal.Hand.ref1 m c, fun c => Cert.KernelXIdeal.Hand.ref2 m c, fun c => Cert.KernelXIdeal.Hand.ref3 m c, fun c => Cert.KernelXIdeal.Hand.ref4 m c,
    fun c => Cert.KernelXIdeal.Hand.ref5 m c, fun c => Cert.KernelXIdeal.Hand.ref6 m c, Cert.KernelXIdeal.Hand.run_value m g fun c => Cert.KernelXIdeal.Hand.fine_of_pre m c (hpre c), ?_⟩
  refine (θ_run _ _ _).mono (fun r h c => ?_) (Cert.RefXIdeal.Value.run (F := Ideal) m' g')
  obtain ⟨h1, h2, h3, h4, h5, h6, h7⟩ := h c
  refine ⟨h1.trans ?_, h2.trans ?_, h3.trans ?_, h4.trans ?_, h5.trans ?_, h6.trans ?_, h7⟩ <;> rw [hargs c]

/-- The call that quantises `dy` and its reference leave the same results. -/
theorem algebraic_dy : algebraic_KernelDyIdeal_RefDyIdeal_pre_finite_dy := by
  intro m g m' g' hpre hargs
  refine ⟨fun c => Cert.KernelDyIdeal.Hand.ref1 m c, fun c => Cert.KernelDyIdeal.Hand.ref2 m c, fun c => Cert.KernelDyIdeal.Hand.ref3 m c, fun c => Cert.KernelDyIdeal.Hand.ref4 m c,
    fun c => Cert.KernelDyIdeal.Hand.ref5 m c, fun c => Cert.KernelDyIdeal.Hand.ref6 m c, Cert.KernelDyIdeal.Hand.run_value m g fun c => Cert.KernelDyIdeal.Hand.fine_of_pre m c (hpre c), ?_⟩
  refine (θ_run _ _ _).mono (fun r h c => ?_) (Cert.RefDyIdeal.Value.run (F := Ideal) m' g')
  obtain ⟨h1, h2, h3, h4, h5, h6, h7⟩ := h c
  refine ⟨h1.trans ?_, h2.trans ?_, h3.trans ?_, h4.trans ?_, h5.trans ?_, h6.trans ?_, h7⟩ <;> rw [hargs c]

/-- The `dw` call and its reference leave the same result. -/
theorem algebraic_dw : algebraic_KernelDwIdeal_RefDwIdeal := by
  pair_intro
  · run_from Cert.KernelDwIdeal.Gen.run_main m g
  · hlo_run
    exact (Cert.KernelDwIdeal.Value.final m c).symm

theorem frame_dw_ref : quiescent_RefDwIdeal := by
  intro m ρ _
  exact (θ_run _ _ _).mono (fun r h => ⟨fun c => (h c).2, sem_eq_zero_of_no_sems rfl _⟩)
    (Cert.RefDwIdeal.Value.run m ρ)

theorem claim : Cert.Claim :=
  ⟨Cert.KernelY.Gen.facts, Cert.KernelYIdeal.Gen.facts, Cert.RefYIdeal.Gen.facts, Cert.KernelDx.Gen.facts, Cert.KernelDxIdeal.Gen.facts, Cert.RefDxIdeal.Gen.facts, Cert.KernelDw.Gen.facts, Cert.KernelDwIdeal.Gen.facts, Cert.RefDwIdeal.Gen.facts, Cert.KernelX.Gen.facts, Cert.KernelXIdeal.Gen.facts, Cert.RefXIdeal.Gen.facts, Cert.KernelDy.Gen.facts, Cert.KernelDyIdeal.Gen.facts, Cert.RefDyIdeal.Gen.facts, Cert.Pre_finite_y.Gen.facts, Cert.Pre_finite_dx.Gen.facts, Cert.Pre_finite_x.Gen.facts, Cert.Pre_finite_dy.Gen.facts,
    frame_y,
    fun m ρ _ => Cert.KernelYIdeal.Hand.frame m ρ,
    fun m ρ _ => Cert.KernelYIdeal.Hand.frame m ρ,
    fun m ρ _ => Cert.RefYIdeal.Gen.frame m ρ,
    fun m ρ _ => Cert.RefYIdeal.Gen.frame m ρ,
    frame_dx,
    fun m ρ _ => Cert.KernelDxIdeal.Hand.frame m ρ,
    fun m ρ _ => Cert.KernelDxIdeal.Hand.frame m ρ,
    fun m ρ _ => Cert.RefDxIdeal.Gen.frame m ρ,
    fun m ρ _ => Cert.RefDxIdeal.Gen.frame m ρ,
    fun m ρ _ => Cert.KernelDw.Gen.frame m ρ,
    fun m ρ _ => Cert.KernelDwIdeal.Gen.frame m ρ,
    frame_dw_ref,
    frame_x,
    fun m ρ _ => Cert.KernelXIdeal.Hand.frame m ρ,
    fun m ρ _ => Cert.KernelXIdeal.Hand.frame m ρ,
    fun m ρ _ => Cert.RefXIdeal.Gen.frame m ρ,
    fun m ρ _ => Cert.RefXIdeal.Gen.frame m ρ,
    frame_dy,
    fun m ρ _ => Cert.KernelDyIdeal.Hand.frame m ρ,
    fun m ρ _ => Cert.KernelDyIdeal.Hand.frame m ρ,
    fun m ρ _ => Cert.RefDyIdeal.Gen.frame m ρ,
    fun m ρ _ => Cert.RefDyIdeal.Gen.frame m ρ,
    trivial,
    algebraic_y,
    trivial,
    algebraic_dx,
    trivial,
    algebraic_dw,
    trivial,
    algebraic_x,
    trivial,
    algebraic_dy⟩

end Cert.Proof

end
